-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpA (m : (ℓ : Loc Cert.MlpA.nD Cert.MlpA.τ Cert.MlpA.sig) → Buf (Elt Bits) ℓ) : Prop :=
  True

def Pre_MlpAIdeal (m : (ℓ : Loc Cert.MlpAIdeal.nD Cert.MlpAIdeal.τ Cert.MlpAIdeal.sig) → Buf (Elt Ideal) ℓ) : Prop :=
  True

def Pre_MlpAReferenceIdeal (m : (ℓ : Loc Cert.MlpAReferenceIdeal.nD Cert.MlpAReferenceIdeal.τ Cert.MlpAReferenceIdeal.sig) → Buf (Elt Ideal) ℓ) : Prop :=
  True

def Pre_MlpB (m : (ℓ : Loc Cert.MlpB.nD Cert.MlpB.τ Cert.MlpB.sig) → Buf (Elt Bits) ℓ) : Prop :=
  True

def Pre_MlpBIdeal (m : (ℓ : Loc Cert.MlpBIdeal.nD Cert.MlpBIdeal.τ Cert.MlpBIdeal.sig) → Buf (Elt Ideal) ℓ) : Prop :=
  True

def Pre_MlpBReferenceIdeal (m : (ℓ : Loc Cert.MlpBReferenceIdeal.nD Cert.MlpBReferenceIdeal.τ Cert.MlpBReferenceIdeal.sig) → Buf (Elt Ideal) ℓ) : Prop :=
  True

def Pre_MlpC (m : (ℓ : Loc Cert.MlpC.nD Cert.MlpC.τ Cert.MlpC.sig) → Buf (Elt Bits) ℓ) : Prop :=
  True

def Pre_MlpCIdeal (m : (ℓ : Loc Cert.MlpCIdeal.nD Cert.MlpCIdeal.τ Cert.MlpCIdeal.sig) → Buf (Elt Ideal) ℓ) : Prop :=
  True

def Pre_MlpCReferenceIdeal (m : (ℓ : Loc Cert.MlpCReferenceIdeal.nD Cert.MlpCReferenceIdeal.τ Cert.MlpCReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCReferenceIdeal (m : (ℓ : Loc Cert.ProjCReferenceIdeal.nD Cert.ProjCReferenceIdeal.τ Cert.ProjCReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_SsdOutLast (m : (ℓ : Loc Cert.SsdOutLast.nD Cert.SsdOutLast.τ Cert.SsdOutLast.sig) → Buf (Elt Bits) ℓ) : Prop :=
  True

def Pre_SsdOutLastIdeal (m : (ℓ : Loc Cert.SsdOutLastIdeal.nD Cert.SsdOutLastIdeal.τ Cert.SsdOutLastIdeal.sig) → Buf (Elt Ideal) ℓ) : Prop :=
  True

def Pre_SsdOutLastReferenceIdeal (m : (ℓ : Loc Cert.SsdOutLastReferenceIdeal.nD Cert.SsdOutLastReferenceIdeal.τ Cert.SsdOutLastReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjAReferenceIdeal (m : (ℓ : Loc Cert.ProjAReferenceIdeal.nD Cert.ProjAReferenceIdeal.τ Cert.ProjAReferenceIdeal.sig) → Buf (Elt Ideal) ℓ) : Prop :=
  True

def Pre_ProjD (m : (ℓ : Loc Cert.ProjD.nD Cert.ProjD.τ Cert.ProjD.sig) → Buf (Elt Bits) ℓ) : Prop :=
  True

def Pre_ProjDIdeal (m : (ℓ : Loc Cert.ProjDIdeal.nD Cert.ProjDIdeal.τ Cert.ProjDIdeal.sig) → Buf (Elt Ideal) ℓ) : Prop :=
  True

def Pre_ProjDReferenceIdeal (m : (ℓ : Loc Cert.ProjDReferenceIdeal.nD Cert.ProjDReferenceIdeal.τ Cert.ProjDReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_MlpA [hMlpA : Cert.MlpA.Facts] : Prop :=
  ∀ (m : (ℓ : Loc Cert.MlpA.nD Cert.MlpA.τ Cert.MlpA.sig) → Buf (Elt Bits) ℓ) (g : Dev Cert.MlpA.nD → PrngReg), Pre_MlpA m →
    θ_run (Cert.MlpA.defs (F := Bits)) (onTc (τ := Cert.MlpA.τ) (Cert.MlpA.main (F := Bits))) ⟨m, fun _ => 0, g⟩ (fun r => (∀ c : Dev Cert.MlpA.nD,
      r.2.mem ((c.tc : Thread Cert.MlpA.nD Cert.MlpA.τ).loc Cert.MlpA.main_arg0) = m ((c.tc : Thread Cert.MlpA.nD Cert.MlpA.τ).loc Cert.MlpA.main_arg0)
      ∧ r.2.mem ((c.tc : Thread Cert.MlpA.nD Cert.MlpA.τ).loc Cert.MlpA.main_arg1) = m ((c.tc : Thread Cert.MlpA.nD Cert.MlpA.τ).loc Cert.MlpA.main_arg1)
      ∧ r.2.mem ((c.tc : Thread Cert.MlpA.nD Cert.MlpA.τ).loc Cert.MlpA.main_arg2) = m ((c.tc : Thread Cert.MlpA.nD Cert.MlpA.τ).loc Cert.MlpA.main_arg2)
      ∧ r.2.mem ((c.tc : Thread Cert.MlpA.nD Cert.MlpA.τ).loc Cert.MlpA.main_arg3) = m ((c.tc : Thread Cert.MlpA.nD Cert.MlpA.τ).loc Cert.MlpA.main_arg3)
      ∧ r.2.mem ((c.tc : Thread Cert.MlpA.nD Cert.MlpA.τ).loc Cert.MlpA.main_arg4) = m ((c.tc : Thread Cert.MlpA.nD Cert.MlpA.τ).loc Cert.MlpA.main_arg4)
      ∧ r.2.mem ((c.tc : Thread Cert.MlpA.nD Cert.MlpA.τ).loc Cert.MlpA.main_arg5) = m ((c.tc : Thread Cert.MlpA.nD Cert.MlpA.τ).loc Cert.MlpA.main_arg5)
      ∧ r.2.mem ((c.tc : Thread Cert.MlpA.nD Cert.MlpA.τ).loc Cert.MlpA.main_arg6) = m ((c.tc : Thread Cert.MlpA.nD Cert.MlpA.τ).loc Cert.MlpA.main_arg6)
      ∧ r.2.mem ((c.tc : Thread Cert.MlpA.nD Cert.MlpA.τ).loc Cert.MlpA.main_arg7) = m ((c.tc : Thread Cert.MlpA.nD Cert.MlpA.τ).loc Cert.MlpA.main_arg7)
      ∧ r.2.mem ((c.tc : Thread Cert.MlpA.nD Cert.MlpA.τ).loc Cert.MlpA.main_arg8) = m ((c.tc : Thread Cert.MlpA.nD Cert.MlpA.τ).loc Cert.MlpA.main_arg8)
      ∧ r.2.mem ((c.tc : Thread Cert.MlpA.nD Cert.MlpA.τ).loc Cert.MlpA.main_arg9) = m ((c.tc : Thread Cert.MlpA.nD Cert.MlpA.τ).loc Cert.MlpA.main_arg9)
      ∧ r.2.mem ((c.tc : Thread Cert.MlpA.nD Cert.MlpA.τ).loc Cert.MlpA.main_arg10) = m ((c.tc : Thread Cert.MlpA.nD Cert.MlpA.τ).loc Cert.MlpA.main_arg10)
      ∧ r.2.mem ((c.tc : Thread Cert.MlpA.nD Cert.MlpA.τ).loc Cert.MlpA.main_arg11) = m ((c.tc : Thread Cert.MlpA.nD Cert.MlpA.τ).loc Cert.MlpA.main_arg11)
      ∧ r.2.mem ((c.tc : Thread Cert.MlpA.nD Cert.MlpA.τ).loc Cert.MlpA.main_arg12) = m ((c.tc : Thread Cert.MlpA.nD Cert.MlpA.τ).loc Cert.MlpA.main_arg12)
      ∧ r.2.mem ((c.tc : Thread Cert.MlpA.nD Cert.MlpA.τ).loc Cert.MlpA.main_arg13) = m ((c.tc : Thread Cert.MlpA.nD Cert.MlpA.τ).loc Cert.MlpA.main_arg13))
      ∧ r.2.sem = fun _ => 0)

def quiescent_MlpAIdeal [hMlpAIdeal : Cert.MlpAIdeal.Facts] : Prop :=
  ∀ (m : (ℓ : Loc Cert.MlpAIdeal.nD Cert.MlpAIdeal.τ Cert.MlpAIdeal.sig) → Buf (Elt Ideal) ℓ) (g : Dev Cert.MlpAIdeal.nD → PrngReg), Pre_MlpAIdeal m →
    θ_run (Cert.MlpAIdeal.defs (F := Ideal)) (onTc (τ := Cert.MlpAIdeal.τ) (Cert.MlpAIdeal.main (F := Ideal))) ⟨m, fun _ => 0, g⟩ (fun r => (∀ c : Dev Cert.MlpAIdeal.nD,
      r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
      ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
      ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
      ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
      ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4)
      ∧ r.2.mem ((c.tc : Thread Cert.MlpAIdeal.nD Cert.MlpAIdeal.τ).loc Cert.MlpAIdeal.main_arg5) = m ((c.tc : Thread Cert.MlpAIdeal.nD Cert.MlpAIdeal.τ).loc Cert.MlpAIdeal.main_arg5)
      ∧ r.2.mem ((c.tc : Thread Cert.MlpAIdeal.nD Cert.MlpAIdeal.τ).loc Cert.MlpAIdeal.main_arg6) = m ((c.tc : Thread Cert.MlpAIdeal.nD Cert.MlpAIdeal.τ).loc Cert.MlpAIdeal.main_arg6)
      ∧ r.2.mem ((c.tc : Thread Cert.MlpAIdeal.nD Cert.MlpAIdeal.τ).loc Cert.MlpAIdeal.main_arg7) = m ((c.tc : Thread Cert.MlpAIdeal.nD Cert.MlpAIdeal.τ).loc Cert.MlpAIdeal.main_arg7)
      ∧ r.2.mem ((c.tc : Thread Cert.MlpAIdeal.nD Cert.MlpAIdeal.τ).loc Cert.MlpAIdeal.main_arg8) = m ((c.tc : Thread Cert.MlpAIdeal.nD Cert.MlpAIdeal.τ).loc Cert.MlpAIdeal.main_arg8)
      ∧ r.2.mem ((c.tc : Thread Cert.MlpAIdeal.nD Cert.MlpAIdeal.τ).loc Cert.MlpAIdeal.main_arg9) = m ((c.tc : Thread Cert.MlpAIdeal.nD Cert.MlpAIdeal.τ).loc Cert.MlpAIdeal.main_arg9)
      ∧ r.2.mem ((c.tc : Thread Cert.MlpAIdeal.nD Cert.MlpAIdeal.τ).loc Cert.MlpAIdeal.main_arg10) = m ((c.tc : Thread Cert.MlpAIdeal.nD Cert.MlpAIdeal.τ).loc Cert.MlpAIdeal.main_arg10)
      ∧ r.2.mem ((c.tc : Thread Cert.MlpAIdeal.nD Cert.MlpAIdeal.τ).loc Cert.MlpAIdeal.main_arg11) = m ((c.tc : Thread Cert.MlpAIdeal.nD Cert.MlpAIdeal.τ).loc Cert.MlpAIdeal.main_arg11)
      ∧ r.2.mem ((c.tc : Thread Cert.MlpAIdeal.nD Cert.MlpAIdeal.τ).loc Cert.MlpAIdeal.main_arg12) = m ((c.tc : Thread Cert.MlpAIdeal.nD Cert.MlpAIdeal.τ).loc Cert.MlpAIdeal.main_arg12)
      ∧ r.2.mem ((c.tc : Thread Cert.MlpAIdeal.nD Cert.MlpAIdeal.τ).loc Cert.MlpAIdeal.main_arg13) = m ((c.tc : Thread Cert.MlpAIdeal.nD Cert.MlpAIdeal.τ).loc Cert.MlpAIdeal.main_arg13))
      ∧ r.2.sem = fun _ => 0)

def quiescent_MlpAReferenceIdeal [hMlpAReferenceIdeal : Cert.MlpAReferenceIdeal.Facts] : Prop :=
  ∀ (m : (ℓ : Loc Cert.MlpAReferenceIdeal.nD Cert.MlpAReferenceIdeal.τ Cert.MlpAReferenceIdeal.sig) → Buf (Elt Ideal) ℓ) (g : Dev Cert.MlpAReferenceIdeal.nD → PrngReg), Pre_MlpAReferenceIdeal m →
    θ_run (Cert.MlpAReferenceIdeal.defs (F := Ideal)) (onTc (τ := Cert.MlpAReferenceIdeal.τ) (Cert.MlpAReferenceIdeal.main (F := Ideal))) ⟨m, fun _ => 0, g⟩ (fun r => (∀ c : Dev Cert.MlpAReferenceIdeal.nD,
      r.2.mem ((c.tc : Thread Cert.MlpAReferenceIdeal.nD Cert.MlpAReferenceIdeal.τ).loc Cert.MlpAReferenceIdeal.main_arg0) = m ((c.tc : Thread Cert.MlpAReferenceIdeal.nD Cert.MlpAReferenceIdeal.τ).loc Cert.MlpAReferenceIdeal.main_arg0)
      ∧ r.2.mem ((c.tc : Thread Cert.MlpAReferenceIdeal.nD Cert.MlpAReferenceIdeal.τ).loc Cert.MlpAReferenceIdeal.main_arg1) = m ((c.tc : Thread Cert.MlpAReferenceIdeal.nD Cert.MlpAReferenceIdeal.τ).loc Cert.MlpAReferenceIdeal.main_arg1)
      ∧ r.2.mem ((c.tc : Thread Cert.MlpAReferenceIdeal.nD Cert.MlpAReferenceIdeal.τ).loc Cert.MlpAReferenceIdeal.main_arg2) = m ((c.tc : Thread Cert.MlpAReferenceIdeal.nD Cert.MlpAReferenceIdeal.τ).loc Cert.MlpAReferenceIdeal.main_arg2)
      ∧ r.2.mem ((c.tc : Thread Cert.MlpAReferenceIdeal.nD Cert.MlpAReferenceIdeal.τ).loc Cert.MlpAReferenceIdeal.main_arg3) = m ((c.tc : Thread Cert.MlpAReferenceIdeal.nD Cert.MlpAReferenceIdeal.τ).loc Cert.MlpAReferenceIdeal.main_arg3)
      ∧ r.2.mem ((c.tc : Thread Cert.MlpAReferenceIdeal.nD Cert.MlpAReferenceIdeal.τ).loc Cert.MlpAReferenceIdeal.main_arg4) = m ((c.tc : Thread Cert.MlpAReferenceIdeal.nD Cert.MlpAReferenceIdeal.τ).loc Cert.MlpAReferenceIdeal.main_arg4)
      ∧ r.2.mem ((c.tc : Thread Cert.MlpAReferenceIdeal.nD Cert.MlpAReferenceIdeal.τ).loc Cert.MlpAReferenceIdeal.main_arg5) = m ((c.tc : Thread Cert.MlpAReferenceIdeal.nD Cert.MlpAReferenceIdeal.τ).loc Cert.MlpAReferenceIdeal.main_arg5)
      ∧ r.2.mem ((c.tc : Thread Cert.MlpAReferenceIdeal.nD Cert.MlpAReferenceIdeal.τ).loc Cert.MlpAReferenceIdeal.main_arg6) = m ((c.tc : Thread Cert.MlpAReferenceIdeal.nD Cert.MlpAReferenceIdeal.τ).loc Cert.MlpAReferenceIdeal.main_arg6)
      ∧ r.2.mem ((c.tc : Thread Cert.MlpAReferenceIdeal.nD Cert.MlpAReferenceIdeal.τ).loc Cert.MlpAReferenceIdeal.main_arg7) = m ((c.tc : Thread Cert.MlpAReferenceIdeal.nD Cert.MlpAReferenceIdeal.τ).loc Cert.MlpAReferenceIdeal.main_arg7)
      ∧ r.2.mem ((c.tc : Thread Cert.MlpAReferenceIdeal.nD Cert.MlpAReferenceIdeal.τ).loc Cert.MlpAReferenceIdeal.main_arg8) = m ((c.tc : Thread Cert.MlpAReferenceIdeal.nD Cert.MlpAReferenceIdeal.τ).loc Cert.MlpAReferenceIdeal.main_arg8)
      ∧ r.2.mem ((c.tc : Thread Cert.MlpAReferenceIdeal.nD Cert.MlpAReferenceIdeal.τ).loc Cert.MlpAReferenceIdeal.main_arg9) = m ((c.tc : Thread Cert.MlpAReferenceIdeal.nD Cert.MlpAReferenceIdeal.τ).loc Cert.MlpAReferenceIdeal.main_arg9)
      ∧ r.2.mem ((c.tc : Thread Cert.MlpAReferenceIdeal.nD Cert.MlpAReferenceIdeal.τ).loc Cert.MlpAReferenceIdeal.main_arg10) = m ((c.tc : Thread Cert.MlpAReferenceIdeal.nD Cert.MlpAReferenceIdeal.τ).loc Cert.MlpAReferenceIdeal.main_arg10)
      ∧ r.2.mem ((c.tc : Thread Cert.MlpAReferenceIdeal.nD Cert.MlpAReferenceIdeal.τ).loc Cert.MlpAReferenceIdeal.main_arg11) = m ((c.tc : Thread Cert.MlpAReferenceIdeal.nD Cert.MlpAReferenceIdeal.τ).loc Cert.MlpAReferenceIdeal.main_arg11)
      ∧ r.2.mem ((c.tc : Thread Cert.MlpAReferenceIdeal.nD Cert.MlpAReferenceIdeal.τ).loc Cert.MlpAReferenceIdeal.main_arg12) = m ((c.tc : Thread Cert.MlpAReferenceIdeal.nD Cert.MlpAReferenceIdeal.τ).loc Cert.MlpAReferenceIdeal.main_arg12)
      ∧ r.2.mem ((c.tc : Thread Cert.MlpAReferenceIdeal.nD Cert.MlpAReferenceIdeal.τ).loc Cert.MlpAReferenceIdeal.main_arg13) = m ((c.tc : Thread Cert.MlpAReferenceIdeal.nD Cert.MlpAReferenceIdeal.τ).loc Cert.MlpAReferenceIdeal.main_arg13))
      ∧ r.2.sem = fun _ => 0)

def quiescent_MlpB [hMlpB : Cert.MlpB.Facts] : Prop :=
  ∀ (m : (ℓ : Loc Cert.MlpB.nD Cert.MlpB.τ Cert.MlpB.sig) → Buf (Elt Bits) ℓ) (g : Dev Cert.MlpB.nD → PrngReg), Pre_MlpB m →
    θ_run (Cert.MlpB.defs (F := Bits)) (onTc (τ := Cert.MlpB.τ) (Cert.MlpB.main (F := Bits))) ⟨m, fun _ => 0, g⟩ (fun r => (∀ c : Dev Cert.MlpB.nD,
      r.2.mem ((c.tc : Thread Cert.MlpB.nD Cert.MlpB.τ).loc Cert.MlpB.main_arg0) = m ((c.tc : Thread Cert.MlpB.nD Cert.MlpB.τ).loc Cert.MlpB.main_arg0)
      ∧ r.2.mem ((c.tc : Thread Cert.MlpB.nD Cert.MlpB.τ).loc Cert.MlpB.main_arg1) = m ((c.tc : Thread Cert.MlpB.nD Cert.MlpB.τ).loc Cert.MlpB.main_arg1)
      ∧ r.2.mem ((c.tc : Thread Cert.MlpB.nD Cert.MlpB.τ).loc Cert.MlpB.main_arg2) = m ((c.tc : Thread Cert.MlpB.nD Cert.MlpB.τ).loc Cert.MlpB.main_arg2)
      ∧ r.2.mem ((c.tc : Thread Cert.MlpB.nD Cert.MlpB.τ).loc Cert.MlpB.main_arg3) = m ((c.tc : Thread Cert.MlpB.nD Cert.MlpB.τ).loc Cert.MlpB.main_arg3)
      ∧ r.2.mem ((c.tc : Thread Cert.MlpB.nD Cert.MlpB.τ).loc Cert.MlpB.main_arg4) = m ((c.tc : Thread Cert.MlpB.nD Cert.MlpB.τ).loc Cert.MlpB.main_arg4)
      ∧ r.2.mem ((c.tc : Thread Cert.MlpB.nD Cert.MlpB.τ).loc Cert.MlpB.main_arg5) = m ((c.tc : Thread Cert.MlpB.nD Cert.MlpB.τ).loc Cert.MlpB.main_arg5)
      ∧ r.2.mem ((c.tc : Thread Cert.MlpB.nD Cert.MlpB.τ).loc Cert.MlpB.main_arg6) = m ((c.tc : Thread Cert.MlpB.nD Cert.MlpB.τ).loc Cert.MlpB.main_arg6)
      ∧ r.2.mem ((c.tc : Thread Cert.MlpB.nD Cert.MlpB.τ).loc Cert.MlpB.main_arg7) = m ((c.tc : Thread Cert.MlpB.nD Cert.MlpB.τ).loc Cert.MlpB.main_arg7)
      ∧ r.2.mem ((c.tc : Thread Cert.MlpB.nD Cert.MlpB.τ).loc Cert.MlpB.main_arg8) = m ((c.tc : Thread Cert.MlpB.nD Cert.MlpB.τ).loc Cert.MlpB.main_arg8)
      ∧ r.2.mem ((c.tc : Thread Cert.MlpB.nD Cert.MlpB.τ).loc Cert.MlpB.main_arg9) = m ((c.tc : Thread Cert.MlpB.nD Cert.MlpB.τ).loc Cert.MlpB.main_arg9)
      ∧ r.2.mem ((c.tc : Thread Cert.MlpB.nD Cert.MlpB.τ).loc Cert.MlpB.main_arg10) = m ((c.tc : Thread Cert.MlpB.nD Cert.MlpB.τ).loc Cert.MlpB.main_arg10)
      ∧ r.2.mem ((c.tc : Thread Cert.MlpB.nD Cert.MlpB.τ).loc Cert.MlpB.main_arg11) = m ((c.tc : Thread Cert.MlpB.nD Cert.MlpB.τ).loc Cert.MlpB.main_arg11)
      ∧ r.2.mem ((c.tc : Thread Cert.MlpB.nD Cert.MlpB.τ).loc Cert.MlpB.main_arg12) = m ((c.tc : Thread Cert.MlpB.nD Cert.MlpB.τ).loc Cert.MlpB.main_arg12)
      ∧ r.2.mem ((c.tc : Thread Cert.MlpB.nD Cert.MlpB.τ).loc Cert.MlpB.main_arg13) = m ((c.tc : Thread Cert.MlpB.nD Cert.MlpB.τ).loc Cert.MlpB.main_arg13))
      ∧ r.2.sem = fun _ => 0)

def quiescent_MlpBIdeal [hMlpBIdeal : Cert.MlpBIdeal.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4)
      ∧ r.2.mem ((c.tc : Thread Cert.MlpBIdeal.nD Cert.MlpBIdeal.τ).loc Cert.MlpBIdeal.main_arg5) = m ((c.tc : Thread Cert.MlpBIdeal.nD Cert.MlpBIdeal.τ).loc Cert.MlpBIdeal.main_arg5)
      ∧ r.2.mem ((c.tc : Thread Cert.MlpBIdeal.nD Cert.MlpBIdeal.τ).loc Cert.MlpBIdeal.main_arg6) = m ((c.tc : Thread Cert.MlpBIdeal.nD Cert.MlpBIdeal.τ).loc Cert.MlpBIdeal.main_arg6)
      ∧ r.2.mem ((c.tc : Thread Cert.MlpBIdeal.nD Cert.MlpBIdeal.τ).loc Cert.MlpBIdeal.main_arg7) = m ((c.tc : Thread Cert.MlpBIdeal.nD Cert.MlpBIdeal.τ).loc Cert.MlpBIdeal.main_arg7)
      ∧ r.2.mem ((c.tc : Thread Cert.MlpBIdeal.nD Cert.MlpBIdeal.τ).loc Cert.MlpBIdeal.main_arg8) = m ((c.tc : Thread Cert.MlpBIdeal.nD Cert.MlpBIdeal.τ).loc Cert.MlpBIdeal.main_arg8)
      ∧ r.2.mem ((c.tc : Thread Cert.MlpBIdeal.nD Cert.MlpBIdeal.τ).loc Cert.MlpBIdeal.main_arg9) = m ((c.tc : Thread Cert.MlpBIdeal.nD Cert.MlpBIdeal.τ).loc Cert.MlpBIdeal.main_arg9)
      ∧ r.2.mem ((c.tc : Thread Cert.MlpBIdeal.nD Cert.MlpBIdeal.τ).loc Cert.MlpBIdeal.main_arg10) = m ((c.tc : Thread Cert.MlpBIdeal.nD Cert.MlpBIdeal.τ).loc Cert.MlpBIdeal.main_arg10)
      ∧ r.2.mem ((c.tc : Thread Cert.MlpBIdeal.nD Cert.MlpBIdeal.τ).loc Cert.MlpBIdeal.main_arg11) = m ((c.tc : Thread Cert.MlpBIdeal.nD Cert.MlpBIdeal.τ).loc Cert.MlpBIdeal.main_arg11)
      ∧ r.2.mem ((c.tc : Thread Cert.MlpBIdeal.nD Cert.MlpBIdeal.τ).loc Cert.MlpBIdeal.main_arg12) = m ((c.tc : Thread Cert.MlpBIdeal.nD Cert.MlpBIdeal.τ).loc Cert.MlpBIdeal.main_arg12)
      ∧ r.2.mem ((c.tc : Thread Cert.MlpBIdeal.nD Cert.MlpBIdeal.τ).loc Cert.MlpBIdeal.main_arg13) = m ((c.tc : Thread Cert.MlpBIdeal.nD Cert.MlpBIdeal.τ).loc Cert.MlpBIdeal.main_arg13))
      ∧ r.2.sem = fun _ => 0)

def quiescent_MlpBReferenceIdeal [hMlpBReferenceIdeal : Cert.MlpBReferenceIdeal.Facts] : Prop :=
  ∀ (m : (ℓ : Loc Cert.MlpBReferenceIdeal.nD Cert.MlpBReferenceIdeal.τ Cert.MlpBReferenceIdeal.sig) → Buf (Elt Ideal) ℓ) (g : Dev Cert.MlpBReferenceIdeal.nD → PrngReg), Pre_MlpBReferenceIdeal m →
    θ_run (Cert.MlpBReferenceIdeal.defs (F := Ideal)) (onTc (τ := Cert.MlpBReferenceIdeal.τ) (Cert.MlpBReferenceIdeal.main (F := Ideal))) ⟨m, fun _ => 0, g⟩ (fun r => (∀ c : Dev Cert.MlpBReferenceIdeal.nD,
      r.2.mem ((c.tc : Thread Cert.MlpBReferenceIdeal.nD Cert.MlpBReferenceIdeal.τ).loc Cert.MlpBReferenceIdeal.main_arg0) = m ((c.tc : Thread Cert.MlpBReferenceIdeal.nD Cert.MlpBReferenceIdeal.τ).loc Cert.MlpBReferenceIdeal.main_arg0)
      ∧ r.2.mem ((c.tc : Thread Cert.MlpBReferenceIdeal.nD Cert.MlpBReferenceIdeal.τ).loc Cert.MlpBReferenceIdeal.main_arg1) = m ((c.tc : Thread Cert.MlpBReferenceIdeal.nD Cert.MlpBReferenceIdeal.τ).loc Cert.MlpBReferenceIdeal.main_arg1)
      ∧ r.2.mem ((c.tc : Thread Cert.MlpBReferenceIdeal.nD Cert.MlpBReferenceIdeal.τ).loc Cert.MlpBReferenceIdeal.main_arg2) = m ((c.tc : Thread Cert.MlpBReferenceIdeal.nD Cert.MlpBReferenceIdeal.τ).loc Cert.MlpBReferenceIdeal.main_arg2)
      ∧ r.2.mem ((c.tc : Thread Cert.MlpBReferenceIdeal.nD Cert.MlpBReferenceIdeal.τ).loc Cert.MlpBReferenceIdeal.main_arg3) = m ((c.tc : Thread Cert.MlpBReferenceIdeal.nD Cert.MlpBReferenceIdeal.τ).loc Cert.MlpBReferenceIdeal.main_arg3)
      ∧ r.2.mem ((c.tc : Thread Cert.MlpBReferenceIdeal.nD Cert.MlpBReferenceIdeal.τ).loc Cert.MlpBReferenceIdeal.main_arg4) = m ((c.tc : Thread Cert.MlpBReferenceIdeal.nD Cert.MlpBReferenceIdeal.τ).loc Cert.MlpBReferenceIdeal.main_arg4)
      ∧ r.2.mem ((c.tc : Thread Cert.MlpBReferenceIdeal.nD Cert.MlpBReferenceIdeal.τ).loc Cert.MlpBReferenceIdeal.main_arg5) = m ((c.tc : Thread Cert.MlpBReferenceIdeal.nD Cert.MlpBReferenceIdeal.τ).loc Cert.MlpBReferenceIdeal.main_arg5)
      ∧ r.2.mem ((c.tc : Thread Cert.MlpBReferenceIdeal.nD Cert.MlpBReferenceIdeal.τ).loc Cert.MlpBReferenceIdeal.main_arg6) = m ((c.tc : Thread Cert.MlpBReferenceIdeal.nD Cert.MlpBReferenceIdeal.τ).loc Cert.MlpBReferenceIdeal.main_arg6)
      ∧ r.2.mem ((c.tc : Thread Cert.MlpBReferenceIdeal.nD Cert.MlpBReferenceIdeal.τ).loc Cert.MlpBReferenceIdeal.main_arg7) = m ((c.tc : Thread Cert.MlpBReferenceIdeal.nD Cert.MlpBReferenceIdeal.τ).loc Cert.MlpBReferenceIdeal.main_arg7)
      ∧ r.2.mem ((c.tc : Thread Cert.MlpBReferenceIdeal.nD Cert.MlpBReferenceIdeal.τ).loc Cert.MlpBReferenceIdeal.main_arg8) = m ((c.tc : Thread Cert.MlpBReferenceIdeal.nD Cert.MlpBReferenceIdeal.τ).loc Cert.MlpBReferenceIdeal.main_arg8)
      ∧ r.2.mem ((c.tc : Thread Cert.MlpBReferenceIdeal.nD Cert.MlpBReferenceIdeal.τ).loc Cert.MlpBReferenceIdeal.main_arg9) = m ((c.tc : Thread Cert.MlpBReferenceIdeal.nD Cert.MlpBReferenceIdeal.τ).loc Cert.MlpBReferenceIdeal.main_arg9)
      ∧ r.2.mem ((c.tc : Thread Cert.MlpBReferenceIdeal.nD Cert.MlpBReferenceIdeal.τ).loc Cert.MlpBReferenceIdeal.main_arg10) = m ((c.tc : Thread Cert.MlpBReferenceIdeal.nD Cert.MlpBReferenceIdeal.τ).loc Cert.MlpBReferenceIdeal.main_arg10)
      ∧ r.2.mem ((c.tc : Thread Cert.MlpBReferenceIdeal.nD Cert.MlpBReferenceIdeal.τ).loc Cert.MlpBReferenceIdeal.main_arg11) = m ((c.tc : Thread Cert.MlpBReferenceIdeal.nD Cert.MlpBReferenceIdeal.τ).loc Cert.MlpBReferenceIdeal.main_arg11)
      ∧ r.2.mem ((c.tc : Thread Cert.MlpBReferenceIdeal.nD Cert.MlpBReferenceIdeal.τ).loc Cert.MlpBReferenceIdeal.main_arg12) = m ((c.tc : Thread Cert.MlpBReferenceIdeal.nD Cert.MlpBReferenceIdeal.τ).loc Cert.MlpBReferenceIdeal.main_arg12)
      ∧ r.2.mem ((c.tc : Thread Cert.MlpBReferenceIdeal.nD Cert.MlpBReferenceIdeal.τ).loc Cert.MlpBReferenceIdeal.main_arg13) = m ((c.tc : Thread Cert.MlpBReferenceIdeal.nD Cert.MlpBReferenceIdeal.τ).loc Cert.MlpBReferenceIdeal.main_arg13))
      ∧ r.2.sem = fun _ => 0)

def quiescent_MlpC [hMlpC : Cert.MlpC.Facts] : Prop :=
  ∀ (m : (ℓ : Loc Cert.MlpC.nD Cert.MlpC.τ Cert.MlpC.sig) → Buf (Elt Bits) ℓ) (g : Dev Cert.MlpC.nD → PrngReg), Pre_MlpC m →
    θ_run (Cert.MlpC.defs (F := Bits)) (onTc (τ := Cert.MlpC.τ) (Cert.MlpC.main (F := Bits))) ⟨m, fun _ => 0, g⟩ (fun r => (∀ c : Dev Cert.MlpC.nD,
      r.2.mem ((c.tc : Thread Cert.MlpC.nD Cert.MlpC.τ).loc Cert.MlpC.main_arg0) = m ((c.tc : Thread Cert.MlpC.nD Cert.MlpC.τ).loc Cert.MlpC.main_arg0)
      ∧ r.2.mem ((c.tc : Thread Cert.MlpC.nD Cert.MlpC.τ).loc Cert.MlpC.main_arg1) = m ((c.tc : Thread Cert.MlpC.nD Cert.MlpC.τ).loc Cert.MlpC.main_arg1)
      ∧ r.2.mem ((c.tc : Thread Cert.MlpC.nD Cert.MlpC.τ).loc Cert.MlpC.main_arg2) = m ((c.tc : Thread Cert.MlpC.nD Cert.MlpC.τ).loc Cert.MlpC.main_arg2)
      ∧ r.2.mem ((c.tc : Thread Cert.MlpC.nD Cert.MlpC.τ).loc Cert.MlpC.main_arg3) = m ((c.tc : Thread Cert.MlpC.nD Cert.MlpC.τ).loc Cert.MlpC.main_arg3)
      ∧ r.2.mem ((c.tc : Thread Cert.MlpC.nD Cert.MlpC.τ).loc Cert.MlpC.main_arg4) = m ((c.tc : Thread Cert.MlpC.nD Cert.MlpC.τ).loc Cert.MlpC.main_arg4)
      ∧ r.2.mem ((c.tc : Thread Cert.MlpC.nD Cert.MlpC.τ).loc Cert.MlpC.main_arg5) = m ((c.tc : Thread Cert.MlpC.nD Cert.MlpC.τ).loc Cert.MlpC.main_arg5)
      ∧ r.2.mem ((c.tc : Thread Cert.MlpC.nD Cert.MlpC.τ).loc Cert.MlpC.main_arg6) = m ((c.tc : Thread Cert.MlpC.nD Cert.MlpC.τ).loc Cert.MlpC.main_arg6)
      ∧ r.2.mem ((c.tc : Thread Cert.MlpC.nD Cert.MlpC.τ).loc Cert.MlpC.main_arg7) = m ((c.tc : Thread Cert.MlpC.nD Cert.MlpC.τ).loc Cert.MlpC.main_arg7)
      ∧ r.2.mem ((c.tc : Thread Cert.MlpC.nD Cert.MlpC.τ).loc Cert.MlpC.main_arg8) = m ((c.tc : Thread Cert.MlpC.nD Cert.MlpC.τ).loc Cert.MlpC.main_arg8)
      ∧ r.2.mem ((c.tc : Thread Cert.MlpC.nD Cert.MlpC.τ).loc Cert.MlpC.main_arg9) = m ((c.tc : Thread Cert.MlpC.nD Cert.MlpC.τ).loc Cert.MlpC.main_arg9)
      ∧ r.2.mem ((c.tc : Thread Cert.MlpC.nD Cert.MlpC.τ).loc Cert.MlpC.main_arg10) = m ((c.tc : Thread Cert.MlpC.nD Cert.MlpC.τ).loc Cert.MlpC.main_arg10)
      ∧ r.2.mem ((c.tc : Thread Cert.MlpC.nD Cert.MlpC.τ).loc Cert.MlpC.main_arg11) = m ((c.tc : Thread Cert.MlpC.nD Cert.MlpC.τ).loc Cert.MlpC.main_arg11)
      ∧ r.2.mem ((c.tc : Thread Cert.MlpC.nD Cert.MlpC.τ).loc Cert.MlpC.main_arg12) = m ((c.tc : Thread Cert.MlpC.nD Cert.MlpC.τ).loc Cert.MlpC.main_arg12)
      ∧ r.2.mem ((c.tc : Thread Cert.MlpC.nD Cert.MlpC.τ).loc Cert.MlpC.main_arg13) = m ((c.tc : Thread Cert.MlpC.nD Cert.MlpC.τ).loc Cert.MlpC.main_arg13))
      ∧ r.2.sem = fun _ => 0)

def quiescent_MlpCIdeal [hMlpCIdeal : Cert.MlpCIdeal.Facts] : Prop :=
  ∀ (m : (ℓ : Loc Cert.MlpCIdeal.nD Cert.MlpCIdeal.τ Cert.MlpCIdeal.sig) → Buf (Elt Ideal) ℓ) (g : Dev Cert.MlpCIdeal.nD → PrngReg), Pre_MlpCIdeal m →
    θ_run (Cert.MlpCIdeal.defs (F := Ideal)) (onTc (τ := Cert.MlpCIdeal.τ) (Cert.MlpCIdeal.main (F := Ideal))) ⟨m, fun _ => 0, g⟩ (fun r => (∀ c : Dev Cert.MlpCIdeal.nD,
      r.2.mem ((c.tc : Thread Cert.MlpCIdeal.nD Cert.MlpCIdeal.τ).loc Cert.MlpCIdeal.main_arg0) = m ((c.tc : Thread Cert.MlpCIdeal.nD Cert.MlpCIdeal.τ).loc Cert.MlpCIdeal.main_arg0)
      ∧ r.2.mem ((c.tc : Thread Cert.MlpCIdeal.nD Cert.MlpCIdeal.τ).loc Cert.MlpCIdeal.main_arg1) = m ((c.tc : Thread Cert.MlpCIdeal.nD Cert.MlpCIdeal.τ).loc Cert.MlpCIdeal.main_arg1)
      ∧ r.2.mem ((c.tc : Thread Cert.MlpCIdeal.nD Cert.MlpCIdeal.τ).loc Cert.MlpCIdeal.main_arg2) = m ((c.tc : Thread Cert.MlpCIdeal.nD Cert.MlpCIdeal.τ).loc Cert.MlpCIdeal.main_arg2)
      ∧ r.2.mem ((c.tc : Thread Cert.MlpCIdeal.nD Cert.MlpCIdeal.τ).loc Cert.MlpCIdeal.main_arg3) = m ((c.tc : Thread Cert.MlpCIdeal.nD Cert.MlpCIdeal.τ).loc Cert.MlpCIdeal.main_arg3)
      ∧ r.2.mem ((c.tc : Thread Cert.MlpCIdeal.nD Cert.MlpCIdeal.τ).loc Cert.MlpCIdeal.main_arg4) = m ((c.tc : Thread Cert.MlpCIdeal.nD Cert.MlpCIdeal.τ).loc Cert.MlpCIdeal.main_arg4)
      ∧ r.2.mem ((c.tc : Thread Cert.MlpCIdeal.nD Cert.MlpCIdeal.τ).loc Cert.MlpCIdeal.main_arg5) = m ((c.tc : Thread Cert.MlpCIdeal.nD Cert.MlpCIdeal.τ).loc Cert.MlpCIdeal.main_arg5)
      ∧ r.2.mem ((c.tc : Thread Cert.MlpCIdeal.nD Cert.MlpCIdeal.τ).loc Cert.MlpCIdeal.main_arg6) = m ((c.tc : Thread Cert.MlpCIdeal.nD Cert.MlpCIdeal.τ).loc Cert.MlpCIdeal.main_arg6)
      ∧ r.2.mem ((c.tc : Thread Cert.MlpCIdeal.nD Cert.MlpCIdeal.τ).loc Cert.MlpCIdeal.main_arg7) = m ((c.tc : Thread Cert.MlpCIdeal.nD Cert.MlpCIdeal.τ).loc Cert.MlpCIdeal.main_arg7)
      ∧ r.2.mem ((c.tc : Thread Cert.MlpCIdeal.nD Cert.MlpCIdeal.τ).loc Cert.MlpCIdeal.main_arg8) = m ((c.tc : Thread Cert.MlpCIdeal.nD Cert.MlpCIdeal.τ).loc Cert.MlpCIdeal.main_arg8)
      ∧ r.2.mem ((c.tc : Thread Cert.MlpCIdeal.nD Cert.MlpCIdeal.τ).loc Cert.MlpCIdeal.main_arg9) = m ((c.tc : Thread Cert.MlpCIdeal.nD Cert.MlpCIdeal.τ).loc Cert.MlpCIdeal.main_arg9)
      ∧ r.2.mem ((c.tc : Thread Cert.MlpCIdeal.nD Cert.MlpCIdeal.τ).loc Cert.MlpCIdeal.main_arg10) = m ((c.tc : Thread Cert.MlpCIdeal.nD Cert.MlpCIdeal.τ).loc Cert.MlpCIdeal.main_arg10)
      ∧ r.2.mem ((c.tc : Thread Cert.MlpCIdeal.nD Cert.MlpCIdeal.τ).loc Cert.MlpCIdeal.main_arg11) = m ((c.tc : Thread Cert.MlpCIdeal.nD Cert.MlpCIdeal.τ).loc Cert.MlpCIdeal.main_arg11)
      ∧ r.2.mem ((c.tc : Thread Cert.MlpCIdeal.nD Cert.MlpCIdeal.τ).loc Cert.MlpCIdeal.main_arg12) = m ((c.tc : Thread Cert.MlpCIdeal.nD Cert.MlpCIdeal.τ).loc Cert.MlpCIdeal.main_arg12)
      ∧ r.2.mem ((c.tc : Thread Cert.MlpCIdeal.nD Cert.MlpCIdeal.τ).loc Cert.MlpCIdeal.main_arg13) = m ((c.tc : Thread Cert.MlpCIdeal.nD Cert.MlpCIdeal.τ).loc Cert.MlpCIdeal.main_arg13))
      ∧ r.2.sem = fun _ => 0)

def quiescent_MlpCReferenceIdeal [hMlpCReferenceIdeal : Cert.MlpCReferenceIdeal.Facts] : Prop :=
  ∀ (m : (ℓ : Loc Cert.MlpCReferenceIdeal.nD Cert.MlpCReferenceIdeal.τ Cert.MlpCReferenceIdeal.sig) → Buf (Elt Ideal) ℓ) (g : Dev Cert.MlpCReferenceIdeal.nD → PrngReg), Pre_MlpCReferenceIdeal m →
    θ_run (Cert.MlpCReferenceIdeal.defs (F := Ideal)) (onTc (τ := Cert.MlpCReferenceIdeal.τ) (Cert.MlpCReferenceIdeal.main (F := Ideal))) ⟨m, fun _ => 0, g⟩ (fun r => (∀ c : Dev Cert.MlpCReferenceIdeal.nD,
      r.2.mem ((c.tc : Thread Cert.MlpCReferenceIdeal.nD Cert.MlpCReferenceIdeal.τ).loc Cert.MlpCReferenceIdeal.main_arg0) = m ((c.tc : Thread Cert.MlpCReferenceIdeal.nD Cert.MlpCReferenceIdeal.τ).loc Cert.MlpCReferenceIdeal.main_arg0)
      ∧ r.2.mem ((c.tc : Thread Cert.MlpCReferenceIdeal.nD Cert.MlpCReferenceIdeal.τ).loc Cert.MlpCReferenceIdeal.main_arg1) = m ((c.tc : Thread Cert.MlpCReferenceIdeal.nD Cert.MlpCReferenceIdeal.τ).loc Cert.MlpCReferenceIdeal.main_arg1)
      ∧ r.2.mem ((c.tc : Thread Cert.MlpCReferenceIdeal.nD Cert.MlpCReferenceIdeal.τ).loc Cert.MlpCReferenceIdeal.main_arg2) = m ((c.tc : Thread Cert.MlpCReferenceIdeal.nD Cert.MlpCReferenceIdeal.τ).loc Cert.MlpCReferenceIdeal.main_arg2)
      ∧ r.2.mem ((c.tc : Thread Cert.MlpCReferenceIdeal.nD Cert.MlpCReferenceIdeal.τ).loc Cert.MlpCReferenceIdeal.main_arg3) = m ((c.tc : Thread Cert.MlpCReferenceIdeal.nD Cert.MlpCReferenceIdeal.τ).loc Cert.MlpCReferenceIdeal.main_arg3)
      ∧ r.2.mem ((c.tc : Thread Cert.MlpCReferenceIdeal.nD Cert.MlpCReferenceIdeal.τ).loc Cert.MlpCReferenceIdeal.main_arg4) = m ((c.tc : Thread Cert.MlpCReferenceIdeal.nD Cert.MlpCReferenceIdeal.τ).loc Cert.MlpCReferenceIdeal.main_arg4)
      ∧ r.2.mem ((c.tc : Thread Cert.MlpCReferenceIdeal.nD Cert.MlpCReferenceIdeal.τ).loc Cert.MlpCReferenceIdeal.main_arg5) = m ((c.tc : Thread Cert.MlpCReferenceIdeal.nD Cert.MlpCReferenceIdeal.τ).loc Cert.MlpCReferenceIdeal.main_arg5)
      ∧ r.2.mem ((c.tc : Thread Cert.MlpCReferenceIdeal.nD Cert.MlpCReferenceIdeal.τ).loc Cert.MlpCReferenceIdeal.main_arg6) = m ((c.tc : Thread Cert.MlpCReferenceIdeal.nD Cert.MlpCReferenceIdeal.τ).loc Cert.MlpCReferenceIdeal.main_arg6)
      ∧ r.2.mem ((c.tc : Thread Cert.MlpCReferenceIdeal.nD Cert.MlpCReferenceIdeal.τ).loc Cert.MlpCReferenceIdeal.main_arg7) = m ((c.tc : Thread Cert.MlpCReferenceIdeal.nD Cert.MlpCReferenceIdeal.τ).loc Cert.MlpCReferenceIdeal.main_arg7)
      ∧ r.2.mem ((c.tc : Thread Cert.MlpCReferenceIdeal.nD Cert.MlpCReferenceIdeal.τ).loc Cert.MlpCReferenceIdeal.main_arg8) = m ((c.tc : Thread Cert.MlpCReferenceIdeal.nD Cert.MlpCReferenceIdeal.τ).loc Cert.MlpCReferenceIdeal.main_arg8)
      ∧ r.2.mem ((c.tc : Thread Cert.MlpCReferenceIdeal.nD Cert.MlpCReferenceIdeal.τ).loc Cert.MlpCReferenceIdeal.main_arg9) = m ((c.tc : Thread Cert.MlpCReferenceIdeal.nD Cert.MlpCReferenceIdeal.τ).loc Cert.MlpCReferenceIdeal.main_arg9)
      ∧ r.2.mem ((c.tc : Thread Cert.MlpCReferenceIdeal.nD Cert.MlpCReferenceIdeal.τ).loc Cert.MlpCReferenceIdeal.main_arg10) = m ((c.tc : Thread Cert.MlpCReferenceIdeal.nD Cert.MlpCReferenceIdeal.τ).loc Cert.MlpCReferenceIdeal.main_arg10)
      ∧ r.2.mem ((c.tc : Thread Cert.MlpCReferenceIdeal.nD Cert.MlpCReferenceIdeal.τ).loc Cert.MlpCReferenceIdeal.main_arg11) = m ((c.tc : Thread Cert.MlpCReferenceIdeal.nD Cert.MlpCReferenceIdeal.τ).loc Cert.MlpCReferenceIdeal.main_arg11)
      ∧ r.2.mem ((c.tc : Thread Cert.MlpCReferenceIdeal.nD Cert.MlpCReferenceIdeal.τ).loc Cert.MlpCReferenceIdeal.main_arg12) = m ((c.tc : Thread Cert.MlpCReferenceIdeal.nD Cert.MlpCReferenceIdeal.τ).loc Cert.MlpCReferenceIdeal.main_arg12)
      ∧ r.2.mem ((c.tc : Thread Cert.MlpCReferenceIdeal.nD Cert.MlpCReferenceIdeal.τ).loc Cert.MlpCReferenceIdeal.main_arg13) = m ((c.tc : Thread Cert.MlpCReferenceIdeal.nD Cert.MlpCReferenceIdeal.τ).loc Cert.MlpCReferenceIdeal.main_arg13))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1)
      ∧ r.2.mem ((c.tc : Thread Cert.ProjBReferenceIdeal.nD Cert.ProjBReferenceIdeal.τ).loc Cert.ProjBReferenceIdeal.main_arg2) = m ((c.tc : Thread Cert.ProjBReferenceIdeal.nD Cert.ProjBReferenceIdeal.τ).loc Cert.ProjBReferenceIdeal.main_arg2)
      ∧ r.2.mem ((c.tc : Thread Cert.ProjBReferenceIdeal.nD Cert.ProjBReferenceIdeal.τ).loc Cert.ProjBReferenceIdeal.main_arg3) = m ((c.tc : Thread Cert.ProjBReferenceIdeal.nD Cert.ProjBReferenceIdeal.τ).loc Cert.ProjBReferenceIdeal.main_arg3)
      ∧ r.2.mem ((c.tc : Thread Cert.ProjBReferenceIdeal.nD Cert.ProjBReferenceIdeal.τ).loc Cert.ProjBReferenceIdeal.main_arg4) = m ((c.tc : Thread Cert.ProjBReferenceIdeal.nD Cert.ProjBReferenceIdeal.τ).loc Cert.ProjBReferenceIdeal.main_arg4))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2)
      ∧ r.2.mem ((c.tc : Thread Cert.ProjC.nD Cert.ProjC.τ).loc Cert.ProjC.main_arg3) = m ((c.tc : Thread Cert.ProjC.nD Cert.ProjC.τ).loc Cert.ProjC.main_arg3)
      ∧ r.2.mem ((c.tc : Thread Cert.ProjC.nD Cert.ProjC.τ).loc Cert.ProjC.main_arg4) = m ((c.tc : Thread Cert.ProjC.nD Cert.ProjC.τ).loc Cert.ProjC.main_arg4))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
      ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3)
      ∧ r.2.mem ((c.tc : Thread Cert.ProjCIdeal.nD Cert.ProjCIdeal.τ).loc Cert.ProjCIdeal.main_arg4) = m ((c.tc : Thread Cert.ProjCIdeal.nD Cert.ProjCIdeal.τ).loc Cert.ProjCIdeal.main_arg4))
      ∧ r.2.sem = fun _ => 0)

def quiescent_ProjCReferenceIdeal [hProjCReferenceIdeal : Cert.ProjCReferenceIdeal.Facts] : Prop :=
  ∀ (m : (ℓ : Loc Cert.ProjCReferenceIdeal.nD Cert.ProjCReferenceIdeal.τ Cert.ProjCReferenceIdeal.sig) → Buf (Elt Ideal) ℓ) (g : Dev Cert.ProjCReferenceIdeal.nD → PrngReg), Pre_ProjCReferenceIdeal m →
    θ_run (Cert.ProjCReferenceIdeal.defs (F := Ideal)) (onTc (τ := Cert.ProjCReferenceIdeal.τ) (Cert.ProjCReferenceIdeal.main (F := Ideal))) ⟨m, fun _ => 0, g⟩ (fun r => (∀ c : Dev Cert.ProjCReferenceIdeal.nD,
      r.2.mem ((c.tc : Thread Cert.ProjCReferenceIdeal.nD Cert.ProjCReferenceIdeal.τ).loc Cert.ProjCReferenceIdeal.main_arg0) = m ((c.tc : Thread Cert.ProjCReferenceIdeal.nD Cert.ProjCReferenceIdeal.τ).loc Cert.ProjCReferenceIdeal.main_arg0)
      ∧ r.2.mem ((c.tc : Thread Cert.ProjCReferenceIdeal.nD Cert.ProjCReferenceIdeal.τ).loc Cert.ProjCReferenceIdeal.main_arg1) = m ((c.tc : Thread Cert.ProjCReferenceIdeal.nD Cert.ProjCReferenceIdeal.τ).loc Cert.ProjCReferenceIdeal.main_arg1)
      ∧ r.2.mem ((c.tc : Thread Cert.ProjCReferenceIdeal.nD Cert.ProjCReferenceIdeal.τ).loc Cert.ProjCReferenceIdeal.main_arg2) = m ((c.tc : Thread Cert.ProjCReferenceIdeal.nD Cert.ProjCReferenceIdeal.τ).loc Cert.ProjCReferenceIdeal.main_arg2)
      ∧ r.2.mem ((c.tc : Thread Cert.ProjCReferenceIdeal.nD Cert.ProjCReferenceIdeal.τ).loc Cert.ProjCReferenceIdeal.main_arg3) = m ((c.tc : Thread Cert.ProjCReferenceIdeal.nD Cert.ProjCReferenceIdeal.τ).loc Cert.ProjCReferenceIdeal.main_arg3)
      ∧ r.2.mem ((c.tc : Thread Cert.ProjCReferenceIdeal.nD Cert.ProjCReferenceIdeal.τ).loc Cert.ProjCReferenceIdeal.main_arg4) = m ((c.tc : Thread Cert.ProjCReferenceIdeal.nD Cert.ProjCReferenceIdeal.τ).loc Cert.ProjCReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5)
      ∧ r.2.mem ((c.tc : Thread Cert.SsdOut.nD Cert.SsdOut.τ).loc Cert.SsdOut.main_arg6) = m ((c.tc : Thread Cert.SsdOut.nD Cert.SsdOut.τ).loc Cert.SsdOut.main_arg6)
      ∧ r.2.mem ((c.tc : Thread Cert.SsdOut.nD Cert.SsdOut.τ).loc Cert.SsdOut.main_arg7) = m ((c.tc : Thread Cert.SsdOut.nD Cert.SsdOut.τ).loc Cert.SsdOut.main_arg7)
      ∧ r.2.mem ((c.tc : Thread Cert.SsdOut.nD Cert.SsdOut.τ).loc Cert.SsdOut.main_arg8) = m ((c.tc : Thread Cert.SsdOut.nD Cert.SsdOut.τ).loc Cert.SsdOut.main_arg8)
      ∧ r.2.mem ((c.tc : Thread Cert.SsdOut.nD Cert.SsdOut.τ).loc Cert.SsdOut.main_arg9) = m ((c.tc : Thread Cert.SsdOut.nD Cert.SsdOut.τ).loc Cert.SsdOut.main_arg9)
      ∧ r.2.mem ((c.tc : Thread Cert.SsdOut.nD Cert.SsdOut.τ).loc Cert.SsdOut.main_arg10) = m ((c.tc : Thread Cert.SsdOut.nD Cert.SsdOut.τ).loc Cert.SsdOut.main_arg10)
      ∧ r.2.mem ((c.tc : Thread Cert.SsdOut.nD Cert.SsdOut.τ).loc Cert.SsdOut.main_arg11) = m ((c.tc : Thread Cert.SsdOut.nD Cert.SsdOut.τ).loc Cert.SsdOut.main_arg11)
      ∧ r.2.mem ((c.tc : Thread Cert.SsdOut.nD Cert.SsdOut.τ).loc Cert.SsdOut.main_arg12) = m ((c.tc : Thread Cert.SsdOut.nD Cert.SsdOut.τ).loc Cert.SsdOut.main_arg12)
      ∧ r.2.mem ((c.tc : Thread Cert.SsdOut.nD Cert.SsdOut.τ).loc Cert.SsdOut.main_arg13) = m ((c.tc : Thread Cert.SsdOut.nD Cert.SsdOut.τ).loc Cert.SsdOut.main_arg13))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
      ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
      ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7)
      ∧ r.2.mem ((c.tc : Thread Cert.SsdOutIdeal.nD Cert.SsdOutIdeal.τ).loc Cert.SsdOutIdeal.main_arg8) = m ((c.tc : Thread Cert.SsdOutIdeal.nD Cert.SsdOutIdeal.τ).loc Cert.SsdOutIdeal.main_arg8)
      ∧ r.2.mem ((c.tc : Thread Cert.SsdOutIdeal.nD Cert.SsdOutIdeal.τ).loc Cert.SsdOutIdeal.main_arg9) = m ((c.tc : Thread Cert.SsdOutIdeal.nD Cert.SsdOutIdeal.τ).loc Cert.SsdOutIdeal.main_arg9)
      ∧ r.2.mem ((c.tc : Thread Cert.SsdOutIdeal.nD Cert.SsdOutIdeal.τ).loc Cert.SsdOutIdeal.main_arg10) = m ((c.tc : Thread Cert.SsdOutIdeal.nD Cert.SsdOutIdeal.τ).loc Cert.SsdOutIdeal.main_arg10)
      ∧ r.2.mem ((c.tc : Thread Cert.SsdOutIdeal.nD Cert.SsdOutIdeal.τ).loc Cert.SsdOutIdeal.main_arg11) = m ((c.tc : Thread Cert.SsdOutIdeal.nD Cert.SsdOutIdeal.τ).loc Cert.SsdOutIdeal.main_arg11)
      ∧ r.2.mem ((c.tc : Thread Cert.SsdOutIdeal.nD Cert.SsdOutIdeal.τ).loc Cert.SsdOutIdeal.main_arg12) = m ((c.tc : Thread Cert.SsdOutIdeal.nD Cert.SsdOutIdeal.τ).loc Cert.SsdOutIdeal.main_arg12)
      ∧ r.2.mem ((c.tc : Thread Cert.SsdOutIdeal.nD Cert.SsdOutIdeal.τ).loc Cert.SsdOutIdeal.main_arg13) = m ((c.tc : Thread Cert.SsdOutIdeal.nD Cert.SsdOutIdeal.τ).loc Cert.SsdOutIdeal.main_arg13))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3)
      ∧ r.2.mem ((c.tc : Thread Cert.SsdOutReferenceIdeal.nD Cert.SsdOutReferenceIdeal.τ).loc Cert.SsdOutReferenceIdeal.main_arg4) = m ((c.tc : Thread Cert.SsdOutReferenceIdeal.nD Cert.SsdOutReferenceIdeal.τ).loc Cert.SsdOutReferenceIdeal.main_arg4)
      ∧ r.2.mem ((c.tc : Thread Cert.SsdOutReferenceIdeal.nD Cert.SsdOutReferenceIdeal.τ).loc Cert.SsdOutReferenceIdeal.main_arg5) = m ((c.tc : Thread Cert.SsdOutReferenceIdeal.nD Cert.SsdOutReferenceIdeal.τ).loc Cert.SsdOutReferenceIdeal.main_arg5)
      ∧ r.2.mem ((c.tc : Thread Cert.SsdOutReferenceIdeal.nD Cert.SsdOutReferenceIdeal.τ).loc Cert.SsdOutReferenceIdeal.main_arg6) = m ((c.tc : Thread Cert.SsdOutReferenceIdeal.nD Cert.SsdOutReferenceIdeal.τ).loc Cert.SsdOutReferenceIdeal.main_arg6)
      ∧ r.2.mem ((c.tc : Thread Cert.SsdOutReferenceIdeal.nD Cert.SsdOutReferenceIdeal.τ).loc Cert.SsdOutReferenceIdeal.main_arg7) = m ((c.tc : Thread Cert.SsdOutReferenceIdeal.nD Cert.SsdOutReferenceIdeal.τ).loc Cert.SsdOutReferenceIdeal.main_arg7)
      ∧ r.2.mem ((c.tc : Thread Cert.SsdOutReferenceIdeal.nD Cert.SsdOutReferenceIdeal.τ).loc Cert.SsdOutReferenceIdeal.main_arg8) = m ((c.tc : Thread Cert.SsdOutReferenceIdeal.nD Cert.SsdOutReferenceIdeal.τ).loc Cert.SsdOutReferenceIdeal.main_arg8)
      ∧ r.2.mem ((c.tc : Thread Cert.SsdOutReferenceIdeal.nD Cert.SsdOutReferenceIdeal.τ).loc Cert.SsdOutReferenceIdeal.main_arg9) = m ((c.tc : Thread Cert.SsdOutReferenceIdeal.nD Cert.SsdOutReferenceIdeal.τ).loc Cert.SsdOutReferenceIdeal.main_arg9)
      ∧ r.2.mem ((c.tc : Thread Cert.SsdOutReferenceIdeal.nD Cert.SsdOutReferenceIdeal.τ).loc Cert.SsdOutReferenceIdeal.main_arg10) = m ((c.tc : Thread Cert.SsdOutReferenceIdeal.nD Cert.SsdOutReferenceIdeal.τ).loc Cert.SsdOutReferenceIdeal.main_arg10)
      ∧ r.2.mem ((c.tc : Thread Cert.SsdOutReferenceIdeal.nD Cert.SsdOutReferenceIdeal.τ).loc Cert.SsdOutReferenceIdeal.main_arg11) = m ((c.tc : Thread Cert.SsdOutReferenceIdeal.nD Cert.SsdOutReferenceIdeal.τ).loc Cert.SsdOutReferenceIdeal.main_arg11)
      ∧ r.2.mem ((c.tc : Thread Cert.SsdOutReferenceIdeal.nD Cert.SsdOutReferenceIdeal.τ).loc Cert.SsdOutReferenceIdeal.main_arg12) = m ((c.tc : Thread Cert.SsdOutReferenceIdeal.nD Cert.SsdOutReferenceIdeal.τ).loc Cert.SsdOutReferenceIdeal.main_arg12)
      ∧ r.2.mem ((c.tc : Thread Cert.SsdOutReferenceIdeal.nD Cert.SsdOutReferenceIdeal.τ).loc Cert.SsdOutReferenceIdeal.main_arg13) = m ((c.tc : Thread Cert.SsdOutReferenceIdeal.nD Cert.SsdOutReferenceIdeal.τ).loc Cert.SsdOutReferenceIdeal.main_arg13))
      ∧ r.2.sem = fun _ => 0)

def quiescent_SsdOutLast [hSsdOutLast : Cert.SsdOutLast.Facts] : Prop :=
  ∀ (m : (ℓ : Loc Cert.SsdOutLast.nD Cert.SsdOutLast.τ Cert.SsdOutLast.sig) → Buf (Elt Bits) ℓ) (g : Dev Cert.SsdOutLast.nD → PrngReg), Pre_SsdOutLast m →
    θ_run (Cert.SsdOutLast.defs (F := Bits)) (onTc (τ := Cert.SsdOutLast.τ) (Cert.SsdOutLast.main (F := Bits))) ⟨m, fun _ => 0, g⟩ (fun r => (∀ c : Dev Cert.SsdOutLast.nD,
      r.2.mem ((c.tc : Thread Cert.SsdOutLast.nD Cert.SsdOutLast.τ).loc Cert.SsdOutLast.main_arg0) = m ((c.tc : Thread Cert.SsdOutLast.nD Cert.SsdOutLast.τ).loc Cert.SsdOutLast.main_arg0)
      ∧ r.2.mem ((c.tc : Thread Cert.SsdOutLast.nD Cert.SsdOutLast.τ).loc Cert.SsdOutLast.main_arg1) = m ((c.tc : Thread Cert.SsdOutLast.nD Cert.SsdOutLast.τ).loc Cert.SsdOutLast.main_arg1)
      ∧ r.2.mem ((c.tc : Thread Cert.SsdOutLast.nD Cert.SsdOutLast.τ).loc Cert.SsdOutLast.main_arg2) = m ((c.tc : Thread Cert.SsdOutLast.nD Cert.SsdOutLast.τ).loc Cert.SsdOutLast.main_arg2)
      ∧ r.2.mem ((c.tc : Thread Cert.SsdOutLast.nD Cert.SsdOutLast.τ).loc Cert.SsdOutLast.main_arg3) = m ((c.tc : Thread Cert.SsdOutLast.nD Cert.SsdOutLast.τ).loc Cert.SsdOutLast.main_arg3)
      ∧ r.2.mem ((c.tc : Thread Cert.SsdOutLast.nD Cert.SsdOutLast.τ).loc Cert.SsdOutLast.main_arg4) = m ((c.tc : Thread Cert.SsdOutLast.nD Cert.SsdOutLast.τ).loc Cert.SsdOutLast.main_arg4)
      ∧ r.2.mem ((c.tc : Thread Cert.SsdOutLast.nD Cert.SsdOutLast.τ).loc Cert.SsdOutLast.main_arg5) = m ((c.tc : Thread Cert.SsdOutLast.nD Cert.SsdOutLast.τ).loc Cert.SsdOutLast.main_arg5)
      ∧ r.2.mem ((c.tc : Thread Cert.SsdOutLast.nD Cert.SsdOutLast.τ).loc Cert.SsdOutLast.main_arg6) = m ((c.tc : Thread Cert.SsdOutLast.nD Cert.SsdOutLast.τ).loc Cert.SsdOutLast.main_arg6)
      ∧ r.2.mem ((c.tc : Thread Cert.SsdOutLast.nD Cert.SsdOutLast.τ).loc Cert.SsdOutLast.main_arg7) = m ((c.tc : Thread Cert.SsdOutLast.nD Cert.SsdOutLast.τ).loc Cert.SsdOutLast.main_arg7)
      ∧ r.2.mem ((c.tc : Thread Cert.SsdOutLast.nD Cert.SsdOutLast.τ).loc Cert.SsdOutLast.main_arg8) = m ((c.tc : Thread Cert.SsdOutLast.nD Cert.SsdOutLast.τ).loc Cert.SsdOutLast.main_arg8)
      ∧ r.2.mem ((c.tc : Thread Cert.SsdOutLast.nD Cert.SsdOutLast.τ).loc Cert.SsdOutLast.main_arg9) = m ((c.tc : Thread Cert.SsdOutLast.nD Cert.SsdOutLast.τ).loc Cert.SsdOutLast.main_arg9)
      ∧ r.2.mem ((c.tc : Thread Cert.SsdOutLast.nD Cert.SsdOutLast.τ).loc Cert.SsdOutLast.main_arg10) = m ((c.tc : Thread Cert.SsdOutLast.nD Cert.SsdOutLast.τ).loc Cert.SsdOutLast.main_arg10)
      ∧ r.2.mem ((c.tc : Thread Cert.SsdOutLast.nD Cert.SsdOutLast.τ).loc Cert.SsdOutLast.main_arg11) = m ((c.tc : Thread Cert.SsdOutLast.nD Cert.SsdOutLast.τ).loc Cert.SsdOutLast.main_arg11)
      ∧ r.2.mem ((c.tc : Thread Cert.SsdOutLast.nD Cert.SsdOutLast.τ).loc Cert.SsdOutLast.main_arg12) = m ((c.tc : Thread Cert.SsdOutLast.nD Cert.SsdOutLast.τ).loc Cert.SsdOutLast.main_arg12))
      ∧ r.2.sem = fun _ => 0)

def quiescent_SsdOutLastIdeal [hSsdOutLastIdeal : Cert.SsdOutLastIdeal.Facts] : Prop :=
  ∀ (m : (ℓ : Loc Cert.SsdOutLastIdeal.nD Cert.SsdOutLastIdeal.τ Cert.SsdOutLastIdeal.sig) → Buf (Elt Ideal) ℓ) (g : Dev Cert.SsdOutLastIdeal.nD → PrngReg), Pre_SsdOutLastIdeal m →
    θ_run (Cert.SsdOutLastIdeal.defs (F := Ideal)) (onTc (τ := Cert.SsdOutLastIdeal.τ) (Cert.SsdOutLastIdeal.main (F := Ideal))) ⟨m, fun _ => 0, g⟩ (fun r => (∀ c : Dev Cert.SsdOutLastIdeal.nD,
      r.2.mem ((c.tc : Thread Cert.SsdOutLastIdeal.nD Cert.SsdOutLastIdeal.τ).loc Cert.SsdOutLastIdeal.main_arg0) = m ((c.tc : Thread Cert.SsdOutLastIdeal.nD Cert.SsdOutLastIdeal.τ).loc Cert.SsdOutLastIdeal.main_arg0)
      ∧ r.2.mem ((c.tc : Thread Cert.SsdOutLastIdeal.nD Cert.SsdOutLastIdeal.τ).loc Cert.SsdOutLastIdeal.main_arg1) = m ((c.tc : Thread Cert.SsdOutLastIdeal.nD Cert.SsdOutLastIdeal.τ).loc Cert.SsdOutLastIdeal.main_arg1)
      ∧ r.2.mem ((c.tc : Thread Cert.SsdOutLastIdeal.nD Cert.SsdOutLastIdeal.τ).loc Cert.SsdOutLastIdeal.main_arg2) = m ((c.tc : Thread Cert.SsdOutLastIdeal.nD Cert.SsdOutLastIdeal.τ).loc Cert.SsdOutLastIdeal.main_arg2)
      ∧ r.2.mem ((c.tc : Thread Cert.SsdOutLastIdeal.nD Cert.SsdOutLastIdeal.τ).loc Cert.SsdOutLastIdeal.main_arg3) = m ((c.tc : Thread Cert.SsdOutLastIdeal.nD Cert.SsdOutLastIdeal.τ).loc Cert.SsdOutLastIdeal.main_arg3)
      ∧ r.2.mem ((c.tc : Thread Cert.SsdOutLastIdeal.nD Cert.SsdOutLastIdeal.τ).loc Cert.SsdOutLastIdeal.main_arg4) = m ((c.tc : Thread Cert.SsdOutLastIdeal.nD Cert.SsdOutLastIdeal.τ).loc Cert.SsdOutLastIdeal.main_arg4)
      ∧ r.2.mem ((c.tc : Thread Cert.SsdOutLastIdeal.nD Cert.SsdOutLastIdeal.τ).loc Cert.SsdOutLastIdeal.main_arg5) = m ((c.tc : Thread Cert.SsdOutLastIdeal.nD Cert.SsdOutLastIdeal.τ).loc Cert.SsdOutLastIdeal.main_arg5)
      ∧ r.2.mem ((c.tc : Thread Cert.SsdOutLastIdeal.nD Cert.SsdOutLastIdeal.τ).loc Cert.SsdOutLastIdeal.main_arg6) = m ((c.tc : Thread Cert.SsdOutLastIdeal.nD Cert.SsdOutLastIdeal.τ).loc Cert.SsdOutLastIdeal.main_arg6)
      ∧ r.2.mem ((c.tc : Thread Cert.SsdOutLastIdeal.nD Cert.SsdOutLastIdeal.τ).loc Cert.SsdOutLastIdeal.main_arg7) = m ((c.tc : Thread Cert.SsdOutLastIdeal.nD Cert.SsdOutLastIdeal.τ).loc Cert.SsdOutLastIdeal.main_arg7)
      ∧ r.2.mem ((c.tc : Thread Cert.SsdOutLastIdeal.nD Cert.SsdOutLastIdeal.τ).loc Cert.SsdOutLastIdeal.main_arg8) = m ((c.tc : Thread Cert.SsdOutLastIdeal.nD Cert.SsdOutLastIdeal.τ).loc Cert.SsdOutLastIdeal.main_arg8)
      ∧ r.2.mem ((c.tc : Thread Cert.SsdOutLastIdeal.nD Cert.SsdOutLastIdeal.τ).loc Cert.SsdOutLastIdeal.main_arg9) = m ((c.tc : Thread Cert.SsdOutLastIdeal.nD Cert.SsdOutLastIdeal.τ).loc Cert.SsdOutLastIdeal.main_arg9)
      ∧ r.2.mem ((c.tc : Thread Cert.SsdOutLastIdeal.nD Cert.SsdOutLastIdeal.τ).loc Cert.SsdOutLastIdeal.main_arg10) = m ((c.tc : Thread Cert.SsdOutLastIdeal.nD Cert.SsdOutLastIdeal.τ).loc Cert.SsdOutLastIdeal.main_arg10)
      ∧ r.2.mem ((c.tc : Thread Cert.SsdOutLastIdeal.nD Cert.SsdOutLastIdeal.τ).loc Cert.SsdOutLastIdeal.main_arg11) = m ((c.tc : Thread Cert.SsdOutLastIdeal.nD Cert.SsdOutLastIdeal.τ).loc Cert.SsdOutLastIdeal.main_arg11)
      ∧ r.2.mem ((c.tc : Thread Cert.SsdOutLastIdeal.nD Cert.SsdOutLastIdeal.τ).loc Cert.SsdOutLastIdeal.main_arg12) = m ((c.tc : Thread Cert.SsdOutLastIdeal.nD Cert.SsdOutLastIdeal.τ).loc Cert.SsdOutLastIdeal.main_arg12))
      ∧ r.2.sem = fun _ => 0)

def quiescent_SsdOutLastReferenceIdeal [hSsdOutLastReferenceIdeal : Cert.SsdOutLastReferenceIdeal.Facts] : Prop :=
  ∀ (m : (ℓ : Loc Cert.SsdOutLastReferenceIdeal.nD Cert.SsdOutLastReferenceIdeal.τ Cert.SsdOutLastReferenceIdeal.sig) → Buf (Elt Ideal) ℓ) (g : Dev Cert.SsdOutLastReferenceIdeal.nD → PrngReg), Pre_SsdOutLastReferenceIdeal m →
    θ_run (Cert.SsdOutLastReferenceIdeal.defs (F := Ideal)) (onTc (τ := Cert.SsdOutLastReferenceIdeal.τ) (Cert.SsdOutLastReferenceIdeal.main (F := Ideal))) ⟨m, fun _ => 0, g⟩ (fun r => (∀ c : Dev Cert.SsdOutLastReferenceIdeal.nD,
      r.2.mem ((c.tc : Thread Cert.SsdOutLastReferenceIdeal.nD Cert.SsdOutLastReferenceIdeal.τ).loc Cert.SsdOutLastReferenceIdeal.main_arg0) = m ((c.tc : Thread Cert.SsdOutLastReferenceIdeal.nD Cert.SsdOutLastReferenceIdeal.τ).loc Cert.SsdOutLastReferenceIdeal.main_arg0)
      ∧ r.2.mem ((c.tc : Thread Cert.SsdOutLastReferenceIdeal.nD Cert.SsdOutLastReferenceIdeal.τ).loc Cert.SsdOutLastReferenceIdeal.main_arg1) = m ((c.tc : Thread Cert.SsdOutLastReferenceIdeal.nD Cert.SsdOutLastReferenceIdeal.τ).loc Cert.SsdOutLastReferenceIdeal.main_arg1)
      ∧ r.2.mem ((c.tc : Thread Cert.SsdOutLastReferenceIdeal.nD Cert.SsdOutLastReferenceIdeal.τ).loc Cert.SsdOutLastReferenceIdeal.main_arg2) = m ((c.tc : Thread Cert.SsdOutLastReferenceIdeal.nD Cert.SsdOutLastReferenceIdeal.τ).loc Cert.SsdOutLastReferenceIdeal.main_arg2)
      ∧ r.2.mem ((c.tc : Thread Cert.SsdOutLastReferenceIdeal.nD Cert.SsdOutLastReferenceIdeal.τ).loc Cert.SsdOutLastReferenceIdeal.main_arg3) = m ((c.tc : Thread Cert.SsdOutLastReferenceIdeal.nD Cert.SsdOutLastReferenceIdeal.τ).loc Cert.SsdOutLastReferenceIdeal.main_arg3)
      ∧ r.2.mem ((c.tc : Thread Cert.SsdOutLastReferenceIdeal.nD Cert.SsdOutLastReferenceIdeal.τ).loc Cert.SsdOutLastReferenceIdeal.main_arg4) = m ((c.tc : Thread Cert.SsdOutLastReferenceIdeal.nD Cert.SsdOutLastReferenceIdeal.τ).loc Cert.SsdOutLastReferenceIdeal.main_arg4)
      ∧ r.2.mem ((c.tc : Thread Cert.SsdOutLastReferenceIdeal.nD Cert.SsdOutLastReferenceIdeal.τ).loc Cert.SsdOutLastReferenceIdeal.main_arg5) = m ((c.tc : Thread Cert.SsdOutLastReferenceIdeal.nD Cert.SsdOutLastReferenceIdeal.τ).loc Cert.SsdOutLastReferenceIdeal.main_arg5)
      ∧ r.2.mem ((c.tc : Thread Cert.SsdOutLastReferenceIdeal.nD Cert.SsdOutLastReferenceIdeal.τ).loc Cert.SsdOutLastReferenceIdeal.main_arg6) = m ((c.tc : Thread Cert.SsdOutLastReferenceIdeal.nD Cert.SsdOutLastReferenceIdeal.τ).loc Cert.SsdOutLastReferenceIdeal.main_arg6)
      ∧ r.2.mem ((c.tc : Thread Cert.SsdOutLastReferenceIdeal.nD Cert.SsdOutLastReferenceIdeal.τ).loc Cert.SsdOutLastReferenceIdeal.main_arg7) = m ((c.tc : Thread Cert.SsdOutLastReferenceIdeal.nD Cert.SsdOutLastReferenceIdeal.τ).loc Cert.SsdOutLastReferenceIdeal.main_arg7)
      ∧ r.2.mem ((c.tc : Thread Cert.SsdOutLastReferenceIdeal.nD Cert.SsdOutLastReferenceIdeal.τ).loc Cert.SsdOutLastReferenceIdeal.main_arg8) = m ((c.tc : Thread Cert.SsdOutLastReferenceIdeal.nD Cert.SsdOutLastReferenceIdeal.τ).loc Cert.SsdOutLastReferenceIdeal.main_arg8)
      ∧ r.2.mem ((c.tc : Thread Cert.SsdOutLastReferenceIdeal.nD Cert.SsdOutLastReferenceIdeal.τ).loc Cert.SsdOutLastReferenceIdeal.main_arg9) = m ((c.tc : Thread Cert.SsdOutLastReferenceIdeal.nD Cert.SsdOutLastReferenceIdeal.τ).loc Cert.SsdOutLastReferenceIdeal.main_arg9)
      ∧ r.2.mem ((c.tc : Thread Cert.SsdOutLastReferenceIdeal.nD Cert.SsdOutLastReferenceIdeal.τ).loc Cert.SsdOutLastReferenceIdeal.main_arg10) = m ((c.tc : Thread Cert.SsdOutLastReferenceIdeal.nD Cert.SsdOutLastReferenceIdeal.τ).loc Cert.SsdOutLastReferenceIdeal.main_arg10)
      ∧ r.2.mem ((c.tc : Thread Cert.SsdOutLastReferenceIdeal.nD Cert.SsdOutLastReferenceIdeal.τ).loc Cert.SsdOutLastReferenceIdeal.main_arg11) = m ((c.tc : Thread Cert.SsdOutLastReferenceIdeal.nD Cert.SsdOutLastReferenceIdeal.τ).loc Cert.SsdOutLastReferenceIdeal.main_arg11)
      ∧ r.2.mem ((c.tc : Thread Cert.SsdOutLastReferenceIdeal.nD Cert.SsdOutLastReferenceIdeal.τ).loc Cert.SsdOutLastReferenceIdeal.main_arg12) = m ((c.tc : Thread Cert.SsdOutLastReferenceIdeal.nD Cert.SsdOutLastReferenceIdeal.τ).loc Cert.SsdOutLastReferenceIdeal.main_arg12))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4)
      ∧ r.2.mem ((c.tc : Thread Cert.ProjA.nD Cert.ProjA.τ).loc Cert.ProjA.main_arg5) = m ((c.tc : Thread Cert.ProjA.nD Cert.ProjA.τ).loc Cert.ProjA.main_arg5)
      ∧ r.2.mem ((c.tc : Thread Cert.ProjA.nD Cert.ProjA.τ).loc Cert.ProjA.main_arg6) = m ((c.tc : Thread Cert.ProjA.nD Cert.ProjA.τ).loc Cert.ProjA.main_arg6)
      ∧ r.2.mem ((c.tc : Thread Cert.ProjA.nD Cert.ProjA.τ).loc Cert.ProjA.main_arg7) = m ((c.tc : Thread Cert.ProjA.nD Cert.ProjA.τ).loc Cert.ProjA.main_arg7))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
      ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5)
      ∧ r.2.mem ((c.tc : Thread Cert.ProjAIdeal.nD Cert.ProjAIdeal.τ).loc Cert.ProjAIdeal.main_arg6) = m ((c.tc : Thread Cert.ProjAIdeal.nD Cert.ProjAIdeal.τ).loc Cert.ProjAIdeal.main_arg6)
      ∧ r.2.mem ((c.tc : Thread Cert.ProjAIdeal.nD Cert.ProjAIdeal.τ).loc Cert.ProjAIdeal.main_arg7) = m ((c.tc : Thread Cert.ProjAIdeal.nD Cert.ProjAIdeal.τ).loc Cert.ProjAIdeal.main_arg7))
      ∧ r.2.sem = fun _ => 0)

def quiescent_ProjAReferenceIdeal [hProjAReferenceIdeal : Cert.ProjAReferenceIdeal.Facts] : Prop :=
  ∀ (m : (ℓ : Loc Cert.ProjAReferenceIdeal.nD Cert.ProjAReferenceIdeal.τ Cert.ProjAReferenceIdeal.sig) → Buf (Elt Ideal) ℓ) (g : Dev Cert.ProjAReferenceIdeal.nD → PrngReg), Pre_ProjAReferenceIdeal m →
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1)
      ∧ r.2.mem ((c.tc : Thread Cert.ProjAReferenceIdeal.nD Cert.ProjAReferenceIdeal.τ).loc Cert.ProjAReferenceIdeal.main_arg2) = m ((c.tc : Thread Cert.ProjAReferenceIdeal.nD Cert.ProjAReferenceIdeal.τ).loc Cert.ProjAReferenceIdeal.main_arg2)
      ∧ r.2.mem ((c.tc : Thread Cert.ProjAReferenceIdeal.nD Cert.ProjAReferenceIdeal.τ).loc Cert.ProjAReferenceIdeal.main_arg3) = m ((c.tc : Thread Cert.ProjAReferenceIdeal.nD Cert.ProjAReferenceIdeal.τ).loc Cert.ProjAReferenceIdeal.main_arg3)
      ∧ r.2.mem ((c.tc : Thread Cert.ProjAReferenceIdeal.nD Cert.ProjAReferenceIdeal.τ).loc Cert.ProjAReferenceIdeal.main_arg4) = m ((c.tc : Thread Cert.ProjAReferenceIdeal.nD Cert.ProjAReferenceIdeal.τ).loc Cert.ProjAReferenceIdeal.main_arg4)
      ∧ r.2.mem ((c.tc : Thread Cert.ProjAReferenceIdeal.nD Cert.ProjAReferenceIdeal.τ).loc Cert.ProjAReferenceIdeal.main_arg5) = m ((c.tc : Thread Cert.ProjAReferenceIdeal.nD Cert.ProjAReferenceIdeal.τ).loc Cert.ProjAReferenceIdeal.main_arg5)
      ∧ r.2.mem ((c.tc : Thread Cert.ProjAReferenceIdeal.nD Cert.ProjAReferenceIdeal.τ).loc Cert.ProjAReferenceIdeal.main_arg6) = m ((c.tc : Thread Cert.ProjAReferenceIdeal.nD Cert.ProjAReferenceIdeal.τ).loc Cert.ProjAReferenceIdeal.main_arg6)
      ∧ r.2.mem ((c.tc : Thread Cert.ProjAReferenceIdeal.nD Cert.ProjAReferenceIdeal.τ).loc Cert.ProjAReferenceIdeal.main_arg7) = m ((c.tc : Thread Cert.ProjAReferenceIdeal.nD Cert.ProjAReferenceIdeal.τ).loc Cert.ProjAReferenceIdeal.main_arg7))
      ∧ r.2.sem = fun _ => 0)

def quiescent_ProjD [hProjD : Cert.ProjD.Facts] : Prop :=
  ∀ (m : (ℓ : Loc Cert.ProjD.nD Cert.ProjD.τ Cert.ProjD.sig) → Buf (Elt Bits) ℓ) (g : Dev Cert.ProjD.nD → PrngReg), Pre_ProjD m →
    θ_run (Cert.ProjD.defs (F := Bits)) (onTc (τ := Cert.ProjD.τ) (Cert.ProjD.main (F := Bits))) ⟨m, fun _ => 0, g⟩ (fun r => (∀ c : Dev Cert.ProjD.nD,
      r.2.mem ((c.tc : Thread Cert.ProjD.nD Cert.ProjD.τ).loc Cert.ProjD.main_arg0) = m ((c.tc : Thread Cert.ProjD.nD Cert.ProjD.τ).loc Cert.ProjD.main_arg0)
      ∧ r.2.mem ((c.tc : Thread Cert.ProjD.nD Cert.ProjD.τ).loc Cert.ProjD.main_arg1) = m ((c.tc : Thread Cert.ProjD.nD Cert.ProjD.τ).loc Cert.ProjD.main_arg1)
      ∧ r.2.mem ((c.tc : Thread Cert.ProjD.nD Cert.ProjD.τ).loc Cert.ProjD.main_arg2) = m ((c.tc : Thread Cert.ProjD.nD Cert.ProjD.τ).loc Cert.ProjD.main_arg2)
      ∧ r.2.mem ((c.tc : Thread Cert.ProjD.nD Cert.ProjD.τ).loc Cert.ProjD.main_arg3) = m ((c.tc : Thread Cert.ProjD.nD Cert.ProjD.τ).loc Cert.ProjD.main_arg3)
      ∧ r.2.mem ((c.tc : Thread Cert.ProjD.nD Cert.ProjD.τ).loc Cert.ProjD.main_arg4) = m ((c.tc : Thread Cert.ProjD.nD Cert.ProjD.τ).loc Cert.ProjD.main_arg4))
      ∧ r.2.sem = fun _ => 0)

def quiescent_ProjDIdeal [hProjDIdeal : Cert.ProjDIdeal.Facts] : Prop :=
  ∀ (m : (ℓ : Loc Cert.ProjDIdeal.nD Cert.ProjDIdeal.τ Cert.ProjDIdeal.sig) → Buf (Elt Ideal) ℓ) (g : Dev Cert.ProjDIdeal.nD → PrngReg), Pre_ProjDIdeal m →
    θ_run (Cert.ProjDIdeal.defs (F := Ideal)) (onTc (τ := Cert.ProjDIdeal.τ) (Cert.ProjDIdeal.main (F := Ideal))) ⟨m, fun _ => 0, g⟩ (fun r => (∀ c : Dev Cert.ProjDIdeal.nD,
      r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
      ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1)
      ∧ r.2.mem ((c.tc : Thread Cert.ProjDIdeal.nD Cert.ProjDIdeal.τ).loc Cert.ProjDIdeal.main_arg2) = m ((c.tc : Thread Cert.ProjDIdeal.nD Cert.ProjDIdeal.τ).loc Cert.ProjDIdeal.main_arg2)
      ∧ r.2.mem ((c.tc : Thread Cert.ProjDIdeal.nD Cert.ProjDIdeal.τ).loc Cert.ProjDIdeal.main_arg3) = m ((c.tc : Thread Cert.ProjDIdeal.nD Cert.ProjDIdeal.τ).loc Cert.ProjDIdeal.main_arg3)
      ∧ r.2.mem ((c.tc : Thread Cert.ProjDIdeal.nD Cert.ProjDIdeal.τ).loc Cert.ProjDIdeal.main_arg4) = m ((c.tc : Thread Cert.ProjDIdeal.nD Cert.ProjDIdeal.τ).loc Cert.ProjDIdeal.main_arg4))
      ∧ r.2.sem = fun _ => 0)

def quiescent_ProjDReferenceIdeal [hProjDReferenceIdeal : Cert.ProjDReferenceIdeal.Facts] : Prop :=
  ∀ (m : (ℓ : Loc Cert.ProjDReferenceIdeal.nD Cert.ProjDReferenceIdeal.τ Cert.ProjDReferenceIdeal.sig) → Buf (Elt Ideal) ℓ) (g : Dev Cert.ProjDReferenceIdeal.nD → PrngReg), Pre_ProjDReferenceIdeal m →
    θ_run (Cert.ProjDReferenceIdeal.defs (F := Ideal)) (onTc (τ := Cert.ProjDReferenceIdeal.τ) (Cert.ProjDReferenceIdeal.main (F := Ideal))) ⟨m, fun _ => 0, g⟩ (fun r => (∀ c : Dev Cert.ProjDReferenceIdeal.nD,
      r.2.mem ((c.tc : Thread Cert.ProjDReferenceIdeal.nD Cert.ProjDReferenceIdeal.τ).loc Cert.ProjDReferenceIdeal.main_arg0) = m ((c.tc : Thread Cert.ProjDReferenceIdeal.nD Cert.ProjDReferenceIdeal.τ).loc Cert.ProjDReferenceIdeal.main_arg0)
      ∧ r.2.mem ((c.tc : Thread Cert.ProjDReferenceIdeal.nD Cert.ProjDReferenceIdeal.τ).loc Cert.ProjDReferenceIdeal.main_arg1) = m ((c.tc : Thread Cert.ProjDReferenceIdeal.nD Cert.ProjDReferenceIdeal.τ).loc Cert.ProjDReferenceIdeal.main_arg1)
      ∧ r.2.mem ((c.tc : Thread Cert.ProjDReferenceIdeal.nD Cert.ProjDReferenceIdeal.τ).loc Cert.ProjDReferenceIdeal.main_arg2) = m ((c.tc : Thread Cert.ProjDReferenceIdeal.nD Cert.ProjDReferenceIdeal.τ).loc Cert.ProjDReferenceIdeal.main_arg2)
      ∧ r.2.mem ((c.tc : Thread Cert.ProjDReferenceIdeal.nD Cert.ProjDReferenceIdeal.τ).loc Cert.ProjDReferenceIdeal.main_arg3) = m ((c.tc : Thread Cert.ProjDReferenceIdeal.nD Cert.ProjDReferenceIdeal.τ).loc Cert.ProjDReferenceIdeal.main_arg3)
      ∧ r.2.mem ((c.tc : Thread Cert.ProjDReferenceIdeal.nD Cert.ProjDReferenceIdeal.τ).loc Cert.ProjDReferenceIdeal.main_arg4) = m ((c.tc : Thread Cert.ProjDReferenceIdeal.nD Cert.ProjDReferenceIdeal.τ).loc Cert.ProjDReferenceIdeal.main_arg4))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v48) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_MlpA_MlpAIdeal : Prop :=
  True

def algebraic_MlpAIdeal_MlpAReferenceIdeal [hMlpAIdeal : Cert.MlpAIdeal.Facts] [hMlpAReferenceIdeal : Cert.MlpAReferenceIdeal.Facts] : Prop :=
  ∀ (m : (ℓ : Loc Cert.MlpAIdeal.nD Cert.MlpAIdeal.τ Cert.MlpAIdeal.sig) → Buf (Elt Ideal) ℓ) (g : Dev Cert.MlpAIdeal.nD → PrngReg)
    (m' : (ℓ : Loc Cert.MlpAReferenceIdeal.nD Cert.MlpAReferenceIdeal.τ Cert.MlpAReferenceIdeal.sig) → Buf (Elt Ideal) ℓ) (g' : Dev Cert.MlpAReferenceIdeal.nD → PrngReg), Pre_MlpAIdeal m →
    (∀ c : Dev Cert.MlpAIdeal.nD,
      m' ((c.tc : Thread Cert.MlpAReferenceIdeal.nD Cert.MlpAReferenceIdeal.τ).loc Cert.MlpAReferenceIdeal.main_arg0) = m ((c.tc : Thread Cert.MlpAIdeal.nD Cert.MlpAIdeal.τ).loc Cert.MlpAIdeal.main_arg0)
      ∧ m' ((c.tc : Thread Cert.MlpAReferenceIdeal.nD Cert.MlpAReferenceIdeal.τ).loc Cert.MlpAReferenceIdeal.main_arg1) = m ((c.tc : Thread Cert.MlpAIdeal.nD Cert.MlpAIdeal.τ).loc Cert.MlpAIdeal.main_arg1)
      ∧ m' ((c.tc : Thread Cert.MlpAReferenceIdeal.nD Cert.MlpAReferenceIdeal.τ).loc Cert.MlpAReferenceIdeal.main_arg2) = m ((c.tc : Thread Cert.MlpAIdeal.nD Cert.MlpAIdeal.τ).loc Cert.MlpAIdeal.main_arg2)
      ∧ m' ((c.tc : Thread Cert.MlpAReferenceIdeal.nD Cert.MlpAReferenceIdeal.τ).loc Cert.MlpAReferenceIdeal.main_arg3) = m ((c.tc : Thread Cert.MlpAIdeal.nD Cert.MlpAIdeal.τ).loc Cert.MlpAIdeal.main_arg3)
      ∧ m' ((c.tc : Thread Cert.MlpAReferenceIdeal.nD Cert.MlpAReferenceIdeal.τ).loc Cert.MlpAReferenceIdeal.main_arg4) = m ((c.tc : Thread Cert.MlpAIdeal.nD Cert.MlpAIdeal.τ).loc Cert.MlpAIdeal.main_arg4)
      ∧ m' ((c.tc : Thread Cert.MlpAReferenceIdeal.nD Cert.MlpAReferenceIdeal.τ).loc Cert.MlpAReferenceIdeal.main_arg5) = m ((c.tc : Thread Cert.MlpAIdeal.nD Cert.MlpAIdeal.τ).loc Cert.MlpAIdeal.main_arg5)
      ∧ m' ((c.tc : Thread Cert.MlpAReferenceIdeal.nD Cert.MlpAReferenceIdeal.τ).loc Cert.MlpAReferenceIdeal.main_arg6) = m ((c.tc : Thread Cert.MlpAIdeal.nD Cert.MlpAIdeal.τ).loc Cert.MlpAIdeal.main_arg6)
      ∧ m' ((c.tc : Thread Cert.MlpAReferenceIdeal.nD Cert.MlpAReferenceIdeal.τ).loc Cert.MlpAReferenceIdeal.main_arg7) = m ((c.tc : Thread Cert.MlpAIdeal.nD Cert.MlpAIdeal.τ).loc Cert.MlpAIdeal.main_arg7)
      ∧ m' ((c.tc : Thread Cert.MlpAReferenceIdeal.nD Cert.MlpAReferenceIdeal.τ).loc Cert.MlpAReferenceIdeal.main_arg8) = m ((c.tc : Thread Cert.MlpAIdeal.nD Cert.MlpAIdeal.τ).loc Cert.MlpAIdeal.main_arg8)
      ∧ m' ((c.tc : Thread Cert.MlpAReferenceIdeal.nD Cert.MlpAReferenceIdeal.τ).loc Cert.MlpAReferenceIdeal.main_arg9) = m ((c.tc : Thread Cert.MlpAIdeal.nD Cert.MlpAIdeal.τ).loc Cert.MlpAIdeal.main_arg9)
      ∧ m' ((c.tc : Thread Cert.MlpAReferenceIdeal.nD Cert.MlpAReferenceIdeal.τ).loc Cert.MlpAReferenceIdeal.main_arg10) = m ((c.tc : Thread Cert.MlpAIdeal.nD Cert.MlpAIdeal.τ).loc Cert.MlpAIdeal.main_arg10)
      ∧ m' ((c.tc : Thread Cert.MlpAReferenceIdeal.nD Cert.MlpAReferenceIdeal.τ).loc Cert.MlpAReferenceIdeal.main_arg11) = m ((c.tc : Thread Cert.MlpAIdeal.nD Cert.MlpAIdeal.τ).loc Cert.MlpAIdeal.main_arg11)
      ∧ m' ((c.tc : Thread Cert.MlpAReferenceIdeal.nD Cert.MlpAReferenceIdeal.τ).loc Cert.MlpAReferenceIdeal.main_arg12) = m ((c.tc : Thread Cert.MlpAIdeal.nD Cert.MlpAIdeal.τ).loc Cert.MlpAIdeal.main_arg12)
      ∧ m' ((c.tc : Thread Cert.MlpAReferenceIdeal.nD Cert.MlpAReferenceIdeal.τ).loc Cert.MlpAReferenceIdeal.main_arg13) = m ((c.tc : Thread Cert.MlpAIdeal.nD Cert.MlpAIdeal.τ).loc Cert.MlpAIdeal.main_arg13)) →
    ∃ (v0 : (c : Dev Cert.MlpAIdeal.nD) → Buf (Elt Ideal) ((c.tc : Thread Cert.MlpAIdeal.nD Cert.MlpAIdeal.τ).loc Cert.MlpAIdeal.main_v11_0)) (v1 : (c : Dev Cert.MlpAIdeal.nD) → Buf (Elt Ideal) ((c.tc : Thread Cert.MlpAIdeal.nD Cert.MlpAIdeal.τ).loc Cert.MlpAIdeal.main_v11_1)) (v2 : (c : Dev Cert.MlpAIdeal.nD) → Buf (Elt Ideal) ((c.tc : Thread Cert.MlpAIdeal.nD Cert.MlpAIdeal.τ).loc Cert.MlpAIdeal.main_v11_2)) (v3 : (c : Dev Cert.MlpAIdeal.nD) → Buf (Elt Ideal) ((c.tc : Thread Cert.MlpAIdeal.nD Cert.MlpAIdeal.τ).loc Cert.MlpAIdeal.main_v11_3)) (v4 : (c : Dev Cert.MlpAIdeal.nD) → Buf (Elt Ideal) ((c.tc : Thread Cert.MlpAIdeal.nD Cert.MlpAIdeal.τ).loc Cert.MlpAIdeal.main_v11_4)) (v5 : (c : Dev Cert.MlpAIdeal.nD) → Buf (Elt Ideal) ((c.tc : Thread Cert.MlpAIdeal.nD Cert.MlpAIdeal.τ).loc Cert.MlpAIdeal.main_v11_5)),
      θ_run (Cert.MlpAIdeal.defs (F := Ideal)) (onTc (τ := Cert.MlpAIdeal.τ) (Cert.MlpAIdeal.main (F := Ideal))) ⟨m, fun _ => 0, g⟩ (fun r => ∀ c : Dev Cert.MlpAIdeal.nD,
          r.2.mem ((c.tc : Thread Cert.MlpAIdeal.nD Cert.MlpAIdeal.τ).loc Cert.MlpAIdeal.main_v11_0) = v0 c
          ∧ r.2.mem ((c.tc : Thread Cert.MlpAIdeal.nD Cert.MlpAIdeal.τ).loc Cert.MlpAIdeal.main_v11_1) = v1 c
          ∧ r.2.mem ((c.tc : Thread Cert.MlpAIdeal.nD Cert.MlpAIdeal.τ).loc Cert.MlpAIdeal.main_v11_2) = v2 c
          ∧ r.2.mem ((c.tc : Thread Cert.MlpAIdeal.nD Cert.MlpAIdeal.τ).loc Cert.MlpAIdeal.main_v11_3) = v3 c
          ∧ r.2.mem ((c.tc : Thread Cert.MlpAIdeal.nD Cert.MlpAIdeal.τ).loc Cert.MlpAIdeal.main_v11_4) = v4 c
          ∧ r.2.mem ((c.tc : Thread Cert.MlpAIdeal.nD Cert.MlpAIdeal.τ).loc Cert.MlpAIdeal.main_v11_5) = v5 c
          ∧ r.2.mem ((c.tc : Thread Cert.MlpAIdeal.nD Cert.MlpAIdeal.τ).loc Cert.MlpAIdeal.main_arg0) = m ((c.tc : Thread Cert.MlpAIdeal.nD Cert.MlpAIdeal.τ).loc Cert.MlpAIdeal.main_arg0)
          ∧ r.2.mem ((c.tc : Thread Cert.MlpAIdeal.nD Cert.MlpAIdeal.τ).loc Cert.MlpAIdeal.main_arg1) = m ((c.tc : Thread Cert.MlpAIdeal.nD Cert.MlpAIdeal.τ).loc Cert.MlpAIdeal.main_arg1)
          ∧ r.2.mem ((c.tc : Thread Cert.MlpAIdeal.nD Cert.MlpAIdeal.τ).loc Cert.MlpAIdeal.main_arg2) = m ((c.tc : Thread Cert.MlpAIdeal.nD Cert.MlpAIdeal.τ).loc Cert.MlpAIdeal.main_arg2)
          ∧ r.2.mem ((c.tc : Thread Cert.MlpAIdeal.nD Cert.MlpAIdeal.τ).loc Cert.MlpAIdeal.main_arg3) = m ((c.tc : Thread Cert.MlpAIdeal.nD Cert.MlpAIdeal.τ).loc Cert.MlpAIdeal.main_arg3)
          ∧ r.2.mem ((c.tc : Thread Cert.MlpAIdeal.nD Cert.MlpAIdeal.τ).loc Cert.MlpAIdeal.main_arg4) = m ((c.tc : Thread Cert.MlpAIdeal.nD Cert.MlpAIdeal.τ).loc Cert.MlpAIdeal.main_arg4)
          ∧ r.2.mem ((c.tc : Thread Cert.MlpAIdeal.nD Cert.MlpAIdeal.τ).loc Cert.MlpAIdeal.main_arg5) = m ((c.tc : Thread Cert.MlpAIdeal.nD Cert.MlpAIdeal.τ).loc Cert.MlpAIdeal.main_arg5)
          ∧ r.2.mem ((c.tc : Thread Cert.MlpAIdeal.nD Cert.MlpAIdeal.τ).loc Cert.MlpAIdeal.main_arg6) = m ((c.tc : Thread Cert.MlpAIdeal.nD Cert.MlpAIdeal.τ).loc Cert.MlpAIdeal.main_arg6)
          ∧ r.2.mem ((c.tc : Thread Cert.MlpAIdeal.nD Cert.MlpAIdeal.τ).loc Cert.MlpAIdeal.main_arg7) = m ((c.tc : Thread Cert.MlpAIdeal.nD Cert.MlpAIdeal.τ).loc Cert.MlpAIdeal.main_arg7)
          ∧ r.2.mem ((c.tc : Thread Cert.MlpAIdeal.nD Cert.MlpAIdeal.τ).loc Cert.MlpAIdeal.main_arg8) = m ((c.tc : Thread Cert.MlpAIdeal.nD Cert.MlpAIdeal.τ).loc Cert.MlpAIdeal.main_arg8)
          ∧ r.2.mem ((c.tc : Thread Cert.MlpAIdeal.nD Cert.MlpAIdeal.τ).loc Cert.MlpAIdeal.main_arg9) = m ((c.tc : Thread Cert.MlpAIdeal.nD Cert.MlpAIdeal.τ).loc Cert.MlpAIdeal.main_arg9)
          ∧ r.2.mem ((c.tc : Thread Cert.MlpAIdeal.nD Cert.MlpAIdeal.τ).loc Cert.MlpAIdeal.main_arg10) = m ((c.tc : Thread Cert.MlpAIdeal.nD Cert.MlpAIdeal.τ).loc Cert.MlpAIdeal.main_arg10)
          ∧ r.2.mem ((c.tc : Thread Cert.MlpAIdeal.nD Cert.MlpAIdeal.τ).loc Cert.MlpAIdeal.main_arg11) = m ((c.tc : Thread Cert.MlpAIdeal.nD Cert.MlpAIdeal.τ).loc Cert.MlpAIdeal.main_arg11)
          ∧ r.2.mem ((c.tc : Thread Cert.MlpAIdeal.nD Cert.MlpAIdeal.τ).loc Cert.MlpAIdeal.main_arg12) = m ((c.tc : Thread Cert.MlpAIdeal.nD Cert.MlpAIdeal.τ).loc Cert.MlpAIdeal.main_arg12)
          ∧ r.2.mem ((c.tc : Thread Cert.MlpAIdeal.nD Cert.MlpAIdeal.τ).loc Cert.MlpAIdeal.main_arg13) = m ((c.tc : Thread Cert.MlpAIdeal.nD Cert.MlpAIdeal.τ).loc Cert.MlpAIdeal.main_arg13))
      ∧ θ_run (Cert.MlpAReferenceIdeal.defs (F := Ideal)) (onTc (τ := Cert.MlpAReferenceIdeal.τ) (Cert.MlpAReferenceIdeal.main (F := Ideal))) ⟨m', fun _ => 0, g'⟩ (fun r => ∀ c : Dev Cert.MlpAReferenceIdeal.nD,
          r.2.mem ((c.tc : Thread Cert.MlpAReferenceIdeal.nD Cert.MlpAReferenceIdeal.τ).loc Cert.MlpAReferenceIdeal.main_v85) = v0 c
          ∧ r.2.mem ((c.tc : Thread Cert.MlpAReferenceIdeal.nD Cert.MlpAReferenceIdeal.τ).loc Cert.MlpAReferenceIdeal.main_v89) = v1 c
          ∧ r.2.mem ((c.tc : Thread Cert.MlpAReferenceIdeal.nD Cert.MlpAReferenceIdeal.τ).loc Cert.MlpAReferenceIdeal.main_v93) = v2 c
          ∧ r.2.mem ((c.tc : Thread Cert.MlpAReferenceIdeal.nD Cert.MlpAReferenceIdeal.τ).loc Cert.MlpAReferenceIdeal.main_v96) = v3 c
          ∧ r.2.mem ((c.tc : Thread Cert.MlpAReferenceIdeal.nD Cert.MlpAReferenceIdeal.τ).loc Cert.MlpAReferenceIdeal.main_v99) = v4 c
          ∧ r.2.mem ((c.tc : Thread Cert.MlpAReferenceIdeal.nD Cert.MlpAReferenceIdeal.τ).loc Cert.MlpAReferenceIdeal.main_v100) = v5 c
          ∧ r.2.mem ((c.tc : Thread Cert.MlpAReferenceIdeal.nD Cert.MlpAReferenceIdeal.τ).loc Cert.MlpAReferenceIdeal.main_arg0) = m' ((c.tc : Thread Cert.MlpAReferenceIdeal.nD Cert.MlpAReferenceIdeal.τ).loc Cert.MlpAReferenceIdeal.main_arg0)
          ∧ r.2.mem ((c.tc : Thread Cert.MlpAReferenceIdeal.nD Cert.MlpAReferenceIdeal.τ).loc Cert.MlpAReferenceIdeal.main_arg1) = m' ((c.tc : Thread Cert.MlpAReferenceIdeal.nD Cert.MlpAReferenceIdeal.τ).loc Cert.MlpAReferenceIdeal.main_arg1)
          ∧ r.2.mem ((c.tc : Thread Cert.MlpAReferenceIdeal.nD Cert.MlpAReferenceIdeal.τ).loc Cert.MlpAReferenceIdeal.main_arg2) = m' ((c.tc : Thread Cert.MlpAReferenceIdeal.nD Cert.MlpAReferenceIdeal.τ).loc Cert.MlpAReferenceIdeal.main_arg2)
          ∧ r.2.mem ((c.tc : Thread Cert.MlpAReferenceIdeal.nD Cert.MlpAReferenceIdeal.τ).loc Cert.MlpAReferenceIdeal.main_arg3) = m' ((c.tc : Thread Cert.MlpAReferenceIdeal.nD Cert.MlpAReferenceIdeal.τ).loc Cert.MlpAReferenceIdeal.main_arg3)
          ∧ r.2.mem ((c.tc : Thread Cert.MlpAReferenceIdeal.nD Cert.MlpAReferenceIdeal.τ).loc Cert.MlpAReferenceIdeal.main_arg4) = m' ((c.tc : Thread Cert.MlpAReferenceIdeal.nD Cert.MlpAReferenceIdeal.τ).loc Cert.MlpAReferenceIdeal.main_arg4)
          ∧ r.2.mem ((c.tc : Thread Cert.MlpAReferenceIdeal.nD Cert.MlpAReferenceIdeal.τ).loc Cert.MlpAReferenceIdeal.main_arg5) = m' ((c.tc : Thread Cert.MlpAReferenceIdeal.nD Cert.MlpAReferenceIdeal.τ).loc Cert.MlpAReferenceIdeal.main_arg5)
          ∧ r.2.mem ((c.tc : Thread Cert.MlpAReferenceIdeal.nD Cert.MlpAReferenceIdeal.τ).loc Cert.MlpAReferenceIdeal.main_arg6) = m' ((c.tc : Thread Cert.MlpAReferenceIdeal.nD Cert.MlpAReferenceIdeal.τ).loc Cert.MlpAReferenceIdeal.main_arg6)
          ∧ r.2.mem ((c.tc : Thread Cert.MlpAReferenceIdeal.nD Cert.MlpAReferenceIdeal.τ).loc Cert.MlpAReferenceIdeal.main_arg7) = m' ((c.tc : Thread Cert.MlpAReferenceIdeal.nD Cert.MlpAReferenceIdeal.τ).loc Cert.MlpAReferenceIdeal.main_arg7)
          ∧ r.2.mem ((c.tc : Thread Cert.MlpAReferenceIdeal.nD Cert.MlpAReferenceIdeal.τ).loc Cert.MlpAReferenceIdeal.main_arg8) = m' ((c.tc : Thread Cert.MlpAReferenceIdeal.nD Cert.MlpAReferenceIdeal.τ).loc Cert.MlpAReferenceIdeal.main_arg8)
          ∧ r.2.mem ((c.tc : Thread Cert.MlpAReferenceIdeal.nD Cert.MlpAReferenceIdeal.τ).loc Cert.MlpAReferenceIdeal.main_arg9) = m' ((c.tc : Thread Cert.MlpAReferenceIdeal.nD Cert.MlpAReferenceIdeal.τ).loc Cert.MlpAReferenceIdeal.main_arg9)
          ∧ r.2.mem ((c.tc : Thread Cert.MlpAReferenceIdeal.nD Cert.MlpAReferenceIdeal.τ).loc Cert.MlpAReferenceIdeal.main_arg10) = m' ((c.tc : Thread Cert.MlpAReferenceIdeal.nD Cert.MlpAReferenceIdeal.τ).loc Cert.MlpAReferenceIdeal.main_arg10)
          ∧ r.2.mem ((c.tc : Thread Cert.MlpAReferenceIdeal.nD Cert.MlpAReferenceIdeal.τ).loc Cert.MlpAReferenceIdeal.main_arg11) = m' ((c.tc : Thread Cert.MlpAReferenceIdeal.nD Cert.MlpAReferenceIdeal.τ).loc Cert.MlpAReferenceIdeal.main_arg11)
          ∧ r.2.mem ((c.tc : Thread Cert.MlpAReferenceIdeal.nD Cert.MlpAReferenceIdeal.τ).loc Cert.MlpAReferenceIdeal.main_arg12) = m' ((c.tc : Thread Cert.MlpAReferenceIdeal.nD Cert.MlpAReferenceIdeal.τ).loc Cert.MlpAReferenceIdeal.main_arg12)
          ∧ r.2.mem ((c.tc : Thread Cert.MlpAReferenceIdeal.nD Cert.MlpAReferenceIdeal.τ).loc Cert.MlpAReferenceIdeal.main_arg13) = m' ((c.tc : Thread Cert.MlpAReferenceIdeal.nD Cert.MlpAReferenceIdeal.τ).loc Cert.MlpAReferenceIdeal.main_arg13))

def preserves_MlpB_MlpBIdeal : Prop :=
  True

def algebraic_MlpBIdeal_MlpBReferenceIdeal [hMlpBIdeal : Cert.MlpBIdeal.Facts] [hMlpBReferenceIdeal : Cert.MlpBReferenceIdeal.Facts] : Prop :=
  ∀ (m : (ℓ : Loc Cert.MlpBIdeal.nD Cert.MlpBIdeal.τ Cert.MlpBIdeal.sig) → Buf (Elt Ideal) ℓ) (g : Dev Cert.MlpBIdeal.nD → PrngReg)
    (m' : (ℓ : Loc Cert.MlpBReferenceIdeal.nD Cert.MlpBReferenceIdeal.τ Cert.MlpBReferenceIdeal.sig) → Buf (Elt Ideal) ℓ) (g' : Dev Cert.MlpBReferenceIdeal.nD → PrngReg), Pre_MlpBIdeal m →
    (∀ c : Dev Cert.MlpBIdeal.nD,
      m' ((c.tc : Thread Cert.MlpBReferenceIdeal.nD Cert.MlpBReferenceIdeal.τ).loc Cert.MlpBReferenceIdeal.main_arg0) = m ((c.tc : Thread Cert.MlpBIdeal.nD Cert.MlpBIdeal.τ).loc Cert.MlpBIdeal.main_arg0)
      ∧ m' ((c.tc : Thread Cert.MlpBReferenceIdeal.nD Cert.MlpBReferenceIdeal.τ).loc Cert.MlpBReferenceIdeal.main_arg1) = m ((c.tc : Thread Cert.MlpBIdeal.nD Cert.MlpBIdeal.τ).loc Cert.MlpBIdeal.main_arg1)
      ∧ m' ((c.tc : Thread Cert.MlpBReferenceIdeal.nD Cert.MlpBReferenceIdeal.τ).loc Cert.MlpBReferenceIdeal.main_arg2) = m ((c.tc : Thread Cert.MlpBIdeal.nD Cert.MlpBIdeal.τ).loc Cert.MlpBIdeal.main_arg2)
      ∧ m' ((c.tc : Thread Cert.MlpBReferenceIdeal.nD Cert.MlpBReferenceIdeal.τ).loc Cert.MlpBReferenceIdeal.main_arg3) = m ((c.tc : Thread Cert.MlpBIdeal.nD Cert.MlpBIdeal.τ).loc Cert.MlpBIdeal.main_arg3)
      ∧ m' ((c.tc : Thread Cert.MlpBReferenceIdeal.nD Cert.MlpBReferenceIdeal.τ).loc Cert.MlpBReferenceIdeal.main_arg4) = m ((c.tc : Thread Cert.MlpBIdeal.nD Cert.MlpBIdeal.τ).loc Cert.MlpBIdeal.main_arg4)
      ∧ m' ((c.tc : Thread Cert.MlpBReferenceIdeal.nD Cert.MlpBReferenceIdeal.τ).loc Cert.MlpBReferenceIdeal.main_arg5) = m ((c.tc : Thread Cert.MlpBIdeal.nD Cert.MlpBIdeal.τ).loc Cert.MlpBIdeal.main_arg5)
      ∧ m' ((c.tc : Thread Cert.MlpBReferenceIdeal.nD Cert.MlpBReferenceIdeal.τ).loc Cert.MlpBReferenceIdeal.main_arg6) = m ((c.tc : Thread Cert.MlpBIdeal.nD Cert.MlpBIdeal.τ).loc Cert.MlpBIdeal.main_arg6)
      ∧ m' ((c.tc : Thread Cert.MlpBReferenceIdeal.nD Cert.MlpBReferenceIdeal.τ).loc Cert.MlpBReferenceIdeal.main_arg7) = m ((c.tc : Thread Cert.MlpBIdeal.nD Cert.MlpBIdeal.τ).loc Cert.MlpBIdeal.main_arg7)
      ∧ m' ((c.tc : Thread Cert.MlpBReferenceIdeal.nD Cert.MlpBReferenceIdeal.τ).loc Cert.MlpBReferenceIdeal.main_arg8) = m ((c.tc : Thread Cert.MlpBIdeal.nD Cert.MlpBIdeal.τ).loc Cert.MlpBIdeal.main_arg8)
      ∧ m' ((c.tc : Thread Cert.MlpBReferenceIdeal.nD Cert.MlpBReferenceIdeal.τ).loc Cert.MlpBReferenceIdeal.main_arg9) = m ((c.tc : Thread Cert.MlpBIdeal.nD Cert.MlpBIdeal.τ).loc Cert.MlpBIdeal.main_arg9)
      ∧ m' ((c.tc : Thread Cert.MlpBReferenceIdeal.nD Cert.MlpBReferenceIdeal.τ).loc Cert.MlpBReferenceIdeal.main_arg10) = m ((c.tc : Thread Cert.MlpBIdeal.nD Cert.MlpBIdeal.τ).loc Cert.MlpBIdeal.main_arg10)
      ∧ m' ((c.tc : Thread Cert.MlpBReferenceIdeal.nD Cert.MlpBReferenceIdeal.τ).loc Cert.MlpBReferenceIdeal.main_arg11) = m ((c.tc : Thread Cert.MlpBIdeal.nD Cert.MlpBIdeal.τ).loc Cert.MlpBIdeal.main_arg11)
      ∧ m' ((c.tc : Thread Cert.MlpBReferenceIdeal.nD Cert.MlpBReferenceIdeal.τ).loc Cert.MlpBReferenceIdeal.main_arg12) = m ((c.tc : Thread Cert.MlpBIdeal.nD Cert.MlpBIdeal.τ).loc Cert.MlpBIdeal.main_arg12)
      ∧ m' ((c.tc : Thread Cert.MlpBReferenceIdeal.nD Cert.MlpBReferenceIdeal.τ).loc Cert.MlpBReferenceIdeal.main_arg13) = m ((c.tc : Thread Cert.MlpBIdeal.nD Cert.MlpBIdeal.τ).loc Cert.MlpBIdeal.main_arg13)) →
    ∃ (v0 : (c : Dev Cert.MlpBIdeal.nD) → Buf (Elt Ideal) ((c.tc : Thread Cert.MlpBIdeal.nD Cert.MlpBIdeal.τ).loc Cert.MlpBIdeal.main_v11_0)) (v1 : (c : Dev Cert.MlpBIdeal.nD) → Buf (Elt Ideal) ((c.tc : Thread Cert.MlpBIdeal.nD Cert.MlpBIdeal.τ).loc Cert.MlpBIdeal.main_v11_1)) (v2 : (c : Dev Cert.MlpBIdeal.nD) → Buf (Elt Ideal) ((c.tc : Thread Cert.MlpBIdeal.nD Cert.MlpBIdeal.τ).loc Cert.MlpBIdeal.main_v11_2)) (v3 : (c : Dev Cert.MlpBIdeal.nD) → Buf (Elt Ideal) ((c.tc : Thread Cert.MlpBIdeal.nD Cert.MlpBIdeal.τ).loc Cert.MlpBIdeal.main_v11_3)) (v4 : (c : Dev Cert.MlpBIdeal.nD) → Buf (Elt Ideal) ((c.tc : Thread Cert.MlpBIdeal.nD Cert.MlpBIdeal.τ).loc Cert.MlpBIdeal.main_v11_4)) (v5 : (c : Dev Cert.MlpBIdeal.nD) → Buf (Elt Ideal) ((c.tc : Thread Cert.MlpBIdeal.nD Cert.MlpBIdeal.τ).loc Cert.MlpBIdeal.main_v11_5)),
      θ_run (Cert.MlpBIdeal.defs (F := Ideal)) (onTc (τ := Cert.MlpBIdeal.τ) (Cert.MlpBIdeal.main (F := Ideal))) ⟨m, fun _ => 0, g⟩ (fun r => ∀ c : Dev Cert.MlpBIdeal.nD,
          r.2.mem ((c.tc : Thread Cert.MlpBIdeal.nD Cert.MlpBIdeal.τ).loc Cert.MlpBIdeal.main_v11_0) = v0 c
          ∧ r.2.mem ((c.tc : Thread Cert.MlpBIdeal.nD Cert.MlpBIdeal.τ).loc Cert.MlpBIdeal.main_v11_1) = v1 c
          ∧ r.2.mem ((c.tc : Thread Cert.MlpBIdeal.nD Cert.MlpBIdeal.τ).loc Cert.MlpBIdeal.main_v11_2) = v2 c
          ∧ r.2.mem ((c.tc : Thread Cert.MlpBIdeal.nD Cert.MlpBIdeal.τ).loc Cert.MlpBIdeal.main_v11_3) = v3 c
          ∧ r.2.mem ((c.tc : Thread Cert.MlpBIdeal.nD Cert.MlpBIdeal.τ).loc Cert.MlpBIdeal.main_v11_4) = v4 c
          ∧ r.2.mem ((c.tc : Thread Cert.MlpBIdeal.nD Cert.MlpBIdeal.τ).loc Cert.MlpBIdeal.main_v11_5) = v5 c
          ∧ r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
          ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
          ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
          ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
          ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4)
          ∧ r.2.mem ((c.tc : Thread Cert.MlpBIdeal.nD Cert.MlpBIdeal.τ).loc Cert.MlpBIdeal.main_arg5) = m ((c.tc : Thread Cert.MlpBIdeal.nD Cert.MlpBIdeal.τ).loc Cert.MlpBIdeal.main_arg5)
          ∧ r.2.mem ((c.tc : Thread Cert.MlpBIdeal.nD Cert.MlpBIdeal.τ).loc Cert.MlpBIdeal.main_arg6) = m ((c.tc : Thread Cert.MlpBIdeal.nD Cert.MlpBIdeal.τ).loc Cert.MlpBIdeal.main_arg6)
          ∧ r.2.mem ((c.tc : Thread Cert.MlpBIdeal.nD Cert.MlpBIdeal.τ).loc Cert.MlpBIdeal.main_arg7) = m ((c.tc : Thread Cert.MlpBIdeal.nD Cert.MlpBIdeal.τ).loc Cert.MlpBIdeal.main_arg7)
          ∧ r.2.mem ((c.tc : Thread Cert.MlpBIdeal.nD Cert.MlpBIdeal.τ).loc Cert.MlpBIdeal.main_arg8) = m ((c.tc : Thread Cert.MlpBIdeal.nD Cert.MlpBIdeal.τ).loc Cert.MlpBIdeal.main_arg8)
          ∧ r.2.mem ((c.tc : Thread Cert.MlpBIdeal.nD Cert.MlpBIdeal.τ).loc Cert.MlpBIdeal.main_arg9) = m ((c.tc : Thread Cert.MlpBIdeal.nD Cert.MlpBIdeal.τ).loc Cert.MlpBIdeal.main_arg9)
          ∧ r.2.mem ((c.tc : Thread Cert.MlpBIdeal.nD Cert.MlpBIdeal.τ).loc Cert.MlpBIdeal.main_arg10) = m ((c.tc : Thread Cert.MlpBIdeal.nD Cert.MlpBIdeal.τ).loc Cert.MlpBIdeal.main_arg10)
          ∧ r.2.mem ((c.tc : Thread Cert.MlpBIdeal.nD Cert.MlpBIdeal.τ).loc Cert.MlpBIdeal.main_arg11) = m ((c.tc : Thread Cert.MlpBIdeal.nD Cert.MlpBIdeal.τ).loc Cert.MlpBIdeal.main_arg11)
          ∧ r.2.mem ((c.tc : Thread Cert.MlpBIdeal.nD Cert.MlpBIdeal.τ).loc Cert.MlpBIdeal.main_arg12) = m ((c.tc : Thread Cert.MlpBIdeal.nD Cert.MlpBIdeal.τ).loc Cert.MlpBIdeal.main_arg12)
          ∧ r.2.mem ((c.tc : Thread Cert.MlpBIdeal.nD Cert.MlpBIdeal.τ).loc Cert.MlpBIdeal.main_arg13) = m ((c.tc : Thread Cert.MlpBIdeal.nD Cert.MlpBIdeal.τ).loc Cert.MlpBIdeal.main_arg13))
      ∧ θ_run (Cert.MlpBReferenceIdeal.defs (F := Ideal)) (onTc (τ := Cert.MlpBReferenceIdeal.τ) (Cert.MlpBReferenceIdeal.main (F := Ideal))) ⟨m', fun _ => 0, g'⟩ (fun r => ∀ c : Dev Cert.MlpBReferenceIdeal.nD,
          r.2.mem ((c.tc : Thread Cert.MlpBReferenceIdeal.nD Cert.MlpBReferenceIdeal.τ).loc Cert.MlpBReferenceIdeal.main_v85) = v0 c
          ∧ r.2.mem ((c.tc : Thread Cert.MlpBReferenceIdeal.nD Cert.MlpBReferenceIdeal.τ).loc Cert.MlpBReferenceIdeal.main_v89) = v1 c
          ∧ r.2.mem ((c.tc : Thread Cert.MlpBReferenceIdeal.nD Cert.MlpBReferenceIdeal.τ).loc Cert.MlpBReferenceIdeal.main_v93) = v2 c
          ∧ r.2.mem ((c.tc : Thread Cert.MlpBReferenceIdeal.nD Cert.MlpBReferenceIdeal.τ).loc Cert.MlpBReferenceIdeal.main_v96) = v3 c
          ∧ r.2.mem ((c.tc : Thread Cert.MlpBReferenceIdeal.nD Cert.MlpBReferenceIdeal.τ).loc Cert.MlpBReferenceIdeal.main_v99) = v4 c
          ∧ r.2.mem ((c.tc : Thread Cert.MlpBReferenceIdeal.nD Cert.MlpBReferenceIdeal.τ).loc Cert.MlpBReferenceIdeal.main_v100) = v5 c
          ∧ r.2.mem ((c.tc : Thread Cert.MlpBReferenceIdeal.nD Cert.MlpBReferenceIdeal.τ).loc Cert.MlpBReferenceIdeal.main_arg0) = m' ((c.tc : Thread Cert.MlpBReferenceIdeal.nD Cert.MlpBReferenceIdeal.τ).loc Cert.MlpBReferenceIdeal.main_arg0)
          ∧ r.2.mem ((c.tc : Thread Cert.MlpBReferenceIdeal.nD Cert.MlpBReferenceIdeal.τ).loc Cert.MlpBReferenceIdeal.main_arg1) = m' ((c.tc : Thread Cert.MlpBReferenceIdeal.nD Cert.MlpBReferenceIdeal.τ).loc Cert.MlpBReferenceIdeal.main_arg1)
          ∧ r.2.mem ((c.tc : Thread Cert.MlpBReferenceIdeal.nD Cert.MlpBReferenceIdeal.τ).loc Cert.MlpBReferenceIdeal.main_arg2) = m' ((c.tc : Thread Cert.MlpBReferenceIdeal.nD Cert.MlpBReferenceIdeal.τ).loc Cert.MlpBReferenceIdeal.main_arg2)
          ∧ r.2.mem ((c.tc : Thread Cert.MlpBReferenceIdeal.nD Cert.MlpBReferenceIdeal.τ).loc Cert.MlpBReferenceIdeal.main_arg3) = m' ((c.tc : Thread Cert.MlpBReferenceIdeal.nD Cert.MlpBReferenceIdeal.τ).loc Cert.MlpBReferenceIdeal.main_arg3)
          ∧ r.2.mem ((c.tc : Thread Cert.MlpBReferenceIdeal.nD Cert.MlpBReferenceIdeal.τ).loc Cert.MlpBReferenceIdeal.main_arg4) = m' ((c.tc : Thread Cert.MlpBReferenceIdeal.nD Cert.MlpBReferenceIdeal.τ).loc Cert.MlpBReferenceIdeal.main_arg4)
          ∧ r.2.mem ((c.tc : Thread Cert.MlpBReferenceIdeal.nD Cert.MlpBReferenceIdeal.τ).loc Cert.MlpBReferenceIdeal.main_arg5) = m' ((c.tc : Thread Cert.MlpBReferenceIdeal.nD Cert.MlpBReferenceIdeal.τ).loc Cert.MlpBReferenceIdeal.main_arg5)
          ∧ r.2.mem ((c.tc : Thread Cert.MlpBReferenceIdeal.nD Cert.MlpBReferenceIdeal.τ).loc Cert.MlpBReferenceIdeal.main_arg6) = m' ((c.tc : Thread Cert.MlpBReferenceIdeal.nD Cert.MlpBReferenceIdeal.τ).loc Cert.MlpBReferenceIdeal.main_arg6)
          ∧ r.2.mem ((c.tc : Thread Cert.MlpBReferenceIdeal.nD Cert.MlpBReferenceIdeal.τ).loc Cert.MlpBReferenceIdeal.main_arg7) = m' ((c.tc : Thread Cert.MlpBReferenceIdeal.nD Cert.MlpBReferenceIdeal.τ).loc Cert.MlpBReferenceIdeal.main_arg7)
          ∧ r.2.mem ((c.tc : Thread Cert.MlpBReferenceIdeal.nD Cert.MlpBReferenceIdeal.τ).loc Cert.MlpBReferenceIdeal.main_arg8) = m' ((c.tc : Thread Cert.MlpBReferenceIdeal.nD Cert.MlpBReferenceIdeal.τ).loc Cert.MlpBReferenceIdeal.main_arg8)
          ∧ r.2.mem ((c.tc : Thread Cert.MlpBReferenceIdeal.nD Cert.MlpBReferenceIdeal.τ).loc Cert.MlpBReferenceIdeal.main_arg9) = m' ((c.tc : Thread Cert.MlpBReferenceIdeal.nD Cert.MlpBReferenceIdeal.τ).loc Cert.MlpBReferenceIdeal.main_arg9)
          ∧ r.2.mem ((c.tc : Thread Cert.MlpBReferenceIdeal.nD Cert.MlpBReferenceIdeal.τ).loc Cert.MlpBReferenceIdeal.main_arg10) = m' ((c.tc : Thread Cert.MlpBReferenceIdeal.nD Cert.MlpBReferenceIdeal.τ).loc Cert.MlpBReferenceIdeal.main_arg10)
          ∧ r.2.mem ((c.tc : Thread Cert.MlpBReferenceIdeal.nD Cert.MlpBReferenceIdeal.τ).loc Cert.MlpBReferenceIdeal.main_arg11) = m' ((c.tc : Thread Cert.MlpBReferenceIdeal.nD Cert.MlpBReferenceIdeal.τ).loc Cert.MlpBReferenceIdeal.main_arg11)
          ∧ r.2.mem ((c.tc : Thread Cert.MlpBReferenceIdeal.nD Cert.MlpBReferenceIdeal.τ).loc Cert.MlpBReferenceIdeal.main_arg12) = m' ((c.tc : Thread Cert.MlpBReferenceIdeal.nD Cert.MlpBReferenceIdeal.τ).loc Cert.MlpBReferenceIdeal.main_arg12)
          ∧ r.2.mem ((c.tc : Thread Cert.MlpBReferenceIdeal.nD Cert.MlpBReferenceIdeal.τ).loc Cert.MlpBReferenceIdeal.main_arg13) = m' ((c.tc : Thread Cert.MlpBReferenceIdeal.nD Cert.MlpBReferenceIdeal.τ).loc Cert.MlpBReferenceIdeal.main_arg13))

def preserves_MlpC_MlpCIdeal : Prop :=
  True

def algebraic_MlpCIdeal_MlpCReferenceIdeal [hMlpCIdeal : Cert.MlpCIdeal.Facts] [hMlpCReferenceIdeal : Cert.MlpCReferenceIdeal.Facts] : Prop :=
  ∀ (m : (ℓ : Loc Cert.MlpCIdeal.nD Cert.MlpCIdeal.τ Cert.MlpCIdeal.sig) → Buf (Elt Ideal) ℓ) (g : Dev Cert.MlpCIdeal.nD → PrngReg)
    (m' : (ℓ : Loc Cert.MlpCReferenceIdeal.nD Cert.MlpCReferenceIdeal.τ Cert.MlpCReferenceIdeal.sig) → Buf (Elt Ideal) ℓ) (g' : Dev Cert.MlpCReferenceIdeal.nD → PrngReg), Pre_MlpCIdeal m →
    (∀ c : Dev Cert.MlpCIdeal.nD,
      m' ((c.tc : Thread Cert.MlpCReferenceIdeal.nD Cert.MlpCReferenceIdeal.τ).loc Cert.MlpCReferenceIdeal.main_arg0) = m ((c.tc : Thread Cert.MlpCIdeal.nD Cert.MlpCIdeal.τ).loc Cert.MlpCIdeal.main_arg0)
      ∧ m' ((c.tc : Thread Cert.MlpCReferenceIdeal.nD Cert.MlpCReferenceIdeal.τ).loc Cert.MlpCReferenceIdeal.main_arg1) = m ((c.tc : Thread Cert.MlpCIdeal.nD Cert.MlpCIdeal.τ).loc Cert.MlpCIdeal.main_arg1)
      ∧ m' ((c.tc : Thread Cert.MlpCReferenceIdeal.nD Cert.MlpCReferenceIdeal.τ).loc Cert.MlpCReferenceIdeal.main_arg2) = m ((c.tc : Thread Cert.MlpCIdeal.nD Cert.MlpCIdeal.τ).loc Cert.MlpCIdeal.main_arg2)
      ∧ m' ((c.tc : Thread Cert.MlpCReferenceIdeal.nD Cert.MlpCReferenceIdeal.τ).loc Cert.MlpCReferenceIdeal.main_arg3) = m ((c.tc : Thread Cert.MlpCIdeal.nD Cert.MlpCIdeal.τ).loc Cert.MlpCIdeal.main_arg3)
      ∧ m' ((c.tc : Thread Cert.MlpCReferenceIdeal.nD Cert.MlpCReferenceIdeal.τ).loc Cert.MlpCReferenceIdeal.main_arg4) = m ((c.tc : Thread Cert.MlpCIdeal.nD Cert.MlpCIdeal.τ).loc Cert.MlpCIdeal.main_arg4)
      ∧ m' ((c.tc : Thread Cert.MlpCReferenceIdeal.nD Cert.MlpCReferenceIdeal.τ).loc Cert.MlpCReferenceIdeal.main_arg5) = m ((c.tc : Thread Cert.MlpCIdeal.nD Cert.MlpCIdeal.τ).loc Cert.MlpCIdeal.main_arg5)
      ∧ m' ((c.tc : Thread Cert.MlpCReferenceIdeal.nD Cert.MlpCReferenceIdeal.τ).loc Cert.MlpCReferenceIdeal.main_arg6) = m ((c.tc : Thread Cert.MlpCIdeal.nD Cert.MlpCIdeal.τ).loc Cert.MlpCIdeal.main_arg6)
      ∧ m' ((c.tc : Thread Cert.MlpCReferenceIdeal.nD Cert.MlpCReferenceIdeal.τ).loc Cert.MlpCReferenceIdeal.main_arg7) = m ((c.tc : Thread Cert.MlpCIdeal.nD Cert.MlpCIdeal.τ).loc Cert.MlpCIdeal.main_arg7)
      ∧ m' ((c.tc : Thread Cert.MlpCReferenceIdeal.nD Cert.MlpCReferenceIdeal.τ).loc Cert.MlpCReferenceIdeal.main_arg8) = m ((c.tc : Thread Cert.MlpCIdeal.nD Cert.MlpCIdeal.τ).loc Cert.MlpCIdeal.main_arg8)
      ∧ m' ((c.tc : Thread Cert.MlpCReferenceIdeal.nD Cert.MlpCReferenceIdeal.τ).loc Cert.MlpCReferenceIdeal.main_arg9) = m ((c.tc : Thread Cert.MlpCIdeal.nD Cert.MlpCIdeal.τ).loc Cert.MlpCIdeal.main_arg9)
      ∧ m' ((c.tc : Thread Cert.MlpCReferenceIdeal.nD Cert.MlpCReferenceIdeal.τ).loc Cert.MlpCReferenceIdeal.main_arg10) = m ((c.tc : Thread Cert.MlpCIdeal.nD Cert.MlpCIdeal.τ).loc Cert.MlpCIdeal.main_arg10)
      ∧ m' ((c.tc : Thread Cert.MlpCReferenceIdeal.nD Cert.MlpCReferenceIdeal.τ).loc Cert.MlpCReferenceIdeal.main_arg11) = m ((c.tc : Thread Cert.MlpCIdeal.nD Cert.MlpCIdeal.τ).loc Cert.MlpCIdeal.main_arg11)
      ∧ m' ((c.tc : Thread Cert.MlpCReferenceIdeal.nD Cert.MlpCReferenceIdeal.τ).loc Cert.MlpCReferenceIdeal.main_arg12) = m ((c.tc : Thread Cert.MlpCIdeal.nD Cert.MlpCIdeal.τ).loc Cert.MlpCIdeal.main_arg12)
      ∧ m' ((c.tc : Thread Cert.MlpCReferenceIdeal.nD Cert.MlpCReferenceIdeal.τ).loc Cert.MlpCReferenceIdeal.main_arg13) = m ((c.tc : Thread Cert.MlpCIdeal.nD Cert.MlpCIdeal.τ).loc Cert.MlpCIdeal.main_arg13)) →
    ∃ (v0 : (c : Dev Cert.MlpCIdeal.nD) → Buf (Elt Ideal) ((c.tc : Thread Cert.MlpCIdeal.nD Cert.MlpCIdeal.τ).loc Cert.MlpCIdeal.main_v11_0)) (v1 : (c : Dev Cert.MlpCIdeal.nD) → Buf (Elt Ideal) ((c.tc : Thread Cert.MlpCIdeal.nD Cert.MlpCIdeal.τ).loc Cert.MlpCIdeal.main_v11_1)) (v2 : (c : Dev Cert.MlpCIdeal.nD) → Buf (Elt Ideal) ((c.tc : Thread Cert.MlpCIdeal.nD Cert.MlpCIdeal.τ).loc Cert.MlpCIdeal.main_v11_2)) (v3 : (c : Dev Cert.MlpCIdeal.nD) → Buf (Elt Ideal) ((c.tc : Thread Cert.MlpCIdeal.nD Cert.MlpCIdeal.τ).loc Cert.MlpCIdeal.main_v11_3)) (v4 : (c : Dev Cert.MlpCIdeal.nD) → Buf (Elt Ideal) ((c.tc : Thread Cert.MlpCIdeal.nD Cert.MlpCIdeal.τ).loc Cert.MlpCIdeal.main_v11_4)) (v5 : (c : Dev Cert.MlpCIdeal.nD) → Buf (Elt Ideal) ((c.tc : Thread Cert.MlpCIdeal.nD Cert.MlpCIdeal.τ).loc Cert.MlpCIdeal.main_v11_5)),
      θ_run (Cert.MlpCIdeal.defs (F := Ideal)) (onTc (τ := Cert.MlpCIdeal.τ) (Cert.MlpCIdeal.main (F := Ideal))) ⟨m, fun _ => 0, g⟩ (fun r => ∀ c : Dev Cert.MlpCIdeal.nD,
          r.2.mem ((c.tc : Thread Cert.MlpCIdeal.nD Cert.MlpCIdeal.τ).loc Cert.MlpCIdeal.main_v11_0) = v0 c
          ∧ r.2.mem ((c.tc : Thread Cert.MlpCIdeal.nD Cert.MlpCIdeal.τ).loc Cert.MlpCIdeal.main_v11_1) = v1 c
          ∧ r.2.mem ((c.tc : Thread Cert.MlpCIdeal.nD Cert.MlpCIdeal.τ).loc Cert.MlpCIdeal.main_v11_2) = v2 c
          ∧ r.2.mem ((c.tc : Thread Cert.MlpCIdeal.nD Cert.MlpCIdeal.τ).loc Cert.MlpCIdeal.main_v11_3) = v3 c
          ∧ r.2.mem ((c.tc : Thread Cert.MlpCIdeal.nD Cert.MlpCIdeal.τ).loc Cert.MlpCIdeal.main_v11_4) = v4 c
          ∧ r.2.mem ((c.tc : Thread Cert.MlpCIdeal.nD Cert.MlpCIdeal.τ).loc Cert.MlpCIdeal.main_v11_5) = v5 c
          ∧ r.2.mem ((c.tc : Thread Cert.MlpCIdeal.nD Cert.MlpCIdeal.τ).loc Cert.MlpCIdeal.main_arg0) = m ((c.tc : Thread Cert.MlpCIdeal.nD Cert.MlpCIdeal.τ).loc Cert.MlpCIdeal.main_arg0)
          ∧ r.2.mem ((c.tc : Thread Cert.MlpCIdeal.nD Cert.MlpCIdeal.τ).loc Cert.MlpCIdeal.main_arg1) = m ((c.tc : Thread Cert.MlpCIdeal.nD Cert.MlpCIdeal.τ).loc Cert.MlpCIdeal.main_arg1)
          ∧ r.2.mem ((c.tc : Thread Cert.MlpCIdeal.nD Cert.MlpCIdeal.τ).loc Cert.MlpCIdeal.main_arg2) = m ((c.tc : Thread Cert.MlpCIdeal.nD Cert.MlpCIdeal.τ).loc Cert.MlpCIdeal.main_arg2)
          ∧ r.2.mem ((c.tc : Thread Cert.MlpCIdeal.nD Cert.MlpCIdeal.τ).loc Cert.MlpCIdeal.main_arg3) = m ((c.tc : Thread Cert.MlpCIdeal.nD Cert.MlpCIdeal.τ).loc Cert.MlpCIdeal.main_arg3)
          ∧ r.2.mem ((c.tc : Thread Cert.MlpCIdeal.nD Cert.MlpCIdeal.τ).loc Cert.MlpCIdeal.main_arg4) = m ((c.tc : Thread Cert.MlpCIdeal.nD Cert.MlpCIdeal.τ).loc Cert.MlpCIdeal.main_arg4)
          ∧ r.2.mem ((c.tc : Thread Cert.MlpCIdeal.nD Cert.MlpCIdeal.τ).loc Cert.MlpCIdeal.main_arg5) = m ((c.tc : Thread Cert.MlpCIdeal.nD Cert.MlpCIdeal.τ).loc Cert.MlpCIdeal.main_arg5)
          ∧ r.2.mem ((c.tc : Thread Cert.MlpCIdeal.nD Cert.MlpCIdeal.τ).loc Cert.MlpCIdeal.main_arg6) = m ((c.tc : Thread Cert.MlpCIdeal.nD Cert.MlpCIdeal.τ).loc Cert.MlpCIdeal.main_arg6)
          ∧ r.2.mem ((c.tc : Thread Cert.MlpCIdeal.nD Cert.MlpCIdeal.τ).loc Cert.MlpCIdeal.main_arg7) = m ((c.tc : Thread Cert.MlpCIdeal.nD Cert.MlpCIdeal.τ).loc Cert.MlpCIdeal.main_arg7)
          ∧ r.2.mem ((c.tc : Thread Cert.MlpCIdeal.nD Cert.MlpCIdeal.τ).loc Cert.MlpCIdeal.main_arg8) = m ((c.tc : Thread Cert.MlpCIdeal.nD Cert.MlpCIdeal.τ).loc Cert.MlpCIdeal.main_arg8)
          ∧ r.2.mem ((c.tc : Thread Cert.MlpCIdeal.nD Cert.MlpCIdeal.τ).loc Cert.MlpCIdeal.main_arg9) = m ((c.tc : Thread Cert.MlpCIdeal.nD Cert.MlpCIdeal.τ).loc Cert.MlpCIdeal.main_arg9)
          ∧ r.2.mem ((c.tc : Thread Cert.MlpCIdeal.nD Cert.MlpCIdeal.τ).loc Cert.MlpCIdeal.main_arg10) = m ((c.tc : Thread Cert.MlpCIdeal.nD Cert.MlpCIdeal.τ).loc Cert.MlpCIdeal.main_arg10)
          ∧ r.2.mem ((c.tc : Thread Cert.MlpCIdeal.nD Cert.MlpCIdeal.τ).loc Cert.MlpCIdeal.main_arg11) = m ((c.tc : Thread Cert.MlpCIdeal.nD Cert.MlpCIdeal.τ).loc Cert.MlpCIdeal.main_arg11)
          ∧ r.2.mem ((c.tc : Thread Cert.MlpCIdeal.nD Cert.MlpCIdeal.τ).loc Cert.MlpCIdeal.main_arg12) = m ((c.tc : Thread Cert.MlpCIdeal.nD Cert.MlpCIdeal.τ).loc Cert.MlpCIdeal.main_arg12)
          ∧ r.2.mem ((c.tc : Thread Cert.MlpCIdeal.nD Cert.MlpCIdeal.τ).loc Cert.MlpCIdeal.main_arg13) = m ((c.tc : Thread Cert.MlpCIdeal.nD Cert.MlpCIdeal.τ).loc Cert.MlpCIdeal.main_arg13))
      ∧ θ_run (Cert.MlpCReferenceIdeal.defs (F := Ideal)) (onTc (τ := Cert.MlpCReferenceIdeal.τ) (Cert.MlpCReferenceIdeal.main (F := Ideal))) ⟨m', fun _ => 0, g'⟩ (fun r => ∀ c : Dev Cert.MlpCReferenceIdeal.nD,
          r.2.mem ((c.tc : Thread Cert.MlpCReferenceIdeal.nD Cert.MlpCReferenceIdeal.τ).loc Cert.MlpCReferenceIdeal.main_v85) = v0 c
          ∧ r.2.mem ((c.tc : Thread Cert.MlpCReferenceIdeal.nD Cert.MlpCReferenceIdeal.τ).loc Cert.MlpCReferenceIdeal.main_v89) = v1 c
          ∧ r.2.mem ((c.tc : Thread Cert.MlpCReferenceIdeal.nD Cert.MlpCReferenceIdeal.τ).loc Cert.MlpCReferenceIdeal.main_v93) = v2 c
          ∧ r.2.mem ((c.tc : Thread Cert.MlpCReferenceIdeal.nD Cert.MlpCReferenceIdeal.τ).loc Cert.MlpCReferenceIdeal.main_v97) = v3 c
          ∧ r.2.mem ((c.tc : Thread Cert.MlpCReferenceIdeal.nD Cert.MlpCReferenceIdeal.τ).loc Cert.MlpCReferenceIdeal.main_v101) = v4 c
          ∧ r.2.mem ((c.tc : Thread Cert.MlpCReferenceIdeal.nD Cert.MlpCReferenceIdeal.τ).loc Cert.MlpCReferenceIdeal.main_v102) = v5 c
          ∧ r.2.mem ((c.tc : Thread Cert.MlpCReferenceIdeal.nD Cert.MlpCReferenceIdeal.τ).loc Cert.MlpCReferenceIdeal.main_arg0) = m' ((c.tc : Thread Cert.MlpCReferenceIdeal.nD Cert.MlpCReferenceIdeal.τ).loc Cert.MlpCReferenceIdeal.main_arg0)
          ∧ r.2.mem ((c.tc : Thread Cert.MlpCReferenceIdeal.nD Cert.MlpCReferenceIdeal.τ).loc Cert.MlpCReferenceIdeal.main_arg1) = m' ((c.tc : Thread Cert.MlpCReferenceIdeal.nD Cert.MlpCReferenceIdeal.τ).loc Cert.MlpCReferenceIdeal.main_arg1)
          ∧ r.2.mem ((c.tc : Thread Cert.MlpCReferenceIdeal.nD Cert.MlpCReferenceIdeal.τ).loc Cert.MlpCReferenceIdeal.main_arg2) = m' ((c.tc : Thread Cert.MlpCReferenceIdeal.nD Cert.MlpCReferenceIdeal.τ).loc Cert.MlpCReferenceIdeal.main_arg2)
          ∧ r.2.mem ((c.tc : Thread Cert.MlpCReferenceIdeal.nD Cert.MlpCReferenceIdeal.τ).loc Cert.MlpCReferenceIdeal.main_arg3) = m' ((c.tc : Thread Cert.MlpCReferenceIdeal.nD Cert.MlpCReferenceIdeal.τ).loc Cert.MlpCReferenceIdeal.main_arg3)
          ∧ r.2.mem ((c.tc : Thread Cert.MlpCReferenceIdeal.nD Cert.MlpCReferenceIdeal.τ).loc Cert.MlpCReferenceIdeal.main_arg4) = m' ((c.tc : Thread Cert.MlpCReferenceIdeal.nD Cert.MlpCReferenceIdeal.τ).loc Cert.MlpCReferenceIdeal.main_arg4)
          ∧ r.2.mem ((c.tc : Thread Cert.MlpCReferenceIdeal.nD Cert.MlpCReferenceIdeal.τ).loc Cert.MlpCReferenceIdeal.main_arg5) = m' ((c.tc : Thread Cert.MlpCReferenceIdeal.nD Cert.MlpCReferenceIdeal.τ).loc Cert.MlpCReferenceIdeal.main_arg5)
          ∧ r.2.mem ((c.tc : Thread Cert.MlpCReferenceIdeal.nD Cert.MlpCReferenceIdeal.τ).loc Cert.MlpCReferenceIdeal.main_arg6) = m' ((c.tc : Thread Cert.MlpCReferenceIdeal.nD Cert.MlpCReferenceIdeal.τ).loc Cert.MlpCReferenceIdeal.main_arg6)
          ∧ r.2.mem ((c.tc : Thread Cert.MlpCReferenceIdeal.nD Cert.MlpCReferenceIdeal.τ).loc Cert.MlpCReferenceIdeal.main_arg7) = m' ((c.tc : Thread Cert.MlpCReferenceIdeal.nD Cert.MlpCReferenceIdeal.τ).loc Cert.MlpCReferenceIdeal.main_arg7)
          ∧ r.2.mem ((c.tc : Thread Cert.MlpCReferenceIdeal.nD Cert.MlpCReferenceIdeal.τ).loc Cert.MlpCReferenceIdeal.main_arg8) = m' ((c.tc : Thread Cert.MlpCReferenceIdeal.nD Cert.MlpCReferenceIdeal.τ).loc Cert.MlpCReferenceIdeal.main_arg8)
          ∧ r.2.mem ((c.tc : Thread Cert.MlpCReferenceIdeal.nD Cert.MlpCReferenceIdeal.τ).loc Cert.MlpCReferenceIdeal.main_arg9) = m' ((c.tc : Thread Cert.MlpCReferenceIdeal.nD Cert.MlpCReferenceIdeal.τ).loc Cert.MlpCReferenceIdeal.main_arg9)
          ∧ r.2.mem ((c.tc : Thread Cert.MlpCReferenceIdeal.nD Cert.MlpCReferenceIdeal.τ).loc Cert.MlpCReferenceIdeal.main_arg10) = m' ((c.tc : Thread Cert.MlpCReferenceIdeal.nD Cert.MlpCReferenceIdeal.τ).loc Cert.MlpCReferenceIdeal.main_arg10)
          ∧ r.2.mem ((c.tc : Thread Cert.MlpCReferenceIdeal.nD Cert.MlpCReferenceIdeal.τ).loc Cert.MlpCReferenceIdeal.main_arg11) = m' ((c.tc : Thread Cert.MlpCReferenceIdeal.nD Cert.MlpCReferenceIdeal.τ).loc Cert.MlpCReferenceIdeal.main_arg11)
          ∧ r.2.mem ((c.tc : Thread Cert.MlpCReferenceIdeal.nD Cert.MlpCReferenceIdeal.τ).loc Cert.MlpCReferenceIdeal.main_arg12) = m' ((c.tc : Thread Cert.MlpCReferenceIdeal.nD Cert.MlpCReferenceIdeal.τ).loc Cert.MlpCReferenceIdeal.main_arg12)
          ∧ r.2.mem ((c.tc : Thread Cert.MlpCReferenceIdeal.nD Cert.MlpCReferenceIdeal.τ).loc Cert.MlpCReferenceIdeal.main_arg13) = m' ((c.tc : Thread Cert.MlpCReferenceIdeal.nD Cert.MlpCReferenceIdeal.τ).loc Cert.MlpCReferenceIdeal.main_arg13))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)
      ∧ m' ((c.tc : Thread Cert.ProjBReferenceIdeal.nD Cert.ProjBReferenceIdeal.τ).loc Cert.ProjBReferenceIdeal.main_arg2) = m ((c.tc : Thread Cert.ProjBIdeal.nD Cert.ProjBIdeal.τ).loc Cert.ProjBIdeal.main_arg2)
      ∧ m' ((c.tc : Thread Cert.ProjBReferenceIdeal.nD Cert.ProjBReferenceIdeal.τ).loc Cert.ProjBReferenceIdeal.main_arg3) = m ((c.tc : Thread Cert.ProjBIdeal.nD Cert.ProjBIdeal.τ).loc Cert.ProjBIdeal.main_arg3)
      ∧ m' ((c.tc : Thread Cert.ProjBReferenceIdeal.nD Cert.ProjBReferenceIdeal.τ).loc Cert.ProjBReferenceIdeal.main_arg4) = m ((c.tc : Thread Cert.ProjBIdeal.nD Cert.ProjBIdeal.τ).loc Cert.ProjBIdeal.main_arg4)) →
    ∃ (v0 : (c : Dev Cert.ProjBIdeal.nD) → Buf (Elt Ideal) ((c.tc : Thread Cert.ProjBIdeal.nD Cert.ProjBIdeal.τ).loc Cert.ProjBIdeal.main_v7)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v7) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v62) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1)
          ∧ r.2.mem ((c.tc : Thread Cert.ProjBReferenceIdeal.nD Cert.ProjBReferenceIdeal.τ).loc Cert.ProjBReferenceIdeal.main_arg2) = m' ((c.tc : Thread Cert.ProjBReferenceIdeal.nD Cert.ProjBReferenceIdeal.τ).loc Cert.ProjBReferenceIdeal.main_arg2)
          ∧ r.2.mem ((c.tc : Thread Cert.ProjBReferenceIdeal.nD Cert.ProjBReferenceIdeal.τ).loc Cert.ProjBReferenceIdeal.main_arg3) = m' ((c.tc : Thread Cert.ProjBReferenceIdeal.nD Cert.ProjBReferenceIdeal.τ).loc Cert.ProjBReferenceIdeal.main_arg3)
          ∧ r.2.mem ((c.tc : Thread Cert.ProjBReferenceIdeal.nD Cert.ProjBReferenceIdeal.τ).loc Cert.ProjBReferenceIdeal.main_arg4) = m' ((c.tc : Thread Cert.ProjBReferenceIdeal.nD Cert.ProjBReferenceIdeal.τ).loc Cert.ProjBReferenceIdeal.main_arg4))

def preserves_ProjC_ProjCIdeal : Prop :=
  True

def algebraic_ProjCIdeal_ProjCReferenceIdeal [hProjCIdeal : Cert.ProjCIdeal.Facts] [hProjCReferenceIdeal : Cert.ProjCReferenceIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCReferenceIdeal.nD Cert.ProjCReferenceIdeal.τ Cert.ProjCReferenceIdeal.sig) → Buf (Elt Ideal) ℓ) (g' : Dev Cert.ProjCReferenceIdeal.nD → PrngReg), Pre_ProjCIdeal m →
    (∀ c : Dev Cert.ProjCIdeal.nD,
      m' ((c.tc : Thread Cert.ProjCReferenceIdeal.nD Cert.ProjCReferenceIdeal.τ).loc Cert.ProjCReferenceIdeal.main_arg0) = m ((c.tc : Thread Cert.ProjCIdeal.nD Cert.ProjCIdeal.τ).loc Cert.ProjCIdeal.main_arg0)
      ∧ m' ((c.tc : Thread Cert.ProjCReferenceIdeal.nD Cert.ProjCReferenceIdeal.τ).loc Cert.ProjCReferenceIdeal.main_arg1) = m ((c.tc : Thread Cert.ProjCIdeal.nD Cert.ProjCIdeal.τ).loc Cert.ProjCIdeal.main_arg1)
      ∧ m' ((c.tc : Thread Cert.ProjCReferenceIdeal.nD Cert.ProjCReferenceIdeal.τ).loc Cert.ProjCReferenceIdeal.main_arg2) = m ((c.tc : Thread Cert.ProjCIdeal.nD Cert.ProjCIdeal.τ).loc Cert.ProjCIdeal.main_arg2)
      ∧ m' ((c.tc : Thread Cert.ProjCReferenceIdeal.nD Cert.ProjCReferenceIdeal.τ).loc Cert.ProjCReferenceIdeal.main_arg3) = m ((c.tc : Thread Cert.ProjCIdeal.nD Cert.ProjCIdeal.τ).loc Cert.ProjCIdeal.main_arg3)
      ∧ m' ((c.tc : Thread Cert.ProjCReferenceIdeal.nD Cert.ProjCReferenceIdeal.τ).loc Cert.ProjCReferenceIdeal.main_arg4) = m ((c.tc : Thread Cert.ProjCIdeal.nD Cert.ProjCIdeal.τ).loc Cert.ProjCIdeal.main_arg4)) →
    ∃ (v0 : (c : Dev Cert.ProjCIdeal.nD) → Buf (Elt Ideal) ((c.tc : Thread Cert.ProjCIdeal.nD Cert.ProjCIdeal.τ).loc Cert.ProjCIdeal.main_v7)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v7) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
          ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3)
          ∧ r.2.mem ((c.tc : Thread Cert.ProjCIdeal.nD Cert.ProjCIdeal.τ).loc Cert.ProjCIdeal.main_arg4) = m ((c.tc : Thread Cert.ProjCIdeal.nD Cert.ProjCIdeal.τ).loc Cert.ProjCIdeal.main_arg4))
      ∧ θ_run (Cert.ProjCReferenceIdeal.defs (F := Ideal)) (onTc (τ := Cert.ProjCReferenceIdeal.τ) (Cert.ProjCReferenceIdeal.main (F := Ideal))) ⟨m', fun _ => 0, g'⟩ (fun r => ∀ c : Dev Cert.ProjCReferenceIdeal.nD,
          r.2.mem ((c.tc : Thread Cert.ProjCReferenceIdeal.nD Cert.ProjCReferenceIdeal.τ).loc Cert.ProjCReferenceIdeal.main_v62) = v0 c
          ∧ r.2.mem ((c.tc : Thread Cert.ProjCReferenceIdeal.nD Cert.ProjCReferenceIdeal.τ).loc Cert.ProjCReferenceIdeal.main_arg0) = m' ((c.tc : Thread Cert.ProjCReferenceIdeal.nD Cert.ProjCReferenceIdeal.τ).loc Cert.ProjCReferenceIdeal.main_arg0)
          ∧ r.2.mem ((c.tc : Thread Cert.ProjCReferenceIdeal.nD Cert.ProjCReferenceIdeal.τ).loc Cert.ProjCReferenceIdeal.main_arg1) = m' ((c.tc : Thread Cert.ProjCReferenceIdeal.nD Cert.ProjCReferenceIdeal.τ).loc Cert.ProjCReferenceIdeal.main_arg1)
          ∧ r.2.mem ((c.tc : Thread Cert.ProjCReferenceIdeal.nD Cert.ProjCReferenceIdeal.τ).loc Cert.ProjCReferenceIdeal.main_arg2) = m' ((c.tc : Thread Cert.ProjCReferenceIdeal.nD Cert.ProjCReferenceIdeal.τ).loc Cert.ProjCReferenceIdeal.main_arg2)
          ∧ r.2.mem ((c.tc : Thread Cert.ProjCReferenceIdeal.nD Cert.ProjCReferenceIdeal.τ).loc Cert.ProjCReferenceIdeal.main_arg3) = m' ((c.tc : Thread Cert.ProjCReferenceIdeal.nD Cert.ProjCReferenceIdeal.τ).loc Cert.ProjCReferenceIdeal.main_arg3)
          ∧ r.2.mem ((c.tc : Thread Cert.ProjCReferenceIdeal.nD Cert.ProjCReferenceIdeal.τ).loc Cert.ProjCReferenceIdeal.main_arg4) = m' ((c.tc : Thread Cert.ProjCReferenceIdeal.nD Cert.ProjCReferenceIdeal.τ).loc Cert.ProjCReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v10)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v28) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)
      ∧ m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3)
      ∧ m' ((c.tc : Thread Cert.SsdOutReferenceIdeal.nD Cert.SsdOutReferenceIdeal.τ).loc Cert.SsdOutReferenceIdeal.main_arg4) = m ((c.tc : Thread Cert.SsdOutIdeal.nD Cert.SsdOutIdeal.τ).loc Cert.SsdOutIdeal.main_arg4)
      ∧ m' ((c.tc : Thread Cert.SsdOutReferenceIdeal.nD Cert.SsdOutReferenceIdeal.τ).loc Cert.SsdOutReferenceIdeal.main_arg5) = m ((c.tc : Thread Cert.SsdOutIdeal.nD Cert.SsdOutIdeal.τ).loc Cert.SsdOutIdeal.main_arg5)
      ∧ m' ((c.tc : Thread Cert.SsdOutReferenceIdeal.nD Cert.SsdOutReferenceIdeal.τ).loc Cert.SsdOutReferenceIdeal.main_arg6) = m ((c.tc : Thread Cert.SsdOutIdeal.nD Cert.SsdOutIdeal.τ).loc Cert.SsdOutIdeal.main_arg6)
      ∧ m' ((c.tc : Thread Cert.SsdOutReferenceIdeal.nD Cert.SsdOutReferenceIdeal.τ).loc Cert.SsdOutReferenceIdeal.main_arg7) = m ((c.tc : Thread Cert.SsdOutIdeal.nD Cert.SsdOutIdeal.τ).loc Cert.SsdOutIdeal.main_arg7)
      ∧ m' ((c.tc : Thread Cert.SsdOutReferenceIdeal.nD Cert.SsdOutReferenceIdeal.τ).loc Cert.SsdOutReferenceIdeal.main_arg8) = m ((c.tc : Thread Cert.SsdOutIdeal.nD Cert.SsdOutIdeal.τ).loc Cert.SsdOutIdeal.main_arg8)
      ∧ m' ((c.tc : Thread Cert.SsdOutReferenceIdeal.nD Cert.SsdOutReferenceIdeal.τ).loc Cert.SsdOutReferenceIdeal.main_arg9) = m ((c.tc : Thread Cert.SsdOutIdeal.nD Cert.SsdOutIdeal.τ).loc Cert.SsdOutIdeal.main_arg9)
      ∧ m' ((c.tc : Thread Cert.SsdOutReferenceIdeal.nD Cert.SsdOutReferenceIdeal.τ).loc Cert.SsdOutReferenceIdeal.main_arg10) = m ((c.tc : Thread Cert.SsdOutIdeal.nD Cert.SsdOutIdeal.τ).loc Cert.SsdOutIdeal.main_arg10)
      ∧ m' ((c.tc : Thread Cert.SsdOutReferenceIdeal.nD Cert.SsdOutReferenceIdeal.τ).loc Cert.SsdOutReferenceIdeal.main_arg11) = m ((c.tc : Thread Cert.SsdOutIdeal.nD Cert.SsdOutIdeal.τ).loc Cert.SsdOutIdeal.main_arg11)
      ∧ m' ((c.tc : Thread Cert.SsdOutReferenceIdeal.nD Cert.SsdOutReferenceIdeal.τ).loc Cert.SsdOutReferenceIdeal.main_arg12) = m ((c.tc : Thread Cert.SsdOutIdeal.nD Cert.SsdOutIdeal.τ).loc Cert.SsdOutIdeal.main_arg12)
      ∧ m' ((c.tc : Thread Cert.SsdOutReferenceIdeal.nD Cert.SsdOutReferenceIdeal.τ).loc Cert.SsdOutReferenceIdeal.main_arg13) = m ((c.tc : Thread Cert.SsdOutIdeal.nD Cert.SsdOutIdeal.τ).loc Cert.SsdOutIdeal.main_arg13)) →
    ∃ (v0 : (c : Dev Cert.SsdOutIdeal.nD) → Buf (Elt Ideal) ((c.tc : Thread Cert.SsdOutIdeal.nD Cert.SsdOutIdeal.τ).loc Cert.SsdOutIdeal.main_v28)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v28) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
          ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
          ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7)
          ∧ r.2.mem ((c.tc : Thread Cert.SsdOutIdeal.nD Cert.SsdOutIdeal.τ).loc Cert.SsdOutIdeal.main_arg8) = m ((c.tc : Thread Cert.SsdOutIdeal.nD Cert.SsdOutIdeal.τ).loc Cert.SsdOutIdeal.main_arg8)
          ∧ r.2.mem ((c.tc : Thread Cert.SsdOutIdeal.nD Cert.SsdOutIdeal.τ).loc Cert.SsdOutIdeal.main_arg9) = m ((c.tc : Thread Cert.SsdOutIdeal.nD Cert.SsdOutIdeal.τ).loc Cert.SsdOutIdeal.main_arg9)
          ∧ r.2.mem ((c.tc : Thread Cert.SsdOutIdeal.nD Cert.SsdOutIdeal.τ).loc Cert.SsdOutIdeal.main_arg10) = m ((c.tc : Thread Cert.SsdOutIdeal.nD Cert.SsdOutIdeal.τ).loc Cert.SsdOutIdeal.main_arg10)
          ∧ r.2.mem ((c.tc : Thread Cert.SsdOutIdeal.nD Cert.SsdOutIdeal.τ).loc Cert.SsdOutIdeal.main_arg11) = m ((c.tc : Thread Cert.SsdOutIdeal.nD Cert.SsdOutIdeal.τ).loc Cert.SsdOutIdeal.main_arg11)
          ∧ r.2.mem ((c.tc : Thread Cert.SsdOutIdeal.nD Cert.SsdOutIdeal.τ).loc Cert.SsdOutIdeal.main_arg12) = m ((c.tc : Thread Cert.SsdOutIdeal.nD Cert.SsdOutIdeal.τ).loc Cert.SsdOutIdeal.main_arg12)
          ∧ r.2.mem ((c.tc : Thread Cert.SsdOutIdeal.nD Cert.SsdOutIdeal.τ).loc Cert.SsdOutIdeal.main_arg13) = m ((c.tc : Thread Cert.SsdOutIdeal.nD Cert.SsdOutIdeal.τ).loc Cert.SsdOutIdeal.main_arg13))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v80) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3)
          ∧ r.2.mem ((c.tc : Thread Cert.SsdOutReferenceIdeal.nD Cert.SsdOutReferenceIdeal.τ).loc Cert.SsdOutReferenceIdeal.main_arg4) = m' ((c.tc : Thread Cert.SsdOutReferenceIdeal.nD Cert.SsdOutReferenceIdeal.τ).loc Cert.SsdOutReferenceIdeal.main_arg4)
          ∧ r.2.mem ((c.tc : Thread Cert.SsdOutReferenceIdeal.nD Cert.SsdOutReferenceIdeal.τ).loc Cert.SsdOutReferenceIdeal.main_arg5) = m' ((c.tc : Thread Cert.SsdOutReferenceIdeal.nD Cert.SsdOutReferenceIdeal.τ).loc Cert.SsdOutReferenceIdeal.main_arg5)
          ∧ r.2.mem ((c.tc : Thread Cert.SsdOutReferenceIdeal.nD Cert.SsdOutReferenceIdeal.τ).loc Cert.SsdOutReferenceIdeal.main_arg6) = m' ((c.tc : Thread Cert.SsdOutReferenceIdeal.nD Cert.SsdOutReferenceIdeal.τ).loc Cert.SsdOutReferenceIdeal.main_arg6)
          ∧ r.2.mem ((c.tc : Thread Cert.SsdOutReferenceIdeal.nD Cert.SsdOutReferenceIdeal.τ).loc Cert.SsdOutReferenceIdeal.main_arg7) = m' ((c.tc : Thread Cert.SsdOutReferenceIdeal.nD Cert.SsdOutReferenceIdeal.τ).loc Cert.SsdOutReferenceIdeal.main_arg7)
          ∧ r.2.mem ((c.tc : Thread Cert.SsdOutReferenceIdeal.nD Cert.SsdOutReferenceIdeal.τ).loc Cert.SsdOutReferenceIdeal.main_arg8) = m' ((c.tc : Thread Cert.SsdOutReferenceIdeal.nD Cert.SsdOutReferenceIdeal.τ).loc Cert.SsdOutReferenceIdeal.main_arg8)
          ∧ r.2.mem ((c.tc : Thread Cert.SsdOutReferenceIdeal.nD Cert.SsdOutReferenceIdeal.τ).loc Cert.SsdOutReferenceIdeal.main_arg9) = m' ((c.tc : Thread Cert.SsdOutReferenceIdeal.nD Cert.SsdOutReferenceIdeal.τ).loc Cert.SsdOutReferenceIdeal.main_arg9)
          ∧ r.2.mem ((c.tc : Thread Cert.SsdOutReferenceIdeal.nD Cert.SsdOutReferenceIdeal.τ).loc Cert.SsdOutReferenceIdeal.main_arg10) = m' ((c.tc : Thread Cert.SsdOutReferenceIdeal.nD Cert.SsdOutReferenceIdeal.τ).loc Cert.SsdOutReferenceIdeal.main_arg10)
          ∧ r.2.mem ((c.tc : Thread Cert.SsdOutReferenceIdeal.nD Cert.SsdOutReferenceIdeal.τ).loc Cert.SsdOutReferenceIdeal.main_arg11) = m' ((c.tc : Thread Cert.SsdOutReferenceIdeal.nD Cert.SsdOutReferenceIdeal.τ).loc Cert.SsdOutReferenceIdeal.main_arg11)
          ∧ r.2.mem ((c.tc : Thread Cert.SsdOutReferenceIdeal.nD Cert.SsdOutReferenceIdeal.τ).loc Cert.SsdOutReferenceIdeal.main_arg12) = m' ((c.tc : Thread Cert.SsdOutReferenceIdeal.nD Cert.SsdOutReferenceIdeal.τ).loc Cert.SsdOutReferenceIdeal.main_arg12)
          ∧ r.2.mem ((c.tc : Thread Cert.SsdOutReferenceIdeal.nD Cert.SsdOutReferenceIdeal.τ).loc Cert.SsdOutReferenceIdeal.main_arg13) = m' ((c.tc : Thread Cert.SsdOutReferenceIdeal.nD Cert.SsdOutReferenceIdeal.τ).loc Cert.SsdOutReferenceIdeal.main_arg13))

def preserves_SsdOutLast_SsdOutLastIdeal : Prop :=
  True

def algebraic_SsdOutLastIdeal_SsdOutLastReferenceIdeal [hSsdOutLastIdeal : Cert.SsdOutLastIdeal.Facts] [hSsdOutLastReferenceIdeal : Cert.SsdOutLastReferenceIdeal.Facts] : Prop :=
  ∀ (m : (ℓ : Loc Cert.SsdOutLastIdeal.nD Cert.SsdOutLastIdeal.τ Cert.SsdOutLastIdeal.sig) → Buf (Elt Ideal) ℓ) (g : Dev Cert.SsdOutLastIdeal.nD → PrngReg)
    (m' : (ℓ : Loc Cert.SsdOutLastReferenceIdeal.nD Cert.SsdOutLastReferenceIdeal.τ Cert.SsdOutLastReferenceIdeal.sig) → Buf (Elt Ideal) ℓ) (g' : Dev Cert.SsdOutLastReferenceIdeal.nD → PrngReg), Pre_SsdOutLastIdeal m →
    (∀ c : Dev Cert.SsdOutLastIdeal.nD,
      m' ((c.tc : Thread Cert.SsdOutLastReferenceIdeal.nD Cert.SsdOutLastReferenceIdeal.τ).loc Cert.SsdOutLastReferenceIdeal.main_arg0) = m ((c.tc : Thread Cert.SsdOutLastIdeal.nD Cert.SsdOutLastIdeal.τ).loc Cert.SsdOutLastIdeal.main_arg0)
      ∧ m' ((c.tc : Thread Cert.SsdOutLastReferenceIdeal.nD Cert.SsdOutLastReferenceIdeal.τ).loc Cert.SsdOutLastReferenceIdeal.main_arg1) = m ((c.tc : Thread Cert.SsdOutLastIdeal.nD Cert.SsdOutLastIdeal.τ).loc Cert.SsdOutLastIdeal.main_arg1)
      ∧ m' ((c.tc : Thread Cert.SsdOutLastReferenceIdeal.nD Cert.SsdOutLastReferenceIdeal.τ).loc Cert.SsdOutLastReferenceIdeal.main_arg2) = m ((c.tc : Thread Cert.SsdOutLastIdeal.nD Cert.SsdOutLastIdeal.τ).loc Cert.SsdOutLastIdeal.main_arg2)
      ∧ m' ((c.tc : Thread Cert.SsdOutLastReferenceIdeal.nD Cert.SsdOutLastReferenceIdeal.τ).loc Cert.SsdOutLastReferenceIdeal.main_arg3) = m ((c.tc : Thread Cert.SsdOutLastIdeal.nD Cert.SsdOutLastIdeal.τ).loc Cert.SsdOutLastIdeal.main_arg3)
      ∧ m' ((c.tc : Thread Cert.SsdOutLastReferenceIdeal.nD Cert.SsdOutLastReferenceIdeal.τ).loc Cert.SsdOutLastReferenceIdeal.main_arg4) = m ((c.tc : Thread Cert.SsdOutLastIdeal.nD Cert.SsdOutLastIdeal.τ).loc Cert.SsdOutLastIdeal.main_arg4)
      ∧ m' ((c.tc : Thread Cert.SsdOutLastReferenceIdeal.nD Cert.SsdOutLastReferenceIdeal.τ).loc Cert.SsdOutLastReferenceIdeal.main_arg5) = m ((c.tc : Thread Cert.SsdOutLastIdeal.nD Cert.SsdOutLastIdeal.τ).loc Cert.SsdOutLastIdeal.main_arg5)
      ∧ m' ((c.tc : Thread Cert.SsdOutLastReferenceIdeal.nD Cert.SsdOutLastReferenceIdeal.τ).loc Cert.SsdOutLastReferenceIdeal.main_arg6) = m ((c.tc : Thread Cert.SsdOutLastIdeal.nD Cert.SsdOutLastIdeal.τ).loc Cert.SsdOutLastIdeal.main_arg6)
      ∧ m' ((c.tc : Thread Cert.SsdOutLastReferenceIdeal.nD Cert.SsdOutLastReferenceIdeal.τ).loc Cert.SsdOutLastReferenceIdeal.main_arg7) = m ((c.tc : Thread Cert.SsdOutLastIdeal.nD Cert.SsdOutLastIdeal.τ).loc Cert.SsdOutLastIdeal.main_arg7)
      ∧ m' ((c.tc : Thread Cert.SsdOutLastReferenceIdeal.nD Cert.SsdOutLastReferenceIdeal.τ).loc Cert.SsdOutLastReferenceIdeal.main_arg8) = m ((c.tc : Thread Cert.SsdOutLastIdeal.nD Cert.SsdOutLastIdeal.τ).loc Cert.SsdOutLastIdeal.main_arg8)
      ∧ m' ((c.tc : Thread Cert.SsdOutLastReferenceIdeal.nD Cert.SsdOutLastReferenceIdeal.τ).loc Cert.SsdOutLastReferenceIdeal.main_arg9) = m ((c.tc : Thread Cert.SsdOutLastIdeal.nD Cert.SsdOutLastIdeal.τ).loc Cert.SsdOutLastIdeal.main_arg9)
      ∧ m' ((c.tc : Thread Cert.SsdOutLastReferenceIdeal.nD Cert.SsdOutLastReferenceIdeal.τ).loc Cert.SsdOutLastReferenceIdeal.main_arg10) = m ((c.tc : Thread Cert.SsdOutLastIdeal.nD Cert.SsdOutLastIdeal.τ).loc Cert.SsdOutLastIdeal.main_arg10)
      ∧ m' ((c.tc : Thread Cert.SsdOutLastReferenceIdeal.nD Cert.SsdOutLastReferenceIdeal.τ).loc Cert.SsdOutLastReferenceIdeal.main_arg11) = m ((c.tc : Thread Cert.SsdOutLastIdeal.nD Cert.SsdOutLastIdeal.τ).loc Cert.SsdOutLastIdeal.main_arg11)
      ∧ m' ((c.tc : Thread Cert.SsdOutLastReferenceIdeal.nD Cert.SsdOutLastReferenceIdeal.τ).loc Cert.SsdOutLastReferenceIdeal.main_arg12) = m ((c.tc : Thread Cert.SsdOutLastIdeal.nD Cert.SsdOutLastIdeal.τ).loc Cert.SsdOutLastIdeal.main_arg12)) →
    ∃ (v0 : (c : Dev Cert.SsdOutLastIdeal.nD) → Buf (Elt Ideal) ((c.tc : Thread Cert.SsdOutLastIdeal.nD Cert.SsdOutLastIdeal.τ).loc Cert.SsdOutLastIdeal.main_v27)),
      θ_run (Cert.SsdOutLastIdeal.defs (F := Ideal)) (onTc (τ := Cert.SsdOutLastIdeal.τ) (Cert.SsdOutLastIdeal.main (F := Ideal))) ⟨m, fun _ => 0, g⟩ (fun r => ∀ c : Dev Cert.SsdOutLastIdeal.nD,
          r.2.mem ((c.tc : Thread Cert.SsdOutLastIdeal.nD Cert.SsdOutLastIdeal.τ).loc Cert.SsdOutLastIdeal.main_v27) = v0 c
          ∧ r.2.mem ((c.tc : Thread Cert.SsdOutLastIdeal.nD Cert.SsdOutLastIdeal.τ).loc Cert.SsdOutLastIdeal.main_arg0) = m ((c.tc : Thread Cert.SsdOutLastIdeal.nD Cert.SsdOutLastIdeal.τ).loc Cert.SsdOutLastIdeal.main_arg0)
          ∧ r.2.mem ((c.tc : Thread Cert.SsdOutLastIdeal.nD Cert.SsdOutLastIdeal.τ).loc Cert.SsdOutLastIdeal.main_arg1) = m ((c.tc : Thread Cert.SsdOutLastIdeal.nD Cert.SsdOutLastIdeal.τ).loc Cert.SsdOutLastIdeal.main_arg1)
          ∧ r.2.mem ((c.tc : Thread Cert.SsdOutLastIdeal.nD Cert.SsdOutLastIdeal.τ).loc Cert.SsdOutLastIdeal.main_arg2) = m ((c.tc : Thread Cert.SsdOutLastIdeal.nD Cert.SsdOutLastIdeal.τ).loc Cert.SsdOutLastIdeal.main_arg2)
          ∧ r.2.mem ((c.tc : Thread Cert.SsdOutLastIdeal.nD Cert.SsdOutLastIdeal.τ).loc Cert.SsdOutLastIdeal.main_arg3) = m ((c.tc : Thread Cert.SsdOutLastIdeal.nD Cert.SsdOutLastIdeal.τ).loc Cert.SsdOutLastIdeal.main_arg3)
          ∧ r.2.mem ((c.tc : Thread Cert.SsdOutLastIdeal.nD Cert.SsdOutLastIdeal.τ).loc Cert.SsdOutLastIdeal.main_arg4) = m ((c.tc : Thread Cert.SsdOutLastIdeal.nD Cert.SsdOutLastIdeal.τ).loc Cert.SsdOutLastIdeal.main_arg4)
          ∧ r.2.mem ((c.tc : Thread Cert.SsdOutLastIdeal.nD Cert.SsdOutLastIdeal.τ).loc Cert.SsdOutLastIdeal.main_arg5) = m ((c.tc : Thread Cert.SsdOutLastIdeal.nD Cert.SsdOutLastIdeal.τ).loc Cert.SsdOutLastIdeal.main_arg5)
          ∧ r.2.mem ((c.tc : Thread Cert.SsdOutLastIdeal.nD Cert.SsdOutLastIdeal.τ).loc Cert.SsdOutLastIdeal.main_arg6) = m ((c.tc : Thread Cert.SsdOutLastIdeal.nD Cert.SsdOutLastIdeal.τ).loc Cert.SsdOutLastIdeal.main_arg6)
          ∧ r.2.mem ((c.tc : Thread Cert.SsdOutLastIdeal.nD Cert.SsdOutLastIdeal.τ).loc Cert.SsdOutLastIdeal.main_arg7) = m ((c.tc : Thread Cert.SsdOutLastIdeal.nD Cert.SsdOutLastIdeal.τ).loc Cert.SsdOutLastIdeal.main_arg7)
          ∧ r.2.mem ((c.tc : Thread Cert.SsdOutLastIdeal.nD Cert.SsdOutLastIdeal.τ).loc Cert.SsdOutLastIdeal.main_arg8) = m ((c.tc : Thread Cert.SsdOutLastIdeal.nD Cert.SsdOutLastIdeal.τ).loc Cert.SsdOutLastIdeal.main_arg8)
          ∧ r.2.mem ((c.tc : Thread Cert.SsdOutLastIdeal.nD Cert.SsdOutLastIdeal.τ).loc Cert.SsdOutLastIdeal.main_arg9) = m ((c.tc : Thread Cert.SsdOutLastIdeal.nD Cert.SsdOutLastIdeal.τ).loc Cert.SsdOutLastIdeal.main_arg9)
          ∧ r.2.mem ((c.tc : Thread Cert.SsdOutLastIdeal.nD Cert.SsdOutLastIdeal.τ).loc Cert.SsdOutLastIdeal.main_arg10) = m ((c.tc : Thread Cert.SsdOutLastIdeal.nD Cert.SsdOutLastIdeal.τ).loc Cert.SsdOutLastIdeal.main_arg10)
          ∧ r.2.mem ((c.tc : Thread Cert.SsdOutLastIdeal.nD Cert.SsdOutLastIdeal.τ).loc Cert.SsdOutLastIdeal.main_arg11) = m ((c.tc : Thread Cert.SsdOutLastIdeal.nD Cert.SsdOutLastIdeal.τ).loc Cert.SsdOutLastIdeal.main_arg11)
          ∧ r.2.mem ((c.tc : Thread Cert.SsdOutLastIdeal.nD Cert.SsdOutLastIdeal.τ).loc Cert.SsdOutLastIdeal.main_arg12) = m ((c.tc : Thread Cert.SsdOutLastIdeal.nD Cert.SsdOutLastIdeal.τ).loc Cert.SsdOutLastIdeal.main_arg12))
      ∧ θ_run (Cert.SsdOutLastReferenceIdeal.defs (F := Ideal)) (onTc (τ := Cert.SsdOutLastReferenceIdeal.τ) (Cert.SsdOutLastReferenceIdeal.main (F := Ideal))) ⟨m', fun _ => 0, g'⟩ (fun r => ∀ c : Dev Cert.SsdOutLastReferenceIdeal.nD,
          r.2.mem ((c.tc : Thread Cert.SsdOutLastReferenceIdeal.nD Cert.SsdOutLastReferenceIdeal.τ).loc Cert.SsdOutLastReferenceIdeal.main_v38) = v0 c
          ∧ r.2.mem ((c.tc : Thread Cert.SsdOutLastReferenceIdeal.nD Cert.SsdOutLastReferenceIdeal.τ).loc Cert.SsdOutLastReferenceIdeal.main_arg0) = m' ((c.tc : Thread Cert.SsdOutLastReferenceIdeal.nD Cert.SsdOutLastReferenceIdeal.τ).loc Cert.SsdOutLastReferenceIdeal.main_arg0)
          ∧ r.2.mem ((c.tc : Thread Cert.SsdOutLastReferenceIdeal.nD Cert.SsdOutLastReferenceIdeal.τ).loc Cert.SsdOutLastReferenceIdeal.main_arg1) = m' ((c.tc : Thread Cert.SsdOutLastReferenceIdeal.nD Cert.SsdOutLastReferenceIdeal.τ).loc Cert.SsdOutLastReferenceIdeal.main_arg1)
          ∧ r.2.mem ((c.tc : Thread Cert.SsdOutLastReferenceIdeal.nD Cert.SsdOutLastReferenceIdeal.τ).loc Cert.SsdOutLastReferenceIdeal.main_arg2) = m' ((c.tc : Thread Cert.SsdOutLastReferenceIdeal.nD Cert.SsdOutLastReferenceIdeal.τ).loc Cert.SsdOutLastReferenceIdeal.main_arg2)
          ∧ r.2.mem ((c.tc : Thread Cert.SsdOutLastReferenceIdeal.nD Cert.SsdOutLastReferenceIdeal.τ).loc Cert.SsdOutLastReferenceIdeal.main_arg3) = m' ((c.tc : Thread Cert.SsdOutLastReferenceIdeal.nD Cert.SsdOutLastReferenceIdeal.τ).loc Cert.SsdOutLastReferenceIdeal.main_arg3)
          ∧ r.2.mem ((c.tc : Thread Cert.SsdOutLastReferenceIdeal.nD Cert.SsdOutLastReferenceIdeal.τ).loc Cert.SsdOutLastReferenceIdeal.main_arg4) = m' ((c.tc : Thread Cert.SsdOutLastReferenceIdeal.nD Cert.SsdOutLastReferenceIdeal.τ).loc Cert.SsdOutLastReferenceIdeal.main_arg4)
          ∧ r.2.mem ((c.tc : Thread Cert.SsdOutLastReferenceIdeal.nD Cert.SsdOutLastReferenceIdeal.τ).loc Cert.SsdOutLastReferenceIdeal.main_arg5) = m' ((c.tc : Thread Cert.SsdOutLastReferenceIdeal.nD Cert.SsdOutLastReferenceIdeal.τ).loc Cert.SsdOutLastReferenceIdeal.main_arg5)
          ∧ r.2.mem ((c.tc : Thread Cert.SsdOutLastReferenceIdeal.nD Cert.SsdOutLastReferenceIdeal.τ).loc Cert.SsdOutLastReferenceIdeal.main_arg6) = m' ((c.tc : Thread Cert.SsdOutLastReferenceIdeal.nD Cert.SsdOutLastReferenceIdeal.τ).loc Cert.SsdOutLastReferenceIdeal.main_arg6)
          ∧ r.2.mem ((c.tc : Thread Cert.SsdOutLastReferenceIdeal.nD Cert.SsdOutLastReferenceIdeal.τ).loc Cert.SsdOutLastReferenceIdeal.main_arg7) = m' ((c.tc : Thread Cert.SsdOutLastReferenceIdeal.nD Cert.SsdOutLastReferenceIdeal.τ).loc Cert.SsdOutLastReferenceIdeal.main_arg7)
          ∧ r.2.mem ((c.tc : Thread Cert.SsdOutLastReferenceIdeal.nD Cert.SsdOutLastReferenceIdeal.τ).loc Cert.SsdOutLastReferenceIdeal.main_arg8) = m' ((c.tc : Thread Cert.SsdOutLastReferenceIdeal.nD Cert.SsdOutLastReferenceIdeal.τ).loc Cert.SsdOutLastReferenceIdeal.main_arg8)
          ∧ r.2.mem ((c.tc : Thread Cert.SsdOutLastReferenceIdeal.nD Cert.SsdOutLastReferenceIdeal.τ).loc Cert.SsdOutLastReferenceIdeal.main_arg9) = m' ((c.tc : Thread Cert.SsdOutLastReferenceIdeal.nD Cert.SsdOutLastReferenceIdeal.τ).loc Cert.SsdOutLastReferenceIdeal.main_arg9)
          ∧ r.2.mem ((c.tc : Thread Cert.SsdOutLastReferenceIdeal.nD Cert.SsdOutLastReferenceIdeal.τ).loc Cert.SsdOutLastReferenceIdeal.main_arg10) = m' ((c.tc : Thread Cert.SsdOutLastReferenceIdeal.nD Cert.SsdOutLastReferenceIdeal.τ).loc Cert.SsdOutLastReferenceIdeal.main_arg10)
          ∧ r.2.mem ((c.tc : Thread Cert.SsdOutLastReferenceIdeal.nD Cert.SsdOutLastReferenceIdeal.τ).loc Cert.SsdOutLastReferenceIdeal.main_arg11) = m' ((c.tc : Thread Cert.SsdOutLastReferenceIdeal.nD Cert.SsdOutLastReferenceIdeal.τ).loc Cert.SsdOutLastReferenceIdeal.main_arg11)
          ∧ r.2.mem ((c.tc : Thread Cert.SsdOutLastReferenceIdeal.nD Cert.SsdOutLastReferenceIdeal.τ).loc Cert.SsdOutLastReferenceIdeal.main_arg12) = m' ((c.tc : Thread Cert.SsdOutLastReferenceIdeal.nD Cert.SsdOutLastReferenceIdeal.τ).loc Cert.SsdOutLastReferenceIdeal.main_arg12))

def preserves_ProjA_ProjAIdeal : Prop :=
  True

def algebraic_ProjAIdeal_ProjAReferenceIdeal [hProjAIdeal : Cert.ProjAIdeal.Facts] [hProjAReferenceIdeal : Cert.ProjAReferenceIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjAReferenceIdeal.nD Cert.ProjAReferenceIdeal.τ Cert.ProjAReferenceIdeal.sig) → Buf (Elt Ideal) ℓ) (g' : Dev Cert.ProjAReferenceIdeal.nD → PrngReg), Pre_ProjAIdeal m →
    (∀ c : Dev Cert.ProjAIdeal.nD,
      m' ((c.tc : Thread Cert.ProjAReferenceIdeal.nD Cert.ProjAReferenceIdeal.τ).loc Cert.ProjAReferenceIdeal.main_arg0) = m ((c.tc : Thread Cert.ProjAIdeal.nD Cert.ProjAIdeal.τ).loc Cert.ProjAIdeal.main_arg0)
      ∧ m' ((c.tc : Thread Cert.ProjAReferenceIdeal.nD Cert.ProjAReferenceIdeal.τ).loc Cert.ProjAReferenceIdeal.main_arg1) = m ((c.tc : Thread Cert.ProjAIdeal.nD Cert.ProjAIdeal.τ).loc Cert.ProjAIdeal.main_arg1)
      ∧ m' ((c.tc : Thread Cert.ProjAReferenceIdeal.nD Cert.ProjAReferenceIdeal.τ).loc Cert.ProjAReferenceIdeal.main_arg2) = m ((c.tc : Thread Cert.ProjAIdeal.nD Cert.ProjAIdeal.τ).loc Cert.ProjAIdeal.main_arg2)
      ∧ m' ((c.tc : Thread Cert.ProjAReferenceIdeal.nD Cert.ProjAReferenceIdeal.τ).loc Cert.ProjAReferenceIdeal.main_arg3) = m ((c.tc : Thread Cert.ProjAIdeal.nD Cert.ProjAIdeal.τ).loc Cert.ProjAIdeal.main_arg3)
      ∧ m' ((c.tc : Thread Cert.ProjAReferenceIdeal.nD Cert.ProjAReferenceIdeal.τ).loc Cert.ProjAReferenceIdeal.main_arg4) = m ((c.tc : Thread Cert.ProjAIdeal.nD Cert.ProjAIdeal.τ).loc Cert.ProjAIdeal.main_arg4)
      ∧ m' ((c.tc : Thread Cert.ProjAReferenceIdeal.nD Cert.ProjAReferenceIdeal.τ).loc Cert.ProjAReferenceIdeal.main_arg5) = m ((c.tc : Thread Cert.ProjAIdeal.nD Cert.ProjAIdeal.τ).loc Cert.ProjAIdeal.main_arg5)
      ∧ m' ((c.tc : Thread Cert.ProjAReferenceIdeal.nD Cert.ProjAReferenceIdeal.τ).loc Cert.ProjAReferenceIdeal.main_arg6) = m ((c.tc : Thread Cert.ProjAIdeal.nD Cert.ProjAIdeal.τ).loc Cert.ProjAIdeal.main_arg6)
      ∧ m' ((c.tc : Thread Cert.ProjAReferenceIdeal.nD Cert.ProjAReferenceIdeal.τ).loc Cert.ProjAReferenceIdeal.main_arg7) = m ((c.tc : Thread Cert.ProjAIdeal.nD Cert.ProjAIdeal.τ).loc Cert.ProjAIdeal.main_arg7)) →
    ∃ (v0 : (c : Dev Cert.ProjAIdeal.nD) → Buf (Elt Ideal) ((c.tc : Thread Cert.ProjAIdeal.nD Cert.ProjAIdeal.τ).loc Cert.ProjAIdeal.main_v6_0)) (v1 : (c : Dev Cert.ProjAIdeal.nD) → Buf (Elt Ideal) ((c.tc : Thread Cert.ProjAIdeal.nD Cert.ProjAIdeal.τ).loc Cert.ProjAIdeal.main_v6_1)) (v2 : (c : Dev Cert.ProjAIdeal.nD) → Buf (Elt Ideal) ((c.tc : Thread Cert.ProjAIdeal.nD Cert.ProjAIdeal.τ).loc Cert.ProjAIdeal.main_v6_2)) (v3 : (c : Dev Cert.ProjAIdeal.nD) → Buf (Elt Ideal) ((c.tc : Thread Cert.ProjAIdeal.nD Cert.ProjAIdeal.τ).loc Cert.ProjAIdeal.main_v6_3)) (v4 : (c : Dev Cert.ProjAIdeal.nD) → Buf (Elt Ideal) ((c.tc : Thread Cert.ProjAIdeal.nD Cert.ProjAIdeal.τ).loc Cert.ProjAIdeal.main_v6_4)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v6_0) = v0 c
          ∧ r.2.mem ((c.tc : Thread Cert.ProjAIdeal.nD Cert.ProjAIdeal.τ).loc Cert.ProjAIdeal.main_v6_1) = v1 c
          ∧ r.2.mem ((c.tc : Thread Cert.ProjAIdeal.nD Cert.ProjAIdeal.τ).loc Cert.ProjAIdeal.main_v6_2) = v2 c
          ∧ r.2.mem ((c.tc : Thread Cert.ProjAIdeal.nD Cert.ProjAIdeal.τ).loc Cert.ProjAIdeal.main_v6_3) = v3 c
          ∧ r.2.mem ((c.tc : Thread Cert.ProjAIdeal.nD Cert.ProjAIdeal.τ).loc Cert.ProjAIdeal.main_v6_4) = v4 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
          ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5)
          ∧ r.2.mem ((c.tc : Thread Cert.ProjAIdeal.nD Cert.ProjAIdeal.τ).loc Cert.ProjAIdeal.main_arg6) = m ((c.tc : Thread Cert.ProjAIdeal.nD Cert.ProjAIdeal.τ).loc Cert.ProjAIdeal.main_arg6)
          ∧ r.2.mem ((c.tc : Thread Cert.ProjAIdeal.nD Cert.ProjAIdeal.τ).loc Cert.ProjAIdeal.main_arg7) = m ((c.tc : Thread Cert.ProjAIdeal.nD Cert.ProjAIdeal.τ).loc Cert.ProjAIdeal.main_arg7))
      ∧ θ_run (Cert.ProjAReferenceIdeal.defs (F := Ideal)) (onTc (τ := Cert.ProjAReferenceIdeal.τ) (Cert.ProjAReferenceIdeal.main (F := Ideal))) ⟨m', fun _ => 0, g'⟩ (fun r => ∀ c : Dev Cert.ProjAReferenceIdeal.nD,
          r.2.mem ((c.tc : Thread Cert.ProjAReferenceIdeal.nD Cert.ProjAReferenceIdeal.τ).loc Cert.ProjAReferenceIdeal.main_v63) = v0 c
          ∧ r.2.mem ((c.tc : Thread Cert.ProjAReferenceIdeal.nD Cert.ProjAReferenceIdeal.τ).loc Cert.ProjAReferenceIdeal.main_v64) = v1 c
          ∧ r.2.mem ((c.tc : Thread Cert.ProjAReferenceIdeal.nD Cert.ProjAReferenceIdeal.τ).loc Cert.ProjAReferenceIdeal.main_v68) = v2 c
          ∧ r.2.mem ((c.tc : Thread Cert.ProjAReferenceIdeal.nD Cert.ProjAReferenceIdeal.τ).loc Cert.ProjAReferenceIdeal.main_v72) = v3 c
          ∧ r.2.mem ((c.tc : Thread Cert.ProjAReferenceIdeal.nD Cert.ProjAReferenceIdeal.τ).loc Cert.ProjAReferenceIdeal.main_v76) = v4 c
          ∧ r.2.mem ((c.tc : Thread Cert.ProjAReferenceIdeal.nD Cert.ProjAReferenceIdeal.τ).loc Cert.ProjAReferenceIdeal.main_arg0) = m' ((c.tc : Thread Cert.ProjAReferenceIdeal.nD Cert.ProjAReferenceIdeal.τ).loc Cert.ProjAReferenceIdeal.main_arg0)
          ∧ r.2.mem ((c.tc : Thread Cert.ProjAReferenceIdeal.nD Cert.ProjAReferenceIdeal.τ).loc Cert.ProjAReferenceIdeal.main_arg1) = m' ((c.tc : Thread Cert.ProjAReferenceIdeal.nD Cert.ProjAReferenceIdeal.τ).loc Cert.ProjAReferenceIdeal.main_arg1)
          ∧ r.2.mem ((c.tc : Thread Cert.ProjAReferenceIdeal.nD Cert.ProjAReferenceIdeal.τ).loc Cert.ProjAReferenceIdeal.main_arg2) = m' ((c.tc : Thread Cert.ProjAReferenceIdeal.nD Cert.ProjAReferenceIdeal.τ).loc Cert.ProjAReferenceIdeal.main_arg2)
          ∧ r.2.mem ((c.tc : Thread Cert.ProjAReferenceIdeal.nD Cert.ProjAReferenceIdeal.τ).loc Cert.ProjAReferenceIdeal.main_arg3) = m' ((c.tc : Thread Cert.ProjAReferenceIdeal.nD Cert.ProjAReferenceIdeal.τ).loc Cert.ProjAReferenceIdeal.main_arg3)
          ∧ r.2.mem ((c.tc : Thread Cert.ProjAReferenceIdeal.nD Cert.ProjAReferenceIdeal.τ).loc Cert.ProjAReferenceIdeal.main_arg4) = m' ((c.tc : Thread Cert.ProjAReferenceIdeal.nD Cert.ProjAReferenceIdeal.τ).loc Cert.ProjAReferenceIdeal.main_arg4)
          ∧ r.2.mem ((c.tc : Thread Cert.ProjAReferenceIdeal.nD Cert.ProjAReferenceIdeal.τ).loc Cert.ProjAReferenceIdeal.main_arg5) = m' ((c.tc : Thread Cert.ProjAReferenceIdeal.nD Cert.ProjAReferenceIdeal.τ).loc Cert.ProjAReferenceIdeal.main_arg5)
          ∧ r.2.mem ((c.tc : Thread Cert.ProjAReferenceIdeal.nD Cert.ProjAReferenceIdeal.τ).loc Cert.ProjAReferenceIdeal.main_arg6) = m' ((c.tc : Thread Cert.ProjAReferenceIdeal.nD Cert.ProjAReferenceIdeal.τ).loc Cert.ProjAReferenceIdeal.main_arg6)
          ∧ r.2.mem ((c.tc : Thread Cert.ProjAReferenceIdeal.nD Cert.ProjAReferenceIdeal.τ).loc Cert.ProjAReferenceIdeal.main_arg7) = m' ((c.tc : Thread Cert.ProjAReferenceIdeal.nD Cert.ProjAReferenceIdeal.τ).loc Cert.ProjAReferenceIdeal.main_arg7))

def preserves_ProjD_ProjDIdeal : Prop :=
  True

def algebraic_ProjDIdeal_ProjDReferenceIdeal [hProjDIdeal : Cert.ProjDIdeal.Facts] [hProjDReferenceIdeal : Cert.ProjDReferenceIdeal.Facts] : Prop :=
  ∀ (m : (ℓ : Loc Cert.ProjDIdeal.nD Cert.ProjDIdeal.τ Cert.ProjDIdeal.sig) → Buf (Elt Ideal) ℓ) (g : Dev Cert.ProjDIdeal.nD → PrngReg)
    (m' : (ℓ : Loc Cert.ProjDReferenceIdeal.nD Cert.ProjDReferenceIdeal.τ Cert.ProjDReferenceIdeal.sig) → Buf (Elt Ideal) ℓ) (g' : Dev Cert.ProjDReferenceIdeal.nD → PrngReg), Pre_ProjDIdeal m →
    (∀ c : Dev Cert.ProjDIdeal.nD,
      m' ((c.tc : Thread Cert.ProjDReferenceIdeal.nD Cert.ProjDReferenceIdeal.τ).loc Cert.ProjDReferenceIdeal.main_arg0) = m ((c.tc : Thread Cert.ProjDIdeal.nD Cert.ProjDIdeal.τ).loc Cert.ProjDIdeal.main_arg0)
      ∧ m' ((c.tc : Thread Cert.ProjDReferenceIdeal.nD Cert.ProjDReferenceIdeal.τ).loc Cert.ProjDReferenceIdeal.main_arg1) = m ((c.tc : Thread Cert.ProjDIdeal.nD Cert.ProjDIdeal.τ).loc Cert.ProjDIdeal.main_arg1)
      ∧ m' ((c.tc : Thread Cert.ProjDReferenceIdeal.nD Cert.ProjDReferenceIdeal.τ).loc Cert.ProjDReferenceIdeal.main_arg2) = m ((c.tc : Thread Cert.ProjDIdeal.nD Cert.ProjDIdeal.τ).loc Cert.ProjDIdeal.main_arg2)
      ∧ m' ((c.tc : Thread Cert.ProjDReferenceIdeal.nD Cert.ProjDReferenceIdeal.τ).loc Cert.ProjDReferenceIdeal.main_arg3) = m ((c.tc : Thread Cert.ProjDIdeal.nD Cert.ProjDIdeal.τ).loc Cert.ProjDIdeal.main_arg3)
      ∧ m' ((c.tc : Thread Cert.ProjDReferenceIdeal.nD Cert.ProjDReferenceIdeal.τ).loc Cert.ProjDReferenceIdeal.main_arg4) = m ((c.tc : Thread Cert.ProjDIdeal.nD Cert.ProjDIdeal.τ).loc Cert.ProjDIdeal.main_arg4)) →
    ∃ (v0 : (c : Dev Cert.ProjDIdeal.nD) → Buf (Elt Ideal) ((c.tc : Thread Cert.ProjDIdeal.nD Cert.ProjDIdeal.τ).loc Cert.ProjDIdeal.main_v7_0)) (v1 : (c : Dev Cert.ProjDIdeal.nD) → Buf (Elt Ideal) ((c.tc : Thread Cert.ProjDIdeal.nD Cert.ProjDIdeal.τ).loc Cert.ProjDIdeal.main_v7_1)),
      θ_run (Cert.ProjDIdeal.defs (F := Ideal)) (onTc (τ := Cert.ProjDIdeal.τ) (Cert.ProjDIdeal.main (F := Ideal))) ⟨m, fun _ => 0, g⟩ (fun r => ∀ c : Dev Cert.ProjDIdeal.nD,
          r.2.mem ((c.tc : Thread Cert.ProjDIdeal.nD Cert.ProjDIdeal.τ).loc Cert.ProjDIdeal.main_v7_0) = v0 c
          ∧ r.2.mem ((c.tc : Thread Cert.ProjDIdeal.nD Cert.ProjDIdeal.τ).loc Cert.ProjDIdeal.main_v7_1) = v1 c
          ∧ r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
          ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1)
          ∧ r.2.mem ((c.tc : Thread Cert.ProjDIdeal.nD Cert.ProjDIdeal.τ).loc Cert.ProjDIdeal.main_arg2) = m ((c.tc : Thread Cert.ProjDIdeal.nD Cert.ProjDIdeal.τ).loc Cert.ProjDIdeal.main_arg2)
          ∧ r.2.mem ((c.tc : Thread Cert.ProjDIdeal.nD Cert.ProjDIdeal.τ).loc Cert.ProjDIdeal.main_arg3) = m ((c.tc : Thread Cert.ProjDIdeal.nD Cert.ProjDIdeal.τ).loc Cert.ProjDIdeal.main_arg3)
          ∧ r.2.mem ((c.tc : Thread Cert.ProjDIdeal.nD Cert.ProjDIdeal.τ).loc Cert.ProjDIdeal.main_arg4) = m ((c.tc : Thread Cert.ProjDIdeal.nD Cert.ProjDIdeal.τ).loc Cert.ProjDIdeal.main_arg4))
      ∧ θ_run (Cert.ProjDReferenceIdeal.defs (F := Ideal)) (onTc (τ := Cert.ProjDReferenceIdeal.τ) (Cert.ProjDReferenceIdeal.main (F := Ideal))) ⟨m', fun _ => 0, g'⟩ (fun r => ∀ c : Dev Cert.ProjDReferenceIdeal.nD,
          r.2.mem ((c.tc : Thread Cert.ProjDReferenceIdeal.nD Cert.ProjDReferenceIdeal.τ).loc Cert.ProjDReferenceIdeal.main_v63) = v0 c
          ∧ r.2.mem ((c.tc : Thread Cert.ProjDReferenceIdeal.nD Cert.ProjDReferenceIdeal.τ).loc Cert.ProjDReferenceIdeal.main_v64) = v1 c
          ∧ r.2.mem ((c.tc : Thread Cert.ProjDReferenceIdeal.nD Cert.ProjDReferenceIdeal.τ).loc Cert.ProjDReferenceIdeal.main_arg0) = m' ((c.tc : Thread Cert.ProjDReferenceIdeal.nD Cert.ProjDReferenceIdeal.τ).loc Cert.ProjDReferenceIdeal.main_arg0)
          ∧ r.2.mem ((c.tc : Thread Cert.ProjDReferenceIdeal.nD Cert.ProjDReferenceIdeal.τ).loc Cert.ProjDReferenceIdeal.main_arg1) = m' ((c.tc : Thread Cert.ProjDReferenceIdeal.nD Cert.ProjDReferenceIdeal.τ).loc Cert.ProjDReferenceIdeal.main_arg1)
          ∧ r.2.mem ((c.tc : Thread Cert.ProjDReferenceIdeal.nD Cert.ProjDReferenceIdeal.τ).loc Cert.ProjDReferenceIdeal.main_arg2) = m' ((c.tc : Thread Cert.ProjDReferenceIdeal.nD Cert.ProjDReferenceIdeal.τ).loc Cert.ProjDReferenceIdeal.main_arg2)
          ∧ r.2.mem ((c.tc : Thread Cert.ProjDReferenceIdeal.nD Cert.ProjDReferenceIdeal.τ).loc Cert.ProjDReferenceIdeal.main_arg3) = m' ((c.tc : Thread Cert.ProjDReferenceIdeal.nD Cert.ProjDReferenceIdeal.τ).loc Cert.ProjDReferenceIdeal.main_arg3)
          ∧ r.2.mem ((c.tc : Thread Cert.ProjDReferenceIdeal.nD Cert.ProjDReferenceIdeal.τ).loc Cert.ProjDReferenceIdeal.main_arg4) = m' ((c.tc : Thread Cert.ProjDReferenceIdeal.nD Cert.ProjDReferenceIdeal.τ).loc Cert.ProjDReferenceIdeal.main_arg4))

def Claim : Prop :=
  ∃ (hMlp : Cert.Mlp.Facts) (hMlpIdeal : Cert.MlpIdeal.Facts) (hMlpReferenceIdeal : Cert.MlpReferenceIdeal.Facts) (hMlpA : Cert.MlpA.Facts) (hMlpAIdeal : Cert.MlpAIdeal.Facts) (hMlpAReferenceIdeal : Cert.MlpAReferenceIdeal.Facts) (hMlpB : Cert.MlpB.Facts) (hMlpBIdeal : Cert.MlpBIdeal.Facts) (hMlpBReferenceIdeal : Cert.MlpBReferenceIdeal.Facts) (hMlpC : Cert.MlpC.Facts) (hMlpCIdeal : Cert.MlpCIdeal.Facts) (hMlpCReferenceIdeal : Cert.MlpCReferenceIdeal.Facts) (hProjB : Cert.ProjB.Facts) (hProjBIdeal : Cert.ProjBIdeal.Facts) (hProjBReferenceIdeal : Cert.ProjBReferenceIdeal.Facts) (hProjC : Cert.ProjC.Facts) (hProjCIdeal : Cert.ProjCIdeal.Facts) (hProjCReferenceIdeal : Cert.ProjCReferenceIdeal.Facts) (hOutProj : Cert.OutProj.Facts) (hOutProjIdeal : Cert.OutProjIdeal.Facts) (hOutProjReferenceIdeal : Cert.OutProjReferenceIdeal.Facts) (hSsdOut : Cert.SsdOut.Facts) (hSsdOutIdeal : Cert.SsdOutIdeal.Facts) (hSsdOutReferenceIdeal : Cert.SsdOutReferenceIdeal.Facts) (hSsdOutLast : Cert.SsdOutLast.Facts) (hSsdOutLastIdeal : Cert.SsdOutLastIdeal.Facts) (hSsdOutLastReferenceIdeal : Cert.SsdOutLastReferenceIdeal.Facts) (hProjA : Cert.ProjA.Facts) (hProjAIdeal : Cert.ProjAIdeal.Facts) (hProjAReferenceIdeal : Cert.ProjAReferenceIdeal.Facts) (hProjD : Cert.ProjD.Facts) (hProjDIdeal : Cert.ProjDIdeal.Facts) (hProjDReferenceIdeal : Cert.ProjDReferenceIdeal.Facts),
    quiescent_Mlp (hMlp := hMlp)
    ∧ quiescent_MlpIdeal (hMlpIdeal := hMlpIdeal)
    ∧ quiescent_MlpReferenceIdeal (hMlpReferenceIdeal := hMlpReferenceIdeal)
    ∧ quiescent_MlpA (hMlpA := hMlpA)
    ∧ quiescent_MlpAIdeal (hMlpAIdeal := hMlpAIdeal)
    ∧ quiescent_MlpAReferenceIdeal (hMlpAReferenceIdeal := hMlpAReferenceIdeal)
    ∧ quiescent_MlpB (hMlpB := hMlpB)
    ∧ quiescent_MlpBIdeal (hMlpBIdeal := hMlpBIdeal)
    ∧ quiescent_MlpBReferenceIdeal (hMlpBReferenceIdeal := hMlpBReferenceIdeal)
    ∧ quiescent_MlpC (hMlpC := hMlpC)
    ∧ quiescent_MlpCIdeal (hMlpCIdeal := hMlpCIdeal)
    ∧ quiescent_MlpCReferenceIdeal (hMlpCReferenceIdeal := hMlpCReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_ProjC (hProjC := hProjC)
    ∧ quiescent_ProjCIdeal (hProjCIdeal := hProjCIdeal)
    ∧ quiescent_ProjCReferenceIdeal (hProjCReferenceIdeal := hProjCReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_SsdOutLast (hSsdOutLast := hSsdOutLast)
    ∧ quiescent_SsdOutLastIdeal (hSsdOutLastIdeal := hSsdOutLastIdeal)
    ∧ quiescent_SsdOutLastReferenceIdeal (hSsdOutLastReferenceIdeal := hSsdOutLastReferenceIdeal)
    ∧ quiescent_ProjA (hProjA := hProjA)
    ∧ quiescent_ProjAIdeal (hProjAIdeal := hProjAIdeal)
    ∧ quiescent_ProjAReferenceIdeal (hProjAReferenceIdeal := hProjAReferenceIdeal)
    ∧ quiescent_ProjD (hProjD := hProjD)
    ∧ quiescent_ProjDIdeal (hProjDIdeal := hProjDIdeal)
    ∧ quiescent_ProjDReferenceIdeal (hProjDReferenceIdeal := hProjDReferenceIdeal)
    ∧ preserves_Mlp_MlpIdeal
    ∧ algebraic_MlpIdeal_MlpReferenceIdeal (hMlpIdeal := hMlpIdeal) (hMlpReferenceIdeal := hMlpReferenceIdeal)
    ∧ preserves_MlpA_MlpAIdeal
    ∧ algebraic_MlpAIdeal_MlpAReferenceIdeal (hMlpAIdeal := hMlpAIdeal) (hMlpAReferenceIdeal := hMlpAReferenceIdeal)
    ∧ preserves_MlpB_MlpBIdeal
    ∧ algebraic_MlpBIdeal_MlpBReferenceIdeal (hMlpBIdeal := hMlpBIdeal) (hMlpBReferenceIdeal := hMlpBReferenceIdeal)
    ∧ preserves_MlpC_MlpCIdeal
    ∧ algebraic_MlpCIdeal_MlpCReferenceIdeal (hMlpCIdeal := hMlpCIdeal) (hMlpCReferenceIdeal := hMlpCReferenceIdeal)
    ∧ preserves_ProjB_ProjBIdeal
    ∧ algebraic_ProjBIdeal_ProjBReferenceIdeal (hProjBIdeal := hProjBIdeal) (hProjBReferenceIdeal := hProjBReferenceIdeal)
    ∧ preserves_ProjC_ProjCIdeal
    ∧ algebraic_ProjCIdeal_ProjCReferenceIdeal (hProjCIdeal := hProjCIdeal) (hProjCReferenceIdeal := hProjCReferenceIdeal)
    ∧ preserves_OutProj_OutProjIdeal
    ∧ algebraic_OutProjIdeal_OutProjReferenceIdeal (hOutProjIdeal := hOutProjIdeal) (hOutProjReferenceIdeal := hOutProjReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_SsdOutLast_SsdOutLastIdeal
    ∧ algebraic_SsdOutLastIdeal_SsdOutLastReferenceIdeal (hSsdOutLastIdeal := hSsdOutLastIdeal) (hSsdOutLastReferenceIdeal := hSsdOutLastReferenceIdeal)
    ∧ preserves_ProjA_ProjAIdeal
    ∧ algebraic_ProjAIdeal_ProjAReferenceIdeal (hProjAIdeal := hProjAIdeal) (hProjAReferenceIdeal := hProjAReferenceIdeal)
    ∧ preserves_ProjD_ProjDIdeal
    ∧ algebraic_ProjDIdeal_ProjDReferenceIdeal (hProjDIdeal := hProjDIdeal) (hProjDReferenceIdeal := hProjDReferenceIdeal)
-- ==== Mlp.lean ====
abbrev S2x4096x2048 : Shape := ⟨3, ![2, 4096, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S3x6x2048 : Shape := ⟨3, ![3, 6, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S512x2048 : Shape := ⟨2, ![512, 2048]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S6x2048 : Shape := ⟨2, ![6, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 15
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S3x12288, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S3x6x2048, .f32⟩
  | .hbm, ⟨8, _⟩ => ⟨S2048x8192, .bf16⟩
  | .hbm, ⟨9, _⟩ => ⟨S1x2048x8192, .bf16⟩
  | .hbm, ⟨10, _⟩ => ⟨S8192x2048, .bf16⟩
  | .hbm, ⟨11, _⟩ => ⟨S1x8192x2048, .bf16⟩
  | .hbm, ⟨12, _⟩ => ⟨S1x2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpReferenceIdeal.lean ====
abbrev S2x4096x2048 : Shape := ⟨3, ![2, 4096, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S2x12288 : Shape := ⟨2, ![2, 12288]⟩
abbrev S2x1x12288 : Shape := ⟨3, ![2, 1, 12288]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S3x12288, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S2x12288, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x8192, .f32⟩
  | .hbm, ⟨38, _⟩ => ⟨S_, .f32⟩
  | .hbm, ⟨39, _⟩ => ⟨S2x4096x8192, .f32⟩
  | .hbm, ⟨40, _⟩ => ⟨S2x4096x8192, .f32⟩
  | .hbm, ⟨41, _⟩ => ⟨S2x4096x8192, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== MlpA.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048x3072 : Shape := ⟨3, ![1, 2048, 3072]⟩
abbrev S1x2048x2048 : Shape := ⟨3, ![1, 2048, 2048]⟩
abbrev S8x2048 : Shape := ⟨2, ![8, 2048]⟩
abbrev S4x2048x12288 : Shape := ⟨3, ![4, 2048, 12288]⟩
abbrev S4x12288 : Shape := ⟨2, ![4, 12288]⟩
abbrev S512x2048 : Shape := ⟨2, ![512, 2048]⟩
abbrev S8704x2048 : Shape := ⟨2, ![8704, 2048]⟩
abbrev S3x6x2048 : Shape := ⟨3, ![3, 6, 2048]⟩
abbrev S1x2048x8192 : Shape := ⟨3, ![1, 2048, 8192]⟩
abbrev S1x8192x2048 : Shape := ⟨3, ![1, 8192, 2048]⟩
abbrev S4x1x12288 : Shape := ⟨3, ![4, 1, 12288]⟩
abbrev S1x2048 : Shape := ⟨2, ![1, 2048]⟩
abbrev S1x8x12288 : Shape := ⟨3, ![1, 8, 12288]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S1x16x8192 : Shape := ⟨3, ![1, 16, 8192]⟩
abbrev S1x64x2048 : Shape := ⟨3, ![1, 64, 2048]⟩
abbrev S1x16x3072 : Shape := ⟨3, ![1, 16, 3072]⟩
abbrev S1x16x2048 : Shape := ⟨3, ![1, 16, 2048]⟩
abbrev S1x2048x128 : Shape := ⟨3, ![1, 2048, 128]⟩
abbrev S1x1x128 : Shape := ⟨3, ![1, 1, 128]⟩
abbrev S1x8x128 : Shape := ⟨3, ![1, 8, 128]⟩
abbrev S6x2048 : Shape := ⟨2, ![6, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x128 : Shape := ⟨2, ![2048, 128]⟩
abbrev S8x128 : Shape := ⟨2, ![8, 128]⟩
abbrev S1x128 : Shape := ⟨2, ![1, 128]⟩

abbrev nBuf : Space → Nat
  | .hbm => 31
  | .vmem => 37
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x2048x8192, .f32⟩
  | .hbm, ⟨8, _⟩ => ⟨S4x8192x2048, .f32⟩
  | .hbm, ⟨9, _⟩ => ⟨S1x2048x3072, .f32⟩
  | .hbm, ⟨10, _⟩ => ⟨S1x2048x2048, .f32⟩
  | .hbm, ⟨11, _⟩ => ⟨S8x2048, .f32⟩
  | .hbm, ⟨12, _⟩ => ⟨S4x2048x12288, .f32⟩
  | .hbm, ⟨13, _⟩ => ⟨S4x12288, .f32⟩
  | .hbm, ⟨14, _⟩ => ⟨S8192x2048, .f32⟩
  | .hbm, ⟨15, _⟩ => ⟨S512x2048, .f32⟩
  | .hbm, ⟨16, _⟩ => ⟨S8704x2048, .f32⟩
  | .hbm, ⟨17, _⟩ => ⟨S3x6x2048, .f32⟩
  | .hbm, ⟨18, _⟩ => ⟨S2048x8192, .bf16⟩
  | .hbm, ⟨19, _⟩ => ⟨S1x2048x8192, .bf16⟩
  | .hbm, ⟨20, _⟩ => ⟨S8192x2048, .bf16⟩
  | .hbm, ⟨21, _⟩ => ⟨S1x8192x2048, .bf16⟩
  | .hbm, ⟨22, _⟩ => ⟨S4x1x12288, .f32⟩
  | .hbm, ⟨23, _⟩ => ⟨S1x2048, .f32⟩
  | .hbm, ⟨24, _⟩ => ⟨S1x2048, .f32⟩
  | .hbm, ⟨25, _⟩ => ⟨S8704x2048, .f32⟩
  | .hbm, ⟨26, _⟩ => ⟨S1x2048x8192, .bf16⟩
  | .hbm, ⟨27, _⟩ => ⟨S1x8192x2048, .bf16⟩
  | .hbm, ⟨28, _⟩ => ⟨S1x2048x3072, .bf16⟩
  | .hbm, ⟨29, _⟩ => ⟨S1x2048x2048, .bf16⟩
  | .hbm, ⟨30, _⟩ => ⟨S1x8x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048, .f32⟩
  | .local _ .vmem, ⟨10, _⟩ => ⟨S1x16x8192, .f32⟩
  | .local _ .vmem, ⟨11, _⟩ => ⟨S1x16x8192, .f32⟩
  | .local _ .vmem, ⟨12, _⟩ => ⟨S1x64x2048, .f32⟩
  | .local _ .vmem, ⟨13, _⟩ => ⟨S1x64x2048, .f32⟩
  | .local _ .vmem, ⟨14, _⟩ => ⟨S1x16x3072, .f32⟩
  | .local _ .vmem, ⟨15, _⟩ => ⟨S1x16x3072, .f32⟩
  | .local _ .vmem, ⟨16, _⟩ => ⟨S1x16x2048, .f32⟩
  | .local _ .vmem, ⟨17, _⟩ => ⟨S1x16x2048, .f32⟩
  | .local _ .vmem, ⟨18, _⟩ => ⟨S8x2048, .f32⟩
  | .local _ .vmem, ⟨19, _⟩ => ⟨S1x2048x128, .f32⟩
  | .local _ .vmem, ⟨20, _⟩ => ⟨S1x2048x128, .f32⟩
  | .local _ .vmem, ⟨21, _⟩ => ⟨S1x1x128, .f32⟩
  | .local _ .vmem, ⟨22, _⟩ => ⟨S1x1x128, .f32⟩
  | .local _ .vmem, ⟨23, _⟩ => ⟨S512x2048, .f32⟩
  | .local _ .vmem, ⟨24, _⟩ => ⟨S512x2048, .f32⟩
  | .local _ .vmem, ⟨25, _⟩ => ⟨S1x16x8192, .bf16⟩
  | .local _ .vmem, ⟨26, _⟩ => ⟨S1x16x8192, .bf16⟩
  | .local _ .vmem, ⟨27, _⟩ => ⟨S1x64x2048, .bf16⟩
  | .local _ .vmem, ⟨28, _⟩ => ⟨S1x64x2048, .bf16⟩
  | .local _ .vmem, ⟨29, _⟩ => ⟨S1x16x3072, .bf16⟩
  | .local _ .vmem, ⟨30, _⟩ => ⟨S1x16x3072, .bf16⟩
  | .local _ .vmem, ⟨31, _⟩ => ⟨S1x16x2048, .bf16⟩
  | .local _ .vmem, ⟨32, _⟩ => ⟨S1x16x2048, .bf16⟩
  | .local _ .vmem, ⟨33, _⟩ => ⟨S1x8x128, .f32⟩
  | .local _ .vmem, ⟨34, _⟩ => ⟨S1x8x128, .f32⟩
  | .local _ .vmem, ⟨35, _⟩ => ⟨S512x2048, .bf16⟩
  | .local _ .vmem, ⟨36, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_52 : BitVec 32 := 0#32
  let v52 : BitVec 1 := Scalar.cmpi .ne v51 c0_i32_52
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c1_i32 : BitVec 32 := 1#32
  let c0_i32 : BitVec 32 := 0#32
  let c0_i32_0 : BitVec 32 := 0#32
  ![c1_i32.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c1_i32 : BitVec 32 := 1#32
  let c0_i32 : BitVec 32 := 0#32
  let c0_i32_0 : BitVec 32 := 0#32
  ![c1_i32.toNat, c0_i32.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c0_i32 : BitVec 32 := 0#32
  let c0_i32_0 : BitVec 32 := 0#32
  let c0_i32_1 : BitVec 32 := 0#32
  ![c0_i32.toNat, c0_i32_0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MlpAIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048x3072 : Shape := ⟨3, ![1, 2048, 3072]⟩
abbrev S1x2048x2048 : Shape := ⟨3, ![1, 2048, 2048]⟩
abbrev S8x2048 : Shape := ⟨2, ![8, 2048]⟩
abbrev S4x2048x12288 : Shape := ⟨3, ![4, 2048, 12288]⟩
abbrev S4x12288 : Shape := ⟨2, ![4, 12288]⟩
abbrev S512x2048 : Shape := ⟨2, ![512, 2048]⟩
abbrev S8704x2048 : Shape := ⟨2, ![8704, 2048]⟩
abbrev S3x6x2048 : Shape := ⟨3, ![3, 6, 2048]⟩
abbrev S1x2048x8192 : Shape := ⟨3, ![1, 2048, 8192]⟩
abbrev S1x8192x2048 : Shape := ⟨3, ![1, 8192, 2048]⟩
abbrev S4x1x12288 : Shape := ⟨3, ![4, 1, 12288]⟩
abbrev S1x2048 : Shape := ⟨2, ![1, 2048]⟩
abbrev S1x8x12288 : Shape := ⟨3, ![1, 8, 12288]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S1x16x8192 : Shape := ⟨3, ![1, 16, 8192]⟩
abbrev S1x64x2048 : Shape := ⟨3, ![1, 64, 2048]⟩
abbrev S1x16x3072 : Shape := ⟨3, ![1, 16, 3072]⟩
abbrev S1x16x2048 : Shape := ⟨3, ![1, 16, 2048]⟩
abbrev S1x2048x128 : Shape := ⟨3, ![1, 2048, 128]⟩
abbrev S1x1x128 : Shape := ⟨3, ![1, 1, 128]⟩
abbrev S1x8x128 : Shape := ⟨3, ![1, 8, 128]⟩
abbrev S6x2048 : Shape := ⟨2, ![6, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x128 : Shape := ⟨2, ![2048, 128]⟩
abbrev S8x128 : Shape := ⟨2, ![8, 128]⟩
abbrev S1x128 : Shape := ⟨2, ![1, 128]⟩

abbrev nBuf : Space → Nat
  | .hbm => 31
  | .vmem => 37
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x2048x8192, .f32⟩
  | .hbm, ⟨8, _⟩ => ⟨S4x8192x2048, .f32⟩
  | .hbm, ⟨9, _⟩ => ⟨S1x2048x3072, .f32⟩
  | .hbm, ⟨10, _⟩ => ⟨S1x2048x2048, .f32⟩
  | .hbm, ⟨11, _⟩ => ⟨S8x2048, .f32⟩
  | .hbm, ⟨12, _⟩ => ⟨S4x2048x12288, .f32⟩
  | .hbm, ⟨13, _⟩ => ⟨S4x12288, .f32⟩
  | .hbm, ⟨14, _⟩ => ⟨S8192x2048, .f32⟩
  | .hbm, ⟨15, _⟩ => ⟨S512x2048, .f32⟩
  | .hbm, ⟨16, _⟩ => ⟨S8704x2048, .f32⟩
  | .hbm, ⟨17, _⟩ => ⟨S3x6x2048, .f32⟩
  | .hbm, ⟨18, _⟩ => ⟨S2048x8192, .bf16⟩
  | .hbm, ⟨19, _⟩ => ⟨S1x2048x8192, .bf16⟩
  | .hbm, ⟨20, _⟩ => ⟨S8192x2048, .bf16⟩
  | .hbm, ⟨21, _⟩ => ⟨S1x8192x2048, .bf16⟩
  | .hbm, ⟨22, _⟩ => ⟨S4x1x12288, .f32⟩
  | .hbm, ⟨23, _⟩ => ⟨S1x2048, .f32⟩
  | .hbm, ⟨24, _⟩ => ⟨S1x2048, .f32⟩
  | .hbm, ⟨25, _⟩ => ⟨S8704x2048, .f32⟩
  | .hbm, ⟨26, _⟩ => ⟨S1x2048x8192, .bf16⟩
  | .hbm, ⟨27, _⟩ => ⟨S1x8192x2048, .bf16⟩
  | .hbm, ⟨28, _⟩ => ⟨S1x2048x3072, .bf16⟩
  | .hbm, ⟨29, _⟩ => ⟨S1x2048x2048, .bf16⟩
  | .hbm, ⟨30, _⟩ => ⟨S1x8x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048, .f32⟩
  | .local _ .vmem, ⟨10, _⟩ => ⟨S1x16x8192, .f32⟩
  | .local _ .vmem, ⟨11, _⟩ => ⟨S1x16x8192, .f32⟩
  | .local _ .vmem, ⟨12, _⟩ => ⟨S1x64x2048, .f32⟩
  | .local _ .vmem, ⟨13, _⟩ => ⟨S1x64x2048, .f32⟩
  | .local _ .vmem, ⟨14, _⟩ => ⟨S1x16x3072, .f32⟩
  | .local _ .vmem, ⟨15, _⟩ => ⟨S1x16x3072, .f32⟩
  | .local _ .vmem, ⟨16, _⟩ => ⟨S1x16x2048, .f32⟩
  | .local _ .vmem, ⟨17, _⟩ => ⟨S1x16x2048, .f32⟩
  | .local _ .vmem, ⟨18, _⟩ => ⟨S8x2048, .f32⟩
  | .local _ .vmem, ⟨19, _⟩ => ⟨S1x2048x128, .f32⟩
  | .local _ .vmem, ⟨20, _⟩ => ⟨S1x2048x128, .f32⟩
  | .local _ .vmem, ⟨21, _⟩ => ⟨S1x1x128, .f32⟩
  | .local _ .vmem, ⟨22, _⟩ => ⟨S1x1x128, .f32⟩
  | .local _ .vmem, ⟨23, _⟩ => ⟨S512x2048, .f32⟩
  | .local _ .vmem, ⟨24, _⟩ => ⟨S512x2048, .f32⟩
  | .local _ .vmem, ⟨25, _⟩ => ⟨S1x16x8192, .bf16⟩
  | .local _ .vmem, ⟨26, _⟩ => ⟨S1x16x8192, .bf16⟩
  | .local _ .vmem, ⟨27, _⟩ => ⟨S1x64x2048, .bf16⟩
  | .local _ .vmem, ⟨28, _⟩ => ⟨S1x64x2048, .bf16⟩
  | .local _ .vmem, ⟨29, _⟩ => ⟨S1x16x3072, .bf16⟩
  | .local _ .vmem, ⟨30, _⟩ => ⟨S1x16x3072, .bf16⟩
  | .local _ .vmem, ⟨31, _⟩ => ⟨S1x16x2048, .bf16⟩
  | .local _ .vmem, ⟨32, _⟩ => ⟨S1x16x2048, .bf16⟩
  | .local _ .vmem, ⟨33, _⟩ => ⟨S1x8x128, .f32⟩
  | .local _ .vmem, ⟨34, _⟩ => ⟨S1x8x128, .f32⟩
  | .local _ .vmem, ⟨35, _⟩ => ⟨S512x2048, .bf16⟩
  | .local _ .vmem, ⟨36, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_52 : BitVec 32 := 0#32
  let v52 : BitVec 1 := Scalar.cmpi .ne v51 c0_i32_52
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c1_i32 : BitVec 32 := 1#32
  let c0_i32 : BitVec 32 := 0#32
  let c0_i32_0 : BitVec 32 := 0#32
  ![c1_i32.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c1_i32 : BitVec 32 := 1#32
  let c0_i32 : BitVec 32 := 0#32
  let c0_i32_0 : BitVec 32 := 0#32
  ![c1_i32.toNat, c0_i32.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c0_i32 : BitVec 32 := 0#32
  let c0_i32_0 : BitVec 32 := 0#32
  let c0_i32_1 : BitVec 32 := 0#32
  ![c0_i32.toNat, c0_i32_0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MlpAReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048x3072 : Shape := ⟨3, ![1, 2048, 3072]⟩
abbrev S1x2048x2048 : Shape := ⟨3, ![1, 2048, 2048]⟩
abbrev S8x2048 : Shape := ⟨2, ![8, 2048]⟩
abbrev S4x2048x12288 : Shape := ⟨3, ![4, 2048, 12288]⟩
abbrev S4x12288 : Shape := ⟨2, ![4, 12288]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩
abbrev S2x256 : Shape := ⟨2, ![2, 256]⟩
abbrev S2x256x1 : Shape := ⟨3, ![2, 256, 1]⟩
abbrev S2x256x8192 : Shape := ⟨3, ![2, 256, 8192]⟩
abbrev S1x2048x12288 : Shape := ⟨3, ![1, 2048, 12288]⟩
abbrev S2048x12288 : Shape := ⟨2, ![2048, 12288]⟩
abbrev S8x12288 : Shape := ⟨2, ![8, 12288]⟩
abbrev S512x2048 : Shape := ⟨2, ![512, 2048]⟩
abbrev S8704x2048 : Shape := ⟨2, ![8704, 2048]⟩
abbrev S1x2048x8192 : Shape := ⟨3, ![1, 2048, 8192]⟩
abbrev S1x8192x2048 : Shape := ⟨3, ![1, 8192, 2048]⟩
abbrev S2048x3072 : Shape := ⟨2, ![2048, 3072]⟩
abbrev S2048x2048 : Shape := ⟨2, ![2048, 2048]⟩
abbrev S1x8x12288 : Shape := ⟨3, ![1, 8, 12288]⟩

abbrev nBuf : Space → Nat
  | .hbm => 133
  | .vmem => 0
  | .smem => 0
  | _ => 0

abbrev hbmTy0_0 (i : Nat) : BufTy := match i % 128 with
  | 0 => ⟨S2x4096x2048, .f32⟩
  | 1 => ⟨S2x256x2048, .f32⟩
  | 2 => ⟨S2048, .f32⟩
  | 3 => ⟨S3x12288, .f32⟩
  | 4 => ⟨S2048x8192, .f32⟩
  | 5 => ⟨S8192x2048, .f32⟩
  | 6 => ⟨S2048, .f32⟩
  | 7 => ⟨S4x2048x8192, .f32⟩
  | 8 => ⟨S4x8192x2048, .f32⟩
  | 9 => ⟨S1x2048x3072, .f32⟩
  | 10 => ⟨S1x2048x2048, .f32⟩
  | 11 => ⟨S8x2048, .f32⟩
  | 12 => ⟨S4x2048x12288, .f32⟩
  | 13 => ⟨S4x12288, .f32⟩
  | 14 => ⟨S2x12288, .f32⟩
  | 15 => ⟨S2x1x12288, .f32⟩
  | 16 => ⟨S2x1x2048, .f32⟩
  | 17 => ⟨S2x1x2048, .f32⟩
  | 18 => ⟨S2x1x2048, .f32⟩
  | 19 => ⟨S2x1x2048, .f32⟩
  | 20 => ⟨S2x1x2048, .f32⟩
  | 21 => ⟨S2x1x2048, .f32⟩
  | 22 => ⟨S1x12288, .f32⟩
  | 23 => ⟨S12288, .f32⟩
  | 24 => ⟨S1x12288, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S2x4096x2048, .f32⟩
  | 32 => ⟨S_, .f32⟩
  | 33 => ⟨S2x4096, .f32⟩
  | 34 => ⟨S2x4096x1, .f32⟩
  | 35 => ⟨S_, .f32⟩
  | 36 => ⟨S2x4096x1, .f32⟩
  | 37 => ⟨S2x4096x1, .f32⟩
  | 38 => ⟨S_, .f32⟩
  | 39 => ⟨S2x4096x1, .f32⟩
  | 40 => ⟨S2x4096x1, .f32⟩
  | 41 => ⟨S2x4096x1, .f32⟩
  | 42 => ⟨S2x4096x2048, .f32⟩
  | 43 => ⟨S2x4096x2048, .f32⟩
  | 44 => ⟨S1x1x2048, .f32⟩
  | 45 => ⟨S2x4096x2048, .f32⟩
  | 46 => ⟨S2x4096x2048, .f32⟩
  | 47 => ⟨S_, .f32⟩
  | 48 => ⟨S2x1x2048, .f32⟩
  | 49 => ⟨S2x1x2048, .f32⟩
  | 50 => ⟨S2x4096x2048, .f32⟩
  | 51 => ⟨S2x4096x2048, .f32⟩
  | 52 => ⟨S2x4096x2048, .f32⟩
  | 53 => ⟨S2x4096x2048, .f32⟩
  | 54 => ⟨S2x4096x8192, .f32⟩
  | 55 => ⟨S_, .f32⟩
  | 56 => ⟨S2x4096x8192, .f32⟩
  | 57 => ⟨S2x4096x8192, .f32⟩
  | 58 => ⟨S2x4096x8192, .f32⟩
  | 59 => ⟨S2x4096x2048, .f32⟩
  | 60 => ⟨S2x4096x2048, .f32⟩
  | 61 => ⟨S2x4096x2048, .f32⟩
  | 62 => ⟨S2x4096x2048, .f32⟩
  | 63 => ⟨S2x256x2048, .f32⟩
  | 64 => ⟨S_, .f32⟩
  | 65 => ⟨S2x256, .f32⟩
  | 66 => ⟨S2x256x1, .f32⟩
  | 67 => ⟨S_, .f32⟩
  | 68 => ⟨S2x256x1, .f32⟩
  | 69 => ⟨S2x256x1, .f32⟩
  | 70 => ⟨S_, .f32⟩
  | 71 => ⟨S2x256x1, .f32⟩
  | 72 => ⟨S2x256x1, .f32⟩
  | 73 => ⟨S2x256x1, .f32⟩
  | 74 => ⟨S2x256x2048, .f32⟩
  | 75 => ⟨S2x256x2048, .f32⟩
  | 76 => ⟨S1x1x2048, .f32⟩
  | 77 => ⟨S2x256x2048, .f32⟩
  | 78 => ⟨S2x256x2048, .f32⟩
  | 79 => ⟨S_, .f32⟩
  | 80 => ⟨S1x2048, .f32⟩
  | 81 => ⟨S1x2048, .f32⟩
  | 82 => ⟨S1x1x2048, .f32⟩
  | 83 => ⟨S2x256x2048, .f32⟩
  | 84 => ⟨S2x256x2048, .f32⟩
  | 85 => ⟨S1x1x2048, .f32⟩
  | 86 => ⟨S2x256x2048, .f32⟩
  | 87 => ⟨S2x256x2048, .f32⟩
  | 88 => ⟨S2x256x8192, .f32⟩
  | 89 => ⟨S_, .f32⟩
  | 90 => ⟨S2x256x8192, .f32⟩
  | 91 => ⟨S2x256x8192, .f32⟩
  | 92 => ⟨S2x256x8192, .f32⟩
  | 93 => ⟨S2x256x2048, .f32⟩
  | 94 => ⟨S1x1x2048, .f32⟩
  | 95 => ⟨S2x256x2048, .f32⟩
  | 96 => ⟨S2x256x2048, .f32⟩
  | 97 => ⟨S2x256x2048, .f32⟩
  | 98 => ⟨S8x2048, .f32⟩
  | 99 => ⟨S8x2048, .f32⟩
  | 100 => ⟨S_, .f32⟩
  | 101 => ⟨S8x2048, .f32⟩
  | 102 => ⟨S8x2048, .f32⟩
  | 103 => ⟨S_, .f32⟩
  | 104 => ⟨S8x2048, .f32⟩
  | 105 => ⟨S8x2048, .f32⟩
  | 106 => ⟨S8x2048, .f32⟩
  | 107 => ⟨S1x2048x12288, .f32⟩
  | 108 => ⟨S2048x12288, .f32⟩
  | 109 => ⟨S8x12288, .f32⟩
  | 110 => ⟨S1x12288, .f32⟩
  | 111 => ⟨S12288, .f32⟩
  | 112 => ⟨S1x12288, .f32⟩
  | 113 => ⟨S8x12288, .f32⟩
  | 114 => ⟨S8x12288, .f32⟩
  | 115 => ⟨S8192x2048, .f32⟩
  | 116 => ⟨S512x2048, .f32⟩
  | 117 => ⟨S8704x2048, .f32⟩
  | 118 => ⟨S1x2048x8192, .f32⟩
  | 119 => ⟨S2048x8192, .f32⟩
  | 120 => ⟨S1x2048x8192, .f32⟩
  | 121 => ⟨S1x2048x8192, .bf16⟩
  | 122 => ⟨S1x8192x2048, .f32⟩
  | 123 => ⟨S8192x2048, .f32⟩
  | 124 => ⟨S1x8192x2048, .f32⟩
  | 125 => ⟨S1x8192x2048, .bf16⟩
  | 126 => ⟨S2048x3072, .f32⟩
  | 127 => ⟨S1x2048x3072, .f32⟩
  | _ => ⟨S2x4096x2048, .f32⟩

abbrev hbmTy0_1 (i : Nat) : BufTy := match i % 128 with
  | 0 => ⟨S1x2048x3072, .bf16⟩
  | 1 => ⟨S2048x2048, .f32⟩
  | 2 => ⟨S1x2048x2048, .f32⟩
  | 3 => ⟨S1x2048x2048, .bf16⟩
  | 4 => ⟨S1x8x12288, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== MlpB.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048x6144 : Shape := ⟨3, ![1, 2048, 6144]⟩
abbrev S1x2048x2048 : Shape := ⟨3, ![1, 2048, 2048]⟩
abbrev S8x2048 : Shape := ⟨2, ![8, 2048]⟩
abbrev S4x2048x12288 : Shape := ⟨3, ![4, 2048, 12288]⟩
abbrev S4x12288 : Shape := ⟨2, ![4, 12288]⟩
abbrev S512x2048 : Shape := ⟨2, ![512, 2048]⟩
abbrev S8704x2048 : Shape := ⟨2, ![8704, 2048]⟩
abbrev S3x6x2048 : Shape := ⟨3, ![3, 6, 2048]⟩
abbrev S1x2048x8192 : Shape := ⟨3, ![1, 2048, 8192]⟩
abbrev S1x8192x2048 : Shape := ⟨3, ![1, 8192, 2048]⟩
abbrev S4x1x12288 : Shape := ⟨3, ![4, 1, 12288]⟩
abbrev S1x2048 : Shape := ⟨2, ![1, 2048]⟩
abbrev S1x8x12288 : Shape := ⟨3, ![1, 8, 12288]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S1x16x8192 : Shape := ⟨3, ![1, 16, 8192]⟩
abbrev S1x64x2048 : Shape := ⟨3, ![1, 64, 2048]⟩
abbrev S1x16x6144 : Shape := ⟨3, ![1, 16, 6144]⟩
abbrev S1x16x2048 : Shape := ⟨3, ![1, 16, 2048]⟩
abbrev S1x2048x128 : Shape := ⟨3, ![1, 2048, 128]⟩
abbrev S1x1x128 : Shape := ⟨3, ![1, 1, 128]⟩
abbrev S1x8x128 : Shape := ⟨3, ![1, 8, 128]⟩
abbrev S6x2048 : Shape := ⟨2, ![6, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x128 : Shape := ⟨2, ![2048, 128]⟩
abbrev S8x128 : Shape := ⟨2, ![8, 128]⟩
abbrev S1x128 : Shape := ⟨2, ![1, 128]⟩

abbrev nBuf : Space → Nat
  | .hbm => 31
  | .vmem => 37
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x2048x8192, .f32⟩
  | .hbm, ⟨8, _⟩ => ⟨S4x8192x2048, .f32⟩
  | .hbm, ⟨9, _⟩ => ⟨S1x2048x6144, .f32⟩
  | .hbm, ⟨10, _⟩ => ⟨S1x2048x2048, .f32⟩
  | .hbm, ⟨11, _⟩ => ⟨S8x2048, .f32⟩
  | .hbm, ⟨12, _⟩ => ⟨S4x2048x12288, .f32⟩
  | .hbm, ⟨13, _⟩ => ⟨S4x12288, .f32⟩
  | .hbm, ⟨14, _⟩ => ⟨S8192x2048, .f32⟩
  | .hbm, ⟨15, _⟩ => ⟨S512x2048, .f32⟩
  | .hbm, ⟨16, _⟩ => ⟨S8704x2048, .f32⟩
  | .hbm, ⟨17, _⟩ => ⟨S3x6x2048, .f32⟩
  | .hbm, ⟨18, _⟩ => ⟨S2048x8192, .bf16⟩
  | .hbm, ⟨19, _⟩ => ⟨S1x2048x8192, .bf16⟩
  | .hbm, ⟨20, _⟩ => ⟨S8192x2048, .bf16⟩
  | .hbm, ⟨21, _⟩ => ⟨S1x8192x2048, .bf16⟩
  | .hbm, ⟨22, _⟩ => ⟨S4x1x12288, .f32⟩
  | .hbm, ⟨23, _⟩ => ⟨S1x2048, .f32⟩
  | .hbm, ⟨24, _⟩ => ⟨S1x2048, .f32⟩
  | .hbm, ⟨25, _⟩ => ⟨S8704x2048, .f32⟩
  | .hbm, ⟨26, _⟩ => ⟨S1x2048x8192, .bf16⟩
  | .hbm, ⟨27, _⟩ => ⟨S1x8192x2048, .bf16⟩
  | .hbm, ⟨28, _⟩ => ⟨S1x2048x6144, .bf16⟩
  | .hbm, ⟨29, _⟩ => ⟨S1x2048x2048, .bf16⟩
  | .hbm, ⟨30, _⟩ => ⟨S1x8x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048, .f32⟩
  | .local _ .vmem, ⟨10, _⟩ => ⟨S1x16x8192, .f32⟩
  | .local _ .vmem, ⟨11, _⟩ => ⟨S1x16x8192, .f32⟩
  | .local _ .vmem, ⟨12, _⟩ => ⟨S1x64x2048, .f32⟩
  | .local _ .vmem, ⟨13, _⟩ => ⟨S1x64x2048, .f32⟩
  | .local _ .vmem, ⟨14, _⟩ => ⟨S1x16x6144, .f32⟩
  | .local _ .vmem, ⟨15, _⟩ => ⟨S1x16x6144, .f32⟩
  | .local _ .vmem, ⟨16, _⟩ => ⟨S1x16x2048, .f32⟩
  | .local _ .vmem, ⟨17, _⟩ => ⟨S1x16x2048, .f32⟩
  | .local _ .vmem, ⟨18, _⟩ => ⟨S8x2048, .f32⟩
  | .local _ .vmem, ⟨19, _⟩ => ⟨S1x2048x128, .f32⟩
  | .local _ .vmem, ⟨20, _⟩ => ⟨S1x2048x128, .f32⟩
  | .local _ .vmem, ⟨21, _⟩ => ⟨S1x1x128, .f32⟩
  | .local _ .vmem, ⟨22, _⟩ => ⟨S1x1x128, .f32⟩
  | .local _ .vmem, ⟨23, _⟩ => ⟨S512x2048, .f32⟩
  | .local _ .vmem, ⟨24, _⟩ => ⟨S512x2048, .f32⟩
  | .local _ .vmem, ⟨25, _⟩ => ⟨S1x16x8192, .bf16⟩
  | .local _ .vmem, ⟨26, _⟩ => ⟨S1x16x8192, .bf16⟩
  | .local _ .vmem, ⟨27, _⟩ => ⟨S1x64x2048, .bf16⟩
  | .local _ .vmem, ⟨28, _⟩ => ⟨S1x64x2048, .bf16⟩
  | .local _ .vmem, ⟨29, _⟩ => ⟨S1x16x6144, .bf16⟩
  | .local _ .vmem, ⟨30, _⟩ => ⟨S1x16x6144, .bf16⟩
  | .local _ .vmem, ⟨31, _⟩ => ⟨S1x16x2048, .bf16⟩
  | .local _ .vmem, ⟨32, _⟩ => ⟨S1x16x2048, .bf16⟩
  | .local _ .vmem, ⟨33, _⟩ => ⟨S1x8x128, .f32⟩
  | .local _ .vmem, ⟨34, _⟩ => ⟨S1x8x128, .f32⟩
  | .local _ .vmem, ⟨35, _⟩ => ⟨S512x2048, .bf16⟩
  | .local _ .vmem, ⟨36, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_52 : BitVec 32 := 0#32
  let v52 : BitVec 1 := Scalar.cmpi .ne v51 c0_i32_52
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c2_i32 : BitVec 32 := 2#32
  let c0_i32 : BitVec 32 := 0#32
  let c0_i32_0 : BitVec 32 := 0#32
  ![c2_i32.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c2_i32 : BitVec 32 := 2#32
  let c0_i32 : BitVec 32 := 0#32
  let c0_i32_0 : BitVec 32 := 0#32
  ![c2_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c2_i32 : BitVec 32 := 2#32
  let c0_i32 : BitVec 32 := 0#32
  let c0_i32_0 : BitVec 32 := 0#32
  ![c2_i32.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c2_i32 : BitVec 32 := 2#32
  let c0_i32 : BitVec 32 := 0#32
  let c0_i32_0 : BitVec 32 := 0#32
  ![c2_i32.toNat, c0_i32.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c0_i32 : BitVec 32 := 0#32
  let c0_i32_0 : BitVec 32 := 0#32
  let c0_i32_1 : BitVec 32 := 0#32
  ![c0_i32.toNat, c0_i32_0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x6144 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MlpBIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048x6144 : Shape := ⟨3, ![1, 2048, 6144]⟩
abbrev S1x2048x2048 : Shape := ⟨3, ![1, 2048, 2048]⟩
abbrev S8x2048 : Shape := ⟨2, ![8, 2048]⟩
abbrev S4x2048x12288 : Shape := ⟨3, ![4, 2048, 12288]⟩
abbrev S4x12288 : Shape := ⟨2, ![4, 12288]⟩
abbrev S512x2048 : Shape := ⟨2, ![512, 2048]⟩
abbrev S8704x2048 : Shape := ⟨2, ![8704, 2048]⟩
abbrev S3x6x2048 : Shape := ⟨3, ![3, 6, 2048]⟩
abbrev S1x2048x8192 : Shape := ⟨3, ![1, 2048, 8192]⟩
abbrev S1x8192x2048 : Shape := ⟨3, ![1, 8192, 2048]⟩
abbrev S4x1x12288 : Shape := ⟨3, ![4, 1, 12288]⟩
abbrev S1x2048 : Shape := ⟨2, ![1, 2048]⟩
abbrev S1x8x12288 : Shape := ⟨3, ![1, 8, 12288]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S1x16x8192 : Shape := ⟨3, ![1, 16, 8192]⟩
abbrev S1x64x2048 : Shape := ⟨3, ![1, 64, 2048]⟩
abbrev S1x16x6144 : Shape := ⟨3, ![1, 16, 6144]⟩
abbrev S1x16x2048 : Shape := ⟨3, ![1, 16, 2048]⟩
abbrev S1x2048x128 : Shape := ⟨3, ![1, 2048, 128]⟩
abbrev S1x1x128 : Shape := ⟨3, ![1, 1, 128]⟩
abbrev S1x8x128 : Shape := ⟨3, ![1, 8, 128]⟩
abbrev S6x2048 : Shape := ⟨2, ![6, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x128 : Shape := ⟨2, ![2048, 128]⟩
abbrev S8x128 : Shape := ⟨2, ![8, 128]⟩
abbrev S1x128 : Shape := ⟨2, ![1, 128]⟩

abbrev nBuf : Space → Nat
  | .hbm => 31
  | .vmem => 37
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x2048x8192, .f32⟩
  | .hbm, ⟨8, _⟩ => ⟨S4x8192x2048, .f32⟩
  | .hbm, ⟨9, _⟩ => ⟨S1x2048x6144, .f32⟩
  | .hbm, ⟨10, _⟩ => ⟨S1x2048x2048, .f32⟩
  | .hbm, ⟨11, _⟩ => ⟨S8x2048, .f32⟩
  | .hbm, ⟨12, _⟩ => ⟨S4x2048x12288, .f32⟩
  | .hbm, ⟨13, _⟩ => ⟨S4x12288, .f32⟩
  | .hbm, ⟨14, _⟩ => ⟨S8192x2048, .f32⟩
  | .hbm, ⟨15, _⟩ => ⟨S512x2048, .f32⟩
  | .hbm, ⟨16, _⟩ => ⟨S8704x2048, .f32⟩
  | .hbm, ⟨17, _⟩ => ⟨S3x6x2048, .f32⟩
  | .hbm, ⟨18, _⟩ => ⟨S2048x8192, .bf16⟩
  | .hbm, ⟨19, _⟩ => ⟨S1x2048x8192, .bf16⟩
  | .hbm, ⟨20, _⟩ => ⟨S8192x2048, .bf16⟩
  | .hbm, ⟨21, _⟩ => ⟨S1x8192x2048, .bf16⟩
  | .hbm, ⟨22, _⟩ => ⟨S4x1x12288, .f32⟩
  | .hbm, ⟨23, _⟩ => ⟨S1x2048, .f32⟩
  | .hbm, ⟨24, _⟩ => ⟨S1x2048, .f32⟩
  | .hbm, ⟨25, _⟩ => ⟨S8704x2048, .f32⟩
  | .hbm, ⟨26, _⟩ => ⟨S1x2048x8192, .bf16⟩
  | .hbm, ⟨27, _⟩ => ⟨S1x8192x2048, .bf16⟩
  | .hbm, ⟨28, _⟩ => ⟨S1x2048x6144, .bf16⟩
  | .hbm, ⟨29, _⟩ => ⟨S1x2048x2048, .bf16⟩
  | .hbm, ⟨30, _⟩ => ⟨S1x8x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048, .f32⟩
  | .local _ .vmem, ⟨10, _⟩ => ⟨S1x16x8192, .f32⟩
  | .local _ .vmem, ⟨11, _⟩ => ⟨S1x16x8192, .f32⟩
  | .local _ .vmem, ⟨12, _⟩ => ⟨S1x64x2048, .f32⟩
  | .local _ .vmem, ⟨13, _⟩ => ⟨S1x64x2048, .f32⟩
  | .local _ .vmem, ⟨14, _⟩ => ⟨S1x16x6144, .f32⟩
  | .local _ .vmem, ⟨15, _⟩ => ⟨S1x16x6144, .f32⟩
  | .local _ .vmem, ⟨16, _⟩ => ⟨S1x16x2048, .f32⟩
  | .local _ .vmem, ⟨17, _⟩ => ⟨S1x16x2048, .f32⟩
  | .local _ .vmem, ⟨18, _⟩ => ⟨S8x2048, .f32⟩
  | .local _ .vmem, ⟨19, _⟩ => ⟨S1x2048x128, .f32⟩
  | .local _ .vmem, ⟨20, _⟩ => ⟨S1x2048x128, .f32⟩
  | .local _ .vmem, ⟨21, _⟩ => ⟨S1x1x128, .f32⟩
  | .local _ .vmem, ⟨22, _⟩ => ⟨S1x1x128, .f32⟩
  | .local _ .vmem, ⟨23, _⟩ => ⟨S512x2048, .f32⟩
  | .local _ .vmem, ⟨24, _⟩ => ⟨S512x2048, .f32⟩
  | .local _ .vmem, ⟨25, _⟩ => ⟨S1x16x8192, .bf16⟩
  | .local _ .vmem, ⟨26, _⟩ => ⟨S1x16x8192, .bf16⟩
  | .local _ .vmem, ⟨27, _⟩ => ⟨S1x64x2048, .bf16⟩
  | .local _ .vmem, ⟨28, _⟩ => ⟨S1x64x2048, .bf16⟩
  | .local _ .vmem, ⟨29, _⟩ => ⟨S1x16x6144, .bf16⟩
  | .local _ .vmem, ⟨30, _⟩ => ⟨S1x16x6144, .bf16⟩
  | .local _ .vmem, ⟨31, _⟩ => ⟨S1x16x2048, .bf16⟩
  | .local _ .vmem, ⟨32, _⟩ => ⟨S1x16x2048, .bf16⟩
  | .local _ .vmem, ⟨33, _⟩ => ⟨S1x8x128, .f32⟩
  | .local _ .vmem, ⟨34, _⟩ => ⟨S1x8x128, .f32⟩
  | .local _ .vmem, ⟨35, _⟩ => ⟨S512x2048, .bf16⟩
  | .local _ .vmem, ⟨36, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_52 : BitVec 32 := 0#32
  let v52 : BitVec 1 := Scalar.cmpi .ne v51 c0_i32_52
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c2_i32 : BitVec 32 := 2#32
  let c0_i32 : BitVec 32 := 0#32
  let c0_i32_0 : BitVec 32 := 0#32
  ![c2_i32.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c2_i32 : BitVec 32 := 2#32
  let c0_i32 : BitVec 32 := 0#32
  let c0_i32_0 : BitVec 32 := 0#32
  ![c2_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c2_i32 : BitVec 32 := 2#32
  let c0_i32 : BitVec 32 := 0#32
  let c0_i32_0 : BitVec 32 := 0#32
  ![c2_i32.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c2_i32 : BitVec 32 := 2#32
  let c0_i32 : BitVec 32 := 0#32
  let c0_i32_0 : BitVec 32 := 0#32
  ![c2_i32.toNat, c0_i32.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c0_i32 : BitVec 32 := 0#32
  let c0_i32_0 : BitVec 32 := 0#32
  let c0_i32_1 : BitVec 32 := 0#32
  ![c0_i32.toNat, c0_i32_0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x6144 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MlpBReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048x6144 : Shape := ⟨3, ![1, 2048, 6144]⟩
abbrev S1x2048x2048 : Shape := ⟨3, ![1, 2048, 2048]⟩
abbrev S8x2048 : Shape := ⟨2, ![8, 2048]⟩
abbrev S4x2048x12288 : Shape := ⟨3, ![4, 2048, 12288]⟩
abbrev S4x12288 : Shape := ⟨2, ![4, 12288]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩
abbrev S2x256 : Shape := ⟨2, ![2, 256]⟩
abbrev S2x256x1 : Shape := ⟨3, ![2, 256, 1]⟩
abbrev S2x256x8192 : Shape := ⟨3, ![2, 256, 8192]⟩
abbrev S1x2048x12288 : Shape := ⟨3, ![1, 2048, 12288]⟩
abbrev S2048x12288 : Shape := ⟨2, ![2048, 12288]⟩
abbrev S8x12288 : Shape := ⟨2, ![8, 12288]⟩
abbrev S512x2048 : Shape := ⟨2, ![512, 2048]⟩
abbrev S8704x2048 : Shape := ⟨2, ![8704, 2048]⟩
abbrev S1x2048x8192 : Shape := ⟨3, ![1, 2048, 8192]⟩
abbrev S1x8192x2048 : Shape := ⟨3, ![1, 8192, 2048]⟩
abbrev S2048x6144 : Shape := ⟨2, ![2048, 6144]⟩
abbrev S2048x2048 : Shape := ⟨2, ![2048, 2048]⟩
abbrev S1x8x12288 : Shape := ⟨3, ![1, 8, 12288]⟩

abbrev nBuf : Space → Nat
  | .hbm => 133
  | .vmem => 0
  | .smem => 0
  | _ => 0

abbrev hbmTy0_0 (i : Nat) : BufTy := match i % 128 with
  | 0 => ⟨S2x4096x2048, .f32⟩
  | 1 => ⟨S2x256x2048, .f32⟩
  | 2 => ⟨S2048, .f32⟩
  | 3 => ⟨S3x12288, .f32⟩
  | 4 => ⟨S2048x8192, .f32⟩
  | 5 => ⟨S8192x2048, .f32⟩
  | 6 => ⟨S2048, .f32⟩
  | 7 => ⟨S4x2048x8192, .f32⟩
  | 8 => ⟨S4x8192x2048, .f32⟩
  | 9 => ⟨S1x2048x6144, .f32⟩
  | 10 => ⟨S1x2048x2048, .f32⟩
  | 11 => ⟨S8x2048, .f32⟩
  | 12 => ⟨S4x2048x12288, .f32⟩
  | 13 => ⟨S4x12288, .f32⟩
  | 14 => ⟨S2x12288, .f32⟩
  | 15 => ⟨S2x1x12288, .f32⟩
  | 16 => ⟨S2x1x2048, .f32⟩
  | 17 => ⟨S2x1x2048, .f32⟩
  | 18 => ⟨S2x1x2048, .f32⟩
  | 19 => ⟨S2x1x2048, .f32⟩
  | 20 => ⟨S2x1x2048, .f32⟩
  | 21 => ⟨S2x1x2048, .f32⟩
  | 22 => ⟨S1x12288, .f32⟩
  | 23 => ⟨S12288, .f32⟩
  | 24 => ⟨S1x12288, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S2x4096x2048, .f32⟩
  | 32 => ⟨S_, .f32⟩
  | 33 => ⟨S2x4096, .f32⟩
  | 34 => ⟨S2x4096x1, .f32⟩
  | 35 => ⟨S_, .f32⟩
  | 36 => ⟨S2x4096x1, .f32⟩
  | 37 => ⟨S2x4096x1, .f32⟩
  | 38 => ⟨S_, .f32⟩
  | 39 => ⟨S2x4096x1, .f32⟩
  | 40 => ⟨S2x4096x1, .f32⟩
  | 41 => ⟨S2x4096x1, .f32⟩
  | 42 => ⟨S2x4096x2048, .f32⟩
  | 43 => ⟨S2x4096x2048, .f32⟩
  | 44 => ⟨S1x1x2048, .f32⟩
  | 45 => ⟨S2x4096x2048, .f32⟩
  | 46 => ⟨S2x4096x2048, .f32⟩
  | 47 => ⟨S_, .f32⟩
  | 48 => ⟨S2x1x2048, .f32⟩
  | 49 => ⟨S2x1x2048, .f32⟩
  | 50 => ⟨S2x4096x2048, .f32⟩
  | 51 => ⟨S2x4096x2048, .f32⟩
  | 52 => ⟨S2x4096x2048, .f32⟩
  | 53 => ⟨S2x4096x2048, .f32⟩
  | 54 => ⟨S2x4096x8192, .f32⟩
  | 55 => ⟨S_, .f32⟩
  | 56 => ⟨S2x4096x8192, .f32⟩
  | 57 => ⟨S2x4096x8192, .f32⟩
  | 58 => ⟨S2x4096x8192, .f32⟩
  | 59 => ⟨S2x4096x2048, .f32⟩
  | 60 => ⟨S2x4096x2048, .f32⟩
  | 61 => ⟨S2x4096x2048, .f32⟩
  | 62 => ⟨S2x4096x2048, .f32⟩
  | 63 => ⟨S2x256x2048, .f32⟩
  | 64 => ⟨S_, .f32⟩
  | 65 => ⟨S2x256, .f32⟩
  | 66 => ⟨S2x256x1, .f32⟩
  | 67 => ⟨S_, .f32⟩
  | 68 => ⟨S2x256x1, .f32⟩
  | 69 => ⟨S2x256x1, .f32⟩
  | 70 => ⟨S_, .f32⟩
  | 71 => ⟨S2x256x1, .f32⟩
  | 72 => ⟨S2x256x1, .f32⟩
  | 73 => ⟨S2x256x1, .f32⟩
  | 74 => ⟨S2x256x2048, .f32⟩
  | 75 => ⟨S2x256x2048, .f32⟩
  | 76 => ⟨S1x1x2048, .f32⟩
  | 77 => ⟨S2x256x2048, .f32⟩
  | 78 => ⟨S2x256x2048, .f32⟩
  | 79 => ⟨S_, .f32⟩
  | 80 => ⟨S1x2048, .f32⟩
  | 81 => ⟨S1x2048, .f32⟩
  | 82 => ⟨S1x1x2048, .f32⟩
  | 83 => ⟨S2x256x2048, .f32⟩
  | 84 => ⟨S2x256x2048, .f32⟩
  | 85 => ⟨S1x1x2048, .f32⟩
  | 86 => ⟨S2x256x2048, .f32⟩
  | 87 => ⟨S2x256x2048, .f32⟩
  | 88 => ⟨S2x256x8192, .f32⟩
  | 89 => ⟨S_, .f32⟩
  | 90 => ⟨S2x256x8192, .f32⟩
  | 91 => ⟨S2x256x8192, .f32⟩
  | 92 => ⟨S2x256x8192, .f32⟩
  | 93 => ⟨S2x256x2048, .f32⟩
  | 94 => ⟨S1x1x2048, .f32⟩
  | 95 => ⟨S2x256x2048, .f32⟩
  | 96 => ⟨S2x256x2048, .f32⟩
  | 97 => ⟨S2x256x2048, .f32⟩
  | 98 => ⟨S8x2048, .f32⟩
  | 99 => ⟨S8x2048, .f32⟩
  | 100 => ⟨S_, .f32⟩
  | 101 => ⟨S8x2048, .f32⟩
  | 102 => ⟨S8x2048, .f32⟩
  | 103 => ⟨S_, .f32⟩
  | 104 => ⟨S8x2048, .f32⟩
  | 105 => ⟨S8x2048, .f32⟩
  | 106 => ⟨S8x2048, .f32⟩
  | 107 => ⟨S1x2048x12288, .f32⟩
  | 108 => ⟨S2048x12288, .f32⟩
  | 109 => ⟨S8x12288, .f32⟩
  | 110 => ⟨S1x12288, .f32⟩
  | 111 => ⟨S12288, .f32⟩
  | 112 => ⟨S1x12288, .f32⟩
  | 113 => ⟨S8x12288, .f32⟩
  | 114 => ⟨S8x12288, .f32⟩
  | 115 => ⟨S8192x2048, .f32⟩
  | 116 => ⟨S512x2048, .f32⟩
  | 117 => ⟨S8704x2048, .f32⟩
  | 118 => ⟨S1x2048x8192, .f32⟩
  | 119 => ⟨S2048x8192, .f32⟩
  | 120 => ⟨S1x2048x8192, .f32⟩
  | 121 => ⟨S1x2048x8192, .bf16⟩
  | 122 => ⟨S1x8192x2048, .f32⟩
  | 123 => ⟨S8192x2048, .f32⟩
  | 124 => ⟨S1x8192x2048, .f32⟩
  | 125 => ⟨S1x8192x2048, .bf16⟩
  | 126 => ⟨S2048x6144, .f32⟩
  | 127 => ⟨S1x2048x6144, .f32⟩
  | _ => ⟨S2x4096x2048, .f32⟩

abbrev hbmTy0_1 (i : Nat) : BufTy := match i % 128 with
  | 0 => ⟨S1x2048x6144, .bf16⟩
  | 1 => ⟨S2048x2048, .f32⟩
  | 2 => ⟨S1x2048x2048, .f32⟩
  | 3 => ⟨S1x2048x2048, .bf16⟩
  | 4 => ⟨S1x8x12288, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== MlpC.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S2x2048x10368 : Shape := ⟨3, ![2, 2048, 10368]⟩
abbrev S8x2048 : Shape := ⟨2, ![8, 2048]⟩
abbrev S4x2048x12288 : Shape := ⟨3, ![4, 2048, 12288]⟩
abbrev S4x12288 : Shape := ⟨2, ![4, 12288]⟩
abbrev S512x2048 : Shape := ⟨2, ![512, 2048]⟩
abbrev S8704x2048 : Shape := ⟨2, ![8704, 2048]⟩
abbrev S3x6x2048 : Shape := ⟨3, ![3, 6, 2048]⟩
abbrev S1x2048x8192 : Shape := ⟨3, ![1, 2048, 8192]⟩
abbrev S1x8192x2048 : Shape := ⟨3, ![1, 8192, 2048]⟩
abbrev S4x1x12288 : Shape := ⟨3, ![4, 1, 12288]⟩
abbrev S1x2048 : Shape := ⟨2, ![1, 2048]⟩
abbrev S1x2048x10368 : Shape := ⟨3, ![1, 2048, 10368]⟩
abbrev S1x4096x2048 : Shape := ⟨3, ![1, 4096, 2048]⟩
abbrev S1x8x12288 : Shape := ⟨3, ![1, 8, 12288]⟩
abbrev S1x6x2048 : Shape := ⟨3, ![1, 6, 2048]⟩
abbrev S1x2048x1024 : Shape := ⟨3, ![1, 2048, 1024]⟩
abbrev S1x1024x2048 : Shape := ⟨3, ![1, 1024, 2048]⟩
abbrev S1x16x8192 : Shape := ⟨3, ![1, 16, 8192]⟩
abbrev S1x64x2048 : Shape := ⟨3, ![1, 64, 2048]⟩
abbrev S1x16x10368 : Shape := ⟨3, ![1, 16, 10368]⟩
abbrev S1x32x2048 : Shape := ⟨3, ![1, 32, 2048]⟩
abbrev S1x2048x128 : Shape := ⟨3, ![1, 2048, 128]⟩
abbrev S1x1x128 : Shape := ⟨3, ![1, 1, 128]⟩
abbrev S1x8x128 : Shape := ⟨3, ![1, 8, 128]⟩
abbrev S6x2048 : Shape := ⟨2, ![6, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x128 : Shape := ⟨2, ![2048, 128]⟩
abbrev S8x128 : Shape := ⟨2, ![8, 128]⟩
abbrev S1x128 : Shape := ⟨2, ![1, 128]⟩

abbrev nBuf : Space → Nat
  | .hbm => 31
  | .vmem => 37
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S4x2048x8192, .f32⟩
  | .hbm, ⟨8, _⟩ => ⟨S4x8192x2048, .f32⟩
  | .hbm, ⟨9, _⟩ => ⟨S2x2048x10368, .f32⟩
  | .hbm, ⟨10, _⟩ => ⟨S2x4096x2048, .f32⟩
  | .hbm, ⟨11, _⟩ => ⟨S8x2048, .f32⟩
  | .hbm, ⟨12, _⟩ => ⟨S4x2048x12288, .f32⟩
  | .hbm, ⟨13, _⟩ => ⟨S4x12288, .f32⟩
  | .hbm, ⟨14, _⟩ => ⟨S8192x2048, .f32⟩
  | .hbm, ⟨15, _⟩ => ⟨S512x2048, .f32⟩
  | .hbm, ⟨16, _⟩ => ⟨S8704x2048, .f32⟩
  | .hbm, ⟨17, _⟩ => ⟨S3x6x2048, .f32⟩
  | .hbm, ⟨18, _⟩ => ⟨S2048x8192, .bf16⟩
  | .hbm, ⟨19, _⟩ => ⟨S1x2048x8192, .bf16⟩
  | .hbm, ⟨20, _⟩ => ⟨S8192x2048, .bf16⟩
  | .hbm, ⟨21, _⟩ => ⟨S1x8192x2048, .bf16⟩
  | .hbm, ⟨22, _⟩ => ⟨S4x1x12288, .f32⟩
  | .hbm, ⟨23, _⟩ => ⟨S1x2048, .f32⟩
  | .hbm, ⟨24, _⟩ => ⟨S1x2048, .f32⟩
  | .hbm, ⟨25, _⟩ => ⟨S8704x2048, .f32⟩
  | .hbm, ⟨26, _⟩ => ⟨S1x2048x8192, .bf16⟩
  | .hbm, ⟨27, _⟩ => ⟨S1x8192x2048, .bf16⟩
  | .hbm, ⟨28, _⟩ => ⟨S1x2048x10368, .bf16⟩
  | .hbm, ⟨29, _⟩ => ⟨S1x4096x2048, .bf16⟩
  | .hbm, ⟨30, _⟩ => ⟨S1x8x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048, .f32⟩
  | .local _ .vmem, ⟨10, _⟩ => ⟨S1x16x8192, .f32⟩
  | .local _ .vmem, ⟨11, _⟩ => ⟨S1x16x8192, .f32⟩
  | .local _ .vmem, ⟨12, _⟩ => ⟨S1x64x2048, .f32⟩
  | .local _ .vmem, ⟨13, _⟩ => ⟨S1x64x2048, .f32⟩
  | .local _ .vmem, ⟨14, _⟩ => ⟨S1x16x10368, .f32⟩
  | .local _ .vmem, ⟨15, _⟩ => ⟨S1x16x10368, .f32⟩
  | .local _ .vmem, ⟨16, _⟩ => ⟨S1x32x2048, .f32⟩
  | .local _ .vmem, ⟨17, _⟩ => ⟨S1x32x2048, .f32⟩
  | .local _ .vmem, ⟨18, _⟩ => ⟨S8x2048, .f32⟩
  | .local _ .vmem, ⟨19, _⟩ => ⟨S1x2048x128, .f32⟩
  | .local _ .vmem, ⟨20, _⟩ => ⟨S1x2048x128, .f32⟩
  | .local _ .vmem, ⟨21, _⟩ => ⟨S1x1x128, .f32⟩
  | .local _ .vmem, ⟨22, _⟩ => ⟨S1x1x128, .f32⟩
  | .local _ .vmem, ⟨23, _⟩ => ⟨S512x2048, .f32⟩
  | .local _ .vmem, ⟨24, _⟩ => ⟨S512x2048, .f32⟩
  | .local _ .vmem, ⟨25, _⟩ => ⟨S1x16x8192, .bf16⟩
  | .local _ .vmem, ⟨26, _⟩ => ⟨S1x16x8192, .bf16⟩
  | .local _ .vmem, ⟨27, _⟩ => ⟨S1x64x2048, .bf16⟩
  | .local _ .vmem, ⟨28, _⟩ => ⟨S1x64x2048, .bf16⟩
  | .local _ .vmem, ⟨29, _⟩ => ⟨S1x16x10368, .bf16⟩
  | .local _ .vmem, ⟨30, _⟩ => ⟨S1x16x10368, .bf16⟩
  | .local _ .vmem, ⟨31, _⟩ => ⟨S1x32x2048, .bf16⟩
  | .local _ .vmem, ⟨32, _⟩ => ⟨S1x32x2048, .bf16⟩
  | .local _ .vmem, ⟨33, _⟩ => ⟨S1x8x128, .f32⟩
  | .local _ .vmem, ⟨34, _⟩ => ⟨S1x8x128, .f32⟩
  | .local _ .vmem, ⟨35, _⟩ => ⟨S512x2048, .bf16⟩
  | .local _ .vmem, ⟨36, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_52 : BitVec 32 := 0#32
  let v52 : BitVec 1 := Scalar.cmpi .ne v51 c0_i32_52
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c3_i32 : BitVec 32 := 3#32
  let c0_i32 : BitVec 32 := 0#32
  let c0_i32_0 : BitVec 32 := 0#32
  ![c3_i32.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c3_i32 : BitVec 32 := 3#32
  let c0_i32 : BitVec 32 := 0#32
  let c0_i32_0 : BitVec 32 := 0#32
  ![c3_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c3_i32 : BitVec 32 := 3#32
  let c0_i32 : BitVec 32 := 0#32
  let c0_i32_0 : BitVec 32 := 0#32
  ![c3_i32.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c3_i32 : BitVec 32 := 3#32
  let c0_i32 : BitVec 32 := 0#32
  let c0_i32_0 : BitVec 32 := 0#32
  ![c3_i32.toNat, c0_i32.toNat, v2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c95_i32 : BitVec 32 := 95#32
  let v2 : BitVec 32 := Scalar.minsi v1 c95_i32
  let c0_i32 : BitVec 32 := 0#32
  let c0_i32_0 : BitVec 32 := 0#32
  let c0_i32_1 : BitVec 32 := 0#32
  ![c0_i32.toNat, c0_i32_0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x10368 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x10368 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MlpCReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x8192 : Shape := ⟨2, ![2048, 8192]⟩
abbrev S8192x2048 : Shape := ⟨2, ![8192, 2048]⟩
abbrev S4x2048x8192 : Shape := ⟨3, ![4, 2048, 8192]⟩
abbrev S4x8192x2048 : Shape := ⟨3, ![4, 8192, 2048]⟩
abbrev S2x2048x10368 : Shape := ⟨3, ![2, 2048, 10368]⟩
abbrev S8x2048 : Shape := ⟨2, ![8, 2048]⟩
abbrev S4x2048x12288 : Shape := ⟨3, ![4, 2048, 12288]⟩
abbrev S4x12288 : Shape := ⟨2, ![4, 12288]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩
abbrev S2x256 : Shape := ⟨2, ![2, 256]⟩
abbrev S2x256x1 : Shape := ⟨3, ![2, 256, 1]⟩
abbrev S2x256x8192 : Shape := ⟨3, ![2, 256, 8192]⟩
abbrev S1x2048x12288 : Shape := ⟨3, ![1, 2048, 12288]⟩
abbrev S2048x12288 : Shape := ⟨2, ![2048, 12288]⟩
abbrev S8x12288 : Shape := ⟨2, ![8, 12288]⟩
abbrev S512x2048 : Shape := ⟨2, ![512, 2048]⟩
abbrev S8704x2048 : Shape := ⟨2, ![8704, 2048]⟩
abbrev S1x2048x8192 : Shape := ⟨3, ![1, 2048, 8192]⟩
abbrev S1x8192x2048 : Shape := ⟨3, ![1, 8192, 2048]⟩
abbrev S1x2048x10368 : Shape := ⟨3, ![1, 2048, 10368]⟩
abbrev S2048x10368 : Shape := ⟨2, ![2048, 10368]⟩
abbrev S1x4096x2048 : Shape := ⟨3, ![1, 4096, 2048]⟩
abbrev S4096x2048 : Shape := ⟨2, ![4096, 2048]⟩
abbrev S1x8x12288 : Shape := ⟨3, ![1, 8, 12288]⟩

abbrev nBuf : Space → Nat
  | .hbm => 135
  | .vmem => 0
  | .smem => 0
  | _ => 0

abbrev hbmTy0_0 (i : Nat) : BufTy := match i % 128 with
  | 0 => ⟨S2x4096x2048, .f32⟩
  | 1 => ⟨S2x256x2048, .f32⟩
  | 2 => ⟨S2048, .f32⟩
  | 3 => ⟨S3x12288, .f32⟩
  | 4 => ⟨S2048x8192, .f32⟩
  | 5 => ⟨S8192x2048, .f32⟩
  | 6 => ⟨S2048, .f32⟩
  | 7 => ⟨S4x2048x8192, .f32⟩
  | 8 => ⟨S4x8192x2048, .f32⟩
  | 9 => ⟨S2x2048x10368, .f32⟩
  | 10 => ⟨S2x4096x2048, .f32⟩
  | 11 => ⟨S8x2048, .f32⟩
  | 12 => ⟨S4x2048x12288, .f32⟩
  | 13 => ⟨S4x12288, .f32⟩
  | 14 => ⟨S2x12288, .f32⟩
  | 15 => ⟨S2x1x12288, .f32⟩
  | 16 => ⟨S2x1x2048, .f32⟩
  | 17 => ⟨S2x1x2048, .f32⟩
  | 18 => ⟨S2x1x2048, .f32⟩
  | 19 => ⟨S2x1x2048, .f32⟩
  | 20 => ⟨S2x1x2048, .f32⟩
  | 21 => ⟨S2x1x2048, .f32⟩
  | 22 => ⟨S1x12288, .f32⟩
  | 23 => ⟨S12288, .f32⟩
  | 24 => ⟨S1x12288, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S2x4096x2048, .f32⟩
  | 32 => ⟨S_, .f32⟩
  | 33 => ⟨S2x4096, .f32⟩
  | 34 => ⟨S2x4096x1, .f32⟩
  | 35 => ⟨S_, .f32⟩
  | 36 => ⟨S2x4096x1, .f32⟩
  | 37 => ⟨S2x4096x1, .f32⟩
  | 38 => ⟨S_, .f32⟩
  | 39 => ⟨S2x4096x1, .f32⟩
  | 40 => ⟨S2x4096x1, .f32⟩
  | 41 => ⟨S2x4096x1, .f32⟩
  | 42 => ⟨S2x4096x2048, .f32⟩
  | 43 => ⟨S2x4096x2048, .f32⟩
  | 44 => ⟨S1x1x2048, .f32⟩
  | 45 => ⟨S2x4096x2048, .f32⟩
  | 46 => ⟨S2x4096x2048, .f32⟩
  | 47 => ⟨S_, .f32⟩
  | 48 => ⟨S2x1x2048, .f32⟩
  | 49 => ⟨S2x1x2048, .f32⟩
  | 50 => ⟨S2x4096x2048, .f32⟩
  | 51 => ⟨S2x4096x2048, .f32⟩
  | 52 => ⟨S2x4096x2048, .f32⟩
  | 53 => ⟨S2x4096x2048, .f32⟩
  | 54 => ⟨S2x4096x8192, .f32⟩
  | 55 => ⟨S_, .f32⟩
  | 56 => ⟨S2x4096x8192, .f32⟩
  | 57 => ⟨S2x4096x8192, .f32⟩
  | 58 => ⟨S2x4096x8192, .f32⟩
  | 59 => ⟨S2x4096x2048, .f32⟩
  | 60 => ⟨S2x4096x2048, .f32⟩
  | 61 => ⟨S2x4096x2048, .f32⟩
  | 62 => ⟨S2x4096x2048, .f32⟩
  | 63 => ⟨S2x256x2048, .f32⟩
  | 64 => ⟨S_, .f32⟩
  | 65 => ⟨S2x256, .f32⟩
  | 66 => ⟨S2x256x1, .f32⟩
  | 67 => ⟨S_, .f32⟩
  | 68 => ⟨S2x256x1, .f32⟩
  | 69 => ⟨S2x256x1, .f32⟩
  | 70 => ⟨S_, .f32⟩
  | 71 => ⟨S2x256x1, .f32⟩
  | 72 => ⟨S2x256x1, .f32⟩
  | 73 => ⟨S2x256x1, .f32⟩
  | 74 => ⟨S2x256x2048, .f32⟩
  | 75 => ⟨S2x256x2048, .f32⟩
  | 76 => ⟨S1x1x2048, .f32⟩
  | 77 => ⟨S2x256x2048, .f32⟩
  | 78 => ⟨S2x256x2048, .f32⟩
  | 79 => ⟨S_, .f32⟩
  | 80 => ⟨S1x2048, .f32⟩
  | 81 => ⟨S1x2048, .f32⟩
  | 82 => ⟨S1x1x2048, .f32⟩
  | 83 => ⟨S2x256x2048, .f32⟩
  | 84 => ⟨S2x256x2048, .f32⟩
  | 85 => ⟨S1x1x2048, .f32⟩
  | 86 => ⟨S2x256x2048, .f32⟩
  | 87 => ⟨S2x256x2048, .f32⟩
  | 88 => ⟨S2x256x8192, .f32⟩
  | 89 => ⟨S_, .f32⟩
  | 90 => ⟨S2x256x8192, .f32⟩
  | 91 => ⟨S2x256x8192, .f32⟩
  | 92 => ⟨S2x256x8192, .f32⟩
  | 93 => ⟨S2x256x2048, .f32⟩
  | 94 => ⟨S1x1x2048, .f32⟩
  | 95 => ⟨S2x256x2048, .f32⟩
  | 96 => ⟨S2x256x2048, .f32⟩
  | 97 => ⟨S2x256x2048, .f32⟩
  | 98 => ⟨S8x2048, .f32⟩
  | 99 => ⟨S8x2048, .f32⟩
  | 100 => ⟨S_, .f32⟩
  | 101 => ⟨S8x2048, .f32⟩
  | 102 => ⟨S8x2048, .f32⟩
  | 103 => ⟨S_, .f32⟩
  | 104 => ⟨S8x2048, .f32⟩
  | 105 => ⟨S8x2048, .f32⟩
  | 106 => ⟨S8x2048, .f32⟩
  | 107 => ⟨S1x2048x12288, .f32⟩
  | 108 => ⟨S2048x12288, .f32⟩
  | 109 => ⟨S8x12288, .f32⟩
  | 110 => ⟨S1x12288, .f32⟩
  | 111 => ⟨S12288, .f32⟩
  | 112 => ⟨S1x12288, .f32⟩
  | 113 => ⟨S8x12288, .f32⟩
  | 114 => ⟨S8x12288, .f32⟩
  | 115 => ⟨S8192x2048, .f32⟩
  | 116 => ⟨S512x2048, .f32⟩
  | 117 => ⟨S8704x2048, .f32⟩
  | 118 => ⟨S1x2048x8192, .f32⟩
  | 119 => ⟨S2048x8192, .f32⟩
  | 120 => ⟨S1x2048x8192, .f32⟩
  | 121 => ⟨S1x2048x8192, .bf16⟩
  | 122 => ⟨S1x8192x2048, .f32⟩
  | 123 => ⟨S8192x2048, .f32⟩
  | 124 => ⟨S1x8192x2048, .f32⟩
  | 125 => ⟨S1x8192x2048, .bf16⟩
  | 126 => ⟨S1x2048x10368, .f32⟩
  | 127 => ⟨S2048x10368, .f32⟩
  | _ => ⟨S2x4096x2048, .f32⟩

abbrev hbmTy0_1 (i : Nat) : BufTy := match i % 128 with
  | 0 => ⟨S1x2048x10368, .f32⟩
  | 1 => ⟨S1x2048x10368, .bf16⟩
  | 2 => ⟨S1x4096x2048, .f32⟩
  | 3 => ⟨S4096x2048, .f32⟩
  | 4 => ⟨S1x4096x2048, .f32⟩
  | 5 => ⟨S1x4096x2048, .bf16⟩
  | 6 => ⟨S1x8x12288, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== ProjB.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x3072 : Shape := ⟨2, ![2048, 3072]⟩
abbrev S8192x2048 : Shape := ⟨2, ![8192, 2048]⟩
abbrev S512x2048 : Shape := ⟨2, ![512, 2048]⟩
abbrev S8704x2048 : Shape := ⟨2, ![8704, 2048]⟩
abbrev S3x6x2048 : Shape := ⟨3, ![3, 6, 2048]⟩
abbrev S1x2048x3072 : Shape := ⟨3, ![1, 2048, 3072]⟩
abbrev S1x2048 : Shape := ⟨2, ![1, 2048]⟩
abbrev S8704x3072 : Shape := ⟨2, ![8704, 3072]⟩
abbrev S1x6x2048 : Shape := ⟨3, ![1, 6, 2048]⟩
abbrev S512x3072 : Shape := ⟨2, ![512, 3072]⟩
abbrev S6x2048 : Shape := ⟨2, ![6, 2048]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x3072, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S3x6x2048, .f32⟩
  | .hbm, ⟨9, _⟩ => ⟨S2048x3072, .bf16⟩
  | .hbm, ⟨10, _⟩ => ⟨S1x2048x3072, .bf16⟩
  | .hbm, ⟨11, _⟩ => ⟨S1x2048, .f32⟩
  | .hbm, ⟨12, _⟩ => ⟨S8704x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x3072, .bf16⟩
  | .local _ .vmem, ⟨6, _⟩ => ⟨S512x3072, .bf16⟩
  | .local _ .vmem, ⟨7, _⟩ => ⟨S512x3072, .bf16⟩
  | .local _ .vmem, ⟨8, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjBIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x3072 : Shape := ⟨2, ![2048, 3072]⟩
abbrev S8192x2048 : Shape := ⟨2, ![8192, 2048]⟩
abbrev S512x2048 : Shape := ⟨2, ![512, 2048]⟩
abbrev S8704x2048 : Shape := ⟨2, ![8704, 2048]⟩
abbrev S3x6x2048 : Shape := ⟨3, ![3, 6, 2048]⟩
abbrev S1x2048x3072 : Shape := ⟨3, ![1, 2048, 3072]⟩
abbrev S1x2048 : Shape := ⟨2, ![1, 2048]⟩
abbrev S8704x3072 : Shape := ⟨2, ![8704, 3072]⟩
abbrev S1x6x2048 : Shape := ⟨3, ![1, 6, 2048]⟩
abbrev S512x3072 : Shape := ⟨2, ![512, 3072]⟩
abbrev S6x2048 : Shape := ⟨2, ![6, 2048]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x3072, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S3x6x2048, .f32⟩
  | .hbm, ⟨9, _⟩ => ⟨S2048x3072, .bf16⟩
  | .hbm, ⟨10, _⟩ => ⟨S1x2048x3072, .bf16⟩
  | .hbm, ⟨11, _⟩ => ⟨S1x2048, .f32⟩
  | .hbm, ⟨12, _⟩ => ⟨S8704x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x3072, .bf16⟩
  | .local _ .vmem, ⟨6, _⟩ => ⟨S512x3072, .bf16⟩
  | .local _ .vmem, ⟨7, _⟩ => ⟨S512x3072, .bf16⟩
  | .local _ .vmem, ⟨8, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjBReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x3072 : Shape := ⟨2, ![2048, 3072]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x3072 : Shape := ⟨3, ![2, 4096, 3072]⟩
abbrev S2x256 : Shape := ⟨2, ![2, 256]⟩
abbrev S2x256x1 : Shape := ⟨3, ![2, 256, 1]⟩
abbrev S2x256x3072 : Shape := ⟨3, ![2, 256, 3072]⟩
abbrev S8192x3072 : Shape := ⟨2, ![8192, 3072]⟩
abbrev S512x3072 : Shape := ⟨2, ![512, 3072]⟩
abbrev S8704x3072 : Shape := ⟨2, ![8704, 3072]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x3072, .f32⟩
  | .hbm, ⟨5, _⟩ => ⟨S2x12288, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S1x12288, .f32⟩
  | .hbm, ⟨14, _⟩ => ⟨S12288, .f32⟩
  | .hbm, ⟨15, _⟩ => ⟨S1x12288, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S2x4096x2048, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x3072, .f32⟩
  | .hbm, ⟨46, _⟩ => ⟨S2x256x2048, .f32⟩
  | .hbm, ⟨47, _⟩ => ⟨S_, .f32⟩
  | .hbm, ⟨48, _⟩ => ⟨S2x256, .f32⟩
  | .hbm, ⟨49, _⟩ => ⟨S2x256x1, .f32⟩
  | .hbm, ⟨50, _⟩ => ⟨S_, .f32⟩
  | .hbm, ⟨51, _⟩ => ⟨S2x256x1, .f32⟩
  | .hbm, ⟨52, _⟩ => ⟨S2x256x1, .f32⟩
  | .hbm, ⟨53, _⟩ => ⟨S_, .f32⟩
  | .hbm, ⟨54, _⟩ => ⟨S2x256x1, .f32⟩
  | .hbm, ⟨55, _⟩ => ⟨S2x256x1, .f32⟩
  | .hbm, ⟨56, _⟩ => ⟨S2x256x1, .f32⟩
  | .hbm, ⟨57, _⟩ => ⟨S2x256x2048, .f32⟩
  | .hbm, ⟨58, _⟩ => ⟨S2x256x2048, .f32⟩
  | .hbm, ⟨59, _⟩ => ⟨S1x1x2048, .f32⟩
  | .hbm, ⟨60, _⟩ => ⟨S2x256x2048, .f32⟩
  | .hbm, ⟨61, _⟩ => ⟨S2x256x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S1x1x2048, .f32⟩
  | .hbm, ⟨66, _⟩ => ⟨S2x256x2048, .f32⟩
  | .hbm, ⟨67, _⟩ => ⟨S2x256x2048, .f32⟩
  | .hbm, ⟨68, _⟩ => ⟨S1x1x2048, .f32⟩
  | .hbm, ⟨69, _⟩ => ⟨S2x256x2048, .f32⟩
  | .hbm, ⟨70, _⟩ => ⟨S2x256x2048, .f32⟩
  | .hbm, ⟨71, _⟩ => ⟨S2x256x3072, .f32⟩
  | .hbm, ⟨72, _⟩ => ⟨S8192x3072, .f32⟩
  | .hbm, ⟨73, _⟩ => ⟨S512x3072, .f32⟩
  | .hbm, ⟨74, _⟩ => ⟨S8704x3072, .f32⟩
  | .hbm, ⟨75, _⟩ => ⟨S8704x3072, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== ProjC.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x6144 : Shape := ⟨2, ![2048, 6144]⟩
abbrev S8192x2048 : Shape := ⟨2, ![8192, 2048]⟩
abbrev S512x2048 : Shape := ⟨2, ![512, 2048]⟩
abbrev S8704x2048 : Shape := ⟨2, ![8704, 2048]⟩
abbrev S3x6x2048 : Shape := ⟨3, ![3, 6, 2048]⟩
abbrev S1x2048x6144 : Shape := ⟨3, ![1, 2048, 6144]⟩
abbrev S1x2048 : Shape := ⟨2, ![1, 2048]⟩
abbrev S8704x6144 : Shape := ⟨2, ![8704, 6144]⟩
abbrev S1x6x2048 : Shape := ⟨3, ![1, 6, 2048]⟩
abbrev S1x2048x3072 : Shape := ⟨3, ![1, 2048, 3072]⟩
abbrev S512x3072 : Shape := ⟨2, ![512, 3072]⟩
abbrev S6x2048 : Shape := ⟨2, ![6, 2048]⟩
abbrev S512 : Shape := ⟨1, ![512]⟩
abbrev S512x1 : Shape := ⟨2, ![512, 1]⟩
abbrev S2048x3072 : Shape := ⟨2, ![2048, 3072]⟩

abbrev nBuf : Space → Nat
  | .hbm => 13
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x6144, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S3x6x2048, .f32⟩
  | .hbm, ⟨9, _⟩ => ⟨S2048x6144, .bf16⟩
  | .hbm, ⟨10, _⟩ => ⟨S1x2048x6144, .bf16⟩
  | .hbm, ⟨11, _⟩ => ⟨S1x2048, .f32⟩
  | .hbm, ⟨12, _⟩ => ⟨S8704x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x3072, .bf16⟩
  | .local _ .vmem, ⟨6, _⟩ => ⟨S1x2048x3072, .bf16⟩
  | .local _ .vmem, ⟨7, _⟩ => ⟨S512x3072, .bf16⟩
  | .local _ .vmem, ⟨8, _⟩ => ⟨S512x3072, .bf16⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjCReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x6144 : Shape := ⟨2, ![2048, 6144]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x6144 : Shape := ⟨3, ![2, 4096, 6144]⟩
abbrev S2x256 : Shape := ⟨2, ![2, 256]⟩
abbrev S2x256x1 : Shape := ⟨3, ![2, 256, 1]⟩
abbrev S2x256x6144 : Shape := ⟨3, ![2, 256, 6144]⟩
abbrev S8192x6144 : Shape := ⟨2, ![8192, 6144]⟩
abbrev S512x6144 : Shape := ⟨2, ![512, 6144]⟩
abbrev S8704x6144 : Shape := ⟨2, ![8704, 6144]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x6144, .f32⟩
  | .hbm, ⟨5, _⟩ => ⟨S2x12288, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S1x12288, .f32⟩
  | .hbm, ⟨14, _⟩ => ⟨S12288, .f32⟩
  | .hbm, ⟨15, _⟩ => ⟨S1x12288, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S2x4096x2048, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x6144, .f32⟩
  | .hbm, ⟨46, _⟩ => ⟨S2x256x2048, .f32⟩
  | .hbm, ⟨47, _⟩ => ⟨S_, .f32⟩
  | .hbm, ⟨48, _⟩ => ⟨S2x256, .f32⟩
  | .hbm, ⟨49, _⟩ => ⟨S2x256x1, .f32⟩
  | .hbm, ⟨50, _⟩ => ⟨S_, .f32⟩
  | .hbm, ⟨51, _⟩ => ⟨S2x256x1, .f32⟩
  | .hbm, ⟨52, _⟩ => ⟨S2x256x1, .f32⟩
  | .hbm, ⟨53, _⟩ => ⟨S_, .f32⟩
  | .hbm, ⟨54, _⟩ => ⟨S2x256x1, .f32⟩
  | .hbm, ⟨55, _⟩ => ⟨S2x256x1, .f32⟩
  | .hbm, ⟨56, _⟩ => ⟨S2x256x1, .f32⟩
  | .hbm, ⟨57, _⟩ => ⟨S2x256x2048, .f32⟩
  | .hbm, ⟨58, _⟩ => ⟨S2x256x2048, .f32⟩
  | .hbm, ⟨59, _⟩ => ⟨S1x1x2048, .f32⟩
  | .hbm, ⟨60, _⟩ => ⟨S2x256x2048, .f32⟩
  | .hbm, ⟨61, _⟩ => ⟨S2x256x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S1x1x2048, .f32⟩
  | .hbm, ⟨66, _⟩ => ⟨S2x256x2048, .f32⟩
  | .hbm, ⟨67, _⟩ => ⟨S2x256x2048, .f32⟩
  | .hbm, ⟨68, _⟩ => ⟨S1x1x2048, .f32⟩
  | .hbm, ⟨69, _⟩ => ⟨S2x256x2048, .f32⟩
  | .hbm, ⟨70, _⟩ => ⟨S2x256x2048, .f32⟩
  | .hbm, ⟨71, _⟩ => ⟨S2x256x6144, .f32⟩
  | .hbm, ⟨72, _⟩ => ⟨S8192x6144, .f32⟩
  | .hbm, ⟨73, _⟩ => ⟨S512x6144, .f32⟩
  | .hbm, ⟨74, _⟩ => ⟨S8704x6144, .f32⟩
  | .hbm, ⟨75, _⟩ => ⟨S8704x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== OutProj.lean ====
abbrev S2x4096x2048 : Shape := ⟨3, ![2, 4096, 2048]⟩
abbrev S2x256x2048 : Shape := ⟨3, ![2, 256, 2048]⟩
abbrev S2048x2048 : Shape := ⟨2, ![2048, 2048]⟩
abbrev S3x12288 : Shape := ⟨2, ![3, 12288]⟩
abbrev S8192x2048 : Shape := ⟨2, ![8192, 2048]⟩
abbrev S512x2048 : Shape := ⟨2, ![512, 2048]⟩
abbrev S8704x2048 : Shape := ⟨2, ![8704, 2048]⟩
abbrev S1x2048x2048 : Shape := ⟨3, ![1, 2048, 2048]⟩
abbrev S3x6x2048 : Shape := ⟨3, ![3, 6, 2048]⟩
abbrev S1x6x2048 : Shape := ⟨3, ![1, 6, 2048]⟩
abbrev S6x2048 : Shape := ⟨2, ![6, 2048]⟩
abbrev S1x2048 : Shape := ⟨2, ![1, 2048]⟩

abbrev nBuf : Space → Nat
  | .hbm => 17
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048x2048, .f32⟩
  | .hbm, ⟨3, _⟩ => ⟨S2x4096x2048, .f32⟩
  | .hbm, ⟨4, _⟩ => ⟨S2x256x2048, .f32⟩
  | .hbm, ⟨5, _⟩ => ⟨S3x12288, .f32⟩
  | .hbm, ⟨6, _⟩ => ⟨S8192x2048, .f32⟩
  | .hbm, ⟨7, _⟩ => ⟨S512x2048, .f32⟩
  | .hbm, ⟨8, _⟩ => ⟨S8704x2048, .f32⟩
  | .hbm, ⟨9, _⟩ => ⟨S8704x2048, .bf16⟩
  | .hbm, ⟨10, _⟩ => ⟨S2048x2048, .bf16⟩
  | .hbm, ⟨11, _⟩ => ⟨S1x2048x2048, .bf16⟩
  | .hbm, ⟨12, _⟩ => ⟨S8192x2048, .f32⟩
  | .hbm, ⟨13, _⟩ => ⟨S512x2048, .f32⟩
  | .hbm, ⟨14, _⟩ => ⟨S8704x2048, .f32⟩
  | .hbm, ⟨15, _⟩ => ⟨S3x6x2048, .f32⟩
  | .hbm, ⟨16, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S512x2048, .f32⟩
  | .local _ .vmem, ⟨8, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S2x4096x2048 : Shape := ⟨3, ![2, 4096, 2048]⟩
abbrev S2x256x2048 : Shape := ⟨3, ![2, 256, 2048]⟩
abbrev S2048x2048 : Shape := ⟨2, ![2048, 2048]⟩
abbrev S3x12288 : Shape := ⟨2, ![3, 12288]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S1x1x2048 : Shape := ⟨3, ![1, 1, 2048]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048x2048, .f32⟩
  | .hbm, ⟨3, _⟩ => ⟨S2x4096x2048, .f32⟩
  | .hbm, ⟨4, _⟩ => ⟨S2x256x2048, .f32⟩
  | .hbm, ⟨5, _⟩ => ⟨S3x12288, .f32⟩
  | .hbm, ⟨6, _⟩ => ⟨S2x12288, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S1x12288, .f32⟩
  | .hbm, ⟨15, _⟩ => ⟨S12288, .f32⟩
  | .hbm, ⟨16, _⟩ => ⟨S1x12288, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x256x2048, .f32⟩
  | .hbm, ⟨28, _⟩ => ⟨S1x1x2048, .f32⟩
  | .hbm, ⟨29, _⟩ => ⟨S2x256x2048, .f32⟩
  | .hbm, ⟨30, _⟩ => ⟨S2x256x2048, .f32⟩
  | .hbm, ⟨31, _⟩ => ⟨S2x256x2048, .f32⟩
  | .hbm, ⟨32, _⟩ => ⟨S8192x2048, .f32⟩
  | .hbm, ⟨33, _⟩ => ⟨S512x2048, .f32⟩
  | .hbm, ⟨34, _⟩ => ⟨S8704x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== SsdOut.lean ====
abbrev S2x4096x64x64 : Shape := ⟨4, ![2, 4096, 64, 64]⟩
abbrev S2x256x64x64 : Shape := ⟨4, ![2, 256, 64, 64]⟩
abbrev S2x4096x10240 : Shape := ⟨3, ![2, 4096, 10240]⟩
abbrev S2x256x10240 : Shape := ⟨3, ![2, 256, 10240]⟩
abbrev S64 : Shape := ⟨1, ![64]⟩
abbrev S4096 : Shape := ⟨1, ![4096]⟩
abbrev S4096x2048 : Shape := ⟨2, ![4096, 2048]⟩
abbrev S2x4096x2048 : Shape := ⟨3, ![2, 4096, 2048]⟩
abbrev S2x256x2048 : Shape := ⟨3, ![2, 256, 2048]⟩
abbrev S3x12288 : Shape := ⟨2, ![3, 12288]⟩
abbrev S8192x8x512 : Shape := ⟨3, ![8192, 8, 512]⟩
abbrev S512x8x512 : Shape := ⟨3, ![512, 8, 512]⟩
abbrev S8704x8x512 : Shape := ⟨3, ![8704, 8, 512]⟩
abbrev S8x8704x512 : Shape := ⟨3, ![8, 8704, 512]⟩
abbrev S8192x10240 : Shape := ⟨2, ![8192, 10240]⟩
abbrev S512x10240 : Shape := ⟨2, ![512, 10240]⟩
abbrev S8704x10240 : Shape := ⟨2, ![8704, 10240]⟩
abbrev S1x4096x2048 : Shape := ⟨3, ![1, 4096, 2048]⟩
abbrev S8192x2048 : Shape := ⟨2, ![8192, 2048]⟩
abbrev S512x2048 : Shape := ⟨2, ![512, 2048]⟩
abbrev S3x6x2048 : Shape := ⟨3, ![3, 6, 2048]⟩
abbrev S64x64 : Shape := ⟨2, ![64, 64]⟩
abbrev S1x4096 : Shape := ⟨2, ![1, 4096]⟩
abbrev S8704x2048 : Shape := ⟨2, ![8704, 2048]⟩
abbrev S2x512x512 : Shape := ⟨3, ![2, 512, 512]⟩
abbrev S512x1024 : Shape := ⟨2, ![512, 1024]⟩
abbrev S1x1024 : Shape := ⟨2, ![1, 1024]⟩
abbrev S1x6x2048 : Shape := ⟨3, ![1, 6, 2048]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S512x1 : Shape := ⟨2, ![512, 1]⟩
abbrev S1x512x2048 : Shape := ⟨3, ![1, 512, 2048]⟩
abbrev S6x2048 : Shape := ⟨2, ![6, 2048]⟩
abbrev S1x2048 : Shape := ⟨2, ![1, 2048]⟩

abbrev nBuf : Space → Nat
  | .hbm => 43
  | .vmem => 21
  | .smem => 0
  | _ => 0

abbrev bufTy : (tb : Table) → Fin (tcTables nBuf tb) → BufTy
  | .hbm, ⟨0, _⟩ => ⟨S2x4096x64x64, .f32⟩
  | .hbm, ⟨1, _⟩ => ⟨S2x256x64x64, .f32⟩
  | .hbm, ⟨2, _⟩ => ⟨S2x4096x64x64, .f32⟩
  | .hbm, ⟨3, _⟩ => ⟨S2x256x64x64, .f32⟩
  | .hbm, ⟨4, _⟩ => ⟨S2x4096x64x64, .f32⟩
  | .hbm, ⟨5, _⟩ => ⟨S2x256x64x64, .f32⟩
  | .hbm, ⟨6, _⟩ => ⟨S2x4096x10240, .f32⟩
  | .hbm, ⟨7, _⟩ => ⟨S2x256x10240, .f32⟩
  | .hbm, ⟨8, _⟩ => ⟨S64, .f32⟩
  | .hbm, ⟨9, _⟩ => ⟨S4096, .f32⟩
  | .hbm, ⟨10, _⟩ => ⟨S4096x2048, .f32⟩
  | .hbm, ⟨11, _⟩ => ⟨S2x4096x2048, .f32⟩
  | .hbm, ⟨12, _⟩ => ⟨S2x256x2048, .f32⟩
  | .hbm, ⟨13, _⟩ => ⟨S3x12288, .f32⟩
  | .hbm, ⟨14, _⟩ => ⟨S8192x8x512, .f32⟩
  | .hbm, ⟨15, _⟩ => ⟨S512x8x512, .f32⟩
  | .hbm, ⟨16, _⟩ => ⟨S8704x8x512, .f32⟩
  | .hbm, ⟨17, _⟩ => ⟨S8704x8x512, .bf16⟩
  | .hbm, ⟨18, _⟩ => ⟨S8x8704x512, .bf16⟩
  | .hbm, ⟨19, _⟩ => ⟨S8192x8x512, .f32⟩
  | .hbm, ⟨20, _⟩ => ⟨S512x8x512, .f32⟩
  | .hbm, ⟨21, _⟩ => ⟨S8704x8x512, .f32⟩
  | .hbm, ⟨22, _⟩ => ⟨S8704x8x512, .bf16⟩
  | .hbm, ⟨23, _⟩ => ⟨S8x8704x512, .bf16⟩
  | .hbm, ⟨24, _⟩ => ⟨S8192x8x512, .f32⟩
  | .hbm, ⟨25, _⟩ => ⟨S512x8x512, .f32⟩
  | .hbm, ⟨26, _⟩ => ⟨S8704x8x512, .f32⟩
  | .hbm, ⟨27, _⟩ => ⟨S8704x8x512, .bf16⟩
  | .hbm, ⟨28, _⟩ => ⟨S8x8704x512, .bf16⟩
  | .hbm, ⟨29, _⟩ => ⟨S8192x10240, .f32⟩
  | .hbm, ⟨30, _⟩ => ⟨S512x10240, .f32⟩
  | .hbm, ⟨31, _⟩ => ⟨S8704x10240, .f32⟩
  | .hbm, ⟨32, _⟩ => ⟨S8704x10240, .bf16⟩
  | .hbm, ⟨33, _⟩ => ⟨S4096x2048, .bf16⟩
  | .hbm, ⟨34, _⟩ => ⟨S1x4096x2048, .bf16⟩
  | .hbm, ⟨35, _⟩ => ⟨S8192x2048, .f32⟩
  | .hbm, ⟨36, _⟩ => ⟨S512x2048, .f32⟩
  | .hbm, ⟨37, _⟩ => ⟨S3x6x2048, .f32⟩
  | .hbm, ⟨38, _⟩ => ⟨S64x64, .f32⟩
  | .hbm, ⟨39, _⟩ => ⟨S4096, .f32⟩
  | .hbm, ⟨40, _⟩ => ⟨S1x4096, .f32⟩
  | .hbm, ⟨41, _⟩ => ⟨S1x4096, .f32⟩
  | .hbm, ⟨42, _⟩ => ⟨S8704x2048, .f32⟩
  | .local _ .vmem, ⟨0, _⟩ => ⟨S2x512x512, .bf16⟩
  | .local _ .vmem, ⟨1, _⟩ => ⟨S2x512x512, .bf16⟩
  | .local _ .vmem, ⟨2, _⟩ => ⟨S2x512x512, .bf16⟩
  | .local _ .vmem, ⟨3, _⟩ => ⟨S2x512x512, .bf16⟩
  | .local _ .vmem, ⟨4, _⟩ => ⟨S2x512x512, .bf16⟩
  | .local _ .vmem, ⟨5, _⟩ => ⟨S2x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x4096x2048, .bf16⟩
  | .local _ .vmem, ⟨13, _⟩ => ⟨S1x6x2048, .f32⟩
  | .local _ .vmem, ⟨14, _⟩ => ⟨S1x6x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S2x4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![17, 4], ![false, false]⟩

def k0_mult1 (i : grid0.Coords) : BitVec 32 :=
  let arg1 : BitVec 32 := BitVec.ofNat 32 (i 1).val
  let c1024_i32 : BitVec 32 := 1024#32
  let v44 : BitVec 32 := Scalar.muli arg1 c1024_i32
  let c0_i32_21 : BitVec 32 := 0#32
  let v45 : BitVec 32 := Scalar.addi v44 c0_i32_21
  v45
def k0_off1 (i : grid0.Coords) (c0_i32_21 : BitVec 32) : Fin 3 → Nat :=
  let c0_22 : Index := 0#32
  let arg1 : BitVec 32 := BitVec.ofNat 32 (i 1).val
  let c1024_i32 : BitVec 32 := 1024#32
  let v44 : BitVec 32 := Scalar.muli arg1 c1024_i32
  let v45 : BitVec 32 := Scalar.addi v44 c0_i32_21
  let v46 : BitVec 32 := v45
  let v47 : Index := Scalar.indexCast v46
  let c0_23 : Index := 0#32
  ![0, v47.toNat, 0]
def k0_mult2 (i : grid0.Coords) : BitVec 32 :=
  let arg1 : BitVec 32 := BitVec.ofNat 32 (i 1).val
  let c1024_i32_43 : BitVec 32 := 1024#32
  let v92 : BitVec 32 := Scalar.muli arg1 c1024_i32_43
  let c512_i32 : BitVec 32 := 512#32
  let v93 : BitVec 32 := Scalar.addi v92 c512_i32
  v93
def k0_cond3 (i : grid0.Coords) : BitVec 1 :=
  let arg1 : BitVec 32 := BitVec.ofNat 32 (i 1).val
  let c3_i32_48 : BitVec 32 := 3#32
  let v103 : BitVec 1 := Scalar.cmpi .eq arg1 c3_i32_48
  let v104 : BitVec 32 := Scalar.extui v103
  let c0_i32_49 : BitVec 32 := 0#32
  let v105 : BitVec 1 := Scalar.cmpi .ne v104 c0_i32_49
  v105

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== SsdOutReferenceIdeal.lean ====
abbrev S2x4096x64x64 : Shape := ⟨4, ![2, 4096, 64, 64]⟩
abbrev S2x256x64x64 : Shape := ⟨4, ![2, 256, 64, 64]⟩
abbrev S2x4096x10240 : Shape := ⟨3, ![2, 4096, 10240]⟩
abbrev S2x256x10240 : Shape := ⟨3, ![2, 256, 10240]⟩
abbrev S64 : Shape := ⟨1, ![64]⟩
abbrev S4096 : Shape := ⟨1, ![4096]⟩
abbrev S4096x2048 : Shape := ⟨2, ![4096, 2048]⟩
abbrev S2x4096x2048 : Shape := ⟨3, ![2, 4096, 2048]⟩
abbrev S2x256x2048 : Shape := ⟨3, ![2, 256, 2048]⟩
abbrev S3x12288 : Shape := ⟨2, ![3, 12288]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S2x4096x4096 : Shape := ⟨3, ![2, 4096, 4096]⟩
abbrev S64x1 : Shape := ⟨2, ![64, 1]⟩
abbrev S1x1x64x1 : Shape := ⟨4, ![1, 1, 64, 1]⟩
abbrev S_ : Shape := ⟨0, ![]⟩
abbrev S2x4096x8x512 : Shape := ⟨4, ![2, 4096, 8, 512]⟩
abbrev S8x512 : Shape := ⟨2, ![8, 512]⟩
abbrev S2x4096x8 : Shape := ⟨3, ![2, 4096, 8]⟩
abbrev S2x4096x8x1 : Shape := ⟨4, ![2, 4096, 8, 1]⟩
abbrev S1x1x8x512 : Shape := ⟨4, ![1, 1, 8, 512]⟩
abbrev S2x256x4096 : Shape := ⟨3, ![2, 256, 4096]⟩
abbrev S2x256x8x512 : Shape := ⟨4, ![2, 256, 8, 512]⟩
abbrev S2x256x8 : Shape := ⟨3, ![2, 256, 8]⟩
abbrev S2x256x8x1 : Shape := ⟨4, ![2, 256, 8, 1]⟩
abbrev S1x1x2048 : Shape := ⟨3, ![1, 1, 2048]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 117
  | .vmem => 0
  | .smem => 0
  | _ => 0

abbrev bufTy : (tb : Table) → Fin (tcTables nBuf tb) → BufTy
  | .hbm, ⟨0, _⟩ => ⟨S2x4096x64x64, .f32⟩
  | .hbm, ⟨1, _⟩ => ⟨S2x256x64x64, .f32⟩
  | .hbm, ⟨2, _⟩ => ⟨S2x4096x64x64, .f32⟩
  | .hbm, ⟨3, _⟩ => ⟨S2x256x64x64, .f32⟩
  | .hbm, ⟨4, _⟩ => ⟨S2x4096x64x64, .f32⟩
  | .hbm, ⟨5, _⟩ => ⟨S2x256x64x64, .f32⟩
  | .hbm, ⟨6, _⟩ => ⟨S2x4096x10240, .f32⟩
  | .hbm, ⟨7, _⟩ => ⟨S2x256x10240, .f32⟩
  | .hbm, ⟨8, _⟩ => ⟨S64, .f32⟩
  | .hbm, ⟨9, _⟩ => ⟨S4096, .f32⟩
  | .hbm, ⟨10, _⟩ => ⟨S4096x2048, .f32⟩
  | .hbm, ⟨11, _⟩ => ⟨S2x4096x2048, .f32⟩
  | .hbm, ⟨12, _⟩ => ⟨S2x256x2048, .f32⟩
  | .hbm, ⟨13, _⟩ => ⟨S3x12288, .f32⟩
  | .hbm, ⟨14, _⟩ => ⟨S2x12288, .f32⟩
  | .hbm, ⟨15, _⟩ => ⟨S2x1x12288, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x1x2048, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S2x4096x4096, .f32⟩
  | .hbm, ⟨32, _⟩ => ⟨S2x4096x64x64, .f32⟩
  | .hbm, ⟨33, _⟩ => ⟨S64x1, .f32⟩
  | .hbm, ⟨34, _⟩ => ⟨S1x1x64x1, .f32⟩
  | .hbm, ⟨35, _⟩ => ⟨S2x4096x64x64, .f32⟩
  | .hbm, ⟨36, _⟩ => ⟨S2x4096x64x64, .f32⟩
  | .hbm, ⟨37, _⟩ => ⟨S2x4096x64x64, .f32⟩
  | .hbm, ⟨38, _⟩ => ⟨S2x4096x4096, .f32⟩
  | .hbm, ⟨39, _⟩ => ⟨S2x4096x4096, .f32⟩
  | .hbm, ⟨40, _⟩ => ⟨S2x4096x4096, .f32⟩
  | .hbm, ⟨41, _⟩ => ⟨S_, .f32⟩
  | .hbm, ⟨42, _⟩ => ⟨S2x4096x4096, .f32⟩
  | .hbm, ⟨43, _⟩ => ⟨S2x4096x4096, .f32⟩
  | .hbm, ⟨44, _⟩ => ⟨S_, .f32⟩
  | .hbm, ⟨45, _⟩ => ⟨S2x4096x4096, .f32⟩
  | .hbm, ⟨46, _⟩ => ⟨S2x4096x4096, .f32⟩
  | .hbm, ⟨47, _⟩ => ⟨S2x4096x4096, .f32⟩
  | .hbm, ⟨48, _⟩ => ⟨S2x4096x4096, .f32⟩
  | .hbm, ⟨49, _⟩ => ⟨S2x4096x8x512, .f32⟩
  | .hbm, ⟨50, _⟩ => ⟨S8x512, .f32⟩
  | .hbm, ⟨51, _⟩ => ⟨S2x4096x8x512, .f32⟩
  | .hbm, ⟨52, _⟩ => ⟨S_, .f32⟩
  | .hbm, ⟨53, _⟩ => ⟨S2x4096x8, .f32⟩
  | .hbm, ⟨54, _⟩ => ⟨S2x4096x8x1, .f32⟩
  | .hbm, ⟨55, _⟩ => ⟨S_, .f32⟩
  | .hbm, ⟨56, _⟩ => ⟨S2x4096x8x1, .f32⟩
  | .hbm, ⟨57, _⟩ => ⟨S2x4096x8x1, .f32⟩
  | .hbm, ⟨58, _⟩ => ⟨S_, .f32⟩
  | .hbm, ⟨59, _⟩ => ⟨S2x4096x8x1, .f32⟩
  | .hbm, ⟨60, _⟩ => ⟨S2x4096x8x1, .f32⟩
  | .hbm, ⟨61, _⟩ => ⟨S2x4096x8x1, .f32⟩
  | .hbm, ⟨62, _⟩ => ⟨S2x4096x8x512, .f32⟩
  | .hbm, ⟨63, _⟩ => ⟨S2x4096x8x512, .f32⟩
  | .hbm, ⟨64, _⟩ => ⟨S1x1x8x512, .f32⟩
  | .hbm, ⟨65, _⟩ => ⟨S2x4096x8x512, .f32⟩
  | .hbm, ⟨66, _⟩ => ⟨S2x4096x8x512, .f32⟩
  | .hbm, ⟨67, _⟩ => ⟨S2x4096x4096, .f32⟩
  | .hbm, ⟨68, _⟩ => ⟨S2x4096x2048, .f32⟩
  | .hbm, ⟨69, _⟩ => ⟨S2x4096x2048, .f32⟩
  | .hbm, ⟨70, _⟩ => ⟨S2x4096x2048, .f32⟩
  | .hbm, ⟨71, _⟩ => ⟨S2x4096x2048, .f32⟩
  | .hbm, ⟨72, _⟩ => ⟨S2x256x4096, .f32⟩
  | .hbm, ⟨73, _⟩ => ⟨S2x256x64x64, .f32⟩
  | .hbm, ⟨74, _⟩ => ⟨S64x1, .f32⟩
  | .hbm, ⟨75, _⟩ => ⟨S1x1x64x1, .f32⟩
  | .hbm, ⟨76, _⟩ => ⟨S2x256x64x64, .f32⟩
  | .hbm, ⟨77, _⟩ => ⟨S2x256x64x64, .f32⟩
  | .hbm, ⟨78, _⟩ => ⟨S2x256x64x64, .f32⟩
  | .hbm, ⟨79, _⟩ => ⟨S2x256x4096, .f32⟩
  | .hbm, ⟨80, _⟩ => ⟨S2x256x4096, .f32⟩
  | .hbm, ⟨81, _⟩ => ⟨S2x256x4096, .f32⟩
  | .hbm, ⟨82, _⟩ => ⟨S_, .f32⟩
  | .hbm, ⟨83, _⟩ => ⟨S2x256x4096, .f32⟩
  | .hbm, ⟨84, _⟩ => ⟨S2x256x4096, .f32⟩
  | .hbm, ⟨85, _⟩ => ⟨S_, .f32⟩
  | .hbm, ⟨86, _⟩ => ⟨S2x256x4096, .f32⟩
  | .hbm, ⟨87, _⟩ => ⟨S2x256x4096, .f32⟩
  | .hbm, ⟨88, _⟩ => ⟨S2x256x4096, .f32⟩
  | .hbm, ⟨89, _⟩ => ⟨S2x256x4096, .f32⟩
  | .hbm, ⟨90, _⟩ => ⟨S2x256x8x512, .f32⟩
  | .hbm, ⟨91, _⟩ => ⟨S8x512, .f32⟩
  | .hbm, ⟨92, _⟩ => ⟨S2x256x8x512, .f32⟩
  | .hbm, ⟨93, _⟩ => ⟨S_, .f32⟩
  | .hbm, ⟨94, _⟩ => ⟨S2x256x8, .f32⟩
  | .hbm, ⟨95, _⟩ => ⟨S2x256x8x1, .f32⟩
  | .hbm, ⟨96, _⟩ => ⟨S_, .f32⟩
  | .hbm, ⟨97, _⟩ => ⟨S2x256x8x1, .f32⟩
  | .hbm, ⟨98, _⟩ => ⟨S2x256x8x1, .f32⟩
  | .hbm, ⟨99, _⟩ => ⟨S_, .f32⟩
  | .hbm, ⟨100, _⟩ => ⟨S2x256x8x1, .f32⟩
  | .hbm, ⟨101, _⟩ => ⟨S2x256x8x1, .f32⟩
  | .hbm, ⟨102, _⟩ => ⟨S2x256x8x1, .f32⟩
  | .hbm, ⟨103, _⟩ => ⟨S2x256x8x512, .f32⟩
  | .hbm, ⟨104, _⟩ => ⟨S2x256x8x512, .f32⟩
  | .hbm, ⟨105, _⟩ => ⟨S1x1x8x512, .f32⟩
  | .hbm, ⟨106, _⟩ => ⟨S2x256x8x512, .f32⟩
  | .hbm, ⟨107, _⟩ => ⟨S2x256x8x512, .f32⟩
  | .hbm, ⟨108, _⟩ => ⟨S2x256x4096, .f32⟩
  | .hbm, ⟨109, _⟩ => ⟨S2x256x2048, .f32⟩
  | .hbm, ⟨110, _⟩ => ⟨S1x1x2048, .f32⟩
  | .hbm, ⟨111, _⟩ => ⟨S2x256x2048, .f32⟩
  | .hbm, ⟨112, _⟩ => ⟨S2x256x2048, .f32⟩
  | .hbm, ⟨113, _⟩ => ⟨S2x256x2048, .f32⟩
  | .hbm, ⟨114, _⟩ => ⟨S8192x2048, .f32⟩
  | .hbm, ⟨115, _⟩ => ⟨S512x2048, .f32⟩
  | .hbm, ⟨116, _⟩ => ⟨S8704x2048, .f32⟩
  | _, _ => ⟨S2x4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_0 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_2 : Ref sig .tc := ⟨.hbm, 93, rfl⟩
abbrev main_v60 : Ref sig .tc := ⟨.hbm, 94, rfl⟩
abbrev main_v61 : Ref sig .tc := ⟨.hbm, 95, rfl⟩
abbrev main_cst_3 : Ref sig .tc := ⟨.hbm, 96, rfl⟩
abbrev main_v62 : Ref sig .tc := ⟨.hbm, 97, rfl⟩
abbrev main_v63 : Ref sig .tc := ⟨.hbm, 98, rfl⟩
abbrev main_cst_4 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== SsdOutLast.lean ====
abbrev S2x4096x64x64 : Shape := ⟨4, ![2, 4096, 64, 64]⟩
abbrev S2x256x64x64 : Shape := ⟨4, ![2, 256, 64, 64]⟩
abbrev S2x4096x10240 : Shape := ⟨3, ![2, 4096, 10240]⟩
abbrev S2x256x10240 : Shape := ⟨3, ![2, 256, 10240]⟩
abbrev S64 : Shape := ⟨1, ![64]⟩
abbrev S4096 : Shape := ⟨1, ![4096]⟩
abbrev S4096x2048 : Shape := ⟨2, ![4096, 2048]⟩
abbrev S2x4096x2048 : Shape := ⟨3, ![2, 4096, 2048]⟩
abbrev S3x12288 : Shape := ⟨2, ![3, 12288]⟩
abbrev S8192x8x512 : Shape := ⟨3, ![8192, 8, 512]⟩
abbrev S512x8x512 : Shape := ⟨3, ![512, 8, 512]⟩
abbrev S8704x8x512 : Shape := ⟨3, ![8704, 8, 512]⟩
abbrev S8x8704x512 : Shape := ⟨3, ![8, 8704, 512]⟩
abbrev S8192x10240 : Shape := ⟨2, ![8192, 10240]⟩
abbrev S512x10240 : Shape := ⟨2, ![512, 10240]⟩
abbrev S8704x10240 : Shape := ⟨2, ![8704, 10240]⟩
abbrev S1x4096x2048 : Shape := ⟨3, ![1, 4096, 2048]⟩
abbrev S8192x2048 : Shape := ⟨2, ![8192, 2048]⟩
abbrev S3x6x2048 : Shape := ⟨3, ![3, 6, 2048]⟩
abbrev S64x64 : Shape := ⟨2, ![64, 64]⟩
abbrev S1x4096 : Shape := ⟨2, ![1, 4096]⟩
abbrev S2x512x512 : Shape := ⟨3, ![2, 512, 512]⟩
abbrev S512x1024 : Shape := ⟨2, ![512, 1024]⟩
abbrev S1x1024 : Shape := ⟨2, ![1, 1024]⟩
abbrev S1x6x2048 : Shape := ⟨3, ![1, 6, 2048]⟩
abbrev S512x2048 : Shape := ⟨2, ![512, 2048]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S512x1 : Shape := ⟨2, ![512, 1]⟩
abbrev S1x512x2048 : Shape := ⟨3, ![1, 512, 2048]⟩
abbrev S6x2048 : Shape := ⟨2, ![6, 2048]⟩
abbrev S1x2048 : Shape := ⟨2, ![1, 2048]⟩

abbrev nBuf : Space → Nat
  | .hbm => 41
  | .vmem => 20
  | .smem => 0
  | _ => 0

abbrev bufTy : (tb : Table) → Fin (tcTables nBuf tb) → BufTy
  | .hbm, ⟨0, _⟩ => ⟨S2x4096x64x64, .f32⟩
  | .hbm, ⟨1, _⟩ => ⟨S2x256x64x64, .f32⟩
  | .hbm, ⟨2, _⟩ => ⟨S2x4096x64x64, .f32⟩
  | .hbm, ⟨3, _⟩ => ⟨S2x256x64x64, .f32⟩
  | .hbm, ⟨4, _⟩ => ⟨S2x4096x64x64, .f32⟩
  | .hbm, ⟨5, _⟩ => ⟨S2x256x64x64, .f32⟩
  | .hbm, ⟨6, _⟩ => ⟨S2x4096x10240, .f32⟩
  | .hbm, ⟨7, _⟩ => ⟨S2x256x10240, .f32⟩
  | .hbm, ⟨8, _⟩ => ⟨S64, .f32⟩
  | .hbm, ⟨9, _⟩ => ⟨S4096, .f32⟩
  | .hbm, ⟨10, _⟩ => ⟨S4096x2048, .f32⟩
  | .hbm, ⟨11, _⟩ => ⟨S2x4096x2048, .f32⟩
  | .hbm, ⟨12, _⟩ => ⟨S3x12288, .f32⟩
  | .hbm, ⟨13, _⟩ => ⟨S8192x8x512, .f32⟩
  | .hbm, ⟨14, _⟩ => ⟨S512x8x512, .f32⟩
  | .hbm, ⟨15, _⟩ => ⟨S8704x8x512, .f32⟩
  | .hbm, ⟨16, _⟩ => ⟨S8704x8x512, .bf16⟩
  | .hbm, ⟨17, _⟩ => ⟨S8x8704x512, .bf16⟩
  | .hbm, ⟨18, _⟩ => ⟨S8192x8x512, .f32⟩
  | .hbm, ⟨19, _⟩ => ⟨S512x8x512, .f32⟩
  | .hbm, ⟨20, _⟩ => ⟨S8704x8x512, .f32⟩
  | .hbm, ⟨21, _⟩ => ⟨S8704x8x512, .bf16⟩
  | .hbm, ⟨22, _⟩ => ⟨S8x8704x512, .bf16⟩
  | .hbm, ⟨23, _⟩ => ⟨S8192x8x512, .f32⟩
  | .hbm, ⟨24, _⟩ => ⟨S512x8x512, .f32⟩
  | .hbm, ⟨25, _⟩ => ⟨S8704x8x512, .f32⟩
  | .hbm, ⟨26, _⟩ => ⟨S8704x8x512, .bf16⟩
  | .hbm, ⟨27, _⟩ => ⟨S8x8704x512, .bf16⟩
  | .hbm, ⟨28, _⟩ => ⟨S8192x10240, .f32⟩
  | .hbm, ⟨29, _⟩ => ⟨S512x10240, .f32⟩
  | .hbm, ⟨30, _⟩ => ⟨S8704x10240, .f32⟩
  | .hbm, ⟨31, _⟩ => ⟨S8704x10240, .bf16⟩
  | .hbm, ⟨32, _⟩ => ⟨S4096x2048, .bf16⟩
  | .hbm, ⟨33, _⟩ => ⟨S1x4096x2048, .bf16⟩
  | .hbm, ⟨34, _⟩ => ⟨S8192x2048, .f32⟩
  | .hbm, ⟨35, _⟩ => ⟨S3x6x2048, .f32⟩
  | .hbm, ⟨36, _⟩ => ⟨S64x64, .f32⟩
  | .hbm, ⟨37, _⟩ => ⟨S4096, .f32⟩
  | .hbm, ⟨38, _⟩ => ⟨S1x4096, .f32⟩
  | .hbm, ⟨39, _⟩ => ⟨S1x4096, .f32⟩
  | .hbm, ⟨40, _⟩ => ⟨S8192x2048, .f32⟩
  | .local _ .vmem, ⟨0, _⟩ => ⟨S2x512x512, .bf16⟩
  | .local _ .vmem, ⟨1, _⟩ => ⟨S2x512x512, .bf16⟩
  | .local _ .vmem, ⟨2, _⟩ => ⟨S2x512x512, .bf16⟩
  | .local _ .vmem, ⟨3, _⟩ => ⟨S2x512x512, .bf16⟩
  | .local _ .vmem, ⟨4, _⟩ => ⟨S2x512x512, .bf16⟩
  | .local _ .vmem, ⟨5, _⟩ => ⟨S2x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x4096x2048, .bf16⟩
  | .local _ .vmem, ⟨13, _⟩ => ⟨S1x6x2048, .f32⟩
  | .local _ .vmem, ⟨14, _⟩ => ⟨S1x6x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | _, _ => ⟨S2x4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v44 : BitVec 32 := Scalar.muli arg1 c1024_i32
  let c0_i32_21 : BitVec 32 := 0#32
  let v45 : BitVec 32 := Scalar.addi v44 c0_i32_21
  v45
def k0_off1 (i : grid0.Coords) (c0_i32_21 : BitVec 32) : Fin 3 → Nat :=
  let c0_22 : Index := 0#32
  let arg1 : BitVec 32 := BitVec.ofNat 32 (i 1).val
  let c1024_i32 : BitVec 32 := 1024#32
  let v44 : BitVec 32 := Scalar.muli arg1 c1024_i32
  let v45 : BitVec 32 := Scalar.addi v44 c0_i32_21
  let v46 : BitVec 32 := v45
  let v47 : Index := Scalar.indexCast v46
  let c0_23 : Index := 0#32
  ![0, v47.toNat, 0]
def k0_mult2 (i : grid0.Coords) : BitVec 32 :=
  let arg1 : BitVec 32 := BitVec.ofNat 32 (i 1).val
  let c1024_i32_43 : BitVec 32 := 1024#32
  let v92 : BitVec 32 := Scalar.muli arg1 c1024_i32_43
  let c512_i32 : BitVec 32 := 512#32
  let v93 : BitVec 32 := Scalar.addi v92 c512_i32
  v93
def k0_cond3 (i : grid0.Coords) : BitVec 1 :=
  let arg1 : BitVec 32 := BitVec.ofNat 32 (i 1).val
  let c3_i32_48 : BitVec 32 := 3#32
  let v103 : BitVec 1 := Scalar.cmpi .eq arg1 c3_i32_48
  let v104 : BitVec 32 := Scalar.extui v103
  let c0_i32_49 : BitVec 32 := 0#32
  let v105 : BitVec 1 := Scalar.cmpi .ne v104 c0_i32_49
  v105

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SsdOutLastReferenceIdeal.lean ====
abbrev S2x4096x64x64 : Shape := ⟨4, ![2, 4096, 64, 64]⟩
abbrev S2x256x64x64 : Shape := ⟨4, ![2, 256, 64, 64]⟩
abbrev S2x4096x10240 : Shape := ⟨3, ![2, 4096, 10240]⟩
abbrev S2x256x10240 : Shape := ⟨3, ![2, 256, 10240]⟩
abbrev S64 : Shape := ⟨1, ![64]⟩
abbrev S4096 : Shape := ⟨1, ![4096]⟩
abbrev S4096x2048 : Shape := ⟨2, ![4096, 2048]⟩
abbrev S2x4096x2048 : Shape := ⟨3, ![2, 4096, 2048]⟩
abbrev S3x12288 : Shape := ⟨2, ![3, 12288]⟩
abbrev S2x12288 : Shape := ⟨2, ![2, 12288]⟩
abbrev S2x1x12288 : Shape := ⟨3, ![2, 1, 12288]⟩
abbrev S2x1x2048 : Shape := ⟨3, ![2, 1, 2048]⟩
abbrev S2x4096x4096 : Shape := ⟨3, ![2, 4096, 4096]⟩
abbrev S64x1 : Shape := ⟨2, ![64, 1]⟩
abbrev S1x1x64x1 : Shape := ⟨4, ![1, 1, 64, 1]⟩
abbrev S_ : Shape := ⟨0, ![]⟩
abbrev S2x4096x8x512 : Shape := ⟨4, ![2, 4096, 8, 512]⟩
abbrev S8x512 : Shape := ⟨2, ![8, 512]⟩
abbrev S2x4096x8 : Shape := ⟨3, ![2, 4096, 8]⟩
abbrev S2x4096x8x1 : Shape := ⟨4, ![2, 4096, 8, 1]⟩
abbrev S1x1x8x512 : Shape := ⟨4, ![1, 1, 8, 512]⟩
abbrev S8192x2048 : Shape := ⟨2, ![8192, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x64x64, .f32⟩
  | .hbm, ⟨1, _⟩ => ⟨S2x256x64x64, .f32⟩
  | .hbm, ⟨2, _⟩ => ⟨S2x4096x64x64, .f32⟩
  | .hbm, ⟨3, _⟩ => ⟨S2x256x64x64, .f32⟩
  | .hbm, ⟨4, _⟩ => ⟨S2x4096x64x64, .f32⟩
  | .hbm, ⟨5, _⟩ => ⟨S2x256x64x64, .f32⟩
  | .hbm, ⟨6, _⟩ => ⟨S2x4096x10240, .f32⟩
  | .hbm, ⟨7, _⟩ => ⟨S2x256x10240, .f32⟩
  | .hbm, ⟨8, _⟩ => ⟨S64, .f32⟩
  | .hbm, ⟨9, _⟩ => ⟨S4096, .f32⟩
  | .hbm, ⟨10, _⟩ => ⟨S4096x2048, .f32⟩
  | .hbm, ⟨11, _⟩ => ⟨S2x4096x2048, .f32⟩
  | .hbm, ⟨12, _⟩ => ⟨S3x12288, .f32⟩
  | .hbm, ⟨13, _⟩ => ⟨S2x12288, .f32⟩
  | .hbm, ⟨14, _⟩ => ⟨S2x1x12288, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S2x4096x4096, .f32⟩
  | .hbm, ⟨22, _⟩ => ⟨S2x4096x64x64, .f32⟩
  | .hbm, ⟨23, _⟩ => ⟨S64x1, .f32⟩
  | .hbm, ⟨24, _⟩ => ⟨S1x1x64x1, .f32⟩
  | .hbm, ⟨25, _⟩ => ⟨S2x4096x64x64, .f32⟩
  | .hbm, ⟨26, _⟩ => ⟨S2x4096x64x64, .f32⟩
  | .hbm, ⟨27, _⟩ => ⟨S2x4096x64x64, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S_, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096x4096, .f32⟩
  | .hbm, ⟨36, _⟩ => ⟨S2x4096x4096, .f32⟩
  | .hbm, ⟨37, _⟩ => ⟨S2x4096x4096, .f32⟩
  | .hbm, ⟨38, _⟩ => ⟨S2x4096x4096, .f32⟩
  | .hbm, ⟨39, _⟩ => ⟨S2x4096x8x512, .f32⟩
  | .hbm, ⟨40, _⟩ => ⟨S8x512, .f32⟩
  | .hbm, ⟨41, _⟩ => ⟨S2x4096x8x512, .f32⟩
  | .hbm, ⟨42, _⟩ => ⟨S_, .f32⟩
  | .hbm, ⟨43, _⟩ => ⟨S2x4096x8, .f32⟩
  | .hbm, ⟨44, _⟩ => ⟨S2x4096x8x1, .f32⟩
  | .hbm, ⟨45, _⟩ => ⟨S_, .f32⟩
  | .hbm, ⟨46, _⟩ => ⟨S2x4096x8x1, .f32⟩
  | .hbm, ⟨47, _⟩ => ⟨S2x4096x8x1, .f32⟩
  | .hbm, ⟨48, _⟩ => ⟨S_, .f32⟩
  | .hbm, ⟨49, _⟩ => ⟨S2x4096x8x1, .f32⟩
  | .hbm, ⟨50, _⟩ => ⟨S2x4096x8x1, .f32⟩
  | .hbm, ⟨51, _⟩ => ⟨S2x4096x8x1, .f32⟩
  | .hbm, ⟨52, _⟩ => ⟨S2x4096x8x512, .f32⟩
  | .hbm, ⟨53, _⟩ => ⟨S2x4096x8x512, .f32⟩
  | .hbm, ⟨54, _⟩ => ⟨S1x1x8x512, .f32⟩
  | .hbm, ⟨55, _⟩ => ⟨S2x4096x8x512, .f32⟩
  | .hbm, ⟨56, _⟩ => ⟨S2x4096x8x512, .f32⟩
  | .hbm, ⟨57, _⟩ => ⟨S2x4096x4096, .f32⟩
  | .hbm, ⟨58, _⟩ => ⟨S2x4096x2048, .f32⟩
  | .hbm, ⟨59, _⟩ => ⟨S2x4096x2048, .f32⟩
  | .hbm, ⟨60, _⟩ => ⟨S2x4096x2048, .f32⟩
  | .hbm, ⟨61, _⟩ => ⟨S2x4096x2048, .f32⟩
  | .hbm, ⟨62, _⟩ => ⟨S8192x2048, .f32⟩
  | _, _ => ⟨S2x4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== ProjA.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x10368 : Shape := ⟨2, ![2048, 10368]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S512x2048 : Shape := ⟨2, ![512, 2048]⟩
abbrev S3x6x2048 : Shape := ⟨3, ![3, 6, 2048]⟩
abbrev S1x2048x10368 : Shape := ⟨3, ![1, 2048, 10368]⟩
abbrev S1x2048 : Shape := ⟨2, ![1, 2048]⟩
abbrev S8704x10240 : Shape := ⟨2, ![8704, 10240]⟩
abbrev S8704x128 : Shape := ⟨2, ![8704, 128]⟩
abbrev S1x2048x8192 : Shape := ⟨3, ![1, 2048, 8192]⟩
abbrev S1x8192x2048 : Shape := ⟨3, ![1, 8192, 2048]⟩
abbrev S1x4096x2048 : Shape := ⟨3, ![1, 4096, 2048]⟩
abbrev S1x6x2048 : Shape := ⟨3, ![1, 6, 2048]⟩
abbrev S1x2048x2560 : Shape := ⟨3, ![1, 2048, 2560]⟩
abbrev S1x2048x128 : Shape := ⟨3, ![1, 2048, 128]⟩
abbrev S1x32x8192 : Shape := ⟨3, ![1, 32, 8192]⟩
abbrev S1x128x2048 : Shape := ⟨3, ![1, 128, 2048]⟩
abbrev S1x64x2048 : Shape := ⟨3, ![1, 64, 2048]⟩
abbrev S512x2560 : Shape := ⟨2, ![512, 2560]⟩
abbrev S512x128 : Shape := ⟨2, ![512, 128]⟩
abbrev S6x2048 : Shape := ⟨2, ![6, 2048]⟩
abbrev S512 : Shape := ⟨1, ![512]⟩
abbrev S512x1 : Shape := ⟨2, ![512, 1]⟩
abbrev S2048x128 : Shape := ⟨2, ![2048, 128]⟩
abbrev S2048x2560 : Shape := ⟨2, ![2048, 2560]⟩

abbrev nBuf : Space → Nat
  | .hbm => 19
  | .vmem => 26
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x10368, .f32⟩
  | .hbm, ⟨5, _⟩ => ⟨S4x2048x8192, .f32⟩
  | .hbm, ⟨6, _⟩ => ⟨S4x8192x2048, .f32⟩
  | .hbm, ⟨7, _⟩ => ⟨S2x4096x2048, .f32⟩
  | .hbm, ⟨8, _⟩ => ⟨S8192x2048, .f32⟩
  | .hbm, ⟨9, _⟩ => ⟨S512x2048, .f32⟩
  | .hbm, ⟨10, _⟩ => ⟨S3x6x2048, .f32⟩
  | .hbm, ⟨11, _⟩ => ⟨S2048x10368, .bf16⟩
  | .hbm, ⟨12, _⟩ => ⟨S1x2048x10368, .bf16⟩
  | .hbm, ⟨13, _⟩ => ⟨S1x2048, .f32⟩
  | .hbm, ⟨14, _⟩ => ⟨S8704x10240, .bf16⟩
  | .hbm, ⟨15, _⟩ => ⟨S8704x128, .f32⟩
  | .hbm, ⟨16, _⟩ => ⟨S1x2048x8192, .bf16⟩
  | .hbm, ⟨17, _⟩ => ⟨S1x8192x2048, .bf16⟩
  | .hbm, ⟨18, _⟩ => ⟨S1x4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048x2560, .bf16⟩
  | .local _ .vmem, ⟨7, _⟩ => ⟨S1x2048x2560, .bf16⟩
  | .local _ .vmem, ⟨8, _⟩ => ⟨S1x2048x128, .bf16⟩
  | .local _ .vmem, ⟨9, _⟩ => ⟨S1x32x8192, .f32⟩
  | .local _ .vmem, ⟨10, _⟩ => ⟨S1x32x8192, .f32⟩
  | .local _ .vmem, ⟨11, _⟩ => ⟨S1x128x2048, .f32⟩
  | .local _ .vmem, ⟨12, _⟩ => ⟨S1x128x2048, .f32⟩
  | .local _ .vmem, ⟨13, _⟩ => ⟨S1x64x2048, .f32⟩
  | .local _ .vmem, ⟨14, _⟩ => ⟨S1x64x2048, .f32⟩
  | .local _ .vmem, ⟨15, _⟩ => ⟨S512x2560, .bf16⟩
  | .local _ .vmem, ⟨16, _⟩ => ⟨S512x2560, .bf16⟩
  | .local _ .vmem, ⟨17, _⟩ => ⟨S512x128, .f32⟩
  | .local _ .vmem, ⟨18, _⟩ => ⟨S512x128, .f32⟩
  | .local _ .vmem, ⟨19, _⟩ => ⟨S1x32x8192, .bf16⟩
  | .local _ .vmem, ⟨20, _⟩ => ⟨S1x32x8192, .bf16⟩
  | .local _ .vmem, ⟨21, _⟩ => ⟨S1x128x2048, .bf16⟩
  | .local _ .vmem, ⟨22, _⟩ => ⟨S1x128x2048, .bf16⟩
  | .local _ .vmem, ⟨23, _⟩ => ⟨S1x64x2048, .bf16⟩
  | .local _ .vmem, ⟨24, _⟩ => ⟨S1x64x2048, .bf16⟩
  | .local _ .vmem, ⟨25, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c80_i32 : BitVec 32 := 80#32
  let c0_i32_1 : BitVec 32 := 0#32
  ![c0_i32.toNat, c0_i32_0.toNat, c80_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjAReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x10368 : Shape := ⟨2, ![2048, 10368]⟩
abbrev S4x2048x8192 : Shape := ⟨3, ![4, 2048, 8192]⟩
abbrev S4x8192x2048 : Shape := ⟨3, ![4, 8192, 2048]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x10368 : Shape := ⟨3, ![2, 4096, 10368]⟩
abbrev S2x256 : Shape := ⟨2, ![2, 256]⟩
abbrev S2x256x1 : Shape := ⟨3, ![2, 256, 1]⟩
abbrev S2x256x10368 : Shape := ⟨3, ![2, 256, 10368]⟩
abbrev S8192x10368 : Shape := ⟨2, ![8192, 10368]⟩
abbrev S512x10368 : Shape := ⟨2, ![512, 10368]⟩
abbrev S8704x10368 : Shape := ⟨2, ![8704, 10368]⟩
abbrev S8704x10240 : Shape := ⟨2, ![8704, 10240]⟩
abbrev S8704x128 : Shape := ⟨2, ![8704, 128]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S1x4096x2048 : Shape := ⟨3, ![1, 4096, 2048]⟩
abbrev S4096x2048 : Shape := ⟨2, ![4096, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x10368, .f32⟩
  | .hbm, ⟨5, _⟩ => ⟨S4x2048x8192, .f32⟩
  | .hbm, ⟨6, _⟩ => ⟨S4x8192x2048, .f32⟩
  | .hbm, ⟨7, _⟩ => ⟨S2x4096x2048, .f32⟩
  | .hbm, ⟨8, _⟩ => ⟨S2x12288, .f32⟩
  | .hbm, ⟨9, _⟩ => ⟨S2x1x12288, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S1x12288, .f32⟩
  | .hbm, ⟨17, _⟩ => ⟨S12288, .f32⟩
  | .hbm, ⟨18, _⟩ => ⟨S1x12288, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S2x4096x2048, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S2x4096x2048, .f32⟩
  | .hbm, ⟨37, _⟩ => ⟨S2x4096x2048, .f32⟩
  | .hbm, ⟨38, _⟩ => ⟨S1x1x2048, .f32⟩
  | .hbm, ⟨39, _⟩ => ⟨S2x4096x2048, .f32⟩
  | .hbm, ⟨40, _⟩ => ⟨S2x4096x2048, .f32⟩
  | .hbm, ⟨41, _⟩ => ⟨S_, .f32⟩
  | .hbm, ⟨42, _⟩ => ⟨S2x1x2048, .f32⟩
  | .hbm, ⟨43, _⟩ => ⟨S2x1x2048, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S2x4096x2048, .f32⟩
  | .hbm, ⟨48, _⟩ => ⟨S2x4096x10368, .f32⟩
  | .hbm, ⟨49, _⟩ => ⟨S2x256x2048, .f32⟩
  | .hbm, ⟨50, _⟩ => ⟨S_, .f32⟩
  | .hbm, ⟨51, _⟩ => ⟨S2x256, .f32⟩
  | .hbm, ⟨52, _⟩ => ⟨S2x256x1, .f32⟩
  | .hbm, ⟨53, _⟩ => ⟨S_, .f32⟩
  | .hbm, ⟨54, _⟩ => ⟨S2x256x1, .f32⟩
  | .hbm, ⟨55, _⟩ => ⟨S2x256x1, .f32⟩
  | .hbm, ⟨56, _⟩ => ⟨S_, .f32⟩
  | .hbm, ⟨57, _⟩ => ⟨S2x256x1, .f32⟩
  | .hbm, ⟨58, _⟩ => ⟨S2x256x1, .f32⟩
  | .hbm, ⟨59, _⟩ => ⟨S2x256x1, .f32⟩
  | .hbm, ⟨60, _⟩ => ⟨S2x256x2048, .f32⟩
  | .hbm, ⟨61, _⟩ => ⟨S2x256x2048, .f32⟩
  | .hbm, ⟨62, _⟩ => ⟨S1x1x2048, .f32⟩
  | .hbm, ⟨63, _⟩ => ⟨S2x256x2048, .f32⟩
  | .hbm, ⟨64, _⟩ => ⟨S2x256x2048, .f32⟩
  | .hbm, ⟨65, _⟩ => ⟨S_, .f32⟩
  | .hbm, ⟨66, _⟩ => ⟨S1x2048, .f32⟩
  | .hbm, ⟨67, _⟩ => ⟨S1x2048, .f32⟩
  | .hbm, ⟨68, _⟩ => ⟨S1x1x2048, .f32⟩
  | .hbm, ⟨69, _⟩ => ⟨S2x256x2048, .f32⟩
  | .hbm, ⟨70, _⟩ => ⟨S2x256x2048, .f32⟩
  | .hbm, ⟨71, _⟩ => ⟨S1x1x2048, .f32⟩
  | .hbm, ⟨72, _⟩ => ⟨S2x256x2048, .f32⟩
  | .hbm, ⟨73, _⟩ => ⟨S2x256x2048, .f32⟩
  | .hbm, ⟨74, _⟩ => ⟨S2x256x10368, .f32⟩
  | .hbm, ⟨75, _⟩ => ⟨S8192x10368, .f32⟩
  | .hbm, ⟨76, _⟩ => ⟨S512x10368, .f32⟩
  | .hbm, ⟨77, _⟩ => ⟨S8704x10368, .f32⟩
  | .hbm, ⟨78, _⟩ => ⟨S8704x10240, .f32⟩
  | .hbm, ⟨79, _⟩ => ⟨S8704x10240, .bf16⟩
  | .hbm, ⟨80, _⟩ => ⟨S8704x128, .f32⟩
  | .hbm, ⟨81, _⟩ => ⟨S1x2048x8192, .f32⟩
  | .hbm, ⟨82, _⟩ => ⟨S2048x8192, .f32⟩
  | .hbm, ⟨83, _⟩ => ⟨S1x2048x8192, .f32⟩
  | .hbm, ⟨84, _⟩ => ⟨S1x2048x8192, .bf16⟩
  | .hbm, ⟨85, _⟩ => ⟨S1x8192x2048, .f32⟩
  | .hbm, ⟨86, _⟩ => ⟨S8192x2048, .f32⟩
  | .hbm, ⟨87, _⟩ => ⟨S1x8192x2048, .f32⟩
  | .hbm, ⟨88, _⟩ => ⟨S1x8192x2048, .bf16⟩
  | .hbm, ⟨89, _⟩ => ⟨S1x4096x2048, .f32⟩
  | .hbm, ⟨90, _⟩ => ⟨S4096x2048, .f32⟩
  | .hbm, ⟨91, _⟩ => ⟨S1x4096x2048, .f32⟩
  | .hbm, ⟨92, _⟩ => ⟨S1x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩

abbrev nD : Nat := 1
abbrev τ : Topo := Topo.v7x

variable {F : FTy → Type} [FloatOps F]
-- ==== ProjD.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x10368 : Shape := ⟨2, ![2048, 10368]⟩
abbrev S8192x2048 : Shape := ⟨2, ![8192, 2048]⟩
abbrev S512x2048 : Shape := ⟨2, ![512, 2048]⟩
abbrev S8704x2048 : Shape := ⟨2, ![8704, 2048]⟩
abbrev S3x6x2048 : Shape := ⟨3, ![3, 6, 2048]⟩
abbrev S1x2048x10368 : Shape := ⟨3, ![1, 2048, 10368]⟩
abbrev S1x2048 : Shape := ⟨2, ![1, 2048]⟩
abbrev S8704x10240 : Shape := ⟨2, ![8704, 10240]⟩
abbrev S8704x128 : Shape := ⟨2, ![8704, 128]⟩
abbrev S1x6x2048 : Shape := ⟨3, ![1, 6, 2048]⟩
abbrev S1x2048x2560 : Shape := ⟨3, ![1, 2048, 2560]⟩
abbrev S1x2048x128 : Shape := ⟨3, ![1, 2048, 128]⟩
abbrev S512x2560 : Shape := ⟨2, ![512, 2560]⟩
abbrev S512x128 : Shape := ⟨2, ![512, 128]⟩
abbrev S6x2048 : Shape := ⟨2, ![6, 2048]⟩
abbrev S512 : Shape := ⟨1, ![512]⟩
abbrev S512x1 : Shape := ⟨2, ![512, 1]⟩
abbrev S2048x128 : Shape := ⟨2, ![2048, 128]⟩
abbrev S2048x2560 : Shape := ⟨2, ![2048, 2560]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x10368, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S3x6x2048, .f32⟩
  | .hbm, ⟨9, _⟩ => ⟨S2048x10368, .bf16⟩
  | .hbm, ⟨10, _⟩ => ⟨S1x2048x10368, .bf16⟩
  | .hbm, ⟨11, _⟩ => ⟨S1x2048, .f32⟩
  | .hbm, ⟨12, _⟩ => ⟨S8704x10240, .bf16⟩
  | .hbm, ⟨13, _⟩ => ⟨S8704x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x2560, .bf16⟩
  | .local _ .vmem, ⟨6, _⟩ => ⟨S1x2048x2560, .bf16⟩
  | .local _ .vmem, ⟨7, _⟩ => ⟨S1x2048x128, .bf16⟩
  | .local _ .vmem, ⟨8, _⟩ => ⟨S512x2560, .bf16⟩
  | .local _ .vmem, ⟨9, _⟩ => ⟨S512x2560, .bf16⟩
  | .local _ .vmem, ⟨10, _⟩ => ⟨S512x128, .f32⟩
  | .local _ .vmem, ⟨11, _⟩ => ⟨S512x128, .f32⟩
  | .local _ .vmem, ⟨12, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c80_i32 : BitVec 32 := 80#32
  let c0_i32_1 : BitVec 32 := 0#32
  ![c0_i32.toNat, c0_i32_0.toNat, c80_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjDReferenceIdeal.lean ====
abbrev S2x4096x2048 : Shape := ⟨3, ![2, 4096, 2048]⟩
abbrev S2x256x2048 : Shape := ⟨3, ![2, 256, 2048]⟩
abbrev S2048 : Shape := ⟨1, ![2048]⟩
abbrev S3x12288 : Shape := ⟨2, ![3, 12288]⟩
abbrev S2048x10368 : Shape := ⟨2, ![2048, 10368]⟩
abbrev S2x12288 : Shape := ⟨2, ![2, 12288]⟩
abbrev S2x1x12288 : Shape := ⟨3, ![2, 1, 12288]⟩
abbrev S2x1x2048 : Shape := ⟨3, ![2, 1, 2048]⟩
abbrev S1x12288 : Shape := ⟨2, ![1, 12288]⟩
abbrev S12288 : Shape := ⟨1, ![12288]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x10368 : Shape := ⟨3, ![2, 4096, 10368]⟩
abbrev S2x256 : Shape := ⟨2, ![2, 256]⟩
abbrev S2x256x1 : Shape := ⟨3, ![2, 256, 1]⟩
abbrev S2x256x10368 : Shape := ⟨3, ![2, 256, 10368]⟩
abbrev S8192x10368 : Shape := ⟨2, ![8192, 10368]⟩
abbrev S512x10368 : Shape := ⟨2, ![512, 10368]⟩
abbrev S8704x10368 : Shape := ⟨2, ![8704, 10368]⟩
abbrev S8704x10240 : Shape := ⟨2, ![8704, 10240]⟩
abbrev S8704x128 : Shape := ⟨2, ![8704, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S2048, .f32⟩
  | .hbm, ⟨3, _⟩ => ⟨S3x12288, .f32⟩
  | .hbm, ⟨4, _⟩ => ⟨S2048x10368, .f32⟩
  | .hbm, ⟨5, _⟩ => ⟨S2x12288, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S1x12288, .f32⟩
  | .hbm, ⟨14, _⟩ => ⟨S12288, .f32⟩
  | .hbm, ⟨15, _⟩ => ⟨S1x12288, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S2x4096x2048, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x10368, .f32⟩
  | .hbm, ⟨46, _⟩ => ⟨S2x256x2048, .f32⟩
  | .hbm, ⟨47, _⟩ => ⟨S_, .f32⟩
  | .hbm, ⟨48, _⟩ => ⟨S2x256, .f32⟩
  | .hbm, ⟨49, _⟩ => ⟨S2x256x1, .f32⟩
  | .hbm, ⟨50, _⟩ => ⟨S_, .f32⟩
  | .hbm, ⟨51, _⟩ => ⟨S2x256x1, .f32⟩
  | .hbm, ⟨52, _⟩ => ⟨S2x256x1, .f32⟩
  | .hbm, ⟨53, _⟩ => ⟨S_, .f32⟩
  | .hbm, ⟨54, _⟩ => ⟨S2x256x1, .f32⟩
  | .hbm, ⟨55, _⟩ => ⟨S2x256x1, .f32⟩
  | .hbm, ⟨56, _⟩ => ⟨S2x256x1, .f32⟩
  | .hbm, ⟨57, _⟩ => ⟨S2x256x2048, .f32⟩
  | .hbm, ⟨58, _⟩ => ⟨S2x256x2048, .f32⟩
  | .hbm, ⟨59, _⟩ => ⟨S1x1x2048, .f32⟩
  | .hbm, ⟨60, _⟩ => ⟨S2x256x2048, .f32⟩
  | .hbm, ⟨61, _⟩ => ⟨S2x256x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S1x1x2048, .f32⟩
  | .hbm, ⟨66, _⟩ => ⟨S2x256x2048, .f32⟩
  | .hbm, ⟨67, _⟩ => ⟨S2x256x2048, .f32⟩
  | .hbm, ⟨68, _⟩ => ⟨S1x1x2048, .f32⟩
  | .hbm, ⟨69, _⟩ => ⟨S2x256x2048, .f32⟩
  | .hbm, ⟨70, _⟩ => ⟨S2x256x2048, .f32⟩
  | .hbm, ⟨71, _⟩ => ⟨S2x256x10368, .f32⟩
  | .hbm, ⟨72, _⟩ => ⟨S8192x10368, .f32⟩
  | .hbm, ⟨73, _⟩ => ⟨S512x10368, .f32⟩
  | .hbm, ⟨74, _⟩ => ⟨S8704x10368, .f32⟩
  | .hbm, ⟨75, _⟩ => ⟨S8704x10240, .f32⟩
  | .hbm, ⟨76, _⟩ => ⟨S8704x10240, .bf16⟩
  | .hbm, ⟨77, _⟩ => ⟨S8704x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Proof.MlpValue.lean ====
/- What the MLP call leaves in its result, at the exact instance. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpIdeal.Hand

open Idealize.ShloMosaic Idealize.SL.Sem Cert.MlpIdeal Cert.MlpIdeal.Gen Cert.MlpIdeal.Value

/-- The squared-ReLU hidden value's place in the sum: one row's normed and modulated entry. -/
def rowNorm (h : Fin 2048 → EReal) (k : Fin 2048) : EReal :=
  h k * Ideal.rsqrt (Ideal.div (∑ x, h x * h x) (Ideal.ofBits FTy.f32 1157627904#32) + Ideal.ofBits FTy.f32 897988541#32)

/-- The normed row under its scale, modulation gain `b` and shift `s`. -/
def modRow (h g b s : Fin 2048 → EReal) (k : Fin 2048) : EReal :=
  rowNorm h k * g k * (1 + b k) + s k

/-- One hidden unit: the modulated row against a column of the first matrix, rectified and squared. -/
def hidden (u w : Fin 2048 → EReal) : EReal :=
  max (∑ x, u x * w x) 0 * max (∑ x, u x * w x) 0

theorem pay1_at (v22 : Vec Ideal S1x6x2048 .f32) (v24 : Vec Ideal S512x2048 .f32) (v26 : Vec Ideal S1x2048 .f32) (r : Fin 512) (k : Fin 2048) :
    k0_pay1 (F := Ideal) v22 v24 v26 (ix2 r k)
      = modRow (fun x => v24 (ix2 r x)) (fun x => v26 (ix2 0 x)) (fun x => v22 (ix3 0 4 x)) (fun x => v22 (ix3 0 3 x)) k := by
  pointwise [k0_pay1, modRow, rowNorm]

theorem pay2_at (j : S512x2048.Idx) : k0_pay2 (F := Ideal) j = 0 := by
  pointwise [k0_pay2]

theorem pay3_at (v3 : Vec Ideal S512x2048 .bf16) (v4 : Vec Ideal S1x2048x1024 .bf16) (v11 : Vec Ideal S512x2048 .f32) (v12 : Vec Ideal S1x1024x2048 .bf16) (r : Fin 512) (k : Fin 2048) :
    k0_pay3 (F := Ideal) v3 v4 v11 v12 (ix2 r k)
      = v11 (ix2 r k) + ∑ x : Fin 1024, hidden (fun y => v3 (ix2 r y)) (fun y => v4 (ix3 0 y x)) * v12 (ix3 0 x k) := by
  pointwise [k0_pay3, hidden]

theorem pay4_at (v22 : Vec Ideal S1x6x2048 .f32) (v24 : Vec Ideal S512x2048 .f32) (v27 : Vec Ideal S512x2048 .f32) (v41 : Vec Ideal S1x2048 .f32) (r : Fin 512) (k : Fin 2048) :
    k0_pay4 (F := Ideal) v22 v24 v27 v41 (ix2 r k)
      = rowNorm (fun x => v24 (ix2 r x) + v22 (ix3 0 5 x) * v27 (ix2 r x)) k * v41 (ix2 0 k) := by
  pointwise [k0_pay4, rowNorm]

theorem idx : ∀ t : Fin cfg0.N, win0_0.index t = ![t.val / 8, 0] ∧ win0_1.index t = ![0, 0] ∧ win0_2.index t = ![t.val / 64, 0, 0]
    ∧ win0_3.index t = ![0, 0, t.val % 8] ∧ win0_4.index t = ![0, t.val % 8, 0] ∧ win0_5.index t = ![0, 0]
    ∧ win0_6.index t = ![t.val / 8, 0] :=
  (by decide +kernel : ∀ t : Fin grid0.N, _)

variable (m : (ℓ : Loc nD τ sig) → Buf (Elt Ideal) ℓ)

theorem lt128 (t : Fin cfg0.N) : t.val < 128 := lt_of_lt_of_eq t.isLt N_0

theorem b0 (c : Dev nD) (t : Fin cfg0.N) (r : Fin 512) (k : Fin 2048) :
    (show FVec Ideal S512x2048 .f32 from iblk m c 0 t) (ix2 r k)
      = m ((c.tc : Thread nD τ).loc main_arg0) (ix3 (⟨t.val / 64, by have := lt128 t; omega⟩ : Fin 2) (⟨t.val / 8 % 8 * 512 + r.val, by omega⟩ : Fin 4096) k) := by
  have := lt128 t
  blk_point [iblk, V, idx t]
theorem b1 (c : Dev nD) (t : Fin cfg0.N) (k : Fin 2048) :
    (show FVec Ideal S1x2048 .f32 from iblk m c 1 t) (ix2 0 k) = m ((c.tc : Thread nD τ).loc main_arg1) (ix1 k) := by
  blk_point [iblk, V, idx t]
theorem b2 (c : Dev nD) (t : Fin cfg0.N) (r : Fin 6) (k : Fin 2048) :
    (show FVec Ideal S1x6x2048 .f32 from iblk m c 2 t) (ix3 0 r k)
      = m ((c.tc : Thread nD τ).loc main_arg2) (ix2 (⟨t.val / 64, by have := lt128 t; omega⟩ : Fin 3) (⟨r.val * 2048 + k.val, by omega⟩ : Fin 12288)) := by
  have := lt128 t
  blk_point [iblk, V, idx t]
theorem b3 (c : Dev nD) (t : Fin cfg0.N) (r : Fin 2048) (k : Fin 1024) :
    (show FVec Ideal S1x2048x1024 .bf16 from iblk m c 3 t) (ix3 0 r k)
      = m ((c.tc : Thread nD τ).loc main_arg3) (ix2 r (⟨t.val % 8 * 1024 + k.val, by omega⟩ : Fin 8192)) := by
  blk_point [iblk, V, idx t]
theorem b4 (c : Dev nD) (t : Fin cfg0.N) (r : Fin 1024) (k : Fin 2048) :
    (show FVec Ideal S1x1024x2048 .bf16 from iblk m c 4 t) (ix3 0 r k)
      = m ((c.tc : Thread nD τ).loc main_arg4) (ix2 (⟨t.val % 8 * 1024 + r.val, by omega⟩ : Fin 8192) k) := by
  blk_point [iblk, V, idx t]
theorem b5 (c : Dev nD) (t : Fin cfg0.N) (k : Fin 2048) :
    (show FVec Ideal S1x2048 .f32 from iblk m c 5 t) (ix2 0 k) = m ((c.tc : Thread nD τ).loc main_arg5) (ix1 k) := by
  blk_point [iblk, V, idx t]

/-- Row `R` of sequence `b` of the hidden state. -/
def hrow (c : Dev nD) (b : Fin 2) (R : Fin 4096) (x : Fin 2048) : EReal := m ((c.tc : Thread nD τ).loc main_arg0) (ix3 b R x)

/-- Part `p` of sequence `b`'s modulation. -/
def mrow (c : Dev nD) (b : Fin 2) (p : Fin 6) (x : Fin 2048) : EReal :=
  m ((c.tc : Thread nD τ).loc main_arg2) (ix2 (⟨b.val, by omega⟩ : Fin 3) (⟨p.val * 2048 + x.val, by omega⟩ : Fin 12288))

/-- The row the first matrix meets. -/
def urow (c : Dev nD) (b : Fin 2) (R : Fin 4096) (x : Fin 2048) : EReal :=
  modRow (hrow m c b R) (fun x => m ((c.tc : Thread nD τ).loc main_arg1) (ix1 x)) (mrow m c b 4) (mrow m c b 3) x

/-- One hidden unit's share of an entry of the second product. -/
def unit (c : Dev nD) (b : Fin 2) (R : Fin 4096) (x : Fin 2048) (l : Fin 8192) : EReal :=
  hidden (urow m c b R) (fun y => m ((c.tc : Thread nD τ).loc main_arg3) (ix2 y l)) * m ((c.tc : Thread nD τ).loc main_arg4) (ix2 l x)

/-- The layer's last step at row `R` of sequence `b`. -/
def last (c : Dev nD) (b : Fin 2) (R : Fin 4096) (k : Fin 2048) : EReal :=
  rowNorm (fun x => hrow m c b R x + mrow m c b 5 x * ∑ l : Fin 8192, unit m c b R x l) k * m ((c.tc : Thread nD τ).loc main_arg5) (ix1 k)

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 64, by have := lt128 t; omega⟩ ⟨t.val / 8 % 8 * 512 + r.val, by omega⟩ k := by
  refine (pay1_at _ _ _ r k).trans ?_
  have e0 : (fun x => (show FVec Ideal S512x2048 .f32 from iblk m c 0 t) (ix2 r x)) = hrow m c ⟨t.val / 64, by have := lt128 t; omega⟩ ⟨t.val / 8 % 8 * 512 + r.val, by omega⟩ :=
    funext fun x => b0 m c t r x
  have e1 : (fun x => (show FVec Ideal S1x2048 .f32 from iblk m c 1 t) (ix2 0 x)) = fun x => m ((c.tc : Thread nD τ).loc main_arg1) (ix1 x) :=
    funext fun x => b1 m c t x
  have e2 : ∀ p, (fun x => (show FVec Ideal S1x6x2048 .f32 from iblk m c 2 t) (ix3 0 p x)) = mrow m c ⟨t.val / 64, by have := lt128 t; omega⟩ p := fun p =>
    funext fun x => b2 m c t p x
  unfold urow
  rw [← e0, ← e1, ← e2, ← e2]

/-- Inside a run of eight points the rows stay the same. -/
theorem U_pred (c : Dev nD) (t t' : Fin cfg0.N) (h0 : t'.val / 8 = t.val / 8) : U m c t' = U m c t := by
  funext j
  have h64 : t'.val / 64 = t.val / 64 := by omega
  rw [eq_ix2 j]
  refine (U_at m c t' (j 0) (j 1)).trans (Eq.trans ?_ (U_at m c t (j 0) (j 1)).symm)
  simp only [h64, h0]

/-- The kept rows: every point of a run carries the run's modulated rows. -/
theorem scr (c : Dev nD) (n : ℕ) (hn : n < cfg0.N) : (outsAt0 m c n hn).2.1 = U m c ⟨n, hn⟩ := by
  induction n with
  | zero =>
    have e := outsAt0_A m c ⟨0, hn⟩ (Nat.zero_mod 8) (by dsimp only; omega)
    dsimp only at e
    rw [e]
    frame_out
    rfl
  | succ n ih =>
    by_cases h0 : (n + 1) % 8 = 0
    · have e := outsAt0_A m c ⟨n + 1, hn⟩ h0 (by dsimp only; omega)
      dsimp only at e
      rw [e]
      frame_out
      rfl
    · have hp := ih (Nat.lt_of_succ_lt hn)
      rw [← U_pred m c ⟨n + 1, hn⟩ ⟨n, Nat.lt_of_succ_lt hn⟩ (by dsimp only; omega), ← hp]
      by_cases h1 : (n + 1) % 8 = 7
      · have e := outsAt0_C m c ⟨n + 1, hn⟩ h0 h1
        dsimp only at e
        rw [e]
        frame_out
        rfl
      · have e := outsAt0_B m c ⟨n + 1, hn⟩ h0 h1
        dsimp only at e
        rw [e]
        frame_out
        rfl

/-- What a point adds to the running sum. -/
def part (c : Dev nD) (t : Fin cfg0.N) (j : S512x2048.Idx) : EReal :=
  ∑ x : Fin 1024, hidden (fun y => U m c t (ix2 (j 0) y)) (fun y => (show FVec Ideal S1x2048x1024 .bf16 from iblk m c 3 t) (ix3 0 y x)) * (show FVec Ideal S1x1024x2048 .bf16 from iblk m c 4 t) (ix3 0 x (j 1))

theorem accA (c : Dev nD) (t : Fin cfg0.N) (h0 : t.val % 8 = 0) (j : S512x2048.Idx) :
    (outsAt0 m c t.val t.isLt).2.2 j = 0 + part m c t j := by
  rw [outsAt0_A m c t h0 (by omega)]
  frame_out
  rw [eq_ix2 j]
  exact (pay3_at _ _ _ _ _ _).trans (by rw [pay2_at]; rfl)

theorem accS (c : Dev nD) (t : Fin cfg0.N) (h0 : ¬t.val % 8 = 0) (j : S512x2048.Idx) :
    (outsAt0 m c t.val t.isLt).2.2 j = (outsAt0 m c (t.val - 1) (Nat.lt_of_le_of_lt (Nat.sub_le _ _) t.isLt)).2.2 j + part m c t j := by
  have hU : (outsAt0 m c (t.val - 1) (Nat.lt_of_le_of_lt (Nat.sub_le _ _) t.isLt)).2.1 = U m c t := by
    rw [scr]
    exact U_pred m c t ⟨t.val - 1, _⟩ (by dsimp only; omega)
  by_cases h1 : t.val % 8 = 7
  · rw [outsAt0_C m c t h0 h1]
    frame_out
    simp only [read_unread_whole]
    rw [hU, eq_ix2 j]
    exact pay3_at _ _ _ _ _ _
  · rw [outsAt0_B m c t h0 h1]
    frame_out
    simp only [read_unread_whole]
    rw [hU, eq_ix2 j]
    exact pay3_at _ _ _ _ _ _

/-- The output block a run's last point writes, over the running sum after it. -/
theorem outC (c : Dev nD) (t : Fin cfg0.N) (h1 : t.val % 8 = 7) (r : Fin 512) (k : Fin 2048) :
    (outsAt0 m c t.val t.isLt).1 (ix2 r k)
      = rowNorm (fun x => (show FVec Ideal S512x2048 .f32 from iblk m c 0 t) (ix2 r x) + (show FVec Ideal S1x6x2048 .f32 from iblk m c 2 t) (ix3 0 5 x) * (outsAt0 m c t.val t.isLt).2.2 (ix2 r x)) k
        * (show FVec Ideal S1x2048 .f32 from iblk m c 5 t) (ix2 0 k) := by
  rw [outsAt0_C m c t (by omega) h1]
  frame_out
  exact pay4_at _ _ _ _ _ _

/-- What a point adds, over the arguments: its thousand hidden units. -/
theorem part_at (c : Dev nD) (t : Fin cfg0.N) (r : Fin 512) (x : Fin 2048) :
    part m c t (ix2 r x) = ∑ k : Fin 1024, unit m c ⟨t.val / 64, by have := lt128 t; omega⟩ ⟨t.val / 8 % 8 * 512 + r.val, by omega⟩ x ⟨t.val % 8 * 1024 + k.val, by omega⟩ := by
  refine Finset.sum_congr rfl fun k _ => ?_
  unfold unit
  have e3 : (fun y => (show FVec Ideal S1x2048x1024 .bf16 from iblk m c 3 t) (ix3 0 y k)) = fun y => m ((c.tc : Thread nD τ).loc main_arg3) (ix2 y (⟨t.val % 8 * 1024 + k.val, by omega⟩ : Fin 8192)) :=
    funext fun y => b3 m c t y k
  have eU : (fun y => U m c t (ix2 r y)) = urow m c ⟨t.val / 64, by have := lt128 t; omega⟩ ⟨t.val / 8 % 8 * 512 + r.val, by omega⟩ :=
    funext fun y => U_at m c t r y
  rw [← e3, ← eU, ← b4 m c t k x]
  rfl

/-- The running sum after a run: all hidden units. -/
theorem acc_at (c : Dev nD) (t : Fin cfg0.N) (h1 : t.val % 8 = 7) (r : Fin 512) (x : Fin 2048) :
    (outsAt0 m c t.val t.isLt).2.2 (ix2 r x)
      = ∑ l : Fin 8192, unit m c ⟨t.val / 64, by have := lt128 t; omega⟩ ⟨t.val / 8 % 8 * 512 + r.val, by omega⟩ x l := by
  have e := Pipeline.eq_sum_fin_of_reset_step_apply_of_flush (fun n h => (outsAt0 m c n h).2.2) 8 (fun _ => (0 : EReal)) (part m c)
    (fun t h j => accA m c t h j) (fun t h j => accS m c t h j) t h1 (ix2 r x)
  refine e.trans ?_
  rw [zero_add]
  refine Eq.trans (Finset.sum_congr rfl fun s _ => part_at m c _ r x) ?_
  refine Fin.sum_mul_add_congr fun s k hl => ?_
  have hs := s.isLt
  have q1 : (8 * (t.val / 8) + s.val) / 64 = t.val / 64 := by omega
  have q2 : (8 * (t.val / 8) + s.val) / 8 % 8 = t.val / 8 % 8 := by omega
  have q3 : (8 * (t.val / 8) + s.val) % 8 = s.val := by omega
  simp only [q1, q2, q3]

/-- The block a run writes back, over the arguments. -/
theorem out_at (c : Dev nD) (t : Fin cfg0.N) (h1 : t.val % 8 = 7) (r : Fin 512) (k : Fin 2048) :
    (outsAt0 m c t.val t.isLt).1 (ix2 r k)
      = last m c ⟨t.val / 64, by have := lt128 t; omega⟩ ⟨t.val / 8 % 8 * 512 + r.val, by omega⟩ k := by
  refine (outC m c t h1 r k).trans ?_
  unfold last
  refine congr (congrArg HMul.hMul (congrArg (fun f => rowNorm f k) (funext fun x => ?_))) (b5 m c t k)
  refine congr (congrArg HAdd.hAdd (b0 m c t r x)) (congr (congrArg HMul.hMul (b2 m c t 5 x)) (acc_at m c t h1 r x))

/-- The result array: row `i` holds sequence `i / 4096`'s row `i % 4096`. -/
def RES (c : Dev nD) : FVec Ideal S8192x2048 .f32 := fun i =>
  last m c ⟨(i 0).val / 4096, by have h : (i 0).val < 8192 := (i 0).isLt; omega⟩ ⟨(i 0).val % 4096, by omega⟩ (i 1)

theorem final (c : Dev nD) : (dats m 0 c).arrAt 6 (cfgs 0).N = RES m c := by
  refine (dats m 0 c).arrAt_eq_of_covers 6 _ (by decide +kernel) fun t hf y => ?_
  have h1 : t.val % 8 = 7 := (flush0_6 t).mp hf
  blk_simp
  rw [after0_6]
  change S512x2048.Idx at y
  have hy : (y 0).val < 512 := (y 0).isLt
  rw [eq_ix2 y]
  refine (out_at m c t h1 (y 0) (y 1)).trans ?_
  have ht := lt128 t
  have e0 : ((win0_6.blk t).view.emb (ix2 (y 0) (y 1)) 0).val = t.val / 8 * 512 + (y 0).val := by
    show win0_6.index t 0 * 512 + 1 * (y 0).val = _
    rw [(idx t).2.2.2.2.2.2]
    simp
  have e1 : (win0_6.blk t).view.emb (ix2 (y 0) (y 1)) 1 = y 1 := by
    apply Fin.ext
    show win0_6.index t 1 * 2048 + 1 * (y 1).val = _
    rw [(idx t).2.2.2.2.2.2]
    simp
  unfold RES
  have q1 : (t.val / 8 * 512 + (y 0).val) / 4096 = t.val / 64 := by omega
  have q2 : (t.val / 8 * 512 + (y 0).val) % 4096 = t.val / 8 % 8 * 512 + (y 0).val := by omega
  simp only [e0, e1, q1, q2]

end Cert.MlpIdeal.Hand
end
-- ==== Proof.MlpClaim.lean ====
/- The MLP call's claim: the reference's result is the array the call leaves. -/
module

public import proofs.«01_k».proof.Proof.MlpValue
public import proofs.«01_k».proof.Defs
public import proofs.«01_k».proof.Proof.Gen.MlpReferenceIdeal
public import Idealize.ShloMosaic.Lib.Claim

@[expose] public section

set_option maxRecDepth 16384

noncomputable section

namespace Cert.MlpIdeal.Hand

open Idealize.ShloMosaic Idealize.SL.Sem

set_option maxHeartbeats 1600000 in
theorem algebraic : Cert.algebraic_MlpIdeal_MlpReferenceIdeal := by
  pair_intro
  · run_from Cert.MlpIdeal.Gen.run_main m g
  · hlo_run
    rw [final]
    funext j
    idx_vars j
    pointwise [RES, last, rowNorm, unit, hidden, urow, modRow, hrow, mrow]

end Cert.MlpIdeal.Hand
end
-- ==== Proof.Rows.lean ====
/- The row functions the projection and MLP calls share, over extended reals. -/
module

public import Idealize.ShloMosaic.Lib.Pointwise
public import Idealize.ShloMosaic.Lib.Pipeline.Value

@[expose] public section

noncomputable section

namespace Cert.Rows

open Idealize.ShloMosaic

/-- A row divided by its root mean square. -/
def rowNorm (h : Fin 2048 → EReal) (k : Fin 2048) : EReal :=
  h k * Ideal.rsqrt (Ideal.div (∑ x, h x * h x) (Ideal.ofBits FTy.f32 1157627904#32) + Ideal.ofBits FTy.f32 897988541#32)

/-- The normed row times `g`, under scale `1 + b` and shift `s`. -/
def modRow (h g b s : Fin 2048 → EReal) (k : Fin 2048) : EReal :=
  rowNorm h k * g k * (1 + b k) + s k

/-- One sqUnit unit: the modulated row against a column of the first matrix, rectified and squared. -/
def sqUnit (u w : Fin 2048 → EReal) : EReal :=
  max (∑ x, u x * w x) 0 * max (∑ x, u x * w x) 0

/-- Row `R` of the two parts laid one after the other: two latent sequences of 4096 rows, then two context sequences of 256. -/
def joined (lat : Fin 2 → Fin 4096 → EReal) (ctx : Fin 2 → Fin 256 → EReal) (R : Fin 8704) : EReal :=
  if h : R.val < 8192 then lat ⟨R.val / 4096, by omega⟩ ⟨R.val % 4096, by omega⟩
  else ctx ⟨(R.val - 8192) / 256, by omega⟩ ⟨(R.val - 8192) % 256, by omega⟩

theorem joined_lat (lat : Fin 2 → Fin 4096 → EReal) (ctx : Fin 2 → Fin 256 → EReal) (R : Fin 8704) (h : R.val < 8192) :
    joined lat ctx R = lat ⟨R.val / 4096, by omega⟩ ⟨R.val % 4096, by omega⟩ := dif_pos h

theorem joined_ctx (lat : Fin 2 → Fin 4096 → EReal) (ctx : Fin 2 → Fin 256 → EReal) (R : Fin 8704) (h : ¬R.val < 8192) :
    joined lat ctx R = ctx ⟨(R.val - 8192) / 256, by omega⟩ ⟨(R.val - 8192) % 256, by omega⟩ := dif_neg h

/-- A row of the first part of two joined arrays. -/
theorem concat_lat {w : Nat} {α : Type} (x : (⟨2, ![8192, w]⟩ : Shape).Idx → α) (y : (⟨2, ![512, w]⟩ : Shape).Idx → α)
    (hc : Shape.Concatenates [⟨2, ![8192, w]⟩, ⟨2, ![512, w]⟩] ⟨2, ![8704, w]⟩ 0) (R : Fin 8704) (k : Fin w) (h : R.val < 8192) :
    concatenate (⟨2, ![8704, w]⟩ : Shape) 0 [⟨_, x⟩, ⟨_, y⟩] hc (ix2 R k) = x (ix2 (⟨R.val, h⟩ : Fin 8192) k) := by
  refine concatenate_pair_apply_left 0 x y hc (ix2 R k) rfl _ fun b => ?_
  match b with
  | ⟨0, _⟩ => rfl
  | ⟨1, _⟩ => rfl

/-- A row of the second part of two joined arrays. -/
theorem concat_ctx {w : Nat} {α : Type} (x : (⟨2, ![8192, w]⟩ : Shape).Idx → α) (y : (⟨2, ![512, w]⟩ : Shape).Idx → α)
    (hc : Shape.Concatenates [⟨2, ![8192, w]⟩, ⟨2, ![512, w]⟩] ⟨2, ![8704, w]⟩ 0) (R : Fin 8704) (k : Fin w) (h : ¬R.val < 8192) :
    concatenate (⟨2, ![8704, w]⟩ : Shape) 0 [⟨_, x⟩, ⟨_, y⟩] hc (ix2 R k) = y (ix2 (⟨R.val - 8192, by omega⟩ : Fin 512) k) := by
  refine concatenate_pair_apply_right 0 x y hc (ix2 R k) rfl rfl _ (fun b hb => ?_) ?_
  · match b with
    | ⟨0, _⟩ => exact absurd rfl hb
    | ⟨1, _⟩ => rfl
  · show R.val - 8192 + 8192 = R.val
    omega

/-- The smooth rectifier. -/
def silu (x : EReal) : EReal := Ideal.div x (1 + Ideal.exp (-x))

theorem exp_ge (x : EReal) : 0 ≤ Ideal.exp x := by
  induction x with
  | bot => exact le_of_eq Ideal.exp_bot.symm
  | top => exact le_top
  | coe r => rw [Ideal.exp_coe]; exact_mod_cast (Real.exp_pos r).le

/-- A factor goes inside a quotient whose divisor is not zero. -/
theorem silu_mul (x : EReal) : x * Ideal.div 1 (1 + Ideal.exp (-x)) = silu x := by
  have h : (1 : EReal) + Ideal.exp (-x) ≠ 0 := by
    have h1 : (0 : EReal) ≤ Ideal.exp (-x) := exp_ge _
    exact ne_of_gt (lt_of_lt_of_le zero_lt_one (le_add_of_nonneg_right h1))
  unfold silu Ideal.div
  rw [if_neg h, if_neg h, one_mul]

end Cert.Rows
end
-- ==== Proof.MlpAValue.lean ====
/- What one MLP call of the middle layers leaves in its first result, at the exact instance. -/
module

public import proofs.«01_k».proof.Proof.Gen.MlpAIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MlpAIdeal.Hand

open Idealize.ShloMosaic Idealize.SL.Sem Cert.MlpAIdeal Cert.MlpAIdeal.Gen Cert.MlpAIdeal.Value Cert.Rows

theorem pay1_at (v54 : Vec Ideal S1x6x2048 .f32) (v56 : Vec Ideal S512x2048 .f32) (v59 : Vec Ideal S512x2048 .f32) (r : Fin 512) (k : Fin 2048) :
    k0_pay9 (F := Ideal) v54 v56 v59 (ix2 r k) = v56 (ix2 r k) + v54 (ix3 0 5 k) * v59 (ix2 r k) := by
  pointwise [k0_pay9]

theorem pay2_at (v54 : Vec Ideal S1x6x2048 .f32) (v56 : Vec Ideal S512x2048 .f32) (v58 : Vec Ideal S1x2048 .f32) (r : Fin 512) (k : Fin 2048) :
    k0_pay1 (F := Ideal) v54 v56 v58 (ix2 r k)
      = modRow (fun x => v56 (ix2 r x)) (fun x => v58 (ix2 0 x)) (fun x => v54 (ix3 0 4 x)) (fun x => v54 (ix3 0 3 x)) k := by
  pointwise [k0_pay1, modRow, rowNorm]

theorem pay3_at (j : S512x2048.Idx) : k0_pay2 (F := Ideal) j = 0 := by
  pointwise [k0_pay2]

theorem pay4_at (v3 : Vec Ideal S512x2048 .bf16) (v4 : Vec Ideal S1x2048x1024 .bf16) (v11 : Vec Ideal S512x2048 .f32) (v12 : Vec Ideal S1x1024x2048 .bf16) (r : Fin 512) (k : Fin 2048) :
    k0_pay3 (F := Ideal) v3 v4 v11 v12 (ix2 r k)
      = v11 (ix2 r k) + ∑ x : Fin 1024, sqUnit (fun y => v3 (ix2 r y)) (fun y => v4 (ix3 0 y x)) * v12 (ix3 0 x k) := by
  pointwise [k0_pay3, sqUnit]

theorem idx : ∀ t : Fin cfg0.N, win0_0.index t = ![t.val / 8, 0] ∧ win0_1.index t = ![0, 0] ∧ win0_2.index t = ![t.val / 64, 0, 0]
    ∧ win0_3.index t = ![0, 0, t.val % 8] ∧ win0_4.index t = ![0, t.val % 8, 0] ∧ win0_13.index t = ![t.val / 8, 0] :=
  (by decide +kernel : ∀ t : Fin grid0.N, _)

variable (m : (ℓ : Loc nD τ sig) → Buf (Elt Ideal) ℓ)

theorem lt136 (t : Fin cfg0.N) : t.val < 136 := lt_of_lt_of_eq t.isLt N_0

/-- Row `R` of the joined sqUnit state: the latent rows, then the context rows. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem hV (c : Dev nD) (R : Fin 8704) (k : Fin 2048) : (show FVec Ideal S8704x2048 .f32 from V m c main_v2) (ix2 R k) = hrow m c R k := by
  entry_read
  unfold hrow joined
  pointwise

theorem b0 (c : Dev nD) (t : Fin cfg0.N) (r : Fin 512) (k : Fin 2048) :
    (show FVec Ideal S512x2048 .f32 from iblk m c 0 t) (ix2 r k) = hrow m c ⟨t.val / 8 * 512 + r.val, by have := lt136 t; omega⟩ k := by
  have := lt136 t
  refine Eq.trans ?_ (hV m c _ k)
  blk_ext [iblk, idx t]
theorem b1 (c : Dev nD) (t : Fin cfg0.N) (k : Fin 2048) :
    (show FVec Ideal S1x2048 .f32 from iblk m c 1 t) (ix2 0 k) = m ((c.tc : Thread nD τ).loc main_arg2) (ix1 k) := by
  blk_point [iblk, V, idx t]
theorem b2 (c : Dev nD) (t : Fin cfg0.N) (r : Fin 6) (k : Fin 2048) :
    (show FVec Ideal S1x6x2048 .f32 from iblk m c 2 t) (ix3 0 r k) = mrow m c ⟨t.val / 64, by have := lt136 t; omega⟩ r k := by
  have := lt136 t
  unfold mrow
  blk_point [iblk, V, idx t]
theorem b3 (c : Dev nD) (t : Fin cfg0.N) (r : Fin 2048) (k : Fin 1024) :
    (show FVec Ideal S1x2048x1024 .bf16 from iblk m c 3 t) (ix3 0 r k)
      = m ((c.tc : Thread nD τ).loc main_arg4) (ix2 r (⟨t.val % 8 * 1024 + k.val, by omega⟩ : Fin 8192)) := by
  blk_point [iblk, V, idx t]
theorem b4 (c : Dev nD) (t : Fin cfg0.N) (r : Fin 1024) (k : Fin 2048) :
    (show FVec Ideal S1x1024x2048 .bf16 from iblk m c 4 t) (ix3 0 r k)
      = m ((c.tc : Thread nD τ).loc main_arg5) (ix2 (⟨t.val % 8 * 1024 + r.val, by omega⟩ : Fin 8192) k) := by
  blk_point [iblk, V, idx t]

/-- The row the first matrix meets. -/
def urow (c : Dev nD) (R : Fin 8704) (x : Fin 2048) : EReal :=
  modRow (hrow m c R) (fun x => m ((c.tc : Thread nD τ).loc main_arg2) (ix1 x)) (mrow m c ⟨R.val / 4096, by omega⟩ 4) (mrow m c ⟨R.val / 4096, by omega⟩ 3) x

/-- One sqUnit unit's share of an entry of the second product. -/
def unit (c : Dev nD) (R : Fin 8704) (x : Fin 2048) (l : Fin 8192) : EReal :=
  sqUnit (urow m c R) (fun y => m ((c.tc : Thread nD τ).loc main_arg4) (ix2 y l)) * m ((c.tc : Thread nD τ).loc main_arg5) (ix2 l x)

/-- The layer's step at row `R`. -/
def step (c : Dev nD) (R : Fin 8704) (k : Fin 2048) : EReal :=
  hrow m c R k + mrow m c ⟨R.val / 4096, by omega⟩ 5 k * ∑ l : Fin 8192, unit m c R k l

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 8 * 512 + r.val, by have := lt136 t; omega⟩ k := by
  refine (pay2_at _ _ _ r k).trans ?_
  have ht := lt136 t
  have e0 : (fun x => (show FVec Ideal S512x2048 .f32 from iblk m c 0 t) (ix2 r x)) = hrow m c ⟨t.val / 8 * 512 + r.val, by omega⟩ :=
    funext fun x => b0 m c t r x
  have e1 : (fun x => (show FVec Ideal S1x2048 .f32 from iblk m c 1 t) (ix2 0 x)) = fun x => m ((c.tc : Thread nD τ).loc main_arg2) (ix1 x) :=
    funext fun x => b1 m c t x
  have e2 : ∀ p, (fun x => (show FVec Ideal S1x6x2048 .f32 from iblk m c 2 t) (ix3 0 p x)) = mrow m c ⟨t.val / 64, by omega⟩ p := fun p =>
    funext fun x => b2 m c t p x
  have q : (t.val / 8 * 512 + r.val) / 4096 = t.val / 64 := by omega
  unfold urow
  simp only [q]
  rw [← e0, ← e1, ← e2, ← e2]

/-- Inside a run of eight points the rows stay the same. -/
theorem U_pred (c : Dev nD) (t t' : Fin cfg0.N) (h0 : t'.val / 8 = t.val / 8) : U m c t' = U m c t := by
  funext j
  rw [eq_ix2 j]
  refine (U_at m c t' (j 0) (j 1)).trans (Eq.trans ?_ (U_at m c t (j 0) (j 1)).symm)
  simp only [h0]

/-- The kept rows: every point of a run carries the run's modulated rows. -/
theorem scr (c : Dev nD) (n : ℕ) (hn : n < cfg0.N) : (outsAt0 m c n hn).2.2.2.2.2.2.1 = U m c ⟨n, hn⟩ := by
  induction n with
  | zero =>
    have e := outsAt0_A m c ⟨0, hn⟩ (Nat.zero_mod 8) (by dsimp only; omega)
    dsimp only at e
    rw [e]
    frame_out
    rfl
  | succ n ih =>
    by_cases h0 : (n + 1) % 8 = 0
    · have e := outsAt0_A m c ⟨n + 1, hn⟩ h0 (by dsimp only; omega)
      dsimp only at e
      rw [e]
      frame_out
      rfl
    · have hp := ih (Nat.lt_of_succ_lt hn)
      rw [← U_pred m c ⟨n + 1, hn⟩ ⟨n, Nat.lt_of_succ_lt hn⟩ (by dsimp only; omega), ← hp]
      by_cases h1 : (n + 1) % 8 = 7
      · have e := outsAt0_C m c ⟨n + 1, hn⟩ h0 h1
        dsimp only at e
        rw [e]
        frame_out
        rfl
      · have e := outsAt0_B m c ⟨n + 1, hn⟩ h0 h1
        dsimp only at e
        rw [e]
        frame_out
        rfl

/-- What a point adds to the running sum. -/
def part (c : Dev nD) (t : Fin cfg0.N) (j : S512x2048.Idx) : EReal :=
  ∑ x : Fin 1024, sqUnit (fun y => U m c t (ix2 (j 0) y)) (fun y => (show FVec Ideal S1x2048x1024 .bf16 from iblk m c 3 t) (ix3 0 y x)) * (show FVec Ideal S1x1024x2048 .bf16 from iblk m c 4 t) (ix3 0 x (j 1))

theorem accA (c : Dev nD) (t : Fin cfg0.N) (h0 : t.val % 8 = 0) (j : S512x2048.Idx) :
    (outsAt0 m c t.val t.isLt).2.2.2.2.2.2.2 j = 0 + part m c t j := by
  rw [outsAt0_A m c t h0 (by omega)]
  frame_out
  rw [eq_ix2 j]
  exact (pay4_at _ _ _ _ _ _).trans (by rw [pay3_at]; rfl)

theorem accS (c : Dev nD) (t : Fin cfg0.N) (h0 : ¬t.val % 8 = 0) (j : S512x2048.Idx) :
    (outsAt0 m c t.val t.isLt).2.2.2.2.2.2.2 j = (outsAt0 m c (t.val - 1) (Nat.lt_of_le_of_lt (Nat.sub_le _ _) t.isLt)).2.2.2.2.2.2.2 j + part m c t j := by
  have hU : (outsAt0 m c (t.val - 1) (Nat.lt_of_le_of_lt (Nat.sub_le _ _) t.isLt)).2.2.2.2.2.2.1 = U m c t := by
    rw [scr]
    exact U_pred m c t ⟨t.val - 1, _⟩ (by dsimp only; omega)
  by_cases h1 : t.val % 8 = 7
  · rw [outsAt0_C m c t h0 h1]
    frame_out
    simp only [read_unread_whole]
    rw [hU, eq_ix2 j]
    exact pay4_at _ _ _ _ _ _
  · rw [outsAt0_B m c t h0 h1]
    frame_out
    simp only [read_unread_whole]
    rw [hU, eq_ix2 j]
    exact pay4_at _ _ _ _ _ _

/-- The output block a run's last point writes, over the running sum after it. -/
theorem outC (c : Dev nD) (t : Fin cfg0.N) (h1 : t.val % 8 = 7) (r : Fin 512) (k : Fin 2048) :
    (outsAt0 m c t.val t.isLt).1 (ix2 r k)
      = (show FVec Ideal S512x2048 .f32 from iblk m c 0 t) (ix2 r k) + (show FVec Ideal S1x6x2048 .f32 from iblk m c 2 t) (ix3 0 5 k) * (outsAt0 m c t.val t.isLt).2.2.2.2.2.2.2 (ix2 r k) := by
  rw [outsAt0_C m c t (by omega) h1]
  frame_out
  exact pay1_at _ _ _ _ _

/-- What a point adds, over the arguments: its thousand sqUnit units. -/
theorem part_at (c : Dev nD) (t : Fin cfg0.N) (r : Fin 512) (x : Fin 2048) :
    part m c t (ix2 r x) = ∑ k : Fin 1024, unit m c ⟨t.val / 8 * 512 + r.val, by have := lt136 t; omega⟩ x ⟨t.val % 8 * 1024 + k.val, by omega⟩ := by
  refine Finset.sum_congr rfl fun k _ => ?_
  unfold unit
  have e3 : (fun y => (show FVec Ideal S1x2048x1024 .bf16 from iblk m c 3 t) (ix3 0 y k)) = fun y => m ((c.tc : Thread nD τ).loc main_arg4) (ix2 y (⟨t.val % 8 * 1024 + k.val, by omega⟩ : Fin 8192)) :=
    funext fun y => b3 m c t y k
  have eU : (fun y => U m c t (ix2 r y)) = urow m c ⟨t.val / 8 * 512 + r.val, by have := lt136 t; omega⟩ :=
    funext fun y => U_at m c t r y
  rw [← e3, ← eU, ← b4 m c t k x]
  rfl

/-- The running sum after a run: all sqUnit units. -/
theorem acc_at (c : Dev nD) (t : Fin cfg0.N) (h1 : t.val % 8 = 7) (r : Fin 512) (x : Fin 2048) :
    (outsAt0 m c t.val t.isLt).2.2.2.2.2.2.2 (ix2 r x)
      = ∑ l : Fin 8192, unit m c ⟨t.val / 8 * 512 + r.val, by have := lt136 t; omega⟩ x l := by
  have e := Pipeline.eq_sum_fin_of_reset_step_apply_of_flush (fun n h => (outsAt0 m c n h).2.2.2.2.2.2.2) 8 (fun _ => (0 : EReal)) (part m c)
    (fun t h j => accA m c t h j) (fun t h j => accS m c t h j) t h1 (ix2 r x)
  refine e.trans ?_
  rw [zero_add]
  refine Eq.trans (Finset.sum_congr rfl fun s _ => part_at m c _ r x) ?_
  refine Fin.sum_mul_add_congr fun s k hl => ?_
  have hs := s.isLt
  have q1 : (8 * (t.val / 8) + s.val) / 8 = t.val / 8 := by omega
  have q3 : (8 * (t.val / 8) + s.val) % 8 = s.val := by omega
  simp only [q1, q3]

/-- The block a run writes back, over the arguments. -/
theorem out_at (c : Dev nD) (t : Fin cfg0.N) (h1 : t.val % 8 = 7) (r : Fin 512) (k : Fin 2048) :
    (outsAt0 m c t.val t.isLt).1 (ix2 r k) = step m c ⟨t.val / 8 * 512 + r.val, by have := lt136 t; omega⟩ k := by
  refine (outC m c t h1 r k).trans ?_
  have q : (t.val / 8 * 512 + r.val) / 4096 = t.val / 64 := by omega
  unfold step
  simp only [q]
  exact congr (congrArg HAdd.hAdd (b0 m c t r k)) (congr (congrArg HMul.hMul (b2 m c t 5 k)) (acc_at m c t h1 r k))

/-- The first result. -/
def RES (c : Dev nD) : FVec Ideal S8704x2048 .f32 := fun i => step m c (i 0) (i 1)

theorem final (c : Dev nD) : (dats m 0 c).arrAt 13 (cfgs 0).N = RES m c := by
  refine (dats m 0 c).arrAt_eq_of_covers 13 _ (by decide +kernel) fun t hf y => ?_
  have h1 : t.val % 8 = 7 := (flush0_13 t).mp hf
  blk_simp
  rw [after0_13]
  change S512x2048.Idx at y
  have hy : (y 0).val < 512 := (y 0).isLt
  rw [eq_ix2 y]
  refine (out_at m c t h1 (y 0) (y 1)).trans ?_
  have ht := lt136 t
  have e0 : (win0_13.blk t).view.emb (ix2 (y 0) (y 1)) 0 = (⟨t.val / 8 * 512 + (y 0).val, by omega⟩ : Fin 8704) := by
    apply Fin.ext
    show win0_13.index t 0 * 512 + 1 * (y 0).val = _
    rw [(idx t).2.2.2.2.2]
    simp
  have e1 : (win0_13.blk t).view.emb (ix2 (y 0) (y 1)) 1 = y 1 := by
    apply Fin.ext
    show win0_13.index t 1 * 2048 + 1 * (y 1).val = _
    rw [(idx t).2.2.2.2.2]
    simp
  unfold RES
  rw [e0, e1]

end Cert.MlpAIdeal.Hand
end
-- ==== Proof.MlpASide.lean ====
/- What one MLP call of the middle layers leaves in its side results: the next layer's weights and its modulation. -/
module

public import proofs.«01_k».proof.Proof.Gen.MlpAIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MlpAIdeal.Side

open Idealize.ShloMosaic Idealize.SL.Sem Cert.MlpAIdeal Cert.MlpAIdeal.Gen Cert.MlpAIdeal.Value Cert.Rows

variable (m : (ℓ : Loc nD τ sig) → Buf (Elt Ideal) ℓ)

theorem lt136 (t : Fin cfg0.N) : t.val < 136 := lt_of_lt_of_eq t.isLt N_0

theorem idx14 : ∀ t : Fin cfg0.N, win0_6.index t = ![1, min t.val 127, 0] ∧ win0_14.index t = ![0, min t.val 127, 0] :=
  (by decide +kernel : ∀ t : Fin grid0.N, _)

/-- The block of weights a point copies. -/
theorem cast14 (c : Dev nD) (t : Fin cfg0.N) : (outsAt0 m c t.val t.isLt).2.1 = k0_pay4 (F := Ideal) (iblk m c 6 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST14 (c : Dev nD) : FVec Ideal S1x2048x8192 .bf16 := fun i => m ((c.tc : Thread nD τ).loc main_arg7) (ix3 1 (i 1) (i 2))

theorem src14 (c : Dev nD) (t : Fin cfg0.N) (r : Fin 16) (k : Fin 8192) :
    (show FVec Ideal S1x16x8192 .f32 from iblk m c 6 t) (ix3 0 r k)
      = m ((c.tc : Thread nD τ).loc main_arg7) (ix3 1 (⟨min t.val 127 * 16 + r.val, by omega⟩ : Fin 2048) k) := by
  blk_point [iblk, V, idx14 t]

theorem final14 (c : Dev nD) : (dats m 0 c).arrAt 14 (cfgs 0).N = CAST14 m c := by
  refine (dats m 0 c).arrAt_eq_of_covers 14 _ (by decide +kernel) fun t hf y => ?_
  blk_simp
  rw [after0_14]
  change S1x16x8192.Idx at y
  have hy : (y 1).val < 16 := (y 1).isLt
  have hz : y 0 = (0 : Fin 1) := Subsingleton.elim (α := Fin 1) _ _
  rw [cast14, eq_ix3 y, hz]
  refine (src14 m c t (y 1) (y 2)).trans ?_
  have e1 : (win0_14.blk t).view.emb (ix3 0 (y 1) (y 2)) 1 = (⟨min t.val 127 * 16 + (y 1).val, by omega⟩ : Fin 2048) := by
    apply Fin.ext
    show win0_14.index t 1 * 16 + 1 * (y 1).val = _
    rw [(idx14 t).2]
    simp
  have e2 : (win0_14.blk t).view.emb (ix3 0 (y 1) (y 2)) 2 = y 2 := by
    apply Fin.ext
    show win0_14.index t 2 * 8192 + 1 * (y 2).val = _
    rw [(idx14 t).2]
    simp
  unfold CAST14
  rw [e1, e2]

theorem idx15 : ∀ t : Fin cfg0.N, win0_7.index t = ![1, min t.val 127, 0] ∧ win0_15.index t = ![0, min t.val 127, 0] :=
  (by decide +kernel : ∀ t : Fin grid0.N, _)

/-- The block of weights a point copies. -/
theorem cast15 (c : Dev nD) (t : Fin cfg0.N) : (outsAt0 m c t.val t.isLt).2.2.1 = k0_pay5 (F := Ideal) (iblk m c 7 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST15 (c : Dev nD) : FVec Ideal S1x8192x2048 .bf16 := fun i => m ((c.tc : Thread nD τ).loc main_arg8) (ix3 1 (i 1) (i 2))

theorem src15 (c : Dev nD) (t : Fin cfg0.N) (r : Fin 64) (k : Fin 2048) :
    (show FVec Ideal S1x64x2048 .f32 from iblk m c 7 t) (ix3 0 r k)
      = m ((c.tc : Thread nD τ).loc main_arg8) (ix3 1 (⟨min t.val 127 * 64 + r.val, by omega⟩ : Fin 8192) k) := by
  blk_point [iblk, V, idx15 t]

theorem final15 (c : Dev nD) : (dats m 0 c).arrAt 15 (cfgs 0).N = CAST15 m c := by
  refine (dats m 0 c).arrAt_eq_of_covers 15 _ (by decide +kernel) fun t hf y => ?_
  blk_simp
  rw [after0_15]
  change S1x64x2048.Idx at y
  have hy : (y 1).val < 64 := (y 1).isLt
  have hz : y 0 = (0 : Fin 1) := Subsingleton.elim (α := Fin 1) _ _
  rw [cast15, eq_ix3 y, hz]
  refine (src15 m c t (y 1) (y 2)).trans ?_
  have e1 : (win0_15.blk t).view.emb (ix3 0 (y 1) (y 2)) 1 = (⟨min t.val 127 * 64 + (y 1).val, by omega⟩ : Fin 8192) := by
    apply Fin.ext
    show win0_15.index t 1 * 64 + 1 * (y 1).val = _
    rw [(idx15 t).2]
    simp
  have e2 : (win0_15.blk t).view.emb (ix3 0 (y 1) (y 2)) 2 = y 2 := by
    apply Fin.ext
    show win0_15.index t 2 * 2048 + 1 * (y 2).val = _
    rw [(idx15 t).2]
    simp
  unfold CAST15
  rw [e1, e2]

theorem idx16 : ∀ t : Fin cfg0.N, win0_8.index t = ![0, min t.val 127, 0] ∧ win0_16.index t = ![0, min t.val 127, 0] :=
  (by decide +kernel : ∀ t : Fin grid0.N, _)

/-- The block of weights a point copies. -/
theorem cast16 (c : Dev nD) (t : Fin cfg0.N) : (outsAt0 m c t.val t.isLt).2.2.2.1 = k0_pay6 (F := Ideal) (iblk m c 8 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST16 (c : Dev nD) : FVec Ideal S1x2048x3072 .bf16 := fun i => m ((c.tc : Thread nD τ).loc main_arg9) (ix3 0 (i 1) (i 2))

theorem src16 (c : Dev nD) (t : Fin cfg0.N) (r : Fin 16) (k : Fin 3072) :
    (show FVec Ideal S1x16x3072 .f32 from iblk m c 8 t) (ix3 0 r k)
      = m ((c.tc : Thread nD τ).loc main_arg9) (ix3 0 (⟨min t.val 127 * 16 + r.val, by omega⟩ : Fin 2048) k) := by
  blk_point [iblk, V, idx16 t]

theorem final16 (c : Dev nD) : (dats m 0 c).arrAt 16 (cfgs 0).N = CAST16 m c := by
  refine (dats m 0 c).arrAt_eq_of_covers 16 _ (by decide +kernel) fun t hf y => ?_
  blk_simp
  rw [after0_16]
  change S1x16x3072.Idx at y
  have hy : (y 1).val < 16 := (y 1).isLt
  have hz : y 0 = (0 : Fin 1) := Subsingleton.elim (α := Fin 1) _ _
  rw [cast16, eq_ix3 y, hz]
  refine (src16 m c t (y 1) (y 2)).trans ?_
  have e1 : (win0_16.blk t).view.emb (ix3 0 (y 1) (y 2)) 1 = (⟨min t.val 127 * 16 + (y 1).val, by omega⟩ : Fin 2048) := by
    apply Fin.ext
    show win0_16.index t 1 * 16 + 1 * (y 1).val = _
    rw [(idx16 t).2]
    simp
  have e2 : (win0_16.blk t).view.emb (ix3 0 (y 1) (y 2)) 2 = y 2 := by
    apply Fin.ext
    show win0_16.index t 2 * 3072 + 1 * (y 2).val = _
    rw [(idx16 t).2]
    simp
  unfold CAST16
  rw [e1, e2]

theorem idx17 : ∀ t : Fin cfg0.N, win0_9.index t = ![0, min t.val 127, 0] ∧ win0_17.index t = ![0, min t.val 127, 0] :=
  (by decide +kernel : ∀ t : Fin grid0.N, _)

/-- The block of weights a point copies. -/
theorem cast17 (c : Dev nD) (t : Fin cfg0.N) : (outsAt0 m c t.val t.isLt).2.2.2.2.1 = k0_pay7 (F := Ideal) (iblk m c 9 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST17 (c : Dev nD) : FVec Ideal S1x2048x2048 .bf16 := fun i => m ((c.tc : Thread nD τ).loc main_arg10) (ix3 0 (i 1) (i 2))

theorem src17 (c : Dev nD) (t : Fin cfg0.N) (r : Fin 16) (k : Fin 2048) :
    (show FVec Ideal S1x16x2048 .f32 from iblk m c 9 t) (ix3 0 r k)
      = m ((c.tc : Thread nD τ).loc main_arg10) (ix3 0 (⟨min t.val 127 * 16 + r.val, by omega⟩ : Fin 2048) k) := by
  blk_point [iblk, V, idx17 t]

theorem final17 (c : Dev nD) : (dats m 0 c).arrAt 17 (cfgs 0).N = CAST17 m c := by
  refine (dats m 0 c).arrAt_eq_of_covers 17 _ (by decide +kernel) fun t hf y => ?_
  blk_simp
  rw [after0_17]
  change S1x16x2048.Idx at y
  have hy : (y 1).val < 16 := (y 1).isLt
  have hz : y 0 = (0 : Fin 1) := Subsingleton.elim (α := Fin 1) _ _
  rw [cast17, eq_ix3 y, hz]
  refine (src17 m c t (y 1) (y 2)).trans ?_
  have e1 : (win0_17.blk t).view.emb (ix3 0 (y 1) (y 2)) 1 = (⟨min t.val 127 * 16 + (y 1).val, by omega⟩ : Fin 2048) := by
    apply Fin.ext
    show win0_17.index t 1 * 16 + 1 * (y 1).val = _
    rw [(idx17 t).2]
    simp
  have e2 : (win0_17.blk t).view.emb (ix3 0 (y 1) (y 2)) 2 = y 2 := by
    apply Fin.ext
    show win0_17.index t 2 * 2048 + 1 * (y 2).val = _
    rw [(idx17 t).2]
    simp
  unfold CAST17
  rw [e1, e2]

/-- The conditioning rows. -/
def condRow (c : Dev nD) (r : Fin 8) (k : Fin 2048) : EReal := m ((c.tc : Thread nD τ).loc main_arg11) (ix2 r k)

theorem idx18 : ∀ t : Fin cfg0.N, win0_10.index t = ![0, 0] ∧ win0_11.index t = ![1, 0, min t.val 95] ∧ win0_12.index t = ![1, 0, min t.val 95]
    ∧ win0_18.index t = ![0, 0, min t.val 95] :=
  (by decide +kernel : ∀ t : Fin grid0.N, _)

theorem pay9_at (v31 : Vec Ideal S8x2048 .f32) (v40 : Vec Ideal S1x2048x128 .f32) (v44 : Vec Ideal S1x1x128 .f32) (r : Fin 8) (k : Fin 128) :
    k0_pay8 (F := Ideal) v31 v40 v44 (ix3 0 r k)
      = (∑ x : Fin 2048, silu (v31 (ix2 r x)) * v40 (ix3 0 x k)) + v44 (ix3 0 0 k) := by
  pointwise [k0_pay8, silu]
  simp only [zero_sub]

/-- The modulation block a point computes. -/
theorem mods18 (c : Dev nD) (t : Fin cfg0.N) : (outsAt0 m c t.val t.isLt).2.2.2.2.2.1 = k0_pay8 (F := Ideal) (iblk m c 10 t) (iblk m c 11 t) (iblk m c 12 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The next layer's modulation. -/
def ADA (c : Dev nD) : FVec Ideal S1x8x12288 .f32 := fun i =>
  (∑ x : Fin 2048, silu (condRow m c (i 1) x) * m ((c.tc : Thread nD τ).loc main_arg12) (ix3 1 x (i 2))) + m ((c.tc : Thread nD τ).loc main_arg13) (ix2 1 (i 2))

theorem b10 (c : Dev nD) (t : Fin cfg0.N) (r : Fin 8) (k : Fin 2048) :
    (show FVec Ideal S8x2048 .f32 from iblk m c 10 t) (ix2 r k) = condRow m c r k := by
  unfold condRow
  blk_point [iblk, V, idx18 t]
theorem b11 (c : Dev nD) (t : Fin cfg0.N) (r : Fin 2048) (k : Fin 128) :
    (show FVec Ideal S1x2048x128 .f32 from iblk m c 11 t) (ix3 0 r k)
      = m ((c.tc : Thread nD τ).loc main_arg12) (ix3 1 r (⟨min t.val 95 * 128 + k.val, by omega⟩ : Fin 12288)) := by
  blk_point [iblk, V, idx18 t]
theorem b12 (c : Dev nD) (t : Fin cfg0.N) (k : Fin 128) :
    (show FVec Ideal S1x1x128 .f32 from iblk m c 12 t) (ix3 0 0 k)
      = m ((c.tc : Thread nD τ).loc main_arg13) (ix2 1 (⟨min t.val 95 * 128 + k.val, by omega⟩ : Fin 12288)) := by
  blk_point [iblk, V, idx18 t]

theorem final18 (c : Dev nD) : (dats m 0 c).arrAt 18 (cfgs 0).N = ADA m c := by
  refine (dats m 0 c).arrAt_eq_of_covers 18 _ (by decide +kernel) fun t hf y => ?_
  blk_simp
  rw [after0_18]
  change S1x8x128.Idx at y
  have hy : (y 2).val < 128 := (y 2).isLt
  have hz : y 0 = (0 : Fin 1) := Subsingleton.elim (α := Fin 1) _ _
  rw [mods18, eq_ix3 y, hz]
  refine (pay9_at _ _ _ (y 1) (y 2)).trans ?_
  have e1 : (win0_18.blk t).view.emb (ix3 0 (y 1) (y 2)) 1 = y 1 := by
    apply Fin.ext
    show win0_18.index t 1 * 8 + 1 * (y 1).val = _
    rw [(idx18 t).2.2.2]
    simp
  have e2 : (win0_18.blk t).view.emb (ix3 0 (y 1) (y 2)) 2 = (⟨min t.val 95 * 128 + (y 2).val, by omega⟩ : Fin 12288) := by
    apply Fin.ext
    show win0_18.index t 2 * 128 + 1 * (y 2).val = _
    rw [(idx18 t).2.2.2]
    simp
  unfold ADA
  rw [e1, e2]
  exact congr (congrArg HAdd.hAdd (Finset.sum_congr rfl fun x _ => congr (congrArg HMul.hMul (congrArg silu (b10 m c t (y 1) x))) (b11 m c t x (y 2)))) (b12 m c t (y 2))

end Cert.MlpAIdeal.Side
end
-- ==== Proof.MlpAClaim.lean ====
/- The claim of one MLP call of the middle layers: the reference's results are the arrays the call leaves. -/
module

public import proofs.«01_k».proof.Proof.MlpAValue
public import proofs.«01_k».proof.Proof.MlpASide
public import proofs.«01_k».proof.Defs
public import proofs.«01_k».proof.Proof.Gen.MlpAReferenceIdeal
public import Idealize.ShloMosaic.Lib.Claim

@[expose] public section

set_option maxRecDepth 16384

noncomputable section

namespace Cert.MlpAIdeal.Hand

open Idealize.ShloMosaic Idealize.SL.Sem Cert.Rows Cert.MlpAIdeal.Side

/-- The rectifier as the reference spells it: the argument times a quotient. -/
theorem silu_eq (x : EReal) : x * Ideal.div 1 (1 + Ideal.exp (-x)) = silu x := Cert.Rows.silu_mul x

set_option maxHeartbeats 4000000 in
theorem algebraic : Cert.algebraic_MlpAIdeal_MlpAReferenceIdeal := by
  pair_intro
  · run_from Cert.MlpAIdeal.Value.run_blocks m g
  · hlo_run
    · rw [final]
      funext j
      idx_vars j
      by_cases h : j0.val < 8192
      · refine (concat_lat _ _ _ j0 j1 h).trans ?_
        pointwise [RES, step, unit, sqUnit, urow, modRow, rowNorm, hrow, mrow]
        simp only [joined_lat _ _ _ h, hagree c]
      · refine (concat_ctx _ _ _ j0 j1 h).trans ?_
        have q : j0.val / 4096 = 2 := by omega
        generalize hr : (⟨j0.val - 8192, by omega⟩ : Fin 512) = r0
        have hv : j0.val - 8192 = r0.val := by rw [← hr]
        pointwise [RES, step, unit, sqUnit, urow, modRow, rowNorm, hrow, mrow]
        simp only [joined_ctx _ _ _ h, q, hv, hagree c]
        rfl
    · rw [final14]
      funext j
      idx_vars j
      pointwise [CAST14]
    · rw [final15]
      funext j
      idx_vars j
      pointwise [CAST15]
    · rw [final16]
      funext j
      idx_vars j
      pointwise [CAST16]
    · rw [final17]
      funext j
      idx_vars j
      pointwise [CAST17]
    · rw [final18]
      funext j
      idx_vars j
      simp only [StableHlo.TRef.toBuf, StableHlo.TRef.ofBuf, cast_cast, cast_eq]
      pointwise [ADA, condRow]
      simp only [silu_eq]

end Cert.MlpAIdeal.Hand
end
-- ==== Proof.MlpBValue.lean ====
/- What one MLP call of the middle layers leaves in its first result, at the exact instance. -/
module

public import proofs.«01_k».proof.Proof.Gen.MlpBIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MlpBIdeal.Hand

open Idealize.ShloMosaic Idealize.SL.Sem Cert.MlpBIdeal Cert.MlpBIdeal.Gen Cert.MlpBIdeal.Value Cert.Rows

theorem pay1_at (v54 : Vec Ideal S1x6x2048 .f32) (v56 : Vec Ideal S512x2048 .f32) (v59 : Vec Ideal S512x2048 .f32) (r : Fin 512) (k : Fin 2048) :
    k0_pay9 (F := Ideal) v54 v56 v59 (ix2 r k) = v56 (ix2 r k) + v54 (ix3 0 5 k) * v59 (ix2 r k) := by
  pointwise [k0_pay9]

theorem pay2_at (v54 : Vec Ideal S1x6x2048 .f32) (v56 : Vec Ideal S512x2048 .f32) (v58 : Vec Ideal S1x2048 .f32) (r : Fin 512) (k : Fin 2048) :
    k0_pay1 (F := Ideal) v54 v56 v58 (ix2 r k)
      = modRow (fun x => v56 (ix2 r x)) (fun x => v58 (ix2 0 x)) (fun x => v54 (ix3 0 4 x)) (fun x => v54 (ix3 0 3 x)) k := by
  pointwise [k0_pay1, modRow, rowNorm]

theorem pay3_at (j : S512x2048.Idx) : k0_pay2 (F := Ideal) j = 0 := by
  pointwise [k0_pay2]

theorem pay4_at (v3 : Vec Ideal S512x2048 .bf16) (v4 : Vec Ideal S1x2048x1024 .bf16) (v11 : Vec Ideal S512x2048 .f32) (v12 : Vec Ideal S1x1024x2048 .bf16) (r : Fin 512) (k : Fin 2048) :
    k0_pay3 (F := Ideal) v3 v4 v11 v12 (ix2 r k)
      = v11 (ix2 r k) + ∑ x : Fin 1024, sqUnit (fun y => v3 (ix2 r y)) (fun y => v4 (ix3 0 y x)) * v12 (ix3 0 x k) := by
  pointwise [k0_pay3, sqUnit]

theorem idx : ∀ t : Fin cfg0.N, win0_0.index t = ![t.val / 8, 0] ∧ win0_1.index t = ![0, 0] ∧ win0_2.index t = ![t.val / 64, 0, 0]
    ∧ win0_3.index t = ![0, 0, t.val % 8] ∧ win0_4.index t = ![0, t.val % 8, 0] ∧ win0_13.index t = ![t.val / 8, 0] :=
  (by decide +kernel : ∀ t : Fin grid0.N, _)

variable (m : (ℓ : Loc nD τ sig) → Buf (Elt Ideal) ℓ)

theorem lt136 (t : Fin cfg0.N) : t.val < 136 := lt_of_lt_of_eq t.isLt N_0

/-- Row `R` of the joined sqUnit state: the latent rows, then the context rows. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem hV (c : Dev nD) (R : Fin 8704) (k : Fin 2048) : (show FVec Ideal S8704x2048 .f32 from V m c main_v2) (ix2 R k) = hrow m c R k := by
  entry_read
  unfold hrow joined
  pointwise

theorem b0 (c : Dev nD) (t : Fin cfg0.N) (r : Fin 512) (k : Fin 2048) :
    (show FVec Ideal S512x2048 .f32 from iblk m c 0 t) (ix2 r k) = hrow m c ⟨t.val / 8 * 512 + r.val, by have := lt136 t; omega⟩ k := by
  have := lt136 t
  refine Eq.trans ?_ (hV m c _ k)
  blk_ext [iblk, idx t]
theorem b1 (c : Dev nD) (t : Fin cfg0.N) (k : Fin 2048) :
    (show FVec Ideal S1x2048 .f32 from iblk m c 1 t) (ix2 0 k) = m ((c.tc : Thread nD τ).loc main_arg2) (ix1 k) := by
  blk_point [iblk, V, idx t]
theorem b2 (c : Dev nD) (t : Fin cfg0.N) (r : Fin 6) (k : Fin 2048) :
    (show FVec Ideal S1x6x2048 .f32 from iblk m c 2 t) (ix3 0 r k) = mrow m c ⟨t.val / 64, by have := lt136 t; omega⟩ r k := by
  have := lt136 t
  unfold mrow
  blk_point [iblk, V, idx t]
theorem b3 (c : Dev nD) (t : Fin cfg0.N) (r : Fin 2048) (k : Fin 1024) :
    (show FVec Ideal S1x2048x1024 .bf16 from iblk m c 3 t) (ix3 0 r k)
      = m ((c.tc : Thread nD τ).loc main_arg4) (ix2 r (⟨t.val % 8 * 1024 + k.val, by omega⟩ : Fin 8192)) := by
  blk_point [iblk, V, idx t]
theorem b4 (c : Dev nD) (t : Fin cfg0.N) (r : Fin 1024) (k : Fin 2048) :
    (show FVec Ideal S1x1024x2048 .bf16 from iblk m c 4 t) (ix3 0 r k)
      = m ((c.tc : Thread nD τ).loc main_arg5) (ix2 (⟨t.val % 8 * 1024 + r.val, by omega⟩ : Fin 8192) k) := by
  blk_point [iblk, V, idx t]

/-- The row the first matrix meets. -/
def urow (c : Dev nD) (R : Fin 8704) (x : Fin 2048) : EReal :=
  modRow (hrow m c R) (fun x => m ((c.tc : Thread nD τ).loc main_arg2) (ix1 x)) (mrow m c ⟨R.val / 4096, by omega⟩ 4) (mrow m c ⟨R.val / 4096, by omega⟩ 3) x

/-- One sqUnit unit's share of an entry of the second product. -/
def unit (c : Dev nD) (R : Fin 8704) (x : Fin 2048) (l : Fin 8192) : EReal :=
  sqUnit (urow m c R) (fun y => m ((c.tc : Thread nD τ).loc main_arg4) (ix2 y l)) * m ((c.tc : Thread nD τ).loc main_arg5) (ix2 l x)

/-- The layer's step at row `R`. -/
def step (c : Dev nD) (R : Fin 8704) (k : Fin 2048) : EReal :=
  hrow m c R k + mrow m c ⟨R.val / 4096, by omega⟩ 5 k * ∑ l : Fin 8192, unit m c R k l

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 8 * 512 + r.val, by have := lt136 t; omega⟩ k := by
  refine (pay2_at _ _ _ r k).trans ?_
  have ht := lt136 t
  have e0 : (fun x => (show FVec Ideal S512x2048 .f32 from iblk m c 0 t) (ix2 r x)) = hrow m c ⟨t.val / 8 * 512 + r.val, by omega⟩ :=
    funext fun x => b0 m c t r x
  have e1 : (fun x => (show FVec Ideal S1x2048 .f32 from iblk m c 1 t) (ix2 0 x)) = fun x => m ((c.tc : Thread nD τ).loc main_arg2) (ix1 x) :=
    funext fun x => b1 m c t x
  have e2 : ∀ p, (fun x => (show FVec Ideal S1x6x2048 .f32 from iblk m c 2 t) (ix3 0 p x)) = mrow m c ⟨t.val / 64, by omega⟩ p := fun p =>
    funext fun x => b2 m c t p x
  have q : (t.val / 8 * 512 + r.val) / 4096 = t.val / 64 := by omega
  unfold urow
  simp only [q]
  rw [← e0, ← e1, ← e2, ← e2]

/-- Inside a run of eight points the rows stay the same. -/
theorem U_pred (c : Dev nD) (t t' : Fin cfg0.N) (h0 : t'.val / 8 = t.val / 8) : U m c t' = U m c t := by
  funext j
  rw [eq_ix2 j]
  refine (U_at m c t' (j 0) (j 1)).trans (Eq.trans ?_ (U_at m c t (j 0) (j 1)).symm)
  simp only [h0]

/-- The kept rows: every point of a run carries the run's modulated rows. -/
theorem scr (c : Dev nD) (n : ℕ) (hn : n < cfg0.N) : (outsAt0 m c n hn).2.2.2.2.2.2.1 = U m c ⟨n, hn⟩ := by
  induction n with
  | zero =>
    have e := outsAt0_A m c ⟨0, hn⟩ (Nat.zero_mod 8) (by dsimp only; omega)
    dsimp only at e
    rw [e]
    frame_out
    rfl
  | succ n ih =>
    by_cases h0 : (n + 1) % 8 = 0
    · have e := outsAt0_A m c ⟨n + 1, hn⟩ h0 (by dsimp only; omega)
      dsimp only at e
      rw [e]
      frame_out
      rfl
    · have hp := ih (Nat.lt_of_succ_lt hn)
      rw [← U_pred m c ⟨n + 1, hn⟩ ⟨n, Nat.lt_of_succ_lt hn⟩ (by dsimp only; omega), ← hp]
      by_cases h1 : (n + 1) % 8 = 7
      · have e := outsAt0_C m c ⟨n + 1, hn⟩ h0 h1
        dsimp only at e
        rw [e]
        frame_out
        rfl
      · have e := outsAt0_B m c ⟨n + 1, hn⟩ h0 h1
        dsimp only at e
        rw [e]
        frame_out
        rfl

/-- What a point adds to the running sum. -/
def part (c : Dev nD) (t : Fin cfg0.N) (j : S512x2048.Idx) : EReal :=
  ∑ x : Fin 1024, sqUnit (fun y => U m c t (ix2 (j 0) y)) (fun y => (show FVec Ideal S1x2048x1024 .bf16 from iblk m c 3 t) (ix3 0 y x)) * (show FVec Ideal S1x1024x2048 .bf16 from iblk m c 4 t) (ix3 0 x (j 1))

theorem accA (c : Dev nD) (t : Fin cfg0.N) (h0 : t.val % 8 = 0) (j : S512x2048.Idx) :
    (outsAt0 m c t.val t.isLt).2.2.2.2.2.2.2 j = 0 + part m c t j := by
  rw [outsAt0_A m c t h0 (by omega)]
  frame_out
  rw [eq_ix2 j]
  exact (pay4_at _ _ _ _ _ _).trans (by rw [pay3_at]; rfl)

theorem accS (c : Dev nD) (t : Fin cfg0.N) (h0 : ¬t.val % 8 = 0) (j : S512x2048.Idx) :
    (outsAt0 m c t.val t.isLt).2.2.2.2.2.2.2 j = (outsAt0 m c (t.val - 1) (Nat.lt_of_le_of_lt (Nat.sub_le _ _) t.isLt)).2.2.2.2.2.2.2 j + part m c t j := by
  have hU : (outsAt0 m c (t.val - 1) (Nat.lt_of_le_of_lt (Nat.sub_le _ _) t.isLt)).2.2.2.2.2.2.1 = U m c t := by
    rw [scr]
    exact U_pred m c t ⟨t.val - 1, _⟩ (by dsimp only; omega)
  by_cases h1 : t.val % 8 = 7
  · rw [outsAt0_C m c t h0 h1]
    frame_out
    simp only [read_unread_whole]
    rw [hU, eq_ix2 j]
    exact pay4_at _ _ _ _ _ _
  · rw [outsAt0_B m c t h0 h1]
    frame_out
    simp only [read_unread_whole]
    rw [hU, eq_ix2 j]
    exact pay4_at _ _ _ _ _ _

/-- The output block a run's last point writes, over the running sum after it. -/
theorem outC (c : Dev nD) (t : Fin cfg0.N) (h1 : t.val % 8 = 7) (r : Fin 512) (k : Fin 2048) :
    (outsAt0 m c t.val t.isLt).1 (ix2 r k)
      = (show FVec Ideal S512x2048 .f32 from iblk m c 0 t) (ix2 r k) + (show FVec Ideal S1x6x2048 .f32 from iblk m c 2 t) (ix3 0 5 k) * (outsAt0 m c t.val t.isLt).2.2.2.2.2.2.2 (ix2 r k) := by
  rw [outsAt0_C m c t (by omega) h1]
  frame_out
  exact pay1_at _ _ _ _ _

/-- What a point adds, over the arguments: its thousand sqUnit units. -/
theorem part_at (c : Dev nD) (t : Fin cfg0.N) (r : Fin 512) (x : Fin 2048) :
    part m c t (ix2 r x) = ∑ k : Fin 1024, unit m c ⟨t.val / 8 * 512 + r.val, by have := lt136 t; omega⟩ x ⟨t.val % 8 * 1024 + k.val, by omega⟩ := by
  refine Finset.sum_congr rfl fun k _ => ?_
  unfold unit
  have e3 : (fun y => (show FVec Ideal S1x2048x1024 .bf16 from iblk m c 3 t) (ix3 0 y k)) = fun y => m ((c.tc : Thread nD τ).loc main_arg4) (ix2 y (⟨t.val % 8 * 1024 + k.val, by omega⟩ : Fin 8192)) :=
    funext fun y => b3 m c t y k
  have eU : (fun y => U m c t (ix2 r y)) = urow m c ⟨t.val / 8 * 512 + r.val, by have := lt136 t; omega⟩ :=
    funext fun y => U_at m c t r y
  rw [← e3, ← eU, ← b4 m c t k x]
  rfl

/-- The running sum after a run: all sqUnit units. -/
theorem acc_at (c : Dev nD) (t : Fin cfg0.N) (h1 : t.val % 8 = 7) (r : Fin 512) (x : Fin 2048) :
    (outsAt0 m c t.val t.isLt).2.2.2.2.2.2.2 (ix2 r x)
      = ∑ l : Fin 8192, unit m c ⟨t.val / 8 * 512 + r.val, by have := lt136 t; omega⟩ x l := by
  have e := Pipeline.eq_sum_fin_of_reset_step_apply_of_flush (fun n h => (outsAt0 m c n h).2.2.2.2.2.2.2) 8 (fun _ => (0 : EReal)) (part m c)
    (fun t h j => accA m c t h j) (fun t h j => accS m c t h j) t h1 (ix2 r x)
  refine e.trans ?_
  rw [zero_add]
  refine Eq.trans (Finset.sum_congr rfl fun s _ => part_at m c _ r x) ?_
  refine Fin.sum_mul_add_congr fun s k hl => ?_
  have hs := s.isLt
  have q1 : (8 * (t.val / 8) + s.val) / 8 = t.val / 8 := by omega
  have q3 : (8 * (t.val / 8) + s.val) % 8 = s.val := by omega
  simp only [q1, q3]

/-- The block a run writes back, over the arguments. -/
theorem out_at (c : Dev nD) (t : Fin cfg0.N) (h1 : t.val % 8 = 7) (r : Fin 512) (k : Fin 2048) :
    (outsAt0 m c t.val t.isLt).1 (ix2 r k) = step m c ⟨t.val / 8 * 512 + r.val, by have := lt136 t; omega⟩ k := by
  refine (outC m c t h1 r k).trans ?_
  have q : (t.val / 8 * 512 + r.val) / 4096 = t.val / 64 := by omega
  unfold step
  simp only [q]
  exact congr (congrArg HAdd.hAdd (b0 m c t r k)) (congr (congrArg HMul.hMul (b2 m c t 5 k)) (acc_at m c t h1 r k))

/-- The first result. -/
def RES (c : Dev nD) : FVec Ideal S8704x2048 .f32 := fun i => step m c (i 0) (i 1)

theorem final (c : Dev nD) : (dats m 0 c).arrAt 13 (cfgs 0).N = RES m c := by
  refine (dats m 0 c).arrAt_eq_of_covers 13 _ (by decide +kernel) fun t hf y => ?_
  have h1 : t.val % 8 = 7 := (flush0_13 t).mp hf
  blk_simp
  rw [after0_13]
  change S512x2048.Idx at y
  have hy : (y 0).val < 512 := (y 0).isLt
  rw [eq_ix2 y]
  refine (out_at m c t h1 (y 0) (y 1)).trans ?_
  have ht := lt136 t
  have e0 : (win0_13.blk t).view.emb (ix2 (y 0) (y 1)) 0 = (⟨t.val / 8 * 512 + (y 0).val, by omega⟩ : Fin 8704) := by
    apply Fin.ext
    show win0_13.index t 0 * 512 + 1 * (y 0).val = _
    rw [(idx t).2.2.2.2.2]
    simp
  have e1 : (win0_13.blk t).view.emb (ix2 (y 0) (y 1)) 1 = y 1 := by
    apply Fin.ext
    show win0_13.index t 1 * 2048 + 1 * (y 1).val = _
    rw [(idx t).2.2.2.2.2]
    simp
  unfold RES
  rw [e0, e1]

end Cert.MlpBIdeal.Hand
end
-- ==== Proof.MlpBSide.lean ====
/- What one MLP call of the middle layers leaves in its side results: the next layer's weights and its modulation. -/
module

public import proofs.«01_k».proof.Proof.Gen.MlpBIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MlpBIdeal.Side

open Idealize.ShloMosaic Idealize.SL.Sem Cert.MlpBIdeal Cert.MlpBIdeal.Gen Cert.MlpBIdeal.Value Cert.Rows

variable (m : (ℓ : Loc nD τ sig) → Buf (Elt Ideal) ℓ)

theorem lt136 (t : Fin cfg0.N) : t.val < 136 := lt_of_lt_of_eq t.isLt N_0

theorem idx14 : ∀ t : Fin cfg0.N, win0_6.index t = ![2, min t.val 127, 0] ∧ win0_14.index t = ![0, min t.val 127, 0] :=
  (by decide +kernel : ∀ t : Fin grid0.N, _)

/-- The block of weights a point copies. -/
theorem cast14 (c : Dev nD) (t : Fin cfg0.N) : (outsAt0 m c t.val t.isLt).2.1 = k0_pay4 (F := Ideal) (iblk m c 6 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST14 (c : Dev nD) : FVec Ideal S1x2048x8192 .bf16 := fun i => m ((c.tc : Thread nD τ).loc main_arg7) (ix3 2 (i 1) (i 2))

theorem src14 (c : Dev nD) (t : Fin cfg0.N) (r : Fin 16) (k : Fin 8192) :
    (show FVec Ideal S1x16x8192 .f32 from iblk m c 6 t) (ix3 0 r k)
      = m ((c.tc : Thread nD τ).loc main_arg7) (ix3 2 (⟨min t.val 127 * 16 + r.val, by omega⟩ : Fin 2048) k) := by
  blk_point [iblk, V, idx14 t]

theorem final14 (c : Dev nD) : (dats m 0 c).arrAt 14 (cfgs 0).N = CAST14 m c := by
  refine (dats m 0 c).arrAt_eq_of_covers 14 _ (by decide +kernel) fun t hf y => ?_
  blk_simp
  rw [after0_14]
  change S1x16x8192.Idx at y
  have hy : (y 1).val < 16 := (y 1).isLt
  have hz : y 0 = (0 : Fin 1) := Subsingleton.elim (α := Fin 1) _ _
  rw [cast14, eq_ix3 y, hz]
  refine (src14 m c t (y 1) (y 2)).trans ?_
  have e1 : (win0_14.blk t).view.emb (ix3 0 (y 1) (y 2)) 1 = (⟨min t.val 127 * 16 + (y 1).val, by omega⟩ : Fin 2048) := by
    apply Fin.ext
    show win0_14.index t 1 * 16 + 1 * (y 1).val = _
    rw [(idx14 t).2]
    simp
  have e2 : (win0_14.blk t).view.emb (ix3 0 (y 1) (y 2)) 2 = y 2 := by
    apply Fin.ext
    show win0_14.index t 2 * 8192 + 1 * (y 2).val = _
    rw [(idx14 t).2]
    simp
  unfold CAST14
  rw [e1, e2]

theorem idx15 : ∀ t : Fin cfg0.N, win0_7.index t = ![2, min t.val 127, 0] ∧ win0_15.index t = ![0, min t.val 127, 0] :=
  (by decide +kernel : ∀ t : Fin grid0.N, _)

/-- The block of weights a point copies. -/
theorem cast15 (c : Dev nD) (t : Fin cfg0.N) : (outsAt0 m c t.val t.isLt).2.2.1 = k0_pay5 (F := Ideal) (iblk m c 7 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST15 (c : Dev nD) : FVec Ideal S1x8192x2048 .bf16 := fun i => m ((c.tc : Thread nD τ).loc main_arg8) (ix3 2 (i 1) (i 2))

theorem src15 (c : Dev nD) (t : Fin cfg0.N) (r : Fin 64) (k : Fin 2048) :
    (show FVec Ideal S1x64x2048 .f32 from iblk m c 7 t) (ix3 0 r k)
      = m ((c.tc : Thread nD τ).loc main_arg8) (ix3 2 (⟨min t.val 127 * 64 + r.val, by omega⟩ : Fin 8192) k) := by
  blk_point [iblk, V, idx15 t]

theorem final15 (c : Dev nD) : (dats m 0 c).arrAt 15 (cfgs 0).N = CAST15 m c := by
  refine (dats m 0 c).arrAt_eq_of_covers 15 _ (by decide +kernel) fun t hf y => ?_
  blk_simp
  rw [after0_15]
  change S1x64x2048.Idx at y
  have hy : (y 1).val < 64 := (y 1).isLt
  have hz : y 0 = (0 : Fin 1) := Subsingleton.elim (α := Fin 1) _ _
  rw [cast15, eq_ix3 y, hz]
  refine (src15 m c t (y 1) (y 2)).trans ?_
  have e1 : (win0_15.blk t).view.emb (ix3 0 (y 1) (y 2)) 1 = (⟨min t.val 127 * 64 + (y 1).val, by omega⟩ : Fin 8192) := by
    apply Fin.ext
    show win0_15.index t 1 * 64 + 1 * (y 1).val = _
    rw [(idx15 t).2]
    simp
  have e2 : (win0_15.blk t).view.emb (ix3 0 (y 1) (y 2)) 2 = y 2 := by
    apply Fin.ext
    show win0_15.index t 2 * 2048 + 1 * (y 2).val = _
    rw [(idx15 t).2]
    simp
  unfold CAST15
  rw [e1, e2]

theorem idx16 : ∀ t : Fin cfg0.N, win0_8.index t = ![0, min t.val 127, 0] ∧ win0_16.index t = ![0, min t.val 127, 0] :=
  (by decide +kernel : ∀ t : Fin grid0.N, _)

/-- The block of weights a point copies. -/
theorem cast16 (c : Dev nD) (t : Fin cfg0.N) : (outsAt0 m c t.val t.isLt).2.2.2.1 = k0_pay6 (F := Ideal) (iblk m c 8 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST16 (c : Dev nD) : FVec Ideal S1x2048x6144 .bf16 := fun i => m ((c.tc : Thread nD τ).loc main_arg9) (ix3 0 (i 1) (i 2))

theorem src16 (c : Dev nD) (t : Fin cfg0.N) (r : Fin 16) (k : Fin 6144) :
    (show FVec Ideal S1x16x6144 .f32 from iblk m c 8 t) (ix3 0 r k)
      = m ((c.tc : Thread nD τ).loc main_arg9) (ix3 0 (⟨min t.val 127 * 16 + r.val, by omega⟩ : Fin 2048) k) := by
  blk_point [iblk, V, idx16 t]

theorem final16 (c : Dev nD) : (dats m 0 c).arrAt 16 (cfgs 0).N = CAST16 m c := by
  refine (dats m 0 c).arrAt_eq_of_covers 16 _ (by decide +kernel) fun t hf y => ?_
  blk_simp
  rw [after0_16]
  change S1x16x6144.Idx at y
  have hy : (y 1).val < 16 := (y 1).isLt
  have hz : y 0 = (0 : Fin 1) := Subsingleton.elim (α := Fin 1) _ _
  rw [cast16, eq_ix3 y, hz]
  refine (src16 m c t (y 1) (y 2)).trans ?_
  have e1 : (win0_16.blk t).view.emb (ix3 0 (y 1) (y 2)) 1 = (⟨min t.val 127 * 16 + (y 1).val, by omega⟩ : Fin 2048) := by
    apply Fin.ext
    show win0_16.index t 1 * 16 + 1 * (y 1).val = _
    rw [(idx16 t).2]
    simp
  have e2 : (win0_16.blk t).view.emb (ix3 0 (y 1) (y 2)) 2 = y 2 := by
    apply Fin.ext
    show win0_16.index t 2 * 6144 + 1 * (y 2).val = _
    rw [(idx16 t).2]
    simp
  unfold CAST16
  rw [e1, e2]

theorem idx17 : ∀ t : Fin cfg0.N, win0_9.index t = ![0, min t.val 127, 0] ∧ win0_17.index t = ![0, min t.val 127, 0] :=
  (by decide +kernel : ∀ t : Fin grid0.N, _)

/-- The block of weights a point copies. -/
theorem cast17 (c : Dev nD) (t : Fin cfg0.N) : (outsAt0 m c t.val t.isLt).2.2.2.2.1 = k0_pay7 (F := Ideal) (iblk m c 9 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST17 (c : Dev nD) : FVec Ideal S1x2048x2048 .bf16 := fun i => m ((c.tc : Thread nD τ).loc main_arg10) (ix3 0 (i 1) (i 2))

theorem src17 (c : Dev nD) (t : Fin cfg0.N) (r : Fin 16) (k : Fin 2048) :
    (show FVec Ideal S1x16x2048 .f32 from iblk m c 9 t) (ix3 0 r k)
      = m ((c.tc : Thread nD τ).loc main_arg10) (ix3 0 (⟨min t.val 127 * 16 + r.val, by omega⟩ : Fin 2048) k) := by
  blk_point [iblk, V, idx17 t]

theorem final17 (c : Dev nD) : (dats m 0 c).arrAt 17 (cfgs 0).N = CAST17 m c := by
  refine (dats m 0 c).arrAt_eq_of_covers 17 _ (by decide +kernel) fun t hf y => ?_
  blk_simp
  rw [after0_17]
  change S1x16x2048.Idx at y
  have hy : (y 1).val < 16 := (y 1).isLt
  have hz : y 0 = (0 : Fin 1) := Subsingleton.elim (α := Fin 1) _ _
  rw [cast17, eq_ix3 y, hz]
  refine (src17 m c t (y 1) (y 2)).trans ?_
  have e1 : (win0_17.blk t).view.emb (ix3 0 (y 1) (y 2)) 1 = (⟨min t.val 127 * 16 + (y 1).val, by omega⟩ : Fin 2048) := by
    apply Fin.ext
    show win0_17.index t 1 * 16 + 1 * (y 1).val = _
    rw [(idx17 t).2]
    simp
  have e2 : (win0_17.blk t).view.emb (ix3 0 (y 1) (y 2)) 2 = y 2 := by
    apply Fin.ext
    show win0_17.index t 2 * 2048 + 1 * (y 2).val = _
    rw [(idx17 t).2]
    simp
  unfold CAST17
  rw [e1, e2]

/-- The conditioning rows. -/
def condRow (c : Dev nD) (r : Fin 8) (k : Fin 2048) : EReal := m ((c.tc : Thread nD τ).loc main_arg11) (ix2 r k)

theorem idx18 : ∀ t : Fin cfg0.N, win0_10.index t = ![0, 0] ∧ win0_11.index t = ![2, 0, min t.val 95] ∧ win0_12.index t = ![2, 0, min t.val 95]
    ∧ win0_18.index t = ![0, 0, min t.val 95] :=
  (by decide +kernel : ∀ t : Fin grid0.N, _)

theorem pay9_at (v31 : Vec Ideal S8x2048 .f32) (v40 : Vec Ideal S1x2048x128 .f32) (v44 : Vec Ideal S1x1x128 .f32) (r : Fin 8) (k : Fin 128) :
    k0_pay8 (F := Ideal) v31 v40 v44 (ix3 0 r k)
      = (∑ x : Fin 2048, silu (v31 (ix2 r x)) * v40 (ix3 0 x k)) + v44 (ix3 0 0 k) := by
  pointwise [k0_pay8, silu]
  simp only [zero_sub]

/-- The modulation block a point computes. -/
theorem mods18 (c : Dev nD) (t : Fin cfg0.N) : (outsAt0 m c t.val t.isLt).2.2.2.2.2.1 = k0_pay8 (F := Ideal) (iblk m c 10 t) (iblk m c 11 t) (iblk m c 12 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The next layer's modulation. -/
def ADA (c : Dev nD) : FVec Ideal S1x8x12288 .f32 := fun i =>
  (∑ x : Fin 2048, silu (condRow m c (i 1) x) * m ((c.tc : Thread nD τ).loc main_arg12) (ix3 2 x (i 2))) + m ((c.tc : Thread nD τ).loc main_arg13) (ix2 2 (i 2))

theorem b10 (c : Dev nD) (t : Fin cfg0.N) (r : Fin 8) (k : Fin 2048) :
    (show FVec Ideal S8x2048 .f32 from iblk m c 10 t) (ix2 r k) = condRow m c r k := by
  unfold condRow
  blk_point [iblk, V, idx18 t]
theorem b11 (c : Dev nD) (t : Fin cfg0.N) (r : Fin 2048) (k : Fin 128) :
    (show FVec Ideal S1x2048x128 .f32 from iblk m c 11 t) (ix3 0 r k)
      = m ((c.tc : Thread nD τ).loc main_arg12) (ix3 2 r (⟨min t.val 95 * 128 + k.val, by omega⟩ : Fin 12288)) := by
  blk_point [iblk, V, idx18 t]
theorem b12 (c : Dev nD) (t : Fin cfg0.N) (k : Fin 128) :
    (show FVec Ideal S1x1x128 .f32 from iblk m c 12 t) (ix3 0 0 k)
      = m ((c.tc : Thread nD τ).loc main_arg13) (ix2 2 (⟨min t.val 95 * 128 + k.val, by omega⟩ : Fin 12288)) := by
  blk_point [iblk, V, idx18 t]

theorem final18 (c : Dev nD) : (dats m 0 c).arrAt 18 (cfgs 0).N = ADA m c := by
  refine (dats m 0 c).arrAt_eq_of_covers 18 _ (by decide +kernel) fun t hf y => ?_
  blk_simp
  rw [after0_18]
  change S1x8x128.Idx at y
  have hy : (y 2).val < 128 := (y 2).isLt
  have hz : y 0 = (0 : Fin 1) := Subsingleton.elim (α := Fin 1) _ _
  rw [mods18, eq_ix3 y, hz]
  refine (pay9_at _ _ _ (y 1) (y 2)).trans ?_
  have e1 : (win0_18.blk t).view.emb (ix3 0 (y 1) (y 2)) 1 = y 1 := by
    apply Fin.ext
    show win0_18.index t 1 * 8 + 1 * (y 1).val = _
    rw [(idx18 t).2.2.2]
    simp
  have e2 : (win0_18.blk t).view.emb (ix3 0 (y 1) (y 2)) 2 = (⟨min t.val 95 * 128 + (y 2).val, by omega⟩ : Fin 12288) := by
    apply Fin.ext
    show win0_18.index t 2 * 128 + 1 * (y 2).val = _
    rw [(idx18 t).2.2.2]
    simp
  unfold ADA
  rw [e1, e2]
  exact congr (congrArg HAdd.hAdd (Finset.sum_congr rfl fun x _ => congr (congrArg HMul.hMul (congrArg silu (b10 m c t (y 1) x))) (b11 m c t x (y 2)))) (b12 m c t (y 2))

end Cert.MlpBIdeal.Side
end
-- ==== Proof.MlpBClaim.lean ====
/- The claim of one MLP call of the middle layers: the reference's results are the arrays the call leaves. -/
module

public import proofs.«01_k».proof.Proof.MlpBValue
public import proofs.«01_k».proof.Proof.MlpBSide
public import proofs.«01_k».proof.Defs
public import proofs.«01_k».proof.Proof.Gen.MlpBReferenceIdeal
public import Idealize.ShloMosaic.Lib.Claim

@[expose] public section

set_option maxRecDepth 16384

noncomputable section

namespace Cert.MlpBIdeal.Hand

open Idealize.ShloMosaic Idealize.SL.Sem Cert.Rows Cert.MlpBIdeal.Side

/-- The rectifier as the reference spells it: the argument times a quotient. -/
theorem silu_eq (x : EReal) : x * Ideal.div 1 (1 + Ideal.exp (-x)) = silu x := Cert.Rows.silu_mul x

set_option maxHeartbeats 4000000 in
theorem algebraic : Cert.algebraic_MlpBIdeal_MlpBReferenceIdeal := by
  pair_intro
  · run_from Cert.MlpBIdeal.Value.run_blocks m g
  · hlo_run
    · rw [final]
      funext j
      idx_vars j
      by_cases h : j0.val < 8192
      · refine (concat_lat _ _ _ j0 j1 h).trans ?_
        pointwise [RES, step, unit, sqUnit, urow, modRow, rowNorm, hrow, mrow]
        simp only [joined_lat _ _ _ h, hagree c]
      · refine (concat_ctx _ _ _ j0 j1 h).trans ?_
        have q : j0.val / 4096 = 2 := by omega
        generalize hr : (⟨j0.val - 8192, by omega⟩ : Fin 512) = r0
        have hv : j0.val - 8192 = r0.val := by rw [← hr]
        pointwise [RES, step, unit, sqUnit, urow, modRow, rowNorm, hrow, mrow]
        simp only [joined_ctx _ _ _ h, q, hv, hagree c]
        rfl
    · rw [final14]
      funext j
      idx_vars j
      pointwise [CAST14]
    · rw [final15]
      funext j
      idx_vars j
      pointwise [CAST15]
    · rw [final16]
      funext j
      idx_vars j
      pointwise [CAST16]
    · rw [final17]
      funext j
      idx_vars j
      pointwise [CAST17]
    · rw [final18]
      funext j
      idx_vars j
      simp only [StableHlo.TRef.toBuf, StableHlo.TRef.ofBuf, cast_cast, cast_eq]
      pointwise [ADA, condRow]
      simp only [silu_eq]

end Cert.MlpBIdeal.Hand
end
-- ==== Proof.MlpCValue.lean ====
/- What one MLP call of the middle layers leaves in its first result, at the exact instance. -/
module

public import proofs.«01_k».proof.Proof.Gen.MlpCIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MlpCIdeal.Hand

open Idealize.ShloMosaic Idealize.SL.Sem Cert.MlpCIdeal Cert.MlpCIdeal.Gen Cert.MlpCIdeal.Value Cert.Rows

theorem pay1_at (v54 : Vec Ideal S1x6x2048 .f32) (v56 : Vec Ideal S512x2048 .f32) (v59 : Vec Ideal S512x2048 .f32) (r : Fin 512) (k : Fin 2048) :
    k0_pay9 (F := Ideal) v54 v56 v59 (ix2 r k) = v56 (ix2 r k) + v54 (ix3 0 5 k) * v59 (ix2 r k) := by
  pointwise [k0_pay9]

theorem pay2_at (v54 : Vec Ideal S1x6x2048 .f32) (v56 : Vec Ideal S512x2048 .f32) (v58 : Vec Ideal S1x2048 .f32) (r : Fin 512) (k : Fin 2048) :
    k0_pay1 (F := Ideal) v54 v56 v58 (ix2 r k)
      = modRow (fun x => v56 (ix2 r x)) (fun x => v58 (ix2 0 x)) (fun x => v54 (ix3 0 4 x)) (fun x => v54 (ix3 0 3 x)) k := by
  pointwise [k0_pay1, modRow, rowNorm]

theorem pay3_at (j : S512x2048.Idx) : k0_pay2 (F := Ideal) j = 0 := by
  pointwise [k0_pay2]

theorem pay4_at (v3 : Vec Ideal S512x2048 .bf16) (v4 : Vec Ideal S1x2048x1024 .bf16) (v11 : Vec Ideal S512x2048 .f32) (v12 : Vec Ideal S1x1024x2048 .bf16) (r : Fin 512) (k : Fin 2048) :
    k0_pay3 (F := Ideal) v3 v4 v11 v12 (ix2 r k)
      = v11 (ix2 r k) + ∑ x : Fin 1024, sqUnit (fun y => v3 (ix2 r y)) (fun y => v4 (ix3 0 y x)) * v12 (ix3 0 x k) := by
  pointwise [k0_pay3, sqUnit]

theorem idx : ∀ t : Fin cfg0.N, win0_0.index t = ![t.val / 8, 0] ∧ win0_1.index t = ![0, 0] ∧ win0_2.index t = ![t.val / 64, 0, 0]
    ∧ win0_3.index t = ![0, 0, t.val % 8] ∧ win0_4.index t = ![0, t.val % 8, 0] ∧ win0_13.index t = ![t.val / 8, 0] :=
  (by decide +kernel : ∀ t : Fin grid0.N, _)

variable (m : (ℓ : Loc nD τ sig) → Buf (Elt Ideal) ℓ)

theorem lt136 (t : Fin cfg0.N) : t.val < 136 := lt_of_lt_of_eq t.isLt N_0

/-- Row `R` of the joined sqUnit state: the latent rows, then the context rows. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem hV (c : Dev nD) (R : Fin 8704) (k : Fin 2048) : (show FVec Ideal S8704x2048 .f32 from V m c main_v2) (ix2 R k) = hrow m c R k := by
  entry_read
  unfold hrow joined
  pointwise

theorem b0 (c : Dev nD) (t : Fin cfg0.N) (r : Fin 512) (k : Fin 2048) :
    (show FVec Ideal S512x2048 .f32 from iblk m c 0 t) (ix2 r k) = hrow m c ⟨t.val / 8 * 512 + r.val, by have := lt136 t; omega⟩ k := by
  have := lt136 t
  refine Eq.trans ?_ (hV m c _ k)
  blk_ext [iblk, idx t]
theorem b1 (c : Dev nD) (t : Fin cfg0.N) (k : Fin 2048) :
    (show FVec Ideal S1x2048 .f32 from iblk m c 1 t) (ix2 0 k) = m ((c.tc : Thread nD τ).loc main_arg2) (ix1 k) := by
  blk_point [iblk, V, idx t]
theorem b2 (c : Dev nD) (t : Fin cfg0.N) (r : Fin 6) (k : Fin 2048) :
    (show FVec Ideal S1x6x2048 .f32 from iblk m c 2 t) (ix3 0 r k) = mrow m c ⟨t.val / 64, by have := lt136 t; omega⟩ r k := by
  have := lt136 t
  unfold mrow
  blk_point [iblk, V, idx t]
theorem b3 (c : Dev nD) (t : Fin cfg0.N) (r : Fin 2048) (k : Fin 1024) :
    (show FVec Ideal S1x2048x1024 .bf16 from iblk m c 3 t) (ix3 0 r k)
      = m ((c.tc : Thread nD τ).loc main_arg4) (ix2 r (⟨t.val % 8 * 1024 + k.val, by omega⟩ : Fin 8192)) := by
  blk_point [iblk, V, idx t]
theorem b4 (c : Dev nD) (t : Fin cfg0.N) (r : Fin 1024) (k : Fin 2048) :
    (show FVec Ideal S1x1024x2048 .bf16 from iblk m c 4 t) (ix3 0 r k)
      = m ((c.tc : Thread nD τ).loc main_arg5) (ix2 (⟨t.val % 8 * 1024 + r.val, by omega⟩ : Fin 8192) k) := by
  blk_point [iblk, V, idx t]

/-- The row the first matrix meets. -/
def urow (c : Dev nD) (R : Fin 8704) (x : Fin 2048) : EReal :=
  modRow (hrow m c R) (fun x => m ((c.tc : Thread nD τ).loc main_arg2) (ix1 x)) (mrow m c ⟨R.val / 4096, by omega⟩ 4) (mrow m c ⟨R.val / 4096, by omega⟩ 3) x

/-- One sqUnit unit's share of an entry of the second product. -/
def unit (c : Dev nD) (R : Fin 8704) (x : Fin 2048) (l : Fin 8192) : EReal :=
  sqUnit (urow m c R) (fun y => m ((c.tc : Thread nD τ).loc main_arg4) (ix2 y l)) * m ((c.tc : Thread nD τ).loc main_arg5) (ix2 l x)

/-- The layer's step at row `R`. -/
def step (c : Dev nD) (R : Fin 8704) (k : Fin 2048) : EReal :=
  hrow m c R k + mrow m c ⟨R.val / 4096, by omega⟩ 5 k * ∑ l : Fin 8192, unit m c R k l

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 8 * 512 + r.val, by have := lt136 t; omega⟩ k := by
  refine (pay2_at _ _ _ r k).trans ?_
  have ht := lt136 t
  have e0 : (fun x => (show FVec Ideal S512x2048 .f32 from iblk m c 0 t) (ix2 r x)) = hrow m c ⟨t.val / 8 * 512 + r.val, by omega⟩ :=
    funext fun x => b0 m c t r x
  have e1 : (fun x => (show FVec Ideal S1x2048 .f32 from iblk m c 1 t) (ix2 0 x)) = fun x => m ((c.tc : Thread nD τ).loc main_arg2) (ix1 x) :=
    funext fun x => b1 m c t x
  have e2 : ∀ p, (fun x => (show FVec Ideal S1x6x2048 .f32 from iblk m c 2 t) (ix3 0 p x)) = mrow m c ⟨t.val / 64, by omega⟩ p := fun p =>
    funext fun x => b2 m c t p x
  have q : (t.val / 8 * 512 + r.val) / 4096 = t.val / 64 := by omega
  unfold urow
  simp only [q]
  rw [← e0, ← e1, ← e2, ← e2]

/-- Inside a run of eight points the rows stay the same. -/
theorem U_pred (c : Dev nD) (t t' : Fin cfg0.N) (h0 : t'.val / 8 = t.val / 8) : U m c t' = U m c t := by
  funext j
  rw [eq_ix2 j]
  refine (U_at m c t' (j 0) (j 1)).trans (Eq.trans ?_ (U_at m c t (j 0) (j 1)).symm)
  simp only [h0]

/-- The kept rows: every point of a run carries the run's modulated rows. -/
theorem scr (c : Dev nD) (n : ℕ) (hn : n < cfg0.N) : (outsAt0 m c n hn).2.2.2.2.2.2.1 = U m c ⟨n, hn⟩ := by
  induction n with
  | zero =>
    have e := outsAt0_A m c ⟨0, hn⟩ (Nat.zero_mod 8) (by dsimp only; omega)
    dsimp only at e
    rw [e]
    frame_out
    rfl
  | succ n ih =>
    by_cases h0 : (n + 1) % 8 = 0
    · have e := outsAt0_A m c ⟨n + 1, hn⟩ h0 (by dsimp only; omega)
      dsimp only at e
      rw [e]
      frame_out
      rfl
    · have hp := ih (Nat.lt_of_succ_lt hn)
      rw [← U_pred m c ⟨n + 1, hn⟩ ⟨n, Nat.lt_of_succ_lt hn⟩ (by dsimp only; omega), ← hp]
      by_cases h1 : (n + 1) % 8 = 7
      · have e := outsAt0_C m c ⟨n + 1, hn⟩ h0 h1
        dsimp only at e
        rw [e]
        frame_out
        rfl
      · have e := outsAt0_B m c ⟨n + 1, hn⟩ h0 h1
        dsimp only at e
        rw [e]
        frame_out
        rfl

/-- What a point adds to the running sum. -/
def part (c : Dev nD) (t : Fin cfg0.N) (j : S512x2048.Idx) : EReal :=
  ∑ x : Fin 1024, sqUnit (fun y => U m c t (ix2 (j 0) y)) (fun y => (show FVec Ideal S1x2048x1024 .bf16 from iblk m c 3 t) (ix3 0 y x)) * (show FVec Ideal S1x1024x2048 .bf16 from iblk m c 4 t) (ix3 0 x (j 1))

theorem accA (c : Dev nD) (t : Fin cfg0.N) (h0 : t.val % 8 = 0) (j : S512x2048.Idx) :
    (outsAt0 m c t.val t.isLt).2.2.2.2.2.2.2 j = 0 + part m c t j := by
  rw [outsAt0_A m c t h0 (by omega)]
  frame_out
  rw [eq_ix2 j]
  exact (pay4_at _ _ _ _ _ _).trans (by rw [pay3_at]; rfl)

theorem accS (c : Dev nD) (t : Fin cfg0.N) (h0 : ¬t.val % 8 = 0) (j : S512x2048.Idx) :
    (outsAt0 m c t.val t.isLt).2.2.2.2.2.2.2 j = (outsAt0 m c (t.val - 1) (Nat.lt_of_le_of_lt (Nat.sub_le _ _) t.isLt)).2.2.2.2.2.2.2 j + part m c t j := by
  have hU : (outsAt0 m c (t.val - 1) (Nat.lt_of_le_of_lt (Nat.sub_le _ _) t.isLt)).2.2.2.2.2.2.1 = U m c t := by
    rw [scr]
    exact U_pred m c t ⟨t.val - 1, _⟩ (by dsimp only; omega)
  by_cases h1 : t.val % 8 = 7
  · rw [outsAt0_C m c t h0 h1]
    frame_out
    simp only [read_unread_whole]
    rw [hU, eq_ix2 j]
    exact pay4_at _ _ _ _ _ _
  · rw [outsAt0_B m c t h0 h1]
    frame_out
    simp only [read_unread_whole]
    rw [hU, eq_ix2 j]
    exact pay4_at _ _ _ _ _ _

/-- The output block a run's last point writes, over the running sum after it. -/
theorem outC (c : Dev nD) (t : Fin cfg0.N) (h1 : t.val % 8 = 7) (r : Fin 512) (k : Fin 2048) :
    (outsAt0 m c t.val t.isLt).1 (ix2 r k)
      = (show FVec Ideal S512x2048 .f32 from iblk m c 0 t) (ix2 r k) + (show FVec Ideal S1x6x2048 .f32 from iblk m c 2 t) (ix3 0 5 k) * (outsAt0 m c t.val t.isLt).2.2.2.2.2.2.2 (ix2 r k) := by
  rw [outsAt0_C m c t (by omega) h1]
  frame_out
  exact pay1_at _ _ _ _ _

/-- What a point adds, over the arguments: its thousand sqUnit units. -/
theorem part_at (c : Dev nD) (t : Fin cfg0.N) (r : Fin 512) (x : Fin 2048) :
    part m c t (ix2 r x) = ∑ k : Fin 1024, unit m c ⟨t.val / 8 * 512 + r.val, by have := lt136 t; omega⟩ x ⟨t.val % 8 * 1024 + k.val, by omega⟩ := by
  refine Finset.sum_congr rfl fun k _ => ?_
  unfold unit
  have e3 : (fun y => (show FVec Ideal S1x2048x1024 .bf16 from iblk m c 3 t) (ix3 0 y k)) = fun y => m ((c.tc : Thread nD τ).loc main_arg4) (ix2 y (⟨t.val % 8 * 1024 + k.val, by omega⟩ : Fin 8192)) :=
    funext fun y => b3 m c t y k
  have eU : (fun y => U m c t (ix2 r y)) = urow m c ⟨t.val / 8 * 512 + r.val, by have := lt136 t; omega⟩ :=
    funext fun y => U_at m c t r y
  rw [← e3, ← eU, ← b4 m c t k x]
  rfl

/-- The running sum after a run: all sqUnit units. -/
theorem acc_at (c : Dev nD) (t : Fin cfg0.N) (h1 : t.val % 8 = 7) (r : Fin 512) (x : Fin 2048) :
    (outsAt0 m c t.val t.isLt).2.2.2.2.2.2.2 (ix2 r x)
      = ∑ l : Fin 8192, unit m c ⟨t.val / 8 * 512 + r.val, by have := lt136 t; omega⟩ x l := by
  have e := Pipeline.eq_sum_fin_of_reset_step_apply_of_flush (fun n h => (outsAt0 m c n h).2.2.2.2.2.2.2) 8 (fun _ => (0 : EReal)) (part m c)
    (fun t h j => accA m c t h j) (fun t h j => accS m c t h j) t h1 (ix2 r x)
  refine e.trans ?_
  rw [zero_add]
  refine Eq.trans (Finset.sum_congr rfl fun s _ => part_at m c _ r x) ?_
  refine Fin.sum_mul_add_congr fun s k hl => ?_
  have hs := s.isLt
  have q1 : (8 * (t.val / 8) + s.val) / 8 = t.val / 8 := by omega
  have q3 : (8 * (t.val / 8) + s.val) % 8 = s.val := by omega
  simp only [q1, q3]

/-- The block a run writes back, over the arguments. -/
theorem out_at (c : Dev nD) (t : Fin cfg0.N) (h1 : t.val % 8 = 7) (r : Fin 512) (k : Fin 2048) :
    (outsAt0 m c t.val t.isLt).1 (ix2 r k) = step m c ⟨t.val / 8 * 512 + r.val, by have := lt136 t; omega⟩ k := by
  refine (outC m c t h1 r k).trans ?_
  have q : (t.val / 8 * 512 + r.val) / 4096 = t.val / 64 := by omega
  unfold step
  simp only [q]
  exact congr (congrArg HAdd.hAdd (b0 m c t r k)) (congr (congrArg HMul.hMul (b2 m c t 5 k)) (acc_at m c t h1 r k))

/-- The first result. -/
def RES (c : Dev nD) : FVec Ideal S8704x2048 .f32 := fun i => step m c (i 0) (i 1)

theorem final (c : Dev nD) : (dats m 0 c).arrAt 13 (cfgs 0).N = RES m c := by
  refine (dats m 0 c).arrAt_eq_of_covers 13 _ (by decide +kernel) fun t hf y => ?_
  have h1 : t.val % 8 = 7 := (flush0_13 t).mp hf
  blk_simp
  rw [after0_13]
  change S512x2048.Idx at y
  have hy : (y 0).val < 512 := (y 0).isLt
  rw [eq_ix2 y]
  refine (out_at m c t h1 (y 0) (y 1)).trans ?_
  have ht := lt136 t
  have e0 : (win0_13.blk t).view.emb (ix2 (y 0) (y 1)) 0 = (⟨t.val / 8 * 512 + (y 0).val, by omega⟩ : Fin 8704) := by
    apply Fin.ext
    show win0_13.index t 0 * 512 + 1 * (y 0).val = _
    rw [(idx t).2.2.2.2.2]
    simp
  have e1 : (win0_13.blk t).view.emb (ix2 (y 0) (y 1)) 1 = y 1 := by
    apply Fin.ext
    show win0_13.index t 1 * 2048 + 1 * (y 1).val = _
    rw [(idx t).2.2.2.2.2]
    simp
  unfold RES
  rw [e0, e1]

end Cert.MlpCIdeal.Hand
end
-- ==== Proof.MlpCSide.lean ====
/- What one MLP call of the middle layers leaves in its side results: the next layer's weights and its modulation. -/
module

public import proofs.«01_k».proof.Proof.Gen.MlpCIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MlpCIdeal.Side

open Idealize.ShloMosaic Idealize.SL.Sem Cert.MlpCIdeal Cert.MlpCIdeal.Gen Cert.MlpCIdeal.Value Cert.Rows

variable (m : (ℓ : Loc nD τ sig) → Buf (Elt Ideal) ℓ)

theorem lt136 (t : Fin cfg0.N) : t.val < 136 := lt_of_lt_of_eq t.isLt N_0

theorem idx14 : ∀ t : Fin cfg0.N, win0_6.index t = ![3, min t.val 127, 0] ∧ win0_14.index t = ![0, min t.val 127, 0] :=
  (by decide +kernel : ∀ t : Fin grid0.N, _)

/-- The block of weights a point copies. -/
theorem cast14 (c : Dev nD) (t : Fin cfg0.N) : (outsAt0 m c t.val t.isLt).2.1 = k0_pay4 (F := Ideal) (iblk m c 6 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST14 (c : Dev nD) : FVec Ideal S1x2048x8192 .bf16 := fun i => m ((c.tc : Thread nD τ).loc main_arg7) (ix3 3 (i 1) (i 2))

theorem src14 (c : Dev nD) (t : Fin cfg0.N) (r : Fin 16) (k : Fin 8192) :
    (show FVec Ideal S1x16x8192 .f32 from iblk m c 6 t) (ix3 0 r k)
      = m ((c.tc : Thread nD τ).loc main_arg7) (ix3 3 (⟨min t.val 127 * 16 + r.val, by omega⟩ : Fin 2048) k) := by
  blk_point [iblk, V, idx14 t]

theorem final14 (c : Dev nD) : (dats m 0 c).arrAt 14 (cfgs 0).N = CAST14 m c := by
  refine (dats m 0 c).arrAt_eq_of_covers 14 _ (by decide +kernel) fun t hf y => ?_
  blk_simp
  rw [after0_14]
  change S1x16x8192.Idx at y
  have hy : (y 1).val < 16 := (y 1).isLt
  have hz : y 0 = (0 : Fin 1) := Subsingleton.elim (α := Fin 1) _ _
  rw [cast14, eq_ix3 y, hz]
  refine (src14 m c t (y 1) (y 2)).trans ?_
  have e1 : (win0_14.blk t).view.emb (ix3 0 (y 1) (y 2)) 1 = (⟨min t.val 127 * 16 + (y 1).val, by omega⟩ : Fin 2048) := by
    apply Fin.ext
    show win0_14.index t 1 * 16 + 1 * (y 1).val = _
    rw [(idx14 t).2]
    simp
  have e2 : (win0_14.blk t).view.emb (ix3 0 (y 1) (y 2)) 2 = y 2 := by
    apply Fin.ext
    show win0_14.index t 2 * 8192 + 1 * (y 2).val = _
    rw [(idx14 t).2]
    simp
  unfold CAST14
  rw [e1, e2]

theorem idx15 : ∀ t : Fin cfg0.N, win0_7.index t = ![3, min t.val 127, 0] ∧ win0_15.index t = ![0, min t.val 127, 0] :=
  (by decide +kernel : ∀ t : Fin grid0.N, _)

/-- The block of weights a point copies. -/
theorem cast15 (c : Dev nD) (t : Fin cfg0.N) : (outsAt0 m c t.val t.isLt).2.2.1 = k0_pay5 (F := Ideal) (iblk m c 7 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST15 (c : Dev nD) : FVec Ideal S1x8192x2048 .bf16 := fun i => m ((c.tc : Thread nD τ).loc main_arg8) (ix3 3 (i 1) (i 2))

theorem src15 (c : Dev nD) (t : Fin cfg0.N) (r : Fin 64) (k : Fin 2048) :
    (show FVec Ideal S1x64x2048 .f32 from iblk m c 7 t) (ix3 0 r k)
      = m ((c.tc : Thread nD τ).loc main_arg8) (ix3 3 (⟨min t.val 127 * 64 + r.val, by omega⟩ : Fin 8192) k) := by
  blk_point [iblk, V, idx15 t]

theorem final15 (c : Dev nD) : (dats m 0 c).arrAt 15 (cfgs 0).N = CAST15 m c := by
  refine (dats m 0 c).arrAt_eq_of_covers 15 _ (by decide +kernel) fun t hf y => ?_
  blk_simp
  rw [after0_15]
  change S1x64x2048.Idx at y
  have hy : (y 1).val < 64 := (y 1).isLt
  have hz : y 0 = (0 : Fin 1) := Subsingleton.elim (α := Fin 1) _ _
  rw [cast15, eq_ix3 y, hz]
  refine (src15 m c t (y 1) (y 2)).trans ?_
  have e1 : (win0_15.blk t).view.emb (ix3 0 (y 1) (y 2)) 1 = (⟨min t.val 127 * 64 + (y 1).val, by omega⟩ : Fin 8192) := by
    apply Fin.ext
    show win0_15.index t 1 * 64 + 1 * (y 1).val = _
    rw [(idx15 t).2]
    simp
  have e2 : (win0_15.blk t).view.emb (ix3 0 (y 1) (y 2)) 2 = y 2 := by
    apply Fin.ext
    show win0_15.index t 2 * 2048 + 1 * (y 2).val = _
    rw [(idx15 t).2]
    simp
  unfold CAST15
  rw [e1, e2]

theorem idx16 : ∀ t : Fin cfg0.N, win0_8.index t = ![1, min t.val 127, 0] ∧ win0_16.index t = ![0, min t.val 127, 0] :=
  (by decide +kernel : ∀ t : Fin grid0.N, _)

/-- The block of weights a point copies. -/
theorem cast16 (c : Dev nD) (t : Fin cfg0.N) : (outsAt0 m c t.val t.isLt).2.2.2.1 = k0_pay6 (F := Ideal) (iblk m c 8 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST16 (c : Dev nD) : FVec Ideal S1x2048x10368 .bf16 := fun i => m ((c.tc : Thread nD τ).loc main_arg9) (ix3 1 (i 1) (i 2))

theorem src16 (c : Dev nD) (t : Fin cfg0.N) (r : Fin 16) (k : Fin 10368) :
    (show FVec Ideal S1x16x10368 .f32 from iblk m c 8 t) (ix3 0 r k)
      = m ((c.tc : Thread nD τ).loc main_arg9) (ix3 1 (⟨min t.val 127 * 16 + r.val, by omega⟩ : Fin 2048) k) := by
  blk_point [iblk, V, idx16 t]

theorem final16 (c : Dev nD) : (dats m 0 c).arrAt 16 (cfgs 0).N = CAST16 m c := by
  refine (dats m 0 c).arrAt_eq_of_covers 16 _ (by decide +kernel) fun t hf y => ?_
  blk_simp
  rw [after0_16]
  change S1x16x10368.Idx at y
  have hy : (y 1).val < 16 := (y 1).isLt
  have hz : y 0 = (0 : Fin 1) := Subsingleton.elim (α := Fin 1) _ _
  rw [cast16, eq_ix3 y, hz]
  refine (src16 m c t (y 1) (y 2)).trans ?_
  have e1 : (win0_16.blk t).view.emb (ix3 0 (y 1) (y 2)) 1 = (⟨min t.val 127 * 16 + (y 1).val, by omega⟩ : Fin 2048) := by
    apply Fin.ext
    show win0_16.index t 1 * 16 + 1 * (y 1).val = _
    rw [(idx16 t).2]
    simp
  have e2 : (win0_16.blk t).view.emb (ix3 0 (y 1) (y 2)) 2 = y 2 := by
    apply Fin.ext
    show win0_16.index t 2 * 10368 + 1 * (y 2).val = _
    rw [(idx16 t).2]
    simp
  unfold CAST16
  rw [e1, e2]

theorem idx17 : ∀ t : Fin cfg0.N, win0_9.index t = ![1, min t.val 127, 0] ∧ win0_17.index t = ![0, min t.val 127, 0] :=
  (by decide +kernel : ∀ t : Fin grid0.N, _)

/-- The block of weights a point copies. -/
theorem cast17 (c : Dev nD) (t : Fin cfg0.N) : (outsAt0 m c t.val t.isLt).2.2.2.2.1 = k0_pay7 (F := Ideal) (iblk m c 9 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The copied weights. -/
def CAST17 (c : Dev nD) : FVec Ideal S1x4096x2048 .bf16 := fun i => m ((c.tc : Thread nD τ).loc main_arg10) (ix3 1 (i 1) (i 2))

theorem src17 (c : Dev nD) (t : Fin cfg0.N) (r : Fin 32) (k : Fin 2048) :
    (show FVec Ideal S1x32x2048 .f32 from iblk m c 9 t) (ix3 0 r k)
      = m ((c.tc : Thread nD τ).loc main_arg10) (ix3 1 (⟨min t.val 127 * 32 + r.val, by omega⟩ : Fin 4096) k) := by
  blk_point [iblk, V, idx17 t]

theorem final17 (c : Dev nD) : (dats m 0 c).arrAt 17 (cfgs 0).N = CAST17 m c := by
  refine (dats m 0 c).arrAt_eq_of_covers 17 _ (by decide +kernel) fun t hf y => ?_
  blk_simp
  rw [after0_17]
  change S1x32x2048.Idx at y
  have hy : (y 1).val < 32 := (y 1).isLt
  have hz : y 0 = (0 : Fin 1) := Subsingleton.elim (α := Fin 1) _ _
  rw [cast17, eq_ix3 y, hz]
  refine (src17 m c t (y 1) (y 2)).trans ?_
  have e1 : (win0_17.blk t).view.emb (ix3 0 (y 1) (y 2)) 1 = (⟨min t.val 127 * 32 + (y 1).val, by omega⟩ : Fin 4096) := by
    apply Fin.ext
    show win0_17.index t 1 * 32 + 1 * (y 1).val = _
    rw [(idx17 t).2]
    simp
  have e2 : (win0_17.blk t).view.emb (ix3 0 (y 1) (y 2)) 2 = y 2 := by
    apply Fin.ext
    show win0_17.index t 2 * 2048 + 1 * (y 2).val = _
    rw [(idx17 t).2]
    simp
  unfold CAST17
  rw [e1, e2]

/-- The conditioning rows. -/
def condRow (c : Dev nD) (r : Fin 8) (k : Fin 2048) : EReal := m ((c.tc : Thread nD τ).loc main_arg11) (ix2 r k)

theorem idx18 : ∀ t : Fin cfg0.N, win0_10.index t = ![0, 0] ∧ win0_11.index t = ![3, 0, min t.val 95] ∧ win0_12.index t = ![3, 0, min t.val 95]
    ∧ win0_18.index t = ![0, 0, min t.val 95] :=
  (by decide +kernel : ∀ t : Fin grid0.N, _)

theorem pay9_at (v31 : Vec Ideal S8x2048 .f32) (v40 : Vec Ideal S1x2048x128 .f32) (v44 : Vec Ideal S1x1x128 .f32) (r : Fin 8) (k : Fin 128) :
    k0_pay8 (F := Ideal) v31 v40 v44 (ix3 0 r k)
      = (∑ x : Fin 2048, silu (v31 (ix2 r x)) * v40 (ix3 0 x k)) + v44 (ix3 0 0 k) := by
  pointwise [k0_pay8, silu]
  simp only [zero_sub]

/-- The modulation block a point computes. -/
theorem mods18 (c : Dev nD) (t : Fin cfg0.N) : (outsAt0 m c t.val t.isLt).2.2.2.2.2.1 = k0_pay8 (F := Ideal) (iblk m c 10 t) (iblk m c 11 t) (iblk m c 12 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The next layer's modulation. -/
def ADA (c : Dev nD) : FVec Ideal S1x8x12288 .f32 := fun i =>
  (∑ x : Fin 2048, silu (condRow m c (i 1) x) * m ((c.tc : Thread nD τ).loc main_arg12) (ix3 3 x (i 2))) + m ((c.tc : Thread nD τ).loc main_arg13) (ix2 3 (i 2))

theorem b10 (c : Dev nD) (t : Fin cfg0.N) (r : Fin 8) (k : Fin 2048) :
    (show FVec Ideal S8x2048 .f32 from iblk m c 10 t) (ix2 r k) = condRow m c r k := by
  unfold condRow
  blk_point [iblk, V, idx18 t]
theorem b11 (c : Dev nD) (t : Fin cfg0.N) (r : Fin 2048) (k : Fin 128) :
    (show FVec Ideal S1x2048x128 .f32 from iblk m c 11 t) (ix3 0 r k)
      = m ((c.tc : Thread nD τ).loc main_arg12) (ix3 3 r (⟨min t.val 95 * 128 + k.val, by omega⟩ : Fin 12288)) := by
  blk_point [iblk, V, idx18 t]
theorem b12 (c : Dev nD) (t : Fin cfg0.N) (k : Fin 128) :
    (show FVec Ideal S1x1x128 .f32 from iblk m c 12 t) (ix3 0 0 k)
      = m ((c.tc : Thread nD τ).loc main_arg13) (ix2 3 (⟨min t.val 95 * 128 + k.val, by omega⟩ : Fin 12288)) := by
  blk_point [iblk, V, idx18 t]

theorem final18 (c : Dev nD) : (dats m 0 c).arrAt 18 (cfgs 0).N = ADA m c := by
  refine (dats m 0 c).arrAt_eq_of_covers 18 _ (by decide +kernel) fun t hf y => ?_
  blk_simp
  rw [after0_18]
  change S1x8x128.Idx at y
  have hy : (y 2).val < 128 := (y 2).isLt
  have hz : y 0 = (0 : Fin 1) := Subsingleton.elim (α := Fin 1) _ _
  rw [mods18, eq_ix3 y, hz]
  refine (pay9_at _ _ _ (y 1) (y 2)).trans ?_
  have e1 : (win0_18.blk t).view.emb (ix3 0 (y 1) (y 2)) 1 = y 1 := by
    apply Fin.ext
    show win0_18.index t 1 * 8 + 1 * (y 1).val = _
    rw [(idx18 t).2.2.2]
    simp
  have e2 : (win0_18.blk t).view.emb (ix3 0 (y 1) (y 2)) 2 = (⟨min t.val 95 * 128 + (y 2).val, by omega⟩ : Fin 12288) := by
    apply Fin.ext
    show win0_18.index t 2 * 128 + 1 * (y 2).val = _
    rw [(idx18 t).2.2.2]
    simp
  unfold ADA
  rw [e1, e2]
  exact congr (congrArg HAdd.hAdd (Finset.sum_congr rfl fun x _ => congr (congrArg HMul.hMul (congrArg silu (b10 m c t (y 1) x))) (b11 m c t x (y 2)))) (b12 m c t (y 2))

end Cert.MlpCIdeal.Side
end
-- ==== Proof.MlpCClaim.lean ====
/- The claim of one MLP call of the middle layers: the reference's results are the arrays the call leaves. -/
module

public import proofs.«01_k».proof.Proof.MlpCValue
public import proofs.«01_k».proof.Proof.MlpCSide
public import proofs.«01_k».proof.Defs
public import proofs.«01_k».proof.Proof.Gen.MlpCReferenceIdeal
public import Idealize.ShloMosaic.Lib.Claim

@[expose] public section

set_option maxRecDepth 16384

noncomputable section

namespace Cert.MlpCIdeal.Hand

open Idealize.ShloMosaic Idealize.SL.Sem Cert.Rows Cert.MlpCIdeal.Side

/-- The rectifier as the reference spells it: the argument times a quotient. -/
theorem silu_eq (x : EReal) : x * Ideal.div 1 (1 + Ideal.exp (-x)) = silu x := Cert.Rows.silu_mul x

set_option maxHeartbeats 4000000 in
theorem algebraic : Cert.algebraic_MlpCIdeal_MlpCReferenceIdeal := by
  pair_intro
  · run_from Cert.MlpCIdeal.Value.run_blocks m g
  · hlo_run
    · rw [final]
      funext j
      idx_vars j
      by_cases h : j0.val < 8192
      · refine (concat_lat _ _ _ j0 j1 h).trans ?_
        pointwise [RES, step, unit, sqUnit, urow, modRow, rowNorm, hrow, mrow]
        simp only [joined_lat _ _ _ h, hagree c]
      · refine (concat_ctx _ _ _ j0 j1 h).trans ?_
        have q : j0.val / 4096 = 2 := by omega
        generalize hr : (⟨j0.val - 8192, by omega⟩ : Fin 512) = r0
        have hv : j0.val - 8192 = r0.val := by rw [← hr]
        pointwise [RES, step, unit, sqUnit, urow, modRow, rowNorm, hrow, mrow]
        simp only [joined_ctx _ _ _ h, q, hv, hagree c]
        rfl
    · rw [final14]
      funext j
      idx_vars j
      pointwise [CAST14]
    · rw [final15]
      funext j
      idx_vars j
      pointwise [CAST15]
    · rw [final16]
      funext j
      idx_vars j
      pointwise [CAST16]
    · rw [final17]
      funext j
      idx_vars j
      pointwise [CAST17]
    · rw [final18]
      funext j
      idx_vars j
      simp only [StableHlo.TRef.toBuf, StableHlo.TRef.ofBuf, cast_cast, cast_eq]
      pointwise [ADA, condRow]
      simp only [silu_eq]

end Cert.MlpCIdeal.Hand
end
-- ==== Proof.ProjBValue.lean ====
/- What one call of the norm, modulation and input projection leaves, at the exact instance. -/
module

public import proofs.«01_k».proof.Proof.Gen.ProjBIdeal.Value
public import proofs.«01_k».proof.Proof.Gen.ProjBReferenceIdeal
public import proofs.«01_k».proof.Defs
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjBIdeal.Hand

open Idealize.ShloMosaic Idealize.SL.Sem Cert.ProjBIdeal Cert.ProjBIdeal.Gen Cert.ProjBIdeal.Value Cert.Rows

variable (m : (ℓ : Loc nD τ sig) → Buf (Elt Ideal) ℓ)

theorem ltN (t : Fin cfg0.N) : t.val < 17 := lt_of_lt_of_eq t.isLt N_0

theorem idx : ∀ t : Fin cfg0.N, win0_0.index t = ![t.val / 1, 0] ∧ win0_1.index t = ![0, 0] ∧ win0_2.index t = ![t.val / 8, 0, 0]
    ∧ win0_3.index t = ![0, 0, t.val % 1] ∧ win0_4.index t = ![t.val / 1, t.val % 1] :=
  (by decide +kernel : ∀ t : Fin grid0.N, _)

theorem pay1_at (v9 : Vec Ideal S1x6x2048 .f32) (v11 : Vec Ideal S512x2048 .f32) (v13 : Vec Ideal S1x2048 .f32) (r : Fin 512) (k : Fin 2048) :
    k0_pay1 (F := Ideal) v9 v11 v13 (ix2 r k)
      = modRow (fun x => v11 (ix2 r x)) (fun x => v13 (ix2 0 x)) (fun x => v9 (ix3 0 1 x)) (fun x => v9 (ix3 0 0 x)) k := by
  pointwise [k0_pay1, modRow, rowNorm]

theorem pay2_at (v3 : Vec Ideal S512x2048 .bf16) (v4 : Vec Ideal S1x2048x3072 .bf16) (r : Fin 512) (k : Fin 3072) :
    k0_pay2 (F := Ideal) v3 v4 (ix2 r k) = ∑ x : Fin 2048, v3 (ix2 r x) * v4 (ix3 0 x k) := by
  pointwise [k0_pay2]

/-- Row `R` of the state. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem hV (c : Dev nD) (R : Fin 8704) (k : Fin 2048) : (show FVec Ideal S8704x2048 .f32 from V m c main_v2) (ix2 R k) = hrow m c R k := by
  entry_read
  unfold hrow joined
  pointwise

theorem b0 (c : Dev nD) (t : Fin cfg0.N) (r : Fin 512) (k : Fin 2048) :
    (show FVec Ideal S512x2048 .f32 from iblk m c 0 t) (ix2 r k) = hrow m c ⟨t.val / 1 * 512 + r.val, by have := ltN t; omega⟩ k := by
  have := ltN t
  refine Eq.trans ?_ (hV m c _ k)
  blk_ext [iblk, idx t]
theorem b1 (c : Dev nD) (t : Fin cfg0.N) (k : Fin 2048) :
    (show FVec Ideal S1x2048 .f32 from iblk m c 1 t) (ix2 0 k) = m ((c.tc : Thread nD τ).loc main_arg2) (ix1 k) := by
  blk_point [iblk, V, idx t]
theorem b2 (c : Dev nD) (t : Fin cfg0.N) (r : Fin 6) (k : Fin 2048) :
    (show FVec Ideal S1x6x2048 .f32 from iblk m c 2 t) (ix3 0 r k) = mrow m c ⟨t.val / 8, by have := ltN t; omega⟩ r k := by
  have := ltN t
  unfold mrow
  blk_point [iblk, V, idx t]
theorem b3 (c : Dev nD) (t : Fin cfg0.N) (r : Fin 2048) (k : Fin 3072) :
    (show FVec Ideal S1x2048x3072 .bf16 from iblk m c 3 t) (ix3 0 r k)
      = m ((c.tc : Thread nD τ).loc main_arg4) (ix2 r (⟨t.val % 1 * 3072 + k.val, by omega⟩ : Fin 3072)) := by
  blk_point [iblk, V, idx t]

/-- The row the matrix meets. -/
def urow (c : Dev nD) (R : Fin 8704) (x : Fin 2048) : EReal :=
  modRow (hrow m c R) (fun x => m ((c.tc : Thread nD τ).loc main_arg2) (ix1 x)) (mrow m c ⟨R.val / 4096, by omega⟩ 1) (mrow m c ⟨R.val / 4096, by omega⟩ 0) x

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 1 * 512 + r.val, by have := ltN t; omega⟩ k := by
  refine (pay1_at _ _ _ r k).trans ?_
  have ht := ltN t
  have e0 : (fun x => (show FVec Ideal S512x2048 .f32 from iblk m c 0 t) (ix2 r x)) = hrow m c ⟨t.val / 1 * 512 + r.val, by omega⟩ :=
    funext fun x => b0 m c t r x
  have e1 : (fun x => (show FVec Ideal S1x2048 .f32 from iblk m c 1 t) (ix2 0 x)) = fun x => m ((c.tc : Thread nD τ).loc main_arg2) (ix1 x) :=
    funext fun x => b1 m c t x
  have e2 : ∀ p, (fun x => (show FVec Ideal S1x6x2048 .f32 from iblk m c 2 t) (ix3 0 p x)) = mrow m c ⟨t.val / 8, by omega⟩ p := fun p =>
    funext fun x => b2 m c t p x
  have q : (t.val / 1 * 512 + r.val) / 4096 = t.val / 8 := by omega
  unfold urow
  simp only [q]
  rw [← e0, ← e1, ← e2, ← e2]

/-- The block a point writes. -/
theorem outP (c : Dev nD) (t : Fin cfg0.N) : outsAt0 m c t = k0_pay2 (F := Ideal) (U m c t) (iblk m c 3 t) := by
  unfold outsAt0
  frame_out
  rfl

/-- The projected rows. -/
def RES (c : Dev nD) : FVec Ideal S8704x3072 .bf16 := fun i =>
  ∑ x : Fin 2048, urow m c (i 0) x * m ((c.tc : Thread nD τ).loc main_arg4) (ix2 x (i 1))

theorem final (c : Dev nD) : (dats m 0 c).arrAt 4 (cfgs 0).N = RES m c := by
  refine (dats m 0 c).arrAt_eq_of_covers 4 _ (by decide +kernel) fun t hf y => ?_
  blk_simp
  rw [after0_4]
  change S512x3072.Idx at y
  have hy : (y 0).val < 512 := (y 0).isLt
  have hz : (y 1).val < 3072 := (y 1).isLt
  have ht := ltN t
  rw [outP, eq_ix2 y]
  refine (pay2_at _ _ (y 0) (y 1)).trans ?_
  have e0 : (win0_4.blk t).view.emb (ix2 (y 0) (y 1)) 0 = (⟨t.val / 1 * 512 + (y 0).val, by omega⟩ : Fin 8704) := by
    apply Fin.ext
    show win0_4.index t 0 * 512 + 1 * (y 0).val = _
    rw [(idx t).2.2.2.2]
    simp
  have e1 : (win0_4.blk t).view.emb (ix2 (y 0) (y 1)) 1 = (⟨t.val % 1 * 3072 + (y 1).val, by omega⟩ : Fin 3072) := by
    apply Fin.ext
    show win0_4.index t 1 * 3072 + 1 * (y 1).val = _
    rw [(idx t).2.2.2.2]
    simp
  unfold RES
  simp only [e0, e1]
  exact Finset.sum_congr rfl fun x _ => congr (congrArg HMul.hMul (U_at m c t (y 0) x)) (b3 m c t x (y 1))

set_option maxHeartbeats 1600000 in
theorem algebraic : Cert.algebraic_ProjBIdeal_ProjBReferenceIdeal := by
  pair_intro
  · run_from Cert.ProjBIdeal.Gen.run_main m g
  · hlo_run
    rw [final]
    funext j
    idx_vars j
    simp only [truncf_apply]
    by_cases h : j0.val < 8192
    · refine (concat_lat _ _ _ j0 j1 h).trans ?_
      pointwise [RES, urow, modRow, rowNorm, hrow, mrow]
      simp only [joined_lat _ _ _ h, hagree c]
    · refine (concat_ctx _ _ _ j0 j1 h).trans ?_
      have q : j0.val / 4096 = 2 := by omega
      generalize hr : (⟨j0.val - 8192, by omega⟩ : Fin 512) = r0
      have hv : j0.val - 8192 = r0.val := by rw [← hr]
      pointwise [RES, urow, modRow, rowNorm, hrow, mrow]
      simp only [joined_ctx _ _ _ h, q, hv, hagree c]
      rfl

end Cert.ProjBIdeal.Hand
end
-- ==== Proof.ProjCValue.lean ====
/- What one call of the norm, modulation and input projection leaves, at the exact instance. -/
module

public import proofs.«01_k».proof.Proof.Gen.ProjCIdeal.Value
public import proofs.«01_k».proof.Proof.Gen.ProjCReferenceIdeal
public import proofs.«01_k».proof.Defs
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjCIdeal.Hand

open Idealize.ShloMosaic Idealize.SL.Sem Cert.ProjCIdeal Cert.ProjCIdeal.Gen Cert.ProjCIdeal.Value Cert.Rows

variable (m : (ℓ : Loc nD τ sig) → Buf (Elt Ideal) ℓ)

theorem ltN (t : Fin cfg0.N) : t.val < 34 := lt_of_lt_of_eq t.isLt N_0

theorem idx : ∀ t : Fin cfg0.N, win0_0.index t = ![t.val / 2, 0] ∧ win0_1.index t = ![0, 0] ∧ win0_2.index t = ![t.val / 16, 0, 0]
    ∧ win0_3.index t = ![0, 0, t.val % 2] ∧ win0_4.index t = ![t.val / 2, t.val % 2] :=
  (by decide +kernel : ∀ t : Fin grid0.N, _)

theorem pay1_at (v9 : Vec Ideal S1x6x2048 .f32) (v11 : Vec Ideal S512x2048 .f32) (v13 : Vec Ideal S1x2048 .f32) (r : Fin 512) (k : Fin 2048) :
    k0_pay1 (F := Ideal) v9 v11 v13 (ix2 r k)
      = modRow (fun x => v11 (ix2 r x)) (fun x => v13 (ix2 0 x)) (fun x => v9 (ix3 0 1 x)) (fun x => v9 (ix3 0 0 x)) k := by
  pointwise [k0_pay1, modRow, rowNorm]

theorem pay2_at (v3 : Vec Ideal S512x2048 .bf16) (v4 : Vec Ideal S1x2048x3072 .bf16) (r : Fin 512) (k : Fin 3072) :
    k0_pay2 (F := Ideal) v3 v4 (ix2 r k) = ∑ x : Fin 2048, v3 (ix2 r x) * v4 (ix3 0 x k) := by
  pointwise [k0_pay2]

/-- Row `R` of the state. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem hV (c : Dev nD) (R : Fin 8704) (k : Fin 2048) : (show FVec Ideal S8704x2048 .f32 from V m c main_v2) (ix2 R k) = hrow m c R k := by
  entry_read
  unfold hrow joined
  pointwise

theorem b0 (c : Dev nD) (t : Fin cfg0.N) (r : Fin 512) (k : Fin 2048) :
    (show FVec Ideal S512x2048 .f32 from iblk m c 0 t) (ix2 r k) = hrow m c ⟨t.val / 2 * 512 + r.val, by have := ltN t; omega⟩ k := by
  have := ltN t
  refine Eq.trans ?_ (hV m c _ k)
  blk_ext [iblk, idx t]
theorem b1 (c : Dev nD) (t : Fin cfg0.N) (k : Fin 2048) :
    (show FVec Ideal S1x2048 .f32 from iblk m c 1 t) (ix2 0 k) = m ((c.tc : Thread nD τ).loc main_arg2) (ix1 k) := by
  blk_point [iblk, V, idx t]
theorem b2 (c : Dev nD) (t : Fin cfg0.N) (r : Fin 6) (k : Fin 2048) :
    (show FVec Ideal S1x6x2048 .f32 from iblk m c 2 t) (ix3 0 r k) = mrow m c ⟨t.val / 16, by have := ltN t; omega⟩ r k := by
  have := ltN t
  unfold mrow
  blk_point [iblk, V, idx t]
theorem b3 (c : Dev nD) (t : Fin cfg0.N) (r : Fin 2048) (k : Fin 3072) :
    (show FVec Ideal S1x2048x3072 .bf16 from iblk m c 3 t) (ix3 0 r k)
      = m ((c.tc : Thread nD τ).loc main_arg4) (ix2 r (⟨t.val % 2 * 3072 + k.val, by omega⟩ : Fin 6144)) := by
  blk_point [iblk, V, idx t]

/-- The row the matrix meets. -/
def urow (c : Dev nD) (R : Fin 8704) (x : Fin 2048) : EReal :=
  modRow (hrow m c R) (fun x => m ((c.tc : Thread nD τ).loc main_arg2) (ix1 x)) (mrow m c ⟨R.val / 4096, by omega⟩ 1) (mrow m c ⟨R.val / 4096, by omega⟩ 0) x

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 2 * 512 + r.val, by have := ltN t; omega⟩ k := by
  refine (pay1_at _ _ _ r k).trans ?_
  have ht := ltN t
  have e0 : (fun x => (show FVec Ideal S512x2048 .f32 from iblk m c 0 t) (ix2 r x)) = hrow m c ⟨t.val / 2 * 512 + r.val, by omega⟩ :=
    funext fun x => b0 m c t r x
  have e1 : (fun x => (show FVec Ideal S1x2048 .f32 from iblk m c 1 t) (ix2 0 x)) = fun x => m ((c.tc : Thread nD τ).loc main_arg2) (ix1 x) :=
    funext fun x => b1 m c t x
  have e2 : ∀ p, (fun x => (show FVec Ideal S1x6x2048 .f32 from iblk m c 2 t) (ix3 0 p x)) = mrow m c ⟨t.val / 16, by omega⟩ p := fun p =>
    funext fun x => b2 m c t p x
  have q : (t.val / 2 * 512 + r.val) / 4096 = t.val / 16 := by omega
  unfold urow
  simp only [q]
  rw [← e0, ← e1, ← e2, ← e2]

theorem U_pred (c : Dev nD) (t t' : Fin cfg0.N) (h0 : t'.val / 2 = t.val / 2) : U m c t' = U m c t := by
  funext j
  rw [eq_ix2 j]
  refine (U_at m c t' (j 0) (j 1)).trans (Eq.trans ?_ (U_at m c t (j 0) (j 1)).symm)
  simp only [h0]

/-- The kept rows after a first point. -/
theorem scr (c : Dev nD) (t : Fin cfg0.N) (h0 : t.val % 2 = 0) : (outsAt0 m c t.val t.isLt).2 = U m c t := by
  rw [outsAt0_A m c t h0]
  frame_out
  rfl

/-- The block a point writes. -/
theorem outP (c : Dev nD) (t : Fin cfg0.N) : (outsAt0 m c t.val t.isLt).1 = k0_pay2 (F := Ideal) (U m c t) (iblk m c 3 t) := by
  by_cases h0 : t.val % 2 = 0
  · rw [outsAt0_A m c t h0]
    frame_out
    rfl
  · have hU : (outsAt0 m c (t.val - 1) (Nat.lt_of_le_of_lt (Nat.sub_le _ _) t.isLt)).2 = U m c t := by
      refine (scr m c ⟨t.val - 1, Nat.lt_of_le_of_lt (Nat.sub_le _ _) t.isLt⟩ (by dsimp only; omega)).trans ?_
      exact U_pred m c t ⟨t.val - 1, _⟩ (by dsimp only; omega)
    rw [outsAt0_B m c t h0]
    frame_out
    simp only [read_unread_whole]
    rw [hU]

/-- The projected rows. -/
def RES (c : Dev nD) : FVec Ideal S8704x6144 .bf16 := fun i =>
  ∑ x : Fin 2048, urow m c (i 0) x * m ((c.tc : Thread nD τ).loc main_arg4) (ix2 x (i 1))

theorem final (c : Dev nD) : (dats m 0 c).arrAt 4 (cfgs 0).N = RES m c := by
  refine (dats m 0 c).arrAt_eq_of_covers 4 _ (by decide +kernel) fun t hf y => ?_
  blk_simp
  rw [after0_4]
  change S512x3072.Idx at y
  have hy : (y 0).val < 512 := (y 0).isLt
  have hz : (y 1).val < 3072 := (y 1).isLt
  have ht := ltN t
  rw [outP, eq_ix2 y]
  refine (pay2_at _ _ (y 0) (y 1)).trans ?_
  have e0 : (win0_4.blk t).view.emb (ix2 (y 0) (y 1)) 0 = (⟨t.val / 2 * 512 + (y 0).val, by omega⟩ : Fin 8704) := by
    apply Fin.ext
    show win0_4.index t 0 * 512 + 1 * (y 0).val = _
    rw [(idx t).2.2.2.2]
    simp
  have e1 : (win0_4.blk t).view.emb (ix2 (y 0) (y 1)) 1 = (⟨t.val % 2 * 3072 + (y 1).val, by omega⟩ : Fin 6144) := by
    apply Fin.ext
    show win0_4.index t 1 * 3072 + 1 * (y 1).val = _
    rw [(idx t).2.2.2.2]
    simp
  unfold RES
  simp only [e0, e1]
  exact Finset.sum_congr rfl fun x _ => congr (congrArg HMul.hMul (U_at m c t (y 0) x)) (b3 m c t x (y 1))

set_option maxHeartbeats 1600000 in
theorem algebraic : Cert.algebraic_ProjCIdeal_ProjCReferenceIdeal := by
  pair_intro
  · run_from Cert.ProjCIdeal.Gen.run_main m g
  · hlo_run
    rw [final]
    funext j
    idx_vars j
    simp only [truncf_apply]
    by_cases h : j0.val < 8192
    · refine (concat_lat _ _ _ j0 j1 h).trans ?_
      pointwise [RES, urow, modRow, rowNorm, hrow, mrow]
      simp only [joined_lat _ _ _ h, hagree c]
    · refine (concat_ctx _ _ _ j0 j1 h).trans ?_
      have q : j0.val / 4096 = 2 := by omega
      generalize hr : (⟨j0.val - 8192, by omega⟩ : Fin 512) = r0
      have hv : j0.val - 8192 = r0.val := by rw [← hr]
      pointwise [RES, urow, modRow, rowNorm, hrow, mrow]
      simp only [joined_ctx _ _ _ h, q, hv, hagree c]
      rfl

end Cert.ProjCIdeal.Hand
end
-- ==== Proof.OutProjValue.lean ====
/- What the output projection of the attention layers leaves, at the exact instance. -/
module

public import proofs.«01_k».proof.Proof.Gen.OutProjIdeal.Value
public import proofs.«01_k».proof.Proof.Gen.OutProjReferenceIdeal
public import proofs.«01_k».proof.Defs
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Hand

open Idealize.ShloMosaic Idealize.SL.Sem Cert.OutProjIdeal Cert.OutProjIdeal.Gen Cert.OutProjIdeal.Value Cert.Rows

variable (m : (ℓ : Loc nD τ sig) → Buf (Elt Ideal) ℓ)

theorem lt17 (t : Fin cfg0.N) : t.val < 17 := lt_of_lt_of_eq t.isLt N_0

theorem idx : ∀ t : Fin cfg0.N, win0_0.index t = ![t.val, 0] ∧ win0_1.index t = ![0, 0, 0] ∧ win0_2.index t = ![t.val, 0]
    ∧ win0_3.index t = ![t.val / 8, 0, 0] ∧ win0_4.index t = ![t.val, 0] :=
  (by decide +kernel : ∀ t : Fin grid0.N, _)

theorem pay_at (v0 : Vec Ideal S512x2048 .bf16) (v1 : Vec Ideal S1x2048x2048 .bf16) (v2 : Vec Ideal S512x2048 .f32) (v3 : Vec Ideal S1x6x2048 .f32) (r : Fin 512) (k : Fin 2048) :
    k0_pay1 (F := Ideal) v0 v1 v2 v3 (ix2 r k) = v2 (ix2 r k) + v3 (ix3 0 2 k) * ∑ x : Fin 2048, v0 (ix2 r x) * v1 (ix3 0 x k) := by
  pointwise [k0_pay1]

/-- Row `R` of the attention's outputs. -/
def orow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Row `R` of the state. -/
def hrow (c : Dev nD) (R : Fin 8704) (x : Fin 2048) : EReal :=
  joined (fun a b => m ((c.tc : Thread nD τ).loc main_arg3) (ix3 a b x)) (fun a b => m ((c.tc : Thread nD τ).loc main_arg4) (ix3 a b x)) R

/-- The gate a row of block `b` takes. -/
def gate (c : Dev nD) (b : Fin 3) (x : Fin 2048) : EReal :=
  m ((c.tc : Thread nD τ).loc main_arg5) (ix2 b (⟨4096 + x.val, by omega⟩ : Fin 12288))

theorem oV (c : Dev nD) (R : Fin 8704) (k : Fin 2048) : (show FVec Ideal S8704x2048 .bf16 from V m c main_v3) (ix2 R k) = orow m c R k := by
  entry_read
  simp only [truncf_apply]
  unfold orow
  by_cases h : R.val < 8192
  · rw [joined_lat _ _ _ h]
    refine (concat_lat _ _ _ R k h).trans ?_
    pointwise
  · rw [joined_ctx _ _ _ h]
    refine (concat_ctx _ _ _ R k h).trans ?_
    pointwise
theorem hV (c : Dev nD) (R : Fin 8704) (k : Fin 2048) : (show FVec Ideal S8704x2048 .f32 from V m c main_v8) (ix2 R k) = hrow m c R k := by
  entry_read
  unfold hrow joined
  pointwise

theorem b0 (c : Dev nD) (t : Fin cfg0.N) (r : Fin 512) (k : Fin 2048) :
    (show FVec Ideal S512x2048 .bf16 from iblk m c 0 t) (ix2 r k) = orow m c ⟨t.val * 512 + r.val, by have := lt17 t; omega⟩ k := by
  have := lt17 t
  refine Eq.trans ?_ (oV m c _ k)
  blk_ext [iblk, idx t]
theorem b1 (c : Dev nD) (t : Fin cfg0.N) (r : Fin 2048) (k : Fin 2048) :
    (show FVec Ideal S1x2048x2048 .bf16 from iblk m c 1 t) (ix3 0 r k) = m ((c.tc : Thread nD τ).loc main_arg2) (ix2 r k) := by
  blk_point [iblk, V, idx t]
theorem b2 (c : Dev nD) (t : Fin cfg0.N) (r : Fin 512) (k : Fin 2048) :
    (show FVec Ideal S512x2048 .f32 from iblk m c 2 t) (ix2 r k) = hrow m c ⟨t.val * 512 + r.val, by have := lt17 t; omega⟩ k := by
  have := lt17 t
  refine Eq.trans ?_ (hV m c _ k)
  blk_ext [iblk, idx t]
theorem b3 (c : Dev nD) (t : Fin cfg0.N) (k : Fin 2048) :
    (show FVec Ideal S1x6x2048 .f32 from iblk m c 3 t) (ix3 0 2 k) = gate m c ⟨t.val / 8, by have := lt17 t; omega⟩ k := by
  have := lt17 t
  unfold gate
  blk_point [iblk, V, idx t]

/-- The state after the layer's mixer. -/
def RES (c : Dev nD) : FVec Ideal S8704x2048 .f32 := fun i =>
  hrow m c (i 0) (i 1) + gate m c ⟨(i 0).val / 4096, by have : (i 0).val < 8704 := (i 0).isLt; omega⟩ (i 1)
    * ∑ x : Fin 2048, orow m c (i 0) x * m ((c.tc : Thread nD τ).loc main_arg2) (ix2 x (i 1))

theorem final (c : Dev nD) : (dats m 0 c).arrAt 4 (cfgs 0).N = RES m c := by
  refine (dats m 0 c).arrAt_eq_of_covers 4 _ (by decide +kernel) fun t hf y => ?_
  blk_simp
  rw [after0_4]
  change S512x2048.Idx at y
  have hy : (y 0).val < 512 := (y 0).isLt
  have ht := lt17 t
  rw [eq_ix2 y]
  frame_out
  refine (pay_at _ _ _ _ (y 0) (y 1)).trans ?_
  have e0 : (win0_4.blk t).view.emb (ix2 (y 0) (y 1)) 0 = (⟨t.val * 512 + (y 0).val, by omega⟩ : Fin 8704) := by
    apply Fin.ext
    show win0_4.index t 0 * 512 + 1 * (y 0).val = _
    rw [(idx t).2.2.2.2]
    simp
  have e1 : (win0_4.blk t).view.emb (ix2 (y 0) (y 1)) 1 = y 1 := by
    apply Fin.ext
    show win0_4.index t 1 * 2048 + 1 * (y 1).val = _
    rw [(idx t).2.2.2.2]
    simp
  have q : (t.val * 512 + (y 0).val) / 4096 = t.val / 8 := by omega
  unfold RES
  simp only [e0, e1, q]
  exact congr (congrArg HAdd.hAdd (b2 m c t (y 0) (y 1))) (congr (congrArg HMul.hMul (b3 m c t (y 1)))
    (Finset.sum_congr rfl fun x _ => congr (congrArg HMul.hMul (b0 m c t (y 0) x)) (b1 m c t x (y 1))))

set_option maxHeartbeats 1600000 in
theorem algebraic : Cert.algebraic_OutProjIdeal_OutProjReferenceIdeal := by
  pair_intro
  · run_from Cert.OutProjIdeal.Gen.run_main m g
  · hlo_run
    rw [final]
    funext j
    idx_vars j
    by_cases h : j0.val < 8192
    · refine (concat_lat _ _ _ j0 j1 h).trans ?_
      pointwise [RES, orow, hrow, gate]
      simp only [joined_lat _ _ _ h, hagree c]
    · refine (concat_ctx _ _ _ j0 j1 h).trans ?_
      have q : j0.val / 4096 = 2 := by omega
      pointwise [RES, orow, hrow, gate]
      simp only [joined_ctx _ _ _ h, q, hagree c]
      rfl

end Cert.OutProjIdeal.Hand
end
-- ==== Proof.SsdOutPay.lean ====
/- The arithmetic of one step of the gated, group-normed output projection, at the exact instance. -/
module

public import proofs.«01_k».proof.Proof.Gen.SsdOutIdeal.Skeleton
public import proofs.«01_k».proof.Proof.Rows
public import Idealize.ShloMosaic.Lib.Pointwise

@[expose] public section

set_option maxRecDepth 16384

noncomputable section

namespace Cert.SsdOutIdeal.Hand

open Idealize.ShloMosaic Idealize.SL.Sem Cert.SsdOutIdeal Cert.SsdOutIdeal.Gen Cert.Rows

/-- The scans' sum and the skip, under the gate. -/
def gated (a b s d z : EReal) : EReal := (a + b + s * d) * silu z

/-- A group divided by its root mean square. -/
def groupNorm (e : Fin 512 → EReal) (k : Fin 512) : EReal :=
  e k * Ideal.rsqrt (Ideal.div (∑ x, e x * e x) (Ideal.ofBits FTy.f32 1140850688#32) + Ideal.ofBits FTy.f32 897988541#32)

theorem first_at (v3 : Vec Ideal S512x2048 .f32) (v4 : Vec Ideal S512x512 .bf16) (v7 v10 v14 : Vec Ideal S1x512x512 .bf16) (v17 v39 : Vec Ideal S1x512 .f32)
    (v48 : Vec Ideal S1x512x2048 .bf16) (r : Fin 512) (k : Fin 2048) :
    k0_pay8 (F := Ideal) v3 (k0_pay5 v4 v7 v10 v14 v17) (k0_pay6 v4 v7 v10 v14 v17) k0_pay7 v39 v48 (ix2 r k)
      = v3 (ix2 r k) + ∑ x : Fin 512, groupNorm (fun y => gated (v7 (ix3 0 r y)) (v10 (ix3 0 r y)) (v14 (ix3 0 r y)) (v17 (ix2 0 y)) (v4 (ix2 r y))) x
          * v39 (ix2 0 x) * v48 (ix3 0 x k) := by
  pointwise [k0_pay8, k0_pay5, k0_pay6, k0_pay7, groupNorm, gated, silu]
  simp only [zero_sub]

theorem second_at (v51 : FVec Ideal S512x2048 .f32) (v52 : Vec Ideal S512x512 .bf16) (v55 v58 v62 : Vec Ideal S1x512x512 .bf16) (v65 v87 : Vec Ideal S1x512 .f32)
    (v96 : Vec Ideal S1x512x2048 .bf16) (r : Fin 512) (k : Fin 2048) :
    k0_pay1 (F := Ideal) v51 (k0_pay9 v52) (k0_pay10 v55 v58 v62 v65) (k0_pay11 v52) (Scalar.ofBits .f32 0x3F800000#32) v87 v96 (ix2 r k)
      = v51 (ix2 r k) + ∑ x : Fin 512, groupNorm (fun y => gated (v55 (ix3 0 r y)) (v58 (ix3 0 r y)) (v62 (ix3 0 r y)) (v65 (ix2 0 y)) (v52 (ix2 r y))) x
          * v87 (ix2 0 x) * v96 (ix3 0 x k) := by
  pointwise [k0_pay1, k0_pay9, k0_pay10, k0_pay11, groupNorm, gated, silu]
  simp only [zero_sub]

theorem both_at (v3 : Vec Ideal S512x2048 .f32) (v4 v52 : Vec Ideal S512x512 .bf16) (v7 v10 v14 v55 v58 v62 : Vec Ideal S1x512x512 .bf16)
    (v17 v39 v65 v87 : Vec Ideal S1x512 .f32) (v48 v96 : Vec Ideal S1x512x2048 .bf16) (r : Fin 512) (k : Fin 2048) :
    k0_pay1 (F := Ideal) (k0_pay8 (F := Ideal) v3 (k0_pay5 v4 v7 v10 v14 v17) (k0_pay6 v4 v7 v10 v14 v17) k0_pay7 v39 v48)
        (k0_pay9 v52) (k0_pay10 v55 v58 v62 v65) (k0_pay11 v52) (Scalar.ofBits .f32 0x3F800000#32) v87 v96 (ix2 r k)
      = v3 (ix2 r k)
        + (∑ x : Fin 512, groupNorm (fun y => gated (v7 (ix3 0 r y)) (v10 (ix3 0 r y)) (v14 (ix3 0 r y)) (v17 (ix2 0 y)) (v4 (ix2 r y))) x
          * v39 (ix2 0 x) * v48 (ix3 0 x k))
        + ∑ x : Fin 512, groupNorm (fun y => gated (v55 (ix3 0 r y)) (v58 (ix3 0 r y)) (v62 (ix3 0 r y)) (v65 (ix2 0 y)) (v52 (ix2 r y))) x
          * v87 (ix2 0 x) * v96 (ix3 0 x k) := by
  rw [second_at, first_at]

theorem gated_congr {a a' b b' s s' d d' z z' : EReal} (ha : a = a') (hb : b = b') (hs : s = s') (hd : d = d') (hz : z = z') :
    gated a b s d z = gated a' b' s' d' z' := by rw [ha, hb, hs, hd, hz]

theorem pay2_at (v51 : FVec Ideal S512x2048 .f32) (v54 v69 v72 : FVec Ideal S512x512 .f32) (cst : Ideal FTy.f32) (v87 : Vec Ideal S1x512 .f32)
    (v96 : Vec Ideal S1x512x2048 .bf16) : k0_pay2 (F := Ideal) v51 v54 v69 v72 cst v87 v96 = k0_pay1 (F := Ideal) v51 v54 v69 v72 cst v87 v96 := by
  funext j
  unfold k0_pay2
  pointwise

theorem zero_at (j : S512x2048.Idx) : k0_pay4 (F := Ideal) j = 0 := by
  pointwise [k0_pay4]

end Cert.SsdOutIdeal.Hand
end
-- ==== Proof.Rows3.lean ====
/- Rows of two arrays of channel groups laid one after the other. -/
module

public import Idealize.ShloMosaic.Lib.Pointwise
public import Idealize.ShloMosaic.Lib.Pipeline.Value

@[expose] public section

noncomputable section

namespace Cert.Rows

open Idealize.ShloMosaic

/-- The first two axes exchanged. -/
theorem transpose_102 {u v w : Nat} {α : Type} (x : (⟨3, ![u, v, w]⟩ : Shape).Idx → α)
    (h : (⟨3, ![u, v, w]⟩ : Shape).Transposes [1, 0, 2] ⟨3, ![v, u, w]⟩) (g : Fin v) (r : Fin u) (k : Fin w) :
    transpose ⟨3, ![v, u, w]⟩ [1, 0, 2] x h (ix3 g r k) = x (ix3 r g k) :=
  transpose_apply _ x h _ _ fun b => match b with | ⟨0, _⟩ => rfl | ⟨1, _⟩ => rfl | ⟨2, _⟩ => rfl

/-- A row of the first part, its channels in groups. -/
theorem concat_lat3 {v w : Nat} {α : Type} (x : (⟨3, ![8192, v, w]⟩ : Shape).Idx → α) (y : (⟨3, ![512, v, w]⟩ : Shape).Idx → α)
    (hc : Shape.Concatenates [⟨3, ![8192, v, w]⟩, ⟨3, ![512, v, w]⟩] ⟨3, ![8704, v, w]⟩ 0) (R : Fin 8704) (g : Fin v) (k : Fin w) (h : R.val < 8192) :
    concatenate (⟨3, ![8704, v, w]⟩ : Shape) 0 [⟨_, x⟩, ⟨_, y⟩] hc (ix3 R g k) = x (ix3 (⟨R.val, h⟩ : Fin 8192) g k) := by
  refine concatenate_pair_apply_left 0 x y hc (ix3 R g k) rfl _ fun b => ?_
  match b with
  | ⟨0, _⟩ => rfl
  | ⟨1, _⟩ => rfl
  | ⟨2, _⟩ => rfl

/-- A row of the second part, its channels in groups. -/
theorem concat_ctx3 {v w : Nat} {α : Type} (x : (⟨3, ![8192, v, w]⟩ : Shape).Idx → α) (y : (⟨3, ![512, v, w]⟩ : Shape).Idx → α)
    (hc : Shape.Concatenates [⟨3, ![8192, v, w]⟩, ⟨3, ![512, v, w]⟩] ⟨3, ![8704, v, w]⟩ 0) (R : Fin 8704) (g : Fin v) (k : Fin w) (h : ¬R.val < 8192) :
    concatenate (⟨3, ![8704, v, w]⟩ : Shape) 0 [⟨_, x⟩, ⟨_, y⟩] hc (ix3 R g k) = y (ix3 (⟨R.val - 8192, by omega⟩ : Fin 512) g k) := by
  refine concatenate_pair_apply_right 0 x y hc (ix3 R g k) rfl rfl _ (fun b hb => ?_) ?_
  · match b with
    | ⟨0, _⟩ => exact absurd rfl hb
    | ⟨1, _⟩ => rfl
    | ⟨2, _⟩ => rfl
  · show R.val - 8192 + 8192 = R.val
    omega

end Cert.Rows
end
-- ==== Proof.SsdOutValue.lean ====
/- What the gated, group-normed output projection of the state-space layers leaves, at the exact instance. -/
module

public import proofs.«01_k».proof.Proof.SsdOutPay
public import proofs.«01_k».proof.Proof.Rows3
public import proofs.«01_k».proof.Proof.Gen.SsdOutIdeal.Value
public import proofs.«01_k».proof.Proof.Gen.SsdOutReferenceIdeal
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SsdOutIdeal.Hand

open Idealize.ShloMosaic Idealize.SL.Sem Cert.SsdOutIdeal Cert.SsdOutIdeal.Gen Cert.SsdOutIdeal.Value Cert.Rows

variable (m : (ℓ : Loc nD τ sig) → Buf (Elt Ideal) ℓ)

theorem lt68 (t : Fin cfg0.N) : t.val < 68 := lt_of_lt_of_eq t.isLt N_0

theorem idx : ∀ t : Fin cfg0.N, win0_0.index t = ![t.val % 4, t.val / 4, 0] ∧ win0_1.index t = ![t.val % 4, t.val / 4, 0]
    ∧ win0_2.index t = ![t.val % 4, t.val / 4, 0] ∧ win0_3.index t = ![t.val / 4, t.val % 4] ∧ win0_4.index t = ![0, t.val % 4]
    ∧ win0_5.index t = ![0, t.val % 4] ∧ win0_6.index t = ![0, 0, 0] ∧ win0_7.index t = ![t.val / 32, 0, 0]
    ∧ win0_8.index t = ![min (t.val / 4) 15, 0] ∧ win0_9.index t = ![t.val / 4 - 16, 0] ∧ win0_10.index t = ![t.val / 4, 0] :=
  (by decide +kernel : ∀ t : Fin grid0.N, _)

theorem off0 : ∀ t : Fin cfg0.N, k0_off1 (grid0.coords t) 0#32 = ![0, 1024 * (t.val % 4), 0] :=
  (by decide +kernel : ∀ t : Fin grid0.N, _)
theorem off1 : ∀ t : Fin cfg0.N, k0_off1 (grid0.coords t) 512#32 = ![0, 1024 * (t.val % 4) + 512, 0] :=
  (by decide +kernel : ∀ t : Fin grid0.N, _)

/-- Channel `l` of row `R` of the forward scan's result. -/
def fwd (c : Dev nD) (R : Fin 8704) (l : Fin 4096) : EReal :=
  joined (fun a b => m ((c.tc : Thread nD τ).loc main_arg0) (ix4 a b (⟨l.val / 64, by omega⟩ : Fin 64) (⟨l.val % 64, by omega⟩ : Fin 64)))
    (fun a b => m ((c.tc : Thread nD τ).loc main_arg1) (ix4 a b (⟨l.val / 64, by omega⟩ : Fin 64) (⟨l.val % 64, by omega⟩ : Fin 64))) R
/-- Channel `l` of row `R` of the backward scan's result. -/
def bwd (c : Dev nD) (R : Fin 8704) (l : Fin 4096) : EReal :=
  joined (fun a b => m ((c.tc : Thread nD τ).loc main_arg2) (ix4 a b (⟨l.val / 64, by omega⟩ : Fin 64) (⟨l.val % 64, by omega⟩ : Fin 64)))
    (fun a b => m ((c.tc : Thread nD τ).loc main_arg3) (ix4 a b (⟨l.val / 64, by omega⟩ : Fin 64) (⟨l.val % 64, by omega⟩ : Fin 64))) R
/-- Channel `l` of row `R` of the scans' input. -/
def xrow (c : Dev nD) (R : Fin 8704) (l : Fin 4096) : EReal :=
  joined (fun a b => m ((c.tc : Thread nD τ).loc main_arg4) (ix4 a b (⟨l.val / 64, by omega⟩ : Fin 64) (⟨l.val % 64, by omega⟩ : Fin 64)))
    (fun a b => m ((c.tc : Thread nD τ).loc main_arg5) (ix4 a b (⟨l.val / 64, by omega⟩ : Fin 64) (⟨l.val % 64, by omega⟩ : Fin 64))) R
/-- Row `R` of the projection whose first channels are the gate. -/
def zrow (c : Dev nD) (R : Fin 8704) (l : Fin 10240) : EReal :=
  joined (fun a b => m ((c.tc : Thread nD τ).loc main_arg6) (ix3 a b l)) (fun a b => m ((c.tc : Thread nD τ).loc main_arg7) (ix3 a b l)) R
/-- The skip's factor at channel `l`. -/
def skip (c : Dev nD) (l : Fin 4096) : EReal := m ((c.tc : Thread nD τ).loc main_arg8) (ix1 (⟨l.val / 64, by omega⟩ : Fin 64))
/-- Row `R` of the state. -/
def hrow (c : Dev nD) (R : Fin 8704) (x : Fin 2048) : EReal :=
  joined (fun a b => m ((c.tc : Thread nD τ).loc main_arg11) (ix3 a b x)) (fun a b => m ((c.tc : Thread nD τ).loc main_arg12) (ix3 a b x)) R
/-- The gate a row of block `b` takes. -/
def gate (c : Dev nD) (b : Fin 3) (x : Fin 2048) : EReal :=
  m ((c.tc : Thread nD τ).loc main_arg13) (ix2 b (⟨4096 + x.val, by omega⟩ : Fin 12288))

theorem lane_div (G : Fin 8) (x : Fin 512) : (G.val * 512 + x.val) / 64 = G.val * 8 + x.val / 64 := by omega
theorem lane_mod (G : Fin 8) (x : Fin 512) : (G.val * 512 + x.val) % 64 = x.val % 64 := by omega

theorem fV (c : Dev nD) (G : Fin 8) (R : Fin 8704) (x : Fin 512) :
    (show FVec Ideal S8x8704x512 .bf16 from V m c main_v4) (ix3 G R x) = fwd m c R ⟨G.val * 512 + x.val, by omega⟩ := by
  entry_read
  refine (transpose_102 _ transposes_S8704x8x512_S8x8704x512_1_0_2 G R x).trans ?_
  rw [truncf_apply]
  unfold fwd
  by_cases h : R.val < 8192
  · rw [joined_lat _ _ _ h]
    refine (concat_lat3 _ _ _ R G x h).trans ?_
    pointwise
    simp only [lane_div, lane_mod]
  · rw [joined_ctx _ _ _ h]
    refine (concat_ctx3 _ _ _ R G x h).trans ?_
    pointwise
    simp only [lane_div, lane_mod]
theorem bV (c : Dev nD) (G : Fin 8) (R : Fin 8704) (x : Fin 512) :
    (show FVec Ideal S8x8704x512 .bf16 from V m c main_v9) (ix3 G R x) = bwd m c R ⟨G.val * 512 + x.val, by omega⟩ := by
  entry_read
  refine (transpose_102 _ transposes_S8704x8x512_S8x8704x512_1_0_2 G R x).trans ?_
  rw [truncf_apply]
  unfold bwd
  by_cases h : R.val < 8192
  · rw [joined_lat _ _ _ h]
    refine (concat_lat3 _ _ _ R G x h).trans ?_
    pointwise
    simp only [lane_div, lane_mod]
  · rw [joined_ctx _ _ _ h]
    refine (concat_ctx3 _ _ _ R G x h).trans ?_
    pointwise
    simp only [lane_div, lane_mod]
theorem xV (c : Dev nD) (G : Fin 8) (R : Fin 8704) (x : Fin 512) :
    (show FVec Ideal S8x8704x512 .bf16 from V m c main_v14) (ix3 G R x) = xrow m c R ⟨G.val * 512 + x.val, by omega⟩ := by
  entry_read
  refine (transpose_102 _ transposes_S8704x8x512_S8x8704x512_1_0_2 G R x).trans ?_
  rw [truncf_apply]
  unfold xrow
  by_cases h : R.val < 8192
  · rw [joined_lat _ _ _ h]
    refine (concat_lat3 _ _ _ R G x h).trans ?_
    pointwise
    simp only [lane_div, lane_mod]
  · rw [joined_ctx _ _ _ h]
    refine (concat_ctx3 _ _ _ R G x h).trans ?_
    pointwise
    simp only [lane_div, lane_mod]
theorem zV (c : Dev nD) (R : Fin 8704) (l : Fin 10240) :
    (show FVec Ideal S8704x10240 .bf16 from V m c main_v18) (ix2 R l) = zrow m c R l := by
  entry_read
  simp only [truncf_apply]
  unfold zrow
  by_cases h : R.val < 8192
  · rw [joined_lat _ _ _ h]
    refine (concat_lat _ _ _ R l h).trans ?_
    pointwise
  · rw [joined_ctx _ _ _ h]
    refine (concat_ctx _ _ _ R l h).trans ?_
    pointwise
theorem dV (c : Dev nD) (l : Fin 4096) :
    (show FVec Ideal S1x4096 .f32 from V m c main_v26) (ix2 0 l) = skip m c l := by
  entry_read
  unfold skip
  pointwise

/-- Channel `l` of row `R` before the group norm. -/
def erow (c : Dev nD) (R : Fin 8704) (l : Fin 4096) : EReal :=
  gated (fwd m c R l) (bwd m c R l) (xrow m c R l) (skip m c l) (zrow m c R ⟨l.val, by omega⟩)

/-- What group `G` of the channels adds to entry `k` of row `R`. -/
def part (c : Dev nD) (R : Fin 8704) (G : Fin 8) (k : Fin 2048) : EReal :=
  ∑ x : Fin 512, groupNorm (fun y => erow m c R ⟨G.val * 512 + y.val, by omega⟩) x
    * m ((c.tc : Thread nD τ).loc main_arg9) (ix1 (⟨G.val * 512 + x.val, by omega⟩ : Fin 4096))
    * m ((c.tc : Thread nD τ).loc main_arg10) (ix2 (⟨G.val * 512 + x.val, by omega⟩ : Fin 4096) k)

theorem b0 (c : Dev nD) (t : Fin cfg0.N) (g : Fin 2) (r x : Fin 512) :
    (show FVec Ideal S2x512x512 .bf16 from iblk m c 0 t) (ix3 g r x)
      = fwd m c ⟨t.val / 4 * 512 + r.val, by have := lt68 t; omega⟩ ⟨(t.val % 4 * 2 + g.val) * 512 + x.val, by omega⟩ := by
  have := lt68 t
  refine Eq.trans ?_ (fV m c (⟨t.val % 4 * 2 + g.val, by omega⟩ : Fin 8) _ x)
  blk_ext [iblk, idx t]
theorem b1 (c : Dev nD) (t : Fin cfg0.N) (g : Fin 2) (r x : Fin 512) :
    (show FVec Ideal S2x512x512 .bf16 from iblk m c 1 t) (ix3 g r x)
      = bwd m c ⟨t.val / 4 * 512 + r.val, by have := lt68 t; omega⟩ ⟨(t.val % 4 * 2 + g.val) * 512 + x.val, by omega⟩ := by
  have := lt68 t
  refine Eq.trans ?_ (bV m c (⟨t.val % 4 * 2 + g.val, by omega⟩ : Fin 8) _ x)
  blk_ext [iblk, idx t]
theorem b2 (c : Dev nD) (t : Fin cfg0.N) (g : Fin 2) (r x : Fin 512) :
    (show FVec Ideal S2x512x512 .bf16 from iblk m c 2 t) (ix3 g r x)
      = xrow m c ⟨t.val / 4 * 512 + r.val, by have := lt68 t; omega⟩ ⟨(t.val % 4 * 2 + g.val) * 512 + x.val, by omega⟩ := by
  have := lt68 t
  refine Eq.trans ?_ (xV m c (⟨t.val % 4 * 2 + g.val, by omega⟩ : Fin 8) _ x)
  blk_ext [iblk, idx t]
theorem b3 (c : Dev nD) (t : Fin cfg0.N) (r : Fin 512) (x : Fin 1024) :
    (show FVec Ideal S512x1024 .bf16 from iblk m c 3 t) (ix2 r x)
      = zrow m c ⟨t.val / 4 * 512 + r.val, by have := lt68 t; omega⟩ ⟨1024 * (t.val % 4) + x.val, by omega⟩ := by
  have := lt68 t
  refine Eq.trans ?_ (zV m c _ _)
  blk_ext [iblk, idx t]
theorem b4 (c : Dev nD) (t : Fin cfg0.N) (x : Fin 1024) :
    (show FVec Ideal S1x1024 .f32 from iblk m c 4 t) (ix2 0 x) = skip m c ⟨1024 * (t.val % 4) + x.val, by omega⟩ := by
  refine Eq.trans ?_ (dV m c _)
  blk_ext [iblk, idx t]
theorem b5 (c : Dev nD) (t : Fin cfg0.N) (x : Fin 1024) :
    (show FVec Ideal S1x1024 .f32 from iblk m c 5 t) (ix2 0 x)
      = m ((c.tc : Thread nD τ).loc main_arg9) (ix1 (⟨1024 * (t.val % 4) + x.val, by omega⟩ : Fin 4096)) := by
  blk_point [iblk, V, idx t]
theorem b6 (c : Dev nD) (t : Fin cfg0.N) (l : Fin 4096) (k : Fin 2048) :
    (show FVec Ideal S1x4096x2048 .bf16 from iblk m c 6 t) (ix3 0 l k) = m ((c.tc : Thread nD τ).loc main_arg10) (ix2 l k) := by
  blk_point [iblk, V, idx t]
theorem b7 (c : Dev nD) (t : Fin cfg0.N) (k : Fin 2048) :
    (show FVec Ideal S1x6x2048 .f32 from iblk m c 7 t) (ix3 0 2 k) = gate m c ⟨t.val / 32, by have := lt68 t; omega⟩ k := by
  have := lt68 t
  unfold gate
  blk_point [iblk, V, idx t]
theorem b8 (c : Dev nD) (t : Fin cfg0.N) (h : t.val < 64) (r : Fin 512) (k : Fin 2048) :
    (show FVec Ideal S512x2048 .f32 from iblk m c 8 t) (ix2 r k) = hrow m c ⟨t.val / 4 * 512 + r.val, by omega⟩ k := by
  unfold hrow
  rw [joined_lat _ _ _ (by show t.val / 4 * 512 + r.val < 8192; omega)]
  blk_point [iblk, V, idx t]
theorem b9 (c : Dev nD) (t : Fin cfg0.N) (h : ¬t.val < 64) (r : Fin 512) (k : Fin 2048) :
    (show FVec Ideal S512x2048 .f32 from iblk m c 9 t) (ix2 r k) = hrow m c ⟨t.val / 4 * 512 + r.val, by have := lt68 t; omega⟩ k := by
  have := lt68 t
  unfold hrow
  rw [joined_ctx _ _ _ (by show ¬t.val / 4 * 512 + r.val < 8192; omega)]
  blk_point [iblk, V, idx t]

/-! ## The tiles a point loads -/

theorem ld3a (X : Vec Ideal S2x512x512 .bf16) (r y : Fin 512) :
    View.ld X (Rect.unit ![0, 0, 0] ![1, 512, 512] inb_S2x512x512_S1x512x512_0_0_0) (ix3 0 r y) = X (ix3 0 r y) := by
  rw [View.ld_apply]
  refine congrArg X (funext fun a => Fin.ext ?_)
  match a with
  | ⟨0, _⟩ => simp
  | ⟨1, _⟩ => simp
  | ⟨2, _⟩ => simp
theorem ld3b (X : Vec Ideal S2x512x512 .bf16) (r y : Fin 512) :
    View.ld X (Rect.unit ![1, 0, 0] ![1, 512, 512] inb_S2x512x512_S1x512x512_1_0_0) (ix3 0 r y) = X (ix3 1 r y) := by
  rw [View.ld_apply]
  refine congrArg X (funext fun a => Fin.ext ?_)
  match a with
  | ⟨0, _⟩ => simp
  | ⟨1, _⟩ => simp
  | ⟨2, _⟩ => simp
theorem ldza (X : Vec Ideal S512x1024 .bf16) (r y : Fin 512) :
    View.ld X (Rect.unit ![0, 0] ![512, 512] inb_S512x1024_S512x512_0_0) (ix2 r y) = X (ix2 r (⟨y.val, by omega⟩ : Fin 1024)) := by
  rw [View.ld_apply]
  refine congrArg X (funext fun a => Fin.ext ?_)
  match a with
  | ⟨0, _⟩ => simp
  | ⟨1, _⟩ => simp
theorem ldzb (X : Vec Ideal S512x1024 .bf16) (r y : Fin 512) :
    View.ld X (Rect.unit ![0, 512] ![512, 512] inb_S512x1024_S512x512_0_512) (ix2 r y) = X (ix2 r (⟨512 + y.val, by omega⟩ : Fin 1024)) := by
  rw [View.ld_apply]
  refine congrArg X (funext fun a => Fin.ext ?_)
  match a with
  | ⟨0, _⟩ => simp
  | ⟨1, _⟩ => simp
theorem ldra (X : Vec Ideal S1x1024 .f32) (y : Fin 512) :
    View.ld X (Rect.unit ![0, 0] ![1, 512] inb_S1x1024_S1x512_0_0) (ix2 0 y) = X (ix2 0 (⟨y.val, by omega⟩ : Fin 1024)) := by
  rw [View.ld_apply]
  refine congrArg X (funext fun a => Fin.ext ?_)
  match a with
  | ⟨0, _⟩ => simp
  | ⟨1, _⟩ => simp
theorem ldrb (X : Vec Ideal S1x1024 .f32) (y : Fin 512) :
    View.ld X (Rect.unit ![0, 512] ![1, 512] inb_S1x1024_S1x512_0_512) (ix2 0 y) = X (ix2 0 (⟨512 + y.val, by omega⟩ : Fin 1024)) := by
  rw [View.ld_apply]
  refine congrArg X (funext fun a => Fin.ext ?_)
  match a with
  | ⟨0, _⟩ => simp
  | ⟨1, _⟩ => simp
theorem ldw (X : Vec Ideal S1x4096x2048 .bf16) (o : Fin 3 → Nat) (inb) (l : Nat) (ho : o = ![0, l, 0]) (y : Fin 512) (k : Fin 2048) (hl : l + y.val < 4096) :
    View.ld X (Rect.unit o ![1, 512, 2048] inb) (ix3 0 y k) = X (ix3 0 (⟨l + y.val, hl⟩ : Fin 4096) k) := by
  subst ho
  rw [View.ld_apply]
  refine congrArg X (funext fun a => Fin.ext ?_)
  match a with
  | ⟨0, _⟩ => simp
  | ⟨1, _⟩ => simp
  | ⟨2, _⟩ => simp

theorem first_sum (c : Dev nD) (t : Fin cfg0.N) (r : Fin 512) (k : Fin 2048) (R : Fin 8704) (hR : R.val = t.val / 4 * 512 + r.val) (G : Fin 8) (hG : G.val = t.val % 4 * 2)
    (v7 v10 v14 : Vec Ideal S1x512x512 .bf16) (v17 v39 : Vec Ideal S1x512 .f32) (v4 : Vec Ideal S512x512 .bf16) (v48 : Vec Ideal S1x512x2048 .bf16)
    (h7 : v7 = View.ld (show Vec Ideal S2x512x512 .bf16 from iblk m c 0 t) (Rect.unit ![0, 0, 0] ![1, 512, 512] inb_S2x512x512_S1x512x512_0_0_0))
    (h10 : v10 = View.ld (show Vec Ideal S2x512x512 .bf16 from iblk m c 1 t) (Rect.unit ![0, 0, 0] ![1, 512, 512] inb_S2x512x512_S1x512x512_0_0_0))
    (h14 : v14 = View.ld (show Vec Ideal S2x512x512 .bf16 from iblk m c 2 t) (Rect.unit ![0, 0, 0] ![1, 512, 512] inb_S2x512x512_S1x512x512_0_0_0))
    (h4 : v4 = View.ld (show Vec Ideal S512x1024 .bf16 from iblk m c 3 t) (Rect.unit ![0, 0] ![512, 512] inb_S512x1024_S512x512_0_0))
    (h17 : v17 = View.ld (show Vec Ideal S1x1024 .f32 from iblk m c 4 t) (Rect.unit ![0, 0] ![1, 512] inb_S1x1024_S1x512_0_0))
    (h39 : v39 = View.ld (show Vec Ideal S1x1024 .f32 from iblk m c 5 t) (Rect.unit ![0, 0] ![1, 512] inb_S1x1024_S1x512_0_0))
    (h48 : ∃ inb, v48 = View.ld (show Vec Ideal S1x4096x2048 .bf16 from iblk m c 6 t) (Rect.unit (k0_off1 (grid0.coords t) 0#32) ![1, 512, 2048] inb)) :
    (∑ x : Fin 512, groupNorm (fun y => gated (v7 (ix3 0 r y)) (v10 (ix3 0 r y)) (v14 (ix3 0 r y)) (v17 (ix2 0 y)) (v4 (ix2 r y))) x
          * v39 (ix2 0 x) * v48 (ix3 0 x k)) = part m c R G k := by
  have := lt68 t
  obtain ⟨inb, h48⟩ := h48
  have hb : t.val / 4 * 512 + r.val < 8704 := by clear hR; omega
  obtain rfl : R = ⟨t.val / 4 * 512 + r.val, hb⟩ := Fin.ext hR
  have hg : t.val % 4 * 2 < 8 := by clear hG; omega
  obtain rfl : G = ⟨t.val % 4 * 2, hg⟩ := Fin.ext hG
  subst h7 h10 h14 h4 h17 h39 h48
  unfold part
  refine Finset.sum_congr rfl fun x _ => ?_
  have e1 : (fun y : Fin 512 => gated _ _ _ _ _) = (fun y : Fin 512 => erow m c ⟨t.val / 4 * 512 + r.val, hb⟩ ⟨t.val % 4 * 2 * 512 + y.val, by omega⟩) := funext fun (y : Fin 512) =>
    gated_congr ((ld3a _ r y).trans (b0 m c t 0 r y)) ((ld3a _ r y).trans (b1 m c t 0 r y)) ((ld3a _ r y).trans (b2 m c t 0 r y))
      ((ldra _ y).trans ((b4 m c t _).trans (congrArg (skip m c) (Fin.ext (by show 1024 * (t.val % 4) + y.val = t.val % 4 * 2 * 512 + y.val; omega)))))
      ((ldza _ r y).trans ((b3 m c t r _).trans (congrArg (zrow m c _) (Fin.ext (by show 1024 * (t.val % 4) + y.val = t.val % 4 * 2 * 512 + y.val; omega)))))
  refine congr (congrArg HMul.hMul (congr (congrArg HMul.hMul (congrFun (congrArg groupNorm e1) x)) ?_)) ?_
  · exact (ldra _ x).trans ((b5 m c t _).trans (congrArg (fun i : Fin 4096 => m ((c.tc : Thread nD τ).loc main_arg9) (ix1 i))
      (Fin.ext (by show 1024 * (t.val % 4) + x.val = t.val % 4 * 2 * 512 + x.val; omega))))
  · exact (ldw _ _ inb _ (off0 t) x k (by omega)).trans ((b6 m c t _ k).trans (congrArg (fun i : Fin 4096 => m ((c.tc : Thread nD τ).loc main_arg10) (ix2 i k))
      (Fin.ext (by show 1024 * (t.val % 4) + x.val = t.val % 4 * 2 * 512 + x.val; omega))))

theorem second_sum (c : Dev nD) (t : Fin cfg0.N) (r : Fin 512) (k : Fin 2048) (R : Fin 8704) (hR : R.val = t.val / 4 * 512 + r.val) (G : Fin 8) (hG : G.val = t.val % 4 * 2 + 1)
    (v7 v10 v14 : Vec Ideal S1x512x512 .bf16) (v17 v39 : Vec Ideal S1x512 .f32) (v4 : Vec Ideal S512x512 .bf16) (v48 : Vec Ideal S1x512x2048 .bf16)
    (h7 : v7 = View.ld (show Vec Ideal S2x512x512 .bf16 from iblk m c 0 t) (Rect.unit ![1, 0, 0] ![1, 512, 512] inb_S2x512x512_S1x512x512_1_0_0))
    (h10 : v10 = View.ld (show Vec Ideal S2x512x512 .bf16 from iblk m c 1 t) (Rect.unit ![1, 0, 0] ![1, 512, 512] inb_S2x512x512_S1x512x512_1_0_0))
    (h14 : v14 = View.ld (show Vec Ideal S2x512x512 .bf16 from iblk m c 2 t) (Rect.unit ![1, 0, 0] ![1, 512, 512] inb_S2x512x512_S1x512x512_1_0_0))
    (h4 : v4 = View.ld (show Vec Ideal S512x1024 .bf16 from iblk m c 3 t) (Rect.unit ![0, 512] ![512, 512] inb_S512x1024_S512x512_0_512))
    (h17 : v17 = View.ld (show Vec Ideal S1x1024 .f32 from iblk m c 4 t) (Rect.unit ![0, 512] ![1, 512] inb_S1x1024_S1x512_0_512))
    (h39 : v39 = View.ld (show Vec Ideal S1x1024 .f32 from iblk m c 5 t) (Rect.unit ![0, 512] ![1, 512] inb_S1x1024_S1x512_0_512))
    (h48 : ∃ inb, v48 = View.ld (show Vec Ideal S1x4096x2048 .bf16 from iblk m c 6 t) (Rect.unit (k0_off1 (grid0.coords t) 512#32) ![1, 512, 2048] inb)) :
    (∑ x : Fin 512, groupNorm (fun y => gated (v7 (ix3 0 r y)) (v10 (ix3 0 r y)) (v14 (ix3 0 r y)) (v17 (ix2 0 y)) (v4 (ix2 r y))) x
          * v39 (ix2 0 x) * v48 (ix3 0 x k)) = part m c R G k := by
  have := lt68 t
  obtain ⟨inb, h48⟩ := h48
  have hb : t.val / 4 * 512 + r.val < 8704 := by clear hR; omega
  obtain rfl : R = ⟨t.val / 4 * 512 + r.val, hb⟩ := Fin.ext hR
  have hg : t.val % 4 * 2 + 1 < 8 := by clear hG; omega
  obtain rfl : G = ⟨t.val % 4 * 2 + 1, hg⟩ := Fin.ext hG
  subst h7 h10 h14 h4 h17 h39 h48
  unfold part
  refine Finset.sum_congr rfl fun x _ => ?_
  have e1 : (fun y : Fin 512 => gated _ _ _ _ _) = (fun y : Fin 512 => erow m c ⟨t.val / 4 * 512 + r.val, hb⟩ ⟨(t.val % 4 * 2 + 1) * 512 + y.val, by omega⟩) := funext fun (y : Fin 512) =>
    gated_congr ((ld3b _ r y).trans (b0 m c t 1 r y)) ((ld3b _ r y).trans (b1 m c t 1 r y)) ((ld3b _ r y).trans (b2 m c t 1 r y))
      ((ldrb _ y).trans ((b4 m c t _).trans (congrArg (skip m c) (Fin.ext (by show 1024 * (t.val % 4) + (512 + y.val) = (t.val % 4 * 2 + 1) * 512 + y.val; omega)))))
      ((ldzb _ r y).trans ((b3 m c t r _).trans (congrArg (zrow m c _) (Fin.ext (by show 1024 * (t.val % 4) + (512 + y.val) = (t.val % 4 * 2 + 1) * 512 + y.val; omega)))))
  refine congr (congrArg HMul.hMul (congr (congrArg HMul.hMul (congrFun (congrArg groupNorm e1) x)) ?_)) ?_
  · exact (ldrb _ x).trans ((b5 m c t _).trans (congrArg (fun i : Fin 4096 => m ((c.tc : Thread nD τ).loc main_arg9) (ix1 i))
      (Fin.ext (by show 1024 * (t.val % 4) + (512 + x.val) = (t.val % 4 * 2 + 1) * 512 + x.val; omega))))
  · exact (ldw _ _ inb _ (off1 t) x k (by omega)).trans ((b6 m c t _ k).trans (congrArg (fun i : Fin 4096 => m ((c.tc : Thread nD τ).loc main_arg10) (ix2 i k))
      (Fin.ext (by show 1024 * (t.val % 4) + 512 + x.val = (t.val % 4 * 2 + 1) * 512 + x.val; omega))))

/-! ## The running sum over a row block's four points -/

theorem accA (c : Dev nD) (t : Fin cfg0.N) (h0 : t.val % 4 = 0) (r : Fin 512) (k : Fin 2048) (R : Fin 8704) (hR : R.val = t.val / 4 * 512 + r.val) :
    (outsAt0 m c t.val t.isLt).2 (ix2 r k) = part m c R 0 k + part m c R 1 k := by
  rw [outsAt0_A m c t h0 (by omega) (by omega)]
  frame_out
  try simp only [read_unread_whole]
  rw [pay2_at]
  refine (both_at _ _ _ _ _ _ _ _ _ _ _ _ _ _ _ r k).trans ?_
  rw [zero_at, zero_add]
  exact congr (congrArg HAdd.hAdd (first_sum m c t r k R hR 0 (by show 0 = _; omega) _ _ _ _ _ _ _ rfl rfl rfl rfl rfl rfl ⟨_, rfl⟩))
    (second_sum m c t r k R hR 1 (by show 1 = _; omega) _ _ _ _ _ _ _ rfl rfl rfl rfl rfl rfl ⟨_, rfl⟩)

theorem accB (c : Dev nD) (t : Fin cfg0.N) (h0 : ¬t.val % 4 = 0) (h1 : t.val % 4 ≤ 2) (r : Fin 512) (k : Fin 2048) (R : Fin 8704) (hR : R.val = t.val / 4 * 512 + r.val)
    (G G' : Fin 8) (hG : G.val = t.val % 4 * 2) (hG' : G'.val = t.val % 4 * 2 + 1) :
    (outsAt0 m c t.val t.isLt).2 (ix2 r k)
      = (outsAt0 m c (t.val - 1) (lt_of_le_of_lt (Nat.sub_le _ _) t.isLt)).2 (ix2 r k) + part m c R G k + part m c R G' k := by
  rw [outsAt0_B m c t h0 h1 (by omega)]
  frame_out
  try simp only [read_unread_whole]
  rw [pay2_at]
  refine (both_at _ _ _ _ _ _ _ _ _ _ _ _ _ _ _ r k).trans ?_
  exact congr (congrArg HAdd.hAdd (congrArg (HAdd.hAdd _) (first_sum m c t r k R hR G hG _ _ _ _ _ _ _ rfl rfl rfl rfl rfl rfl ⟨_, rfl⟩)))
    (second_sum m c t r k R hR G' hG' _ _ _ _ _ _ _ rfl rfl rfl rfl rfl rfl ⟨_, rfl⟩)

theorem pay3_at (i : BitVec 32) (v51 : FVec Ideal S512x2048 .f32) (v54 v69 v72 : FVec Ideal S512x512 .f32) (cst : Ideal FTy.f32) (v87 : Vec Ideal S1x512 .f32)
    (v96 : Vec Ideal S1x512x2048 .bf16) (v107 v109 : Vec Ideal S512x2048 .f32) (v112 : Vec Ideal S1x6x2048 .f32) (r : Fin 512) (k : Fin 2048) :
    k0_pay3 (F := Ideal) i v51 v54 v69 v72 cst v87 v96 v107 v109 v112 (ix2 r k)
      = Scalar.select (Scalar.cmpi .sge i 16#32) (v107 (ix2 r k)) (v109 (ix2 r k))
        + v112 (ix3 0 2 k) * k0_pay1 (F := Ideal) v51 v54 v69 v72 cst v87 v96 (ix2 r k) := by
  pointwise [k0_pay3]

theorem late : ∀ t : Fin cfg0.N, Scalar.cmpi .sge (BitVec.ofNat 32 (grid0.coords t 0).val) 16#32 = if t.val < 64 then 0#1 else 1#1 :=
  (by decide +kernel : ∀ t : Fin grid0.N, _)

theorem outC (c : Dev nD) (t : Fin cfg0.N) (h2 : t.val % 4 = 3) (r : Fin 512) (k : Fin 2048) (R : Fin 8704) (hR : R.val = t.val / 4 * 512 + r.val) :
    (outsAt0 m c t.val t.isLt).1 (ix2 r k)
      = hrow m c R k + gate m c ⟨t.val / 32, by have := lt68 t; omega⟩ k
        * ((outsAt0 m c (t.val - 1) (lt_of_le_of_lt (Nat.sub_le _ _) t.isLt)).2 (ix2 r k) + part m c R 6 k + part m c R 7 k) := by
  have := lt68 t
  rw [outsAt0_C m c t (by omega) (by omega) h2]
  frame_out
  simp only [read_unread_whole]
  refine (pay3_at _ _ _ _ _ _ _ _ _ _ _ r k).trans ?_
  refine congr (congrArg HAdd.hAdd ?_) (congr (congrArg HMul.hMul (b7 m c t k)) ((both_at _ _ _ _ _ _ _ _ _ _ _ _ _ _ _ r k).trans
    (congr (congrArg HAdd.hAdd (congrArg (HAdd.hAdd _) (first_sum m c t r k R hR 6 (by show 6 = _; omega) _ _ _ _ _ _ _ rfl rfl rfl rfl rfl rfl ⟨_, rfl⟩)))
    (second_sum m c t r k R hR 7 (by show 7 = _; omega) _ _ _ _ _ _ _ rfl rfl rfl rfl rfl rfl ⟨_, rfl⟩))))
  rw [late t]
  have hb : t.val / 4 * 512 + r.val < 8704 := by clear hR; omega
  obtain rfl : R = ⟨t.val / 4 * 512 + r.val, hb⟩ := Fin.ext hR
  by_cases h : t.val < 64
  · rw [if_pos h]
    exact b8 m c t h r k
  · rw [if_neg h]
    exact b9 m c t h r k

/-- The group-normed row against a column of the projection. -/
def mixed (c : Dev nD) (R : Fin 8704) (k : Fin 2048) : EReal :=
  ∑ l : Fin 4096, groupNorm (fun y => erow m c R ⟨l.val / 512 * 512 + y.val, by omega⟩) ⟨l.val % 512, by omega⟩
    * m ((c.tc : Thread nD τ).loc main_arg9) (ix1 l) * m ((c.tc : Thread nD τ).loc main_arg10) (ix2 l k)

theorem parts (c : Dev nD) (R : Fin 8704) (k : Fin 2048) : ∑ G : Fin 8, part m c R G k = mixed m c R k := by
  unfold part mixed
  refine Fin.sum_mul_add_congr fun s x hl => ?_
  have q1 : (s.val * 512 + x.val) / 512 = s.val := by omega
  have q2 : (s.val * 512 + x.val) % 512 = x.val := by omega
  simp only [q1, q2]

theorem out_at (c : Dev nD) (t : Fin cfg0.N) (h2 : t.val % 4 = 3) (r : Fin 512) (k : Fin 2048) (R : Fin 8704) (hR : R.val = t.val / 4 * 512 + r.val) :
    (outsAt0 m c t.val t.isLt).1 (ix2 r k) = hrow m c R k + gate m c ⟨R.val / 4096, by omega⟩ k * mixed m c R k := by
  have := lt68 t
  have lt := t.isLt
  have e0 := accA m c ⟨t.val - 3, by omega⟩ (by show (t.val - 3) % 4 = 0; omega) r k R (by show R.val = (t.val - 3) / 4 * 512 + r.val; omega)
  have e1 := accB m c ⟨t.val - 2, by omega⟩ (by show ¬(t.val - 2) % 4 = 0; omega) (by show (t.val - 2) % 4 ≤ 2; omega) r k R
    (by show R.val = (t.val - 2) / 4 * 512 + r.val; omega) 2 3 (by show 2 = (t.val - 2) % 4 * 2; omega) (by show 3 = (t.val - 2) % 4 * 2 + 1; omega)
  have e2 := accB m c ⟨t.val - 1, by omega⟩ (by show ¬(t.val - 1) % 4 = 0; omega) (by show (t.val - 1) % 4 ≤ 2; omega) r k R
    (by show R.val = (t.val - 1) / 4 * 512 + r.val; omega) 4 5 (by show 4 = (t.val - 1) % 4 * 2; omega) (by show 5 = (t.val - 1) % 4 * 2 + 1; omega)
  refine (outC m c t h2 r k R hR).trans ?_
  have q : (⟨t.val / 32, by omega⟩ : Fin 3) = ⟨R.val / 4096, by omega⟩ := Fin.ext (by show t.val / 32 = R.val / 4096; omega)
  rw [q, ← parts, Fin.sum_univ_eight]
  refine congrArg (HAdd.hAdd _) (congrArg (HMul.hMul _) (congrArg (· + part m c R 7 k) (congrArg (· + part m c R 6 k) ?_)))
  refine e2.trans (congrArg (· + part m c R 5 k) (congrArg (· + part m c R 4 k) ?_))
  exact e1.trans (congrArg (· + part m c R 3 k) (congrArg (· + part m c R 2 k) e0))

/-- The state after the mixer. -/
def RES (c : Dev nD) : FVec Ideal S8704x2048 .f32 := fun i =>
  hrow m c (i 0) (i 1) + gate m c ⟨(i 0).val / 4096, by have : (i 0).val < 8704 := (i 0).isLt; omega⟩ (i 1) * mixed m c (i 0) (i 1)

theorem final (c : Dev nD) : (dats m 0 c).arrAt 10 (cfgs 0).N = RES m c := by
  refine (dats m 0 c).arrAt_eq_of_covers 10 _ (by decide +kernel) fun t hf y => ?_
  have h3 := (flush0_10 t).1 hf
  blk_simp
  rw [after0_10]
  change S512x2048.Idx at y
  have hy : (y 0).val < 512 := (y 0).isLt
  have ht := lt68 t
  rw [eq_ix2 y]
  have e0 : (win0_10.blk t).view.emb (ix2 (y 0) (y 1)) 0 = (⟨t.val / 4 * 512 + (y 0).val, by omega⟩ : Fin 8704) := by
    apply Fin.ext
    show win0_10.index t 0 * 512 + 1 * (y 0).val = _
    rw [(idx t).2.2.2.2.2.2.2.2.2.2]
    simp
  have e1 : (win0_10.blk t).view.emb (ix2 (y 0) (y 1)) 1 = y 1 := by
    apply Fin.ext
    show win0_10.index t 1 * 2048 + 1 * (y 1).val = _
    rw [(idx t).2.2.2.2.2.2.2.2.2.2]
    simp
  refine (out_at m c t h3 (y 0) (y 1) ⟨t.val / 4 * 512 + (y 0).val, by omega⟩ rfl).trans ?_
  unfold RES
  simp only [e0, e1]

theorem lane (x : Fin 4096) (h : x.val / 512 * 512 + x.val % 512 < 4096) : (⟨x.val / 512 * 512 + x.val % 512, h⟩ : Fin 4096) = x :=
  Fin.ext (by show x.val / 512 * 512 + x.val % 512 = x.val; omega)

set_option maxHeartbeats 1600000 in
theorem algebraic : Cert.algebraic_SsdOutIdeal_SsdOutReferenceIdeal := by
  pair_intro
  · run_from Cert.SsdOutIdeal.Gen.run_main m g
  · hlo_run
    rw [final]
    funext j
    idx_vars j
    by_cases h : j0.val < 8192
    · refine (concat_lat _ _ _ j0 j1 h).trans ?_
      simp only [StableHlo.TRef.toBuf, StableHlo.TRef.ofBuf, cast_cast, cast_eq]
      pointwise [RES, hrow, gate, mixed, erow, gated, groupNorm, fwd, bwd, xrow, zrow, skip]
      simp only [joined_lat _ _ _ h, hagree c, silu_mul, lane]
    · refine (concat_ctx _ _ _ j0 j1 h).trans ?_
      have q : j0.val / 4096 = 2 := by omega
      simp only [StableHlo.TRef.toBuf, StableHlo.TRef.ofBuf, cast_cast, cast_eq]
      pointwise [RES, hrow, gate, mixed, erow, gated, groupNorm, fwd, bwd, xrow, zrow, skip]
      simp only [joined_ctx _ _ _ h, q, hagree c, silu_mul, lane]
      rfl

end Cert.SsdOutIdeal.Hand
end
-- ==== Proof.SsdOutLastPay.lean ====
/- The arithmetic of one step of the gated, group-normed output projection, at the exact instance. -/
module

public import proofs.«01_k».proof.Proof.Gen.SsdOutLastIdeal.Skeleton
public import proofs.«01_k».proof.Proof.Rows
public import Idealize.ShloMosaic.Lib.Pointwise

@[expose] public section

set_option maxRecDepth 16384

noncomputable section

namespace Cert.SsdOutLastIdeal.Hand

open Idealize.ShloMosaic Idealize.SL.Sem Cert.SsdOutLastIdeal Cert.SsdOutLastIdeal.Gen Cert.Rows

/-- The scans' sum and the skip, under the gate. -/
def gated (a b s d z : EReal) : EReal := (a + b + s * d) * silu z

/-- A group divided by its root mean square. -/
def groupNorm (e : Fin 512 → EReal) (k : Fin 512) : EReal :=
  e k * Ideal.rsqrt (Ideal.div (∑ x, e x * e x) (Ideal.ofBits FTy.f32 1140850688#32) + Ideal.ofBits FTy.f32 897988541#32)

theorem first_at (v3 : Vec Ideal S512x2048 .f32) (v4 : Vec Ideal S512x512 .bf16) (v7 v10 v14 : Vec Ideal S1x512x512 .bf16) (v17 v39 : Vec Ideal S1x512 .f32)
    (v48 : Vec Ideal S1x512x2048 .bf16) (r : Fin 512) (k : Fin 2048) :
    k0_pay8 (F := Ideal) v3 (k0_pay5 v4 v7 v10 v14 v17) (k0_pay6 v4 v7 v10 v14 v17) k0_pay7 v39 v48 (ix2 r k)
      = v3 (ix2 r k) + ∑ x : Fin 512, groupNorm (fun y => gated (v7 (ix3 0 r y)) (v10 (ix3 0 r y)) (v14 (ix3 0 r y)) (v17 (ix2 0 y)) (v4 (ix2 r y))) x
          * v39 (ix2 0 x) * v48 (ix3 0 x k) := by
  pointwise [k0_pay8, k0_pay5, k0_pay6, k0_pay7, groupNorm, gated, silu]
  simp only [zero_sub]

theorem second_at (v51 : FVec Ideal S512x2048 .f32) (v52 : Vec Ideal S512x512 .bf16) (v55 v58 v62 : Vec Ideal S1x512x512 .bf16) (v65 v87 : Vec Ideal S1x512 .f32)
    (v96 : Vec Ideal S1x512x2048 .bf16) (r : Fin 512) (k : Fin 2048) :
    k0_pay1 (F := Ideal) v51 (k0_pay9 v52) (k0_pay10 v55 v58 v62 v65) (k0_pay11 v52) (Scalar.ofBits .f32 0x3F800000#32) v87 v96 (ix2 r k)
      = v51 (ix2 r k) + ∑ x : Fin 512, groupNorm (fun y => gated (v55 (ix3 0 r y)) (v58 (ix3 0 r y)) (v62 (ix3 0 r y)) (v65 (ix2 0 y)) (v52 (ix2 r y))) x
          * v87 (ix2 0 x) * v96 (ix3 0 x k) := by
  pointwise [k0_pay1, k0_pay9, k0_pay10, k0_pay11, groupNorm, gated, silu]
  simp only [zero_sub]

theorem both_at (v3 : Vec Ideal S512x2048 .f32) (v4 v52 : Vec Ideal S512x512 .bf16) (v7 v10 v14 v55 v58 v62 : Vec Ideal S1x512x512 .bf16)
    (v17 v39 v65 v87 : Vec Ideal S1x512 .f32) (v48 v96 : Vec Ideal S1x512x2048 .bf16) (r : Fin 512) (k : Fin 2048) :
    k0_pay1 (F := Ideal) (k0_pay8 (F := Ideal) v3 (k0_pay5 v4 v7 v10 v14 v17) (k0_pay6 v4 v7 v10 v14 v17) k0_pay7 v39 v48)
        (k0_pay9 v52) (k0_pay10 v55 v58 v62 v65) (k0_pay11 v52) (Scalar.ofBits .f32 0x3F800000#32) v87 v96 (ix2 r k)
      = v3 (ix2 r k)
        + (∑ x : Fin 512, groupNorm (fun y => gated (v7 (ix3 0 r y)) (v10 (ix3 0 r y)) (v14 (ix3 0 r y)) (v17 (ix2 0 y)) (v4 (ix2 r y))) x
          * v39 (ix2 0 x) * v48 (ix3 0 x k))
        + ∑ x : Fin 512, groupNorm (fun y => gated (v55 (ix3 0 r y)) (v58 (ix3 0 r y)) (v62 (ix3 0 r y)) (v65 (ix2 0 y)) (v52 (ix2 r y))) x
          * v87 (ix2 0 x) * v96 (ix3 0 x k) := by
  rw [second_at, first_at]

theorem gated_congr {a a' b b' s s' d d' z z' : EReal} (ha : a = a') (hb : b = b') (hs : s = s') (hd : d = d') (hz : z = z') :
    gated a b s d z = gated a' b' s' d' z' := by rw [ha, hb, hs, hd, hz]

theorem pay2_at (v51 : FVec Ideal S512x2048 .f32) (v54 v69 v72 : FVec Ideal S512x512 .f32) (cst : Ideal FTy.f32) (v87 : Vec Ideal S1x512 .f32)
    (v96 : Vec Ideal S1x512x2048 .bf16) : k0_pay2 (F := Ideal) v51 v54 v69 v72 cst v87 v96 = k0_pay1 (F := Ideal) v51 v54 v69 v72 cst v87 v96 := by
  funext j
  unfold k0_pay2
  pointwise

theorem zero_at (j : S512x2048.Idx) : k0_pay4 (F := Ideal) j = 0 := by
  pointwise [k0_pay4]

end Cert.SsdOutLastIdeal.Hand
end
-- ==== Proof.SsdOutLastValue.lean ====
/- What the gated, group-normed output projection of the state-space layers leaves, at the exact instance. -/
module

public import proofs.«01_k».proof.Proof.SsdOutLastPay
public import proofs.«01_k».proof.Proof.Rows3
public import proofs.«01_k».proof.Proof.Gen.SsdOutLastIdeal.Value
public import proofs.«01_k».proof.Proof.Gen.SsdOutLastReferenceIdeal
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SsdOutLastIdeal.Hand

open Idealize.ShloMosaic Idealize.SL.Sem Cert.SsdOutLastIdeal Cert.SsdOutLastIdeal.Gen Cert.SsdOutLastIdeal.Value Cert.Rows

variable (m : (ℓ : Loc nD τ sig) → Buf (Elt Ideal) ℓ)

theorem lt64 (t : Fin cfg0.N) : t.val < 64 := lt_of_lt_of_eq t.isLt N_0

theorem idx : ∀ t : Fin cfg0.N, win0_0.index t = ![t.val % 4, t.val / 4, 0] ∧ win0_1.index t = ![t.val % 4, t.val / 4, 0]
    ∧ win0_2.index t = ![t.val % 4, t.val / 4, 0] ∧ win0_3.index t = ![t.val / 4, t.val % 4] ∧ win0_4.index t = ![0, t.val % 4]
    ∧ win0_5.index t = ![0, t.val % 4] ∧ win0_6.index t = ![0, 0, 0] ∧ win0_7.index t = ![t.val / 32, 0, 0]
    ∧ win0_8.index t = ![t.val / 4, 0] ∧ win0_9.index t = ![t.val / 4, 0] :=
  (by decide +kernel : ∀ t : Fin grid0.N, _)

theorem off0 : ∀ t : Fin cfg0.N, k0_off1 (grid0.coords t) 0#32 = ![0, 1024 * (t.val % 4), 0] :=
  (by decide +kernel : ∀ t : Fin grid0.N, _)
theorem off1 : ∀ t : Fin cfg0.N, k0_off1 (grid0.coords t) 512#32 = ![0, 1024 * (t.val % 4) + 512, 0] :=
  (by decide +kernel : ∀ t : Fin grid0.N, _)

/-- Channel `l` of row `R` of the forward scan's result. -/
def fwd (c : Dev nD) (R : Fin 8704) (l : Fin 4096) : EReal :=
  joined (fun a b => m ((c.tc : Thread nD τ).loc main_arg0) (ix4 a b (⟨l.val / 64, by omega⟩ : Fin 64) (⟨l.val % 64, by omega⟩ : Fin 64)))
    (fun a b => m ((c.tc : Thread nD τ).loc main_arg1) (ix4 a b (⟨l.val / 64, by omega⟩ : Fin 64) (⟨l.val % 64, by omega⟩ : Fin 64))) R
/-- Channel `l` of row `R` of the backward scan's result. -/
def bwd (c : Dev nD) (R : Fin 8704) (l : Fin 4096) : EReal :=
  joined (fun a b => m ((c.tc : Thread nD τ).loc main_arg2) (ix4 a b (⟨l.val / 64, by omega⟩ : Fin 64) (⟨l.val % 64, by omega⟩ : Fin 64)))
    (fun a b => m ((c.tc : Thread nD τ).loc main_arg3) (ix4 a b (⟨l.val / 64, by omega⟩ : Fin 64) (⟨l.val % 64, by omega⟩ : Fin 64))) R
/-- Channel `l` of row `R` of the scans' input. -/
def xrow (c : Dev nD) (R : Fin 8704) (l : Fin 4096) : EReal :=
  joined (fun a b => m ((c.tc : Thread nD τ).loc main_arg4) (ix4 a b (⟨l.val / 64, by omega⟩ : Fin 64) (⟨l.val % 64, by omega⟩ : Fin 64)))
    (fun a b => m ((c.tc : Thread nD τ).loc main_arg5) (ix4 a b (⟨l.val / 64, by omega⟩ : Fin 64) (⟨l.val % 64, by omega⟩ : Fin 64))) R
/-- Row `R` of the projection whose first channels are the gate. -/
def zrow (c : Dev nD) (R : Fin 8704) (l : Fin 10240) : EReal :=
  joined (fun a b => m ((c.tc : Thread nD τ).loc main_arg6) (ix3 a b l)) (fun a b => m ((c.tc : Thread nD τ).loc main_arg7) (ix3 a b l)) R
/-- The skip's factor at channel `l`. -/
def skip (c : Dev nD) (l : Fin 4096) : EReal := m ((c.tc : Thread nD τ).loc main_arg8) (ix1 (⟨l.val / 64, by omega⟩ : Fin 64))
/-- Row `R` of the state. -/
def hrow (c : Dev nD) (R : Fin 8192) (x : Fin 2048) : EReal :=
  m ((c.tc : Thread nD τ).loc main_arg11) (ix3 (⟨R.val / 4096, by omega⟩ : Fin 2) (⟨R.val % 4096, by omega⟩ : Fin 4096) x)
/-- The gate a row of block `b` takes. -/
def gate (c : Dev nD) (b : Fin 3) (x : Fin 2048) : EReal :=
  m ((c.tc : Thread nD τ).loc main_arg12) (ix2 b (⟨4096 + x.val, by omega⟩ : Fin 12288))

theorem lane_div (G : Fin 8) (x : Fin 512) : (G.val * 512 + x.val) / 64 = G.val * 8 + x.val / 64 := by omega
theorem lane_mod (G : Fin 8) (x : Fin 512) : (G.val * 512 + x.val) % 64 = x.val % 64 := by omega

theorem fV (c : Dev nD) (G : Fin 8) (R : Fin 8704) (x : Fin 512) :
    (show FVec Ideal S8x8704x512 .bf16 from V m c main_v4) (ix3 G R x) = fwd m c R ⟨G.val * 512 + x.val, by omega⟩ := by
  entry_read
  refine (transpose_102 _ transposes_S8704x8x512_S8x8704x512_1_0_2 G R x).trans ?_
  rw [truncf_apply]
  unfold fwd
  by_cases h : R.val < 8192
  · rw [joined_lat _ _ _ h]
    refine (concat_lat3 _ _ _ R G x h).trans ?_
    pointwise
    simp only [lane_div, lane_mod]
  · rw [joined_ctx _ _ _ h]
    refine (concat_ctx3 _ _ _ R G x h).trans ?_
    pointwise
    simp only [lane_div, lane_mod]
theorem bV (c : Dev nD) (G : Fin 8) (R : Fin 8704) (x : Fin 512) :
    (show FVec Ideal S8x8704x512 .bf16 from V m c main_v9) (ix3 G R x) = bwd m c R ⟨G.val * 512 + x.val, by omega⟩ := by
  entry_read
  refine (transpose_102 _ transposes_S8704x8x512_S8x8704x512_1_0_2 G R x).trans ?_
  rw [truncf_apply]
  unfold bwd
  by_cases h : R.val < 8192
  · rw [joined_lat _ _ _ h]
    refine (concat_lat3 _ _ _ R G x h).trans ?_
    pointwise
    simp only [lane_div, lane_mod]
  · rw [joined_ctx _ _ _ h]
    refine (concat_ctx3 _ _ _ R G x h).trans ?_
    pointwise
    simp only [lane_div, lane_mod]
theorem xV (c : Dev nD) (G : Fin 8) (R : Fin 8704) (x : Fin 512) :
    (show FVec Ideal S8x8704x512 .bf16 from V m c main_v14) (ix3 G R x) = xrow m c R ⟨G.val * 512 + x.val, by omega⟩ := by
  entry_read
  refine (transpose_102 _ transposes_S8704x8x512_S8x8704x512_1_0_2 G R x).trans ?_
  rw [truncf_apply]
  unfold xrow
  by_cases h : R.val < 8192
  · rw [joined_lat _ _ _ h]
    refine (concat_lat3 _ _ _ R G x h).trans ?_
    pointwise
    simp only [lane_div, lane_mod]
  · rw [joined_ctx _ _ _ h]
    refine (concat_ctx3 _ _ _ R G x h).trans ?_
    pointwise
    simp only [lane_div, lane_mod]
theorem zV (c : Dev nD) (R : Fin 8704) (l : Fin 10240) :
    (show FVec Ideal S8704x10240 .bf16 from V m c main_v18) (ix2 R l) = zrow m c R l := by
  entry_read
  simp only [truncf_apply]
  unfold zrow
  by_cases h : R.val < 8192
  · rw [joined_lat _ _ _ h]
    refine (concat_lat _ _ _ R l h).trans ?_
    pointwise
  · rw [joined_ctx _ _ _ h]
    refine (concat_ctx _ _ _ R l h).trans ?_
    pointwise
theorem dV (c : Dev nD) (l : Fin 4096) :
    (show FVec Ideal S1x4096 .f32 from V m c main_v25) (ix2 0 l) = skip m c l := by
  entry_read
  unfold skip
  pointwise

/-- Channel `l` of row `R` before the group norm. -/
def erow (c : Dev nD) (R : Fin 8704) (l : Fin 4096) : EReal :=
  gated (fwd m c R l) (bwd m c R l) (xrow m c R l) (skip m c l) (zrow m c R ⟨l.val, by omega⟩)

/-- What group `G` of the channels adds to entry `k` of row `R`. -/
def part (c : Dev nD) (R : Fin 8704) (G : Fin 8) (k : Fin 2048) : EReal :=
  ∑ x : Fin 512, groupNorm (fun y => erow m c R ⟨G.val * 512 + y.val, by omega⟩) x
    * m ((c.tc : Thread nD τ).loc main_arg9) (ix1 (⟨G.val * 512 + x.val, by omega⟩ : Fin 4096))
    * m ((c.tc : Thread nD τ).loc main_arg10) (ix2 (⟨G.val * 512 + x.val, by omega⟩ : Fin 4096) k)

theorem b0 (c : Dev nD) (t : Fin cfg0.N) (g : Fin 2) (r x : Fin 512) :
    (show FVec Ideal S2x512x512 .bf16 from iblk m c 0 t) (ix3 g r x)
      = fwd m c ⟨t.val / 4 * 512 + r.val, by have := lt64 t; omega⟩ ⟨(t.val % 4 * 2 + g.val) * 512 + x.val, by omega⟩ := by
  have := lt64 t
  refine Eq.trans ?_ (fV m c (⟨t.val % 4 * 2 + g.val, by omega⟩ : Fin 8) _ x)
  blk_ext [iblk, idx t]
theorem b1 (c : Dev nD) (t : Fin cfg0.N) (g : Fin 2) (r x : Fin 512) :
    (show FVec Ideal S2x512x512 .bf16 from iblk m c 1 t) (ix3 g r x)
      = bwd m c ⟨t.val / 4 * 512 + r.val, by have := lt64 t; omega⟩ ⟨(t.val % 4 * 2 + g.val) * 512 + x.val, by omega⟩ := by
  have := lt64 t
  refine Eq.trans ?_ (bV m c (⟨t.val % 4 * 2 + g.val, by omega⟩ : Fin 8) _ x)
  blk_ext [iblk, idx t]
theorem b2 (c : Dev nD) (t : Fin cfg0.N) (g : Fin 2) (r x : Fin 512) :
    (show FVec Ideal S2x512x512 .bf16 from iblk m c 2 t) (ix3 g r x)
      = xrow m c ⟨t.val / 4 * 512 + r.val, by have := lt64 t; omega⟩ ⟨(t.val % 4 * 2 + g.val) * 512 + x.val, by omega⟩ := by
  have := lt64 t
  refine Eq.trans ?_ (xV m c (⟨t.val % 4 * 2 + g.val, by omega⟩ : Fin 8) _ x)
  blk_ext [iblk, idx t]
theorem b3 (c : Dev nD) (t : Fin cfg0.N) (r : Fin 512) (x : Fin 1024) :
    (show FVec Ideal S512x1024 .bf16 from iblk m c 3 t) (ix2 r x)
      = zrow m c ⟨t.val / 4 * 512 + r.val, by have := lt64 t; omega⟩ ⟨1024 * (t.val % 4) + x.val, by omega⟩ := by
  have := lt64 t
  refine Eq.trans ?_ (zV m c _ _)
  blk_ext [iblk, idx t]
theorem b4 (c : Dev nD) (t : Fin cfg0.N) (x : Fin 1024) :
    (show FVec Ideal S1x1024 .f32 from iblk m c 4 t) (ix2 0 x) = skip m c ⟨1024 * (t.val % 4) + x.val, by omega⟩ := by
  refine Eq.trans ?_ (dV m c _)
  blk_ext [iblk, idx t]
theorem b5 (c : Dev nD) (t : Fin cfg0.N) (x : Fin 1024) :
    (show FVec Ideal S1x1024 .f32 from iblk m c 5 t) (ix2 0 x)
      = m ((c.tc : Thread nD τ).loc main_arg9) (ix1 (⟨1024 * (t.val % 4) + x.val, by omega⟩ : Fin 4096)) := by
  blk_point [iblk, V, idx t]
theorem b6 (c : Dev nD) (t : Fin cfg0.N) (l : Fin 4096) (k : Fin 2048) :
    (show FVec Ideal S1x4096x2048 .bf16 from iblk m c 6 t) (ix3 0 l k) = m ((c.tc : Thread nD τ).loc main_arg10) (ix2 l k) := by
  blk_point [iblk, V, idx t]
theorem b7 (c : Dev nD) (t : Fin cfg0.N) (k : Fin 2048) :
    (show FVec Ideal S1x6x2048 .f32 from iblk m c 7 t) (ix3 0 2 k) = gate m c ⟨t.val / 32, by have := lt64 t; omega⟩ k := by
  have := lt64 t
  unfold gate
  blk_point [iblk, V, idx t]
theorem b8 (c : Dev nD) (t : Fin cfg0.N) (r : Fin 512) (k : Fin 2048) :
    (show FVec Ideal S512x2048 .f32 from iblk m c 8 t) (ix2 r k) = hrow m c ⟨t.val / 4 * 512 + r.val, by have := lt64 t; omega⟩ k := by
  have := lt64 t
  unfold hrow
  blk_point [iblk, V, idx t]

/-! ## The tiles a point loads -/

theorem ld3a (X : Vec Ideal S2x512x512 .bf16) (r y : Fin 512) :
    View.ld X (Rect.unit ![0, 0, 0] ![1, 512, 512] inb_S2x512x512_S1x512x512_0_0_0) (ix3 0 r y) = X (ix3 0 r y) := by
  rw [View.ld_apply]
  refine congrArg X (funext fun a => Fin.ext ?_)
  match a with
  | ⟨0, _⟩ => simp
  | ⟨1, _⟩ => simp
  | ⟨2, _⟩ => simp
theorem ld3b (X : Vec Ideal S2x512x512 .bf16) (r y : Fin 512) :
    View.ld X (Rect.unit ![1, 0, 0] ![1, 512, 512] inb_S2x512x512_S1x512x512_1_0_0) (ix3 0 r y) = X (ix3 1 r y) := by
  rw [View.ld_apply]
  refine congrArg X (funext fun a => Fin.ext ?_)
  match a with
  | ⟨0, _⟩ => simp
  | ⟨1, _⟩ => simp
  | ⟨2, _⟩ => simp
theorem ldza (X : Vec Ideal S512x1024 .bf16) (r y : Fin 512) :
    View.ld X (Rect.unit ![0, 0] ![512, 512] inb_S512x1024_S512x512_0_0) (ix2 r y) = X (ix2 r (⟨y.val, by omega⟩ : Fin 1024)) := by
  rw [View.ld_apply]
  refine congrArg X (funext fun a => Fin.ext ?_)
  match a with
  | ⟨0, _⟩ => simp
  | ⟨1, _⟩ => simp
theorem ldzb (X : Vec Ideal S512x1024 .bf16) (r y : Fin 512) :
    View.ld X (Rect.unit ![0, 512] ![512, 512] inb_S512x1024_S512x512_0_512) (ix2 r y) = X (ix2 r (⟨512 + y.val, by omega⟩ : Fin 1024)) := by
  rw [View.ld_apply]
  refine congrArg X (funext fun a => Fin.ext ?_)
  match a with
  | ⟨0, _⟩ => simp
  | ⟨1, _⟩ => simp
theorem ldra (X : Vec Ideal S1x1024 .f32) (y : Fin 512) :
    View.ld X (Rect.unit ![0, 0] ![1, 512] inb_S1x1024_S1x512_0_0) (ix2 0 y) = X (ix2 0 (⟨y.val, by omega⟩ : Fin 1024)) := by
  rw [View.ld_apply]
  refine congrArg X (funext fun a => Fin.ext ?_)
  match a with
  | ⟨0, _⟩ => simp
  | ⟨1, _⟩ => simp
theorem ldrb (X : Vec Ideal S1x1024 .f32) (y : Fin 512) :
    View.ld X (Rect.unit ![0, 512] ![1, 512] inb_S1x1024_S1x512_0_512) (ix2 0 y) = X (ix2 0 (⟨512 + y.val, by omega⟩ : Fin 1024)) := by
  rw [View.ld_apply]
  refine congrArg X (funext fun a => Fin.ext ?_)
  match a with
  | ⟨0, _⟩ => simp
  | ⟨1, _⟩ => simp
theorem ldw (X : Vec Ideal S1x4096x2048 .bf16) (o : Fin 3 → Nat) (inb) (l : Nat) (ho : o = ![0, l, 0]) (y : Fin 512) (k : Fin 2048) (hl : l + y.val < 4096) :
    View.ld X (Rect.unit o ![1, 512, 2048] inb) (ix3 0 y k) = X (ix3 0 (⟨l + y.val, hl⟩ : Fin 4096) k) := by
  subst ho
  rw [View.ld_apply]
  refine congrArg X (funext fun a => Fin.ext ?_)
  match a with
  | ⟨0, _⟩ => simp
  | ⟨1, _⟩ => simp
  | ⟨2, _⟩ => simp

theorem first_sum (c : Dev nD) (t : Fin cfg0.N) (r : Fin 512) (k : Fin 2048) (R : Fin 8704) (hR : R.val = t.val / 4 * 512 + r.val) (G : Fin 8) (hG : G.val = t.val % 4 * 2)
    (v7 v10 v14 : Vec Ideal S1x512x512 .bf16) (v17 v39 : Vec Ideal S1x512 .f32) (v4 : Vec Ideal S512x512 .bf16) (v48 : Vec Ideal S1x512x2048 .bf16)
    (h7 : v7 = View.ld (show Vec Ideal S2x512x512 .bf16 from iblk m c 0 t) (Rect.unit ![0, 0, 0] ![1, 512, 512] inb_S2x512x512_S1x512x512_0_0_0))
    (h10 : v10 = View.ld (show Vec Ideal S2x512x512 .bf16 from iblk m c 1 t) (Rect.unit ![0, 0, 0] ![1, 512, 512] inb_S2x512x512_S1x512x512_0_0_0))
    (h14 : v14 = View.ld (show Vec Ideal S2x512x512 .bf16 from iblk m c 2 t) (Rect.unit ![0, 0, 0] ![1, 512, 512] inb_S2x512x512_S1x512x512_0_0_0))
    (h4 : v4 = View.ld (show Vec Ideal S512x1024 .bf16 from iblk m c 3 t) (Rect.unit ![0, 0] ![512, 512] inb_S512x1024_S512x512_0_0))
    (h17 : v17 = View.ld (show Vec Ideal S1x1024 .f32 from iblk m c 4 t) (Rect.unit ![0, 0] ![1, 512] inb_S1x1024_S1x512_0_0))
    (h39 : v39 = View.ld (show Vec Ideal S1x1024 .f32 from iblk m c 5 t) (Rect.unit ![0, 0] ![1, 512] inb_S1x1024_S1x512_0_0))
    (h48 : ∃ inb, v48 = View.ld (show Vec Ideal S1x4096x2048 .bf16 from iblk m c 6 t) (Rect.unit (k0_off1 (grid0.coords t) 0#32) ![1, 512, 2048] inb)) :
    (∑ x : Fin 512, groupNorm (fun y => gated (v7 (ix3 0 r y)) (v10 (ix3 0 r y)) (v14 (ix3 0 r y)) (v17 (ix2 0 y)) (v4 (ix2 r y))) x
          * v39 (ix2 0 x) * v48 (ix3 0 x k)) = part m c R G k := by
  have := lt64 t
  obtain ⟨inb, h48⟩ := h48
  have hb : t.val / 4 * 512 + r.val < 8704 := by clear hR; omega
  obtain rfl : R = ⟨t.val / 4 * 512 + r.val, hb⟩ := Fin.ext hR
  have hg : t.val % 4 * 2 < 8 := by clear hG; omega
  obtain rfl : G = ⟨t.val % 4 * 2, hg⟩ := Fin.ext hG
  subst h7 h10 h14 h4 h17 h39 h48
  unfold part
  refine Finset.sum_congr rfl fun x _ => ?_
  have e1 : (fun y : Fin 512 => gated _ _ _ _ _) = (fun y : Fin 512 => erow m c ⟨t.val / 4 * 512 + r.val, hb⟩ ⟨t.val % 4 * 2 * 512 + y.val, by omega⟩) := funext fun (y : Fin 512) =>
    gated_congr ((ld3a _ r y).trans (b0 m c t 0 r y)) ((ld3a _ r y).trans (b1 m c t 0 r y)) ((ld3a _ r y).trans (b2 m c t 0 r y))
      ((ldra _ y).trans ((b4 m c t _).trans (congrArg (skip m c) (Fin.ext (by show 1024 * (t.val % 4) + y.val = t.val % 4 * 2 * 512 + y.val; omega)))))
      ((ldza _ r y).trans ((b3 m c t r _).trans (congrArg (zrow m c _) (Fin.ext (by show 1024 * (t.val % 4) + y.val = t.val % 4 * 2 * 512 + y.val; omega)))))
  refine congr (congrArg HMul.hMul (congr (congrArg HMul.hMul (congrFun (congrArg groupNorm e1) x)) ?_)) ?_
  · exact (ldra _ x).trans ((b5 m c t _).trans (congrArg (fun i : Fin 4096 => m ((c.tc : Thread nD τ).loc main_arg9) (ix1 i))
      (Fin.ext (by show 1024 * (t.val % 4) + x.val = t.val % 4 * 2 * 512 + x.val; omega))))
  · exact (ldw _ _ inb _ (off0 t) x k (by omega)).trans ((b6 m c t _ k).trans (congrArg (fun i : Fin 4096 => m ((c.tc : Thread nD τ).loc main_arg10) (ix2 i k))
      (Fin.ext (by show 1024 * (t.val % 4) + x.val = t.val % 4 * 2 * 512 + x.val; omega))))

theorem second_sum (c : Dev nD) (t : Fin cfg0.N) (r : Fin 512) (k : Fin 2048) (R : Fin 8704) (hR : R.val = t.val / 4 * 512 + r.val) (G : Fin 8) (hG : G.val = t.val % 4 * 2 + 1)
    (v7 v10 v14 : Vec Ideal S1x512x512 .bf16) (v17 v39 : Vec Ideal S1x512 .f32) (v4 : Vec Ideal S512x512 .bf16) (v48 : Vec Ideal S1x512x2048 .bf16)
    (h7 : v7 = View.ld (show Vec Ideal S2x512x512 .bf16 from iblk m c 0 t) (Rect.unit ![1, 0, 0] ![1, 512, 512] inb_S2x512x512_S1x512x512_1_0_0))
    (h10 : v10 = View.ld (show Vec Ideal S2x512x512 .bf16 from iblk m c 1 t) (Rect.unit ![1, 0, 0] ![1, 512, 512] inb_S2x512x512_S1x512x512_1_0_0))
    (h14 : v14 = View.ld (show Vec Ideal S2x512x512 .bf16 from iblk m c 2 t) (Rect.unit ![1, 0, 0] ![1, 512, 512] inb_S2x512x512_S1x512x512_1_0_0))
    (h4 : v4 = View.ld (show Vec Ideal S512x1024 .bf16 from iblk m c 3 t) (Rect.unit ![0, 512] ![512, 512] inb_S512x1024_S512x512_0_512))
    (h17 : v17 = View.ld (show Vec Ideal S1x1024 .f32 from iblk m c 4 t) (Rect.unit ![0, 512] ![1, 512] inb_S1x1024_S1x512_0_512))
    (h39 : v39 = View.ld (show Vec Ideal S1x1024 .f32 from iblk m c 5 t) (Rect.unit ![0, 512] ![1, 512] inb_S1x1024_S1x512_0_512))
    (h48 : ∃ inb, v48 = View.ld (show Vec Ideal S1x4096x2048 .bf16 from iblk m c 6 t) (Rect.unit (k0_off1 (grid0.coords t) 512#32) ![1, 512, 2048] inb)) :
    (∑ x : Fin 512, groupNorm (fun y => gated (v7 (ix3 0 r y)) (v10 (ix3 0 r y)) (v14 (ix3 0 r y)) (v17 (ix2 0 y)) (v4 (ix2 r y))) x
          * v39 (ix2 0 x) * v48 (ix3 0 x k)) = part m c R G k := by
  have := lt64 t
  obtain ⟨inb, h48⟩ := h48
  have hb : t.val / 4 * 512 + r.val < 8704 := by clear hR; omega
  obtain rfl : R = ⟨t.val / 4 * 512 + r.val, hb⟩ := Fin.ext hR
  have hg : t.val % 4 * 2 + 1 < 8 := by clear hG; omega
  obtain rfl : G = ⟨t.val % 4 * 2 + 1, hg⟩ := Fin.ext hG
  subst h7 h10 h14 h4 h17 h39 h48
  unfold part
  refine Finset.sum_congr rfl fun x _ => ?_
  have e1 : (fun y : Fin 512 => gated _ _ _ _ _) = (fun y : Fin 512 => erow m c ⟨t.val / 4 * 512 + r.val, hb⟩ ⟨(t.val % 4 * 2 + 1) * 512 + y.val, by omega⟩) := funext fun (y : Fin 512) =>
    gated_congr ((ld3b _ r y).trans (b0 m c t 1 r y)) ((ld3b _ r y).trans (b1 m c t 1 r y)) ((ld3b _ r y).trans (b2 m c t 1 r y))
      ((ldrb _ y).trans ((b4 m c t _).trans (congrArg (skip m c) (Fin.ext (by show 1024 * (t.val % 4) + (512 + y.val) = (t.val % 4 * 2 + 1) * 512 + y.val; omega)))))
      ((ldzb _ r y).trans ((b3 m c t r _).trans (congrArg (zrow m c _) (Fin.ext (by show 1024 * (t.val % 4) + (512 + y.val) = (t.val % 4 * 2 + 1) * 512 + y.val; omega)))))
  refine congr (congrArg HMul.hMul (congr (congrArg HMul.hMul (congrFun (congrArg groupNorm e1) x)) ?_)) ?_
  · exact (ldrb _ x).trans ((b5 m c t _).trans (congrArg (fun i : Fin 4096 => m ((c.tc : Thread nD τ).loc main_arg9) (ix1 i))
      (Fin.ext (by show 1024 * (t.val % 4) + (512 + x.val) = (t.val % 4 * 2 + 1) * 512 + x.val; omega))))
  · exact (ldw _ _ inb _ (off1 t) x k (by omega)).trans ((b6 m c t _ k).trans (congrArg (fun i : Fin 4096 => m ((c.tc : Thread nD τ).loc main_arg10) (ix2 i k))
      (Fin.ext (by show 1024 * (t.val % 4) + 512 + x.val = (t.val % 4 * 2 + 1) * 512 + x.val; omega))))

/-! ## The running sum over a row block's four points -/

theorem accA (c : Dev nD) (t : Fin cfg0.N) (h0 : t.val % 4 = 0) (r : Fin 512) (k : Fin 2048) (R : Fin 8704) (hR : R.val = t.val / 4 * 512 + r.val) :
    (outsAt0 m c t.val t.isLt).2 (ix2 r k) = part m c R 0 k + part m c R 1 k := by
  rw [outsAt0_A m c t h0 (by omega) (by omega)]
  frame_out
  try simp only [read_unread_whole]
  rw [pay2_at]
  refine (both_at _ _ _ _ _ _ _ _ _ _ _ _ _ _ _ r k).trans ?_
  rw [zero_at, zero_add]
  exact congr (congrArg HAdd.hAdd (first_sum m c t r k R hR 0 (by show 0 = _; omega) _ _ _ _ _ _ _ rfl rfl rfl rfl rfl rfl ⟨_, rfl⟩))
    (second_sum m c t r k R hR 1 (by show 1 = _; omega) _ _ _ _ _ _ _ rfl rfl rfl rfl rfl rfl ⟨_, rfl⟩)

theorem accB (c : Dev nD) (t : Fin cfg0.N) (h0 : ¬t.val % 4 = 0) (h1 : t.val % 4 ≤ 2) (r : Fin 512) (k : Fin 2048) (R : Fin 8704) (hR : R.val = t.val / 4 * 512 + r.val)
    (G G' : Fin 8) (hG : G.val = t.val % 4 * 2) (hG' : G'.val = t.val % 4 * 2 + 1) :
    (outsAt0 m c t.val t.isLt).2 (ix2 r k)
      = (outsAt0 m c (t.val - 1) (lt_of_le_of_lt (Nat.sub_le _ _) t.isLt)).2 (ix2 r k) + part m c R G k + part m c R G' k := by
  rw [outsAt0_B m c t h0 h1 (by omega)]
  frame_out
  try simp only [read_unread_whole]
  rw [pay2_at]
  refine (both_at _ _ _ _ _ _ _ _ _ _ _ _ _ _ _ r k).trans ?_
  exact congr (congrArg HAdd.hAdd (congrArg (HAdd.hAdd _) (first_sum m c t r k R hR G hG _ _ _ _ _ _ _ rfl rfl rfl rfl rfl rfl ⟨_, rfl⟩)))
    (second_sum m c t r k R hR G' hG' _ _ _ _ _ _ _ rfl rfl rfl rfl rfl rfl ⟨_, rfl⟩)

theorem pay3_at (v51 : FVec Ideal S512x2048 .f32) (v54 v69 v72 : FVec Ideal S512x512 .f32) (cst : Ideal FTy.f32) (v87 : Vec Ideal S1x512 .f32)
    (v96 : Vec Ideal S1x512x2048 .bf16) (v106 : Vec Ideal S512x2048 .f32) (v108 : Vec Ideal S1x6x2048 .f32) (r : Fin 512) (k : Fin 2048) :
    k0_pay3 (F := Ideal) v51 v54 v69 v72 cst v87 v96 v106 v108 (ix2 r k)
      = v106 (ix2 r k) + v108 (ix3 0 2 k) * k0_pay1 (F := Ideal) v51 v54 v69 v72 cst v87 v96 (ix2 r k) := by
  pointwise [k0_pay3]

theorem outC (c : Dev nD) (t : Fin cfg0.N) (h2 : t.val % 4 = 3) (r : Fin 512) (k : Fin 2048) (R : Fin 8704) (hR : R.val = t.val / 4 * 512 + r.val) :
    (outsAt0 m c t.val t.isLt).1 (ix2 r k)
      = hrow m c ⟨R.val, by have := lt64 t; omega⟩ k + gate m c ⟨t.val / 32, by have := lt64 t; omega⟩ k
        * ((outsAt0 m c (t.val - 1) (lt_of_le_of_lt (Nat.sub_le _ _) t.isLt)).2 (ix2 r k) + part m c R 6 k + part m c R 7 k) := by
  have := lt64 t
  rw [outsAt0_C m c t (by omega) (by omega) h2]
  frame_out
  simp only [read_unread_whole]
  refine (pay3_at _ _ _ _ _ _ _ _ _ r k).trans ?_
  refine congr (congrArg HAdd.hAdd ?_) (congr (congrArg HMul.hMul (b7 m c t k)) ((both_at _ _ _ _ _ _ _ _ _ _ _ _ _ _ _ r k).trans
    (congr (congrArg HAdd.hAdd (congrArg (HAdd.hAdd _) (first_sum m c t r k R hR 6 (by show 6 = _; omega) _ _ _ _ _ _ _ rfl rfl rfl rfl rfl rfl ⟨_, rfl⟩)))
    (second_sum m c t r k R hR 7 (by show 7 = _; omega) _ _ _ _ _ _ _ rfl rfl rfl rfl rfl rfl ⟨_, rfl⟩))))
  have hb : t.val / 4 * 512 + r.val < 8704 := by clear hR; omega
  obtain rfl : R = ⟨t.val / 4 * 512 + r.val, hb⟩ := Fin.ext hR
  exact b8 m c t r k

/-- The group-normed row against a column of the projection. -/
def mixed (c : Dev nD) (R : Fin 8704) (k : Fin 2048) : EReal :=
  ∑ l : Fin 4096, groupNorm (fun y => erow m c R ⟨l.val / 512 * 512 + y.val, by omega⟩) ⟨l.val % 512, by omega⟩
    * m ((c.tc : Thread nD τ).loc main_arg9) (ix1 l) * m ((c.tc : Thread nD τ).loc main_arg10) (ix2 l k)

theorem parts (c : Dev nD) (R : Fin 8704) (k : Fin 2048) : ∑ G : Fin 8, part m c R G k = mixed m c R k := by
  unfold part mixed
  refine Fin.sum_mul_add_congr fun s x hl => ?_
  have q1 : (s.val * 512 + x.val) / 512 = s.val := by omega
  have q2 : (s.val * 512 + x.val) % 512 = x.val := by omega
  simp only [q1, q2]

theorem out_at (c : Dev nD) (t : Fin cfg0.N) (h2 : t.val % 4 = 3) (r : Fin 512) (k : Fin 2048) (R : Fin 8704) (hR : R.val = t.val / 4 * 512 + r.val) :
    (outsAt0 m c t.val t.isLt).1 (ix2 r k) = hrow m c ⟨R.val, by have := lt64 t; omega⟩ k + gate m c ⟨R.val / 4096, by omega⟩ k * mixed m c R k := by
  have := lt64 t
  have lt := t.isLt
  have e0 := accA m c ⟨t.val - 3, by omega⟩ (by show (t.val - 3) % 4 = 0; omega) r k R (by show R.val = (t.val - 3) / 4 * 512 + r.val; omega)
  have e1 := accB m c ⟨t.val - 2, by omega⟩ (by show ¬(t.val - 2) % 4 = 0; omega) (by show (t.val - 2) % 4 ≤ 2; omega) r k R
    (by show R.val = (t.val - 2) / 4 * 512 + r.val; omega) 2 3 (by show 2 = (t.val - 2) % 4 * 2; omega) (by show 3 = (t.val - 2) % 4 * 2 + 1; omega)
  have e2 := accB m c ⟨t.val - 1, by omega⟩ (by show ¬(t.val - 1) % 4 = 0; omega) (by show (t.val - 1) % 4 ≤ 2; omega) r k R
    (by show R.val = (t.val - 1) / 4 * 512 + r.val; omega) 4 5 (by show 4 = (t.val - 1) % 4 * 2; omega) (by show 5 = (t.val - 1) % 4 * 2 + 1; omega)
  refine (outC m c t h2 r k R hR).trans ?_
  have q : (⟨t.val / 32, by omega⟩ : Fin 3) = ⟨R.val / 4096, by omega⟩ := Fin.ext (by show t.val / 32 = R.val / 4096; omega)
  rw [q, ← parts, Fin.sum_univ_eight]
  refine congrArg (HAdd.hAdd _) (congrArg (HMul.hMul _) (congrArg (· + part m c R 7 k) (congrArg (· + part m c R 6 k) ?_)))
  refine e2.trans (congrArg (· + part m c R 5 k) (congrArg (· + part m c R 4 k) ?_))
  exact e1.trans (congrArg (· + part m c R 3 k) (congrArg (· + part m c R 2 k) e0))

/-- The state after the mixer. -/
def RES (c : Dev nD) : FVec Ideal S8192x2048 .f32 := fun i =>
  hrow m c (i 0) (i 1) + gate m c ⟨(i 0).val / 4096, by have : (i 0).val < 8192 := (i 0).isLt; omega⟩ (i 1)
    * mixed m c ⟨(i 0).val, by have : (i 0).val < 8192 := (i 0).isLt; omega⟩ (i 1)

theorem final (c : Dev nD) : (dats m 0 c).arrAt 9 (cfgs 0).N = RES m c := by
  refine (dats m 0 c).arrAt_eq_of_covers 9 _ (by decide +kernel) fun t hf y => ?_
  have h3 := (flush0_9 t).1 hf
  blk_simp
  rw [after0_9]
  change S512x2048.Idx at y
  have hy : (y 0).val < 512 := (y 0).isLt
  have ht := lt64 t
  rw [eq_ix2 y]
  have e0 : (win0_9.blk t).view.emb (ix2 (y 0) (y 1)) 0 = (⟨t.val / 4 * 512 + (y 0).val, by omega⟩ : Fin 8192) := by
    apply Fin.ext
    show win0_9.index t 0 * 512 + 1 * (y 0).val = _
    rw [(idx t).2.2.2.2.2.2.2.2.2]
    simp
  have e1 : (win0_9.blk t).view.emb (ix2 (y 0) (y 1)) 1 = y 1 := by
    apply Fin.ext
    show win0_9.index t 1 * 2048 + 1 * (y 1).val = _
    rw [(idx t).2.2.2.2.2.2.2.2.2]
    simp
  refine (out_at m c t h3 (y 0) (y 1) ⟨t.val / 4 * 512 + (y 0).val, by omega⟩ rfl).trans ?_
  unfold RES
  simp only [e0, e1]

theorem lane (x : Fin 4096) (h : x.val / 512 * 512 + x.val % 512 < 4096) : (⟨x.val / 512 * 512 + x.val % 512, h⟩ : Fin 4096) = x :=
  Fin.ext (by show x.val / 512 * 512 + x.val % 512 = x.val; omega)

set_option maxHeartbeats 1600000 in
theorem algebraic : Cert.algebraic_SsdOutLastIdeal_SsdOutLastReferenceIdeal := by
  pair_intro
  · run_from Cert.SsdOutLastIdeal.Gen.run_main m g
  · hlo_run
    rw [final]
    funext j
    idx_vars j
    have h : j0.val < 8192 := j0.isLt
    simp only [StableHlo.TRef.toBuf, StableHlo.TRef.ofBuf, cast_cast, cast_eq]
    pointwise [RES, hrow, gate, mixed, erow, gated, groupNorm, fwd, bwd, xrow, zrow, skip]
    simp only [joined_lat _ _ (⟨j0.val, by omega⟩ : Fin 8704) h, hagree c, silu_mul, lane]

end Cert.SsdOutLastIdeal.Hand
end
-- ==== Proof.ProjDIdealFrame.lean ====
/- The run of the norm, modulation and projection call whose second result (the narrow tail of the columns) is stored at
   the first point of a row block and written back at its last: what every buffer holds after each point, and the frame. -/
module

public import proofs.«01_k».proof.Proof.Gen.ProjDIdeal.Frame
public import proofs.«01_k».proof.Proof.Gen.ProjDIdeal.Skeleton
public import proofs.«01_k».proof.Proof.Gen.ProjDIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ProjDIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjDIdeal Cert.ProjDIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row block's first point. -/
abbrev first (i : grid0.Coords) : Prop := k0_cond1 i = 1#1

theorem first_iff : ∀ t : Fin cfg0.N, first (grid0.coords t) ↔ t.val % 4 = 0 :=
  (fun t => by
    have ht : t.val < 68 := Nat.lt_of_lt_of_eq t.isLt N_0
    have e0 : (grid0.coords t 0).val = t.val / 4 % 17 := Pipeline.Grid.coords_val t 0 (by decide) rfl
    have e1 : (grid0.coords t 1).val = t.val / 1 % 4 := Pipeline.Grid.coords_val t 1 (by decide) rfl
    simp only [first, k0_cond1, e0, e1]
    word_cmp
   : ∀ t : Fin grid0.N, first (grid0.coords t) ↔ t.val % 4 = 0)

/-! ## Where the tail's buffer is left alone -/

theorem idle6 (t : Fin cfg0.N) : cfg0.idle 6 (grid0.coords t) = decide (¬ t.val % 4 = 0) := by
  show (!(k0_cond1 (grid0.coords t) == 1#1)) = _
  by_cases h : t.val % 4 = 0
  · rw [show k0_cond1 (grid0.coords t) = 1#1 from (first_iff t).mpr h]; simp [h]
  · have h' : ¬ k0_cond1 (grid0.coords t) = 1#1 := fun e => h ((first_iff t).mp e)
    simp [h, h']

theorem flush6 (t : Fin cfg0.N) : (cfg0.win 6).flush t = decide (t.val % 4 = 3) := by
  by_cases h : t.val % 4 = 3
  · rw [(flush0_6 t).mpr h]; simp [h]
  · rw [Bool.eq_false_iff.mpr fun e => h ((flush0_6 t).mp e)]; simp [h]

theorem fresh6 (n : ℕ) (hn : n ≤ cfg0.N) : cfg0.fresh 6 n = decide (n % 4 = 0) := by
  refine cfg0.fresh_tab 6 (fun n => decide (n % 4 = 0)) rfl (fun t => ?_) n hn
  rw [flush6 t, idle6 t]
  have h : t.val % 4 = 0 ∨ t.val % 4 = 1 ∨ t.val % 4 = 2 ∨ t.val % 4 = 3 := by omega
  have h' : (t.val + 1) % 4 = (t.val % 4 + 1) % 4 := by omega
  simp only [h']
  rcases h with h | h | h | h <;> rw [h] <;> rfl

/-! ## The buffers at a point -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x2560 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
abbrev scM0_0 : Memref sig .tc .vmem S512x2048 .bf16 := Memref.whole cc0_scratch0
/-- The views through which the contents of the two results' buffers and of the kept rows are stated. -/
abbrev VO0_5 : View sig .tc .vmem S512x2560 .bf16 := (Memref.whole cc0_stg5_0 : Memref sig .tc .vmem S512x2560 .bf16).view
abbrev VO0_6 : View sig .tc .vmem S512x128 .f32 := (Memref.whole cc0_stg6_0 : Memref sig .tc .vmem S512x128 .f32).view
abbrev VS0_0 : View sig .tc .vmem S512x2048 .bf16 := scM0_0.view

theorem rest_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body, at a first point and at a later one -/

set_option maxHeartbeats 1000000 in
/-- At a first point: the rows are normed and kept, the tail and the wide block are stored. -/
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) :
    Σ' (L5 : List (View.Piece (Elt F) S512x2560 .bf16)) (L6 : List (View.Piece (Elt F) S512x128 .f32)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_norm_mod_proj i arg2 harg2 arg3 harg3 arg4 harg4 arg5 harg5 arg6 harg6 arg7 harg7 arg8 harg8 arg9 harg9) K } := by
  refine ⟨?_, ?_, ?_, fun E K => ?run⟩
  case run =>
    simp only [cc0_norm_mod_proj_eq_skeleton]; unfold cc0_norm_mod_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- At a later point: the kept rows are read, the wide block is stored, the tail's buffer is left as it is. -/
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : ¬ first i)
    (x0 : Vec F S512x2048 .f32) (x1 : Vec F S1x2048 .f32) (x2 : Vec F S1x6x2048 .f32) (x3 : Vec F S1x2048x2560 .bf16) (x4 : Vec F S1x2048x128 .bf16) (x6 : Vec F S512x128 .f32) (xs0 : Vec F S512x2048 .bf16) :
    { L5 : List (View.Piece (Elt F) S512x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare x6 ∗ owns (c : Thread nD τ) arg9 fullShare xs0) -∗ K ⟨⟩))
          ⊢ wp frame (wpE (defs₀ (F := F)) Variants.none c none) E (cc0_norm_mod_proj i arg2 harg2 arg3 harg3 arg4 harg4 arg5 harg5 arg6 harg6 arg7 harg7 arg8 harg8 arg9 harg9) K } := by
  refine ⟨?_, fun E K => ?run⟩
  case run =>
    simp only [cc0_norm_mod_proj_eq_skeleton]; unfold cc0_norm_mod_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

/-! Each stored buffer is stored whole, so what it held before does not matter. -/

theorem cover0_A_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) (y : S512x2560.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S512x2560.size (by sl_kernel_rfl) y

theorem cover0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) (y : S512x128.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S512x128.size (by sl_kernel_rfl) y

theorem scover0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) (y : S512x2048.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S512x2048.size (by sl_kernel_rfl) y

theorem cover0_B_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : ¬ first i)
    (x0 : Vec F S512x2048 .f32) (x1 : Vec F S1x2048 .f32) (x2 : Vec F S1x6x2048 .f32) (x3 : Vec F S1x2048x2560 .bf16) (x4 : Vec F S1x2048x128 .bf16) (x6 : Vec F S512x128 .f32) (xs0 : Vec F S512x2048 .bf16) (y : S512x2560.Idx) :
    ∃ pc ∈ (kernelRun0_B c i arg2 harg2 arg3 harg3 arg4 harg4 arg5 harg5 arg6 harg6 arg7 harg7 arg8 harg8 arg9 harg9 hc0 x0 x1 x2 x3 x4 x6 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 x6 xs0).1 S512x2560.size (by sl_kernel_rfl) y

def out0_A_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) : Vec F S512x2560 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

def out0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) : Vec F S512x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

def sout0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : first i)
    (x0 : Vec F S512x2048 .f32) (x1 : Vec F S1x2048 .f32) (x2 : Vec F S1x6x2048 .f32) (x3 : Vec F S1x2048x2560 .bf16) (x4 : Vec F S1x2048x128 .bf16) : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.2.1)

def out0_B_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x2560 .bf16) (harg5 : arg5.IsWhole) (arg6 : Memref sig .tc .vmem S1x2048x128 .bf16) (harg6 : arg6.IsWhole) (arg7 : Memref sig .tc .vmem S512x2560 .bf16) (harg7 : arg7.IsWhole) (arg8 : Memref sig .tc .vmem S512x128 .f32) (harg8 : arg8.IsWhole) (arg9 : Memref sig .tc .vmem S512x2048 .bf16) (harg9 : arg9.IsWhole) (hc0 : ¬ first i)
    (x0 : Vec F S512x2048 .f32) (x1 : Vec F S1x2048 .f32) (x2 : Vec F S1x6x2048 .f32) (x3 : Vec F S1x2048x2560 .bf16) (x4 : Vec F S1x2048x128 .bf16) (x6 : Vec F S512x128 .f32) (xs0 : Vec F S512x2048 .bf16) : Vec F S512x2560 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 x6 xs0).1)

/-! ## What the buffers hold after each point -/

/-- After a first point: the wide block, the tail, the kept rows. -/
def ptA (c : Dev nD) (t : Fin cfg0.N) (h0 : t.val % 4 = 0) : Vec F S512x2560 .bf16 × Vec F S512x128 .f32 × Vec F S512x2048 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((first_iff t).mpr h0) (iblk m c 0 t) (iblk m c 1 t) (iblk m c 2 t) (X0_3 m c t) (iblk m c 4 t),
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((first_iff t).mpr h0) (iblk m c 0 t) (iblk m c 1 t) (iblk m c 2 t) (X0_3 m c t) (iblk m c 4 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((first_iff t).mpr h0) (iblk m c 0 t) (iblk m c 1 t) (iblk m c 2 t) (X0_3 m c t) (iblk m c 4 t))

/-- After a later point: the wide block of this point, the tail and the kept rows as they were. -/
def ptB (c : Dev nD) (t : Fin cfg0.N) (h0 : ¬ t.val % 4 = 0) (p : Vec F S512x2560 .bf16 × Vec F S512x128 .f32 × Vec F S512x2048 .bf16) : Vec F S512x2560 .bf16 × Vec F S512x128 .f32 × Vec F S512x2048 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((first_iff t).mp h)) (iblk m c 0 t) (iblk m c 1 t) (iblk m c 2 t) (X0_3 m c t) (iblk m c 4 t) p.2.1 p.2.2, p.2.1, p.2.2)

/-- The three buffers after the point `n`. -/
def outsAt0 (c : Dev nD) : (n : ℕ) → n < cfg0.N → Vec F S512x2560 .bf16 × Vec F S512x128 .f32 × Vec F S512x2048 .bf16
  | 0, hn => ptA m c ⟨0, hn⟩ (Nat.zero_mod _)
  | n + 1, hn =>
    if h0 : (n + 1) % 4 = 0 then ptA m c ⟨n + 1, hn⟩ h0
    else ptB m c ⟨n + 1, hn⟩ h0 (outsAt0 c n (Nat.lt_of_succ_lt hn))

theorem outsAt0_A (c : Dev nD) (t : Fin cfg0.N) (h0 : t.val % 4 = 0) : outsAt0 m c t.val t.isLt = ptA m c t h0 := by
  obtain ⟨n, hn⟩ := t
  cases n with
  | zero => exact rfl
  | succ n => exact (dif_pos h0).trans rfl

theorem outsAt0_B (c : Dev nD) (t : Fin cfg0.N) (h0 : ¬ t.val % 4 = 0) :
    outsAt0 m c t.val t.isLt = ptB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- What is held between the points: the kept rows, after the first point at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The pipeline's data: the arrays as found, each input's buffer at its block, the results' at `outsAt0`; the two windows
    on the weights deal the array's share between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Past a row block's first point the tail's buffer holds what the point before left in it. -/
theorem before6 (c : Dev nD) (t : Fin cfg0.N) (h0 : ¬ t.val % 4 = 0) (d) :
    (dats m 0 c).before 6 t d = (outsAt0 m c (t.val - 1) (Nat.lt_of_le_of_lt (Nat.sub_le _ _) t.isLt)).2.1 := by
  rw [Dat.before_out_traj _ 6 rfl (fun _ _ => rfl) (fun t hz hi _ => by
      rw [idle6 t] at hi
      rw [after0_6, after0_6, outsAt0_B m c t (of_decide_eq_true hi)]
      unfold ptB
      rfl) t.val t rfl d,
    if_neg (by rw [fresh6 _ (Nat.le_of_lt t.isLt)]; simpa using h0)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns, the tail's buffer named at every point; -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- and as the pipeline asks it. -/
def bodyPostX (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t)

/-- The tail's buffer at its named contents is what the pipeline asks of it, stored or not, written back or not. -/
theorem post6 (c : Dev nD) (t : Fin cfg0.N) :
    (owns (c : Thread nD τ) (ms0_6 t) fullShare ((dats m 0 c).after 6 t) : sProp 𝕄) ⊢ (dats m 0 c).leavesExact 6 t := by
  by_cases h0 : t.val % 4 = 0
  · have hi : cfg0.idle 6 (grid0.coords t) = false := by rw [idle6 t]; simpa using h0
    unfold Dat.leavesExact; rw [hi]
  · have hi : cfg0.idle 6 (grid0.coords t) = true := by rw [idle6 t]; simpa using h0
    by_cases h3 : t.val % 4 = 3
    · have hf : (cfg0.win 6).flush t = true := by rw [flush6 t]; simpa using h3
      unfold Dat.leavesExact; rw [hi, hf]
    · have hf : (cfg0.win 6).flush t = false := by rw [flush6 t]; simpa using h3
      rw [Dat.leavesExact_idle (dats m 0 c) 6 t hi hf]
      simp only [before6 m c t h0]
      rw [after0_6, outsAt0_B m c t h0]
      unfold ptB
      dsimp only
      iintro H
      iexists (fun _ => Classical.choice inferInstance)
      iexact H

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 68 := lt_of_lt_of_eq t.isLt (show cfg0.N = 68 from N_0)
  by_cases h0 : t.val % 4 = 0
  · by_cases hz : t.val = 0
    · rw [PhiS_castSucc m c t, PhiS_zero m c _ _ hz, rest_eq]
      rw [outsAt0_A m c t h0]
      unfold ptA out0_A_5 out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((first_iff t).mpr h0) (iblk m c 0 t) (iblk m c 1 t) (iblk m c 2 t) (X0_3 m c t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
    · rw [PhiS_castSucc m c t, PhiS_pos m c _ _ hz]
      rw [outsAt0_A m c t h0]
      unfold ptA out0_A_5 out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((first_iff t).mpr h0) (iblk m c 0 t) (iblk m c 1 t) (iblk m c 2 t) (X0_3 m c t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
  · have hz : t.val ≠ 0 := fun e => h0 (by rw [e])
    rw [PhiS_castSucc m c t, PhiS_pos m c _ _ hz]
    simp only [before6 m c t h0]
    rw [outsAt0_B m c t h0]
    unfold ptB out0_B_5; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (fun h => h0 ((first_iff t).mp h)) (iblk m c 0 t) (iblk m c 1 t) (iblk m c 2 t) (X0_3 m c t) (iblk m c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, ⟨%e5, H5⟩, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    iexact H6

theorem defs₀_row (t : Fin cfg0.N) :
    defs₀ (F := F) .tc cfg0.body (cfg0.bodyArgs t (cfg0.slots t)) = bodyAt0 t := by
  unfold defs₀; rw [Defs.onTc_tc]

theorem post_weaken (c : Dev nD) (t : Fin cfg0.N) : bodyPost m c t ⊢ bodyPostX m c t := by
  unfold bodyPost bodyPostX
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (post6 m c t)
  iexact H6

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => (post_weaken m c t)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 68 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), rest_eq]
  iintro ⟨HS0, Hg⟩
  isplitl [HS0]
  · iexists _; iexact HS0
  iexact Hg

set_option backward.isDefEq.respectTransparency.types false in
/-- Every run ends, with the arrays at what the pipeline's data say and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments are as they were and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjDIdeal.Hand

end
-- ==== Proof.ProjDValue.lean ====
/- What one call of the norm, modulation and input projection leaves, at the exact instance. -/
module

public import proofs.«01_k».proof.Proof.ProjDIdealFrame
public import proofs.«01_k».proof.Proof.Gen.ProjDReferenceIdeal
public import proofs.«01_k».proof.Defs
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjDIdeal.Hand

open Idealize.ShloMosaic Idealize.SL.Sem Cert.ProjDIdeal Cert.ProjDIdeal.Gen Cert.Rows

variable (m : (ℓ : Loc nD τ sig) → Buf (Elt Ideal) ℓ)

theorem ltN (t : Fin cfg0.N) : t.val < 68 := lt_of_lt_of_eq t.isLt N_0

theorem idx : ∀ t : Fin cfg0.N, win0_0.index t = ![t.val / 4, 0] ∧ win0_1.index t = ![0, 0] ∧ win0_2.index t = ![t.val / 32, 0, 0]
    ∧ win0_3.index t = ![0, 0, t.val % 4] ∧ win0_4.index t = ![0, 0, 80] ∧ win0_5.index t = ![t.val / 4, t.val % 4]
    ∧ win0_6.index t = ![t.val / 4, 0] :=
  (by decide +kernel : ∀ t : Fin grid0.N, _)

theorem pay1_at (v9 : Vec Ideal S1x6x2048 .f32) (v11 : Vec Ideal S512x2048 .f32) (v13 : Vec Ideal S1x2048 .f32) (r : Fin 512) (k : Fin 2048) :
    k0_pay1 (F := Ideal) v9 v11 v13 (ix2 r k)
      = modRow (fun x => v11 (ix2 r x)) (fun x => v13 (ix2 0 x)) (fun x => v9 (ix3 0 1 x)) (fun x => v9 (ix3 0 0 x)) k := by
  pointwise [k0_pay1, modRow, rowNorm]

theorem pay2_eq (v9 : Vec Ideal S1x6x2048 .f32) (v11 : Vec Ideal S512x2048 .f32) (v13 : Vec Ideal S1x2048 .f32) :
    k0_pay2 (F := Ideal) v9 v11 v13 = k0_pay1 v9 v11 v13 := by
  funext j
  rw [eq_ix2 j]
  refine Eq.trans ?_ (pay1_at v9 v11 v13 (j 0) (j 1)).symm
  pointwise [k0_pay2, k0_pay1, modRow, rowNorm]

theorem pay3_at (v9 : Vec Ideal S1x6x2048 .f32) (v11 : Vec Ideal S512x2048 .f32) (v13 : Vec Ideal S1x2048 .f32) (v39 : Vec Ideal S1x2048x128 .bf16)
    (r : Fin 512) (k : Fin 128) :
    k0_pay3 (F := Ideal) v9 v11 v13 v39 (ix2 r k) = ∑ x : Fin 2048, k0_pay1 (F := Ideal) v9 v11 v13 (ix2 r x) * v39 (ix3 0 x k) := by
  unfold k0_pay3
  generalize k0_pay1 (F := Ideal) v9 v11 v13 = u
  pointwise

theorem pay4_at (v3 : Vec Ideal S512x2048 .bf16) (v4 : Vec Ideal S1x2048x2560 .bf16) (r : Fin 512) (k : Fin 2560) :
    k0_pay4 (F := Ideal) v3 v4 (ix2 r k) = ∑ x : Fin 2048, v3 (ix2 r x) * v4 (ix3 0 x k) := by
  pointwise [k0_pay4]

/-- Row `R` of the state. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem hV (c : Dev nD) (R : Fin 8704) (k : Fin 2048) : (show FVec Ideal S8704x2048 .f32 from V m c main_v2) (ix2 R k) = hrow m c R k := by
  entry_read
  unfold hrow joined
  pointwise

theorem b0 (c : Dev nD) (t : Fin cfg0.N) (r : Fin 512) (k : Fin 2048) :
    (show FVec Ideal S512x2048 .f32 from iblk m c 0 t) (ix2 r k) = hrow m c ⟨t.val / 4 * 512 + r.val, by have := ltN t; omega⟩ k := by
  have := ltN t
  refine Eq.trans ?_ (hV m c _ k)
  blk_ext [iblk, idx t]
theorem b1 (c : Dev nD) (t : Fin cfg0.N) (k : Fin 2048) :
    (show FVec Ideal S1x2048 .f32 from iblk m c 1 t) (ix2 0 k) = m ((c.tc : Thread nD τ).loc main_arg2) (ix1 k) := by
  blk_point [iblk, V, idx t]
theorem b2 (c : Dev nD) (t : Fin cfg0.N) (r : Fin 6) (k : Fin 2048) :
    (show FVec Ideal S1x6x2048 .f32 from iblk m c 2 t) (ix3 0 r k) = mrow m c ⟨t.val / 32, by have := ltN t; omega⟩ r k := by
  have := ltN t
  unfold mrow
  blk_point [iblk, V, idx t]
theorem b3 (c : Dev nD) (t : Fin cfg0.N) (r : Fin 2048) (k : Fin 2560) :
    (show FVec Ideal S1x2048x2560 .bf16 from X0_3 m c t) (ix3 0 r k)
      = m ((c.tc : Thread nD τ).loc main_arg4) (ix2 r (⟨t.val % 4 * 2560 + k.val, by omega⟩ : Fin 10368)) := by
  show X0_3 m c t (ix3 0 r k) = _
  unfold X0_3 Pipeline.Window.fill
  rw [dif_pos (moved0_3 t _)]
  blk_point [iblk, V, idx t]
theorem b4 (c : Dev nD) (t : Fin cfg0.N) (r : Fin 2048) (k : Fin 128) :
    (show FVec Ideal S1x2048x128 .bf16 from iblk m c 4 t) (ix3 0 r k)
      = m ((c.tc : Thread nD τ).loc main_arg4) (ix2 r (⟨10240 + k.val, by omega⟩ : Fin 10368)) := by
  blk_point [iblk, V, idx t]

/-- The row the matrix meets. -/
def urow (c : Dev nD) (R : Fin 8704) (x : Fin 2048) : EReal :=
  modRow (hrow m c R) (fun x => m ((c.tc : Thread nD τ).loc main_arg2) (ix1 x)) (mrow m c ⟨R.val / 4096, by omega⟩ 1) (mrow m c ⟨R.val / 4096, by omega⟩ 0) x

/-- The normed and modulated rows of the block a point works on. -/
def U (c : Dev nD) (t : Fin cfg0.N) : FVec Ideal S512x2048 .bf16 := k0_pay1 (iblk m c 2 t) (iblk m c 0 t) (iblk m c 1 t)

theorem U_at (c : Dev nD) (t : Fin cfg0.N) (r : Fin 512) (k : Fin 2048) :
    U m c t (ix2 r k) = urow m c ⟨t.val / 4 * 512 + r.val, by have := ltN t; omega⟩ k := by
  refine (pay1_at _ _ _ r k).trans ?_
  have ht := ltN t
  have e0 : (fun x => (show FVec Ideal S512x2048 .f32 from iblk m c 0 t) (ix2 r x)) = hrow m c ⟨t.val / 4 * 512 + r.val, by omega⟩ :=
    funext fun x => b0 m c t r x
  have e1 : (fun x => (show FVec Ideal S1x2048 .f32 from iblk m c 1 t) (ix2 0 x)) = fun x => m ((c.tc : Thread nD τ).loc main_arg2) (ix1 x) :=
    funext fun x => b1 m c t x
  have e2 : ∀ p, (fun x => (show FVec Ideal S1x6x2048 .f32 from iblk m c 2 t) (ix3 0 p x)) = mrow m c ⟨t.val / 32, by omega⟩ p := fun p =>
    funext fun x => b2 m c t p x
  have q : (t.val / 4 * 512 + r.val) / 4096 = t.val / 32 := by omega
  unfold urow
  simp only [q]
  rw [← e0, ← e1, ← e2, ← e2]

theorem U_pred (c : Dev nD) (t t' : Fin cfg0.N) (h0 : t'.val / 4 = t.val / 4) : U m c t' = U m c t := by
  funext j
  rw [eq_ix2 j]
  refine (U_at m c t' (j 0) (j 1)).trans (Eq.trans ?_ (U_at m c t (j 0) (j 1)).symm)
  simp only [h0]

/-- The tail of the block a point works on. -/
def T (c : Dev nD) (t : Fin cfg0.N) : FVec Ideal S512x128 .f32 := k0_pay3 (iblk m c 2 t) (iblk m c 0 t) (iblk m c 1 t) (iblk m c 4 t)

/-- The row the tail's columns meet, entry by entry. -/
def tailAt (c : Dev nD) (R : Fin 8704) (k : Fin 128) : EReal :=
  ∑ x : Fin 2048, urow m c R x * m ((c.tc : Thread nD τ).loc main_arg4) (ix2 x (⟨10240 + k.val, by omega⟩ : Fin 10368))

theorem T_at (c : Dev nD) (t : Fin cfg0.N) (r : Fin 512) (k : Fin 128) :
    T m c t (ix2 r k) = tailAt m c ⟨t.val / 4 * 512 + r.val, by have := ltN t; omega⟩ k := by
  refine (pay3_at _ _ _ _ r k).trans ?_
  exact Finset.sum_congr rfl fun x _ => congr (congrArg HMul.hMul (U_at m c t r x)) (b4 m c t x k)

theorem T_pred (c : Dev nD) (t t' : Fin cfg0.N) (h0 : t'.val / 4 = t.val / 4) : T m c t' = T m c t := by
  funext j
  rw [eq_ix2 j]
  refine (T_at m c t' (j 0) (j 1)).trans (Eq.trans ?_ (T_at m c t (j 0) (j 1)).symm)
  simp only [h0]

/-- At a first point the rows and the tail are made. -/
theorem made (c : Dev nD) (t : Fin cfg0.N) (h0 : t.val % 4 = 0) :
    (outsAt0 m c t.val t.isLt).2.1 = T m c t ∧ (outsAt0 m c t.val t.isLt).2.2 = U m c t := by
  rw [outsAt0_A m c t h0]
  constructor
  · unfold ptA out0_A_6
    dsimp only
    unfold kernelRun0_A
    frame_out
    rfl
  · unfold ptA sout0_A_0
    dsimp only
    unfold kernelRun0_A
    frame_out
    exact pay2_eq _ _ _

/-- They are kept to the row block's last point. -/
theorem kept (c : Dev nD) (n : ℕ) : ∀ t : Fin cfg0.N, t.val % 4 = n →
    (outsAt0 m c t.val t.isLt).2.1 = T m c t ∧ (outsAt0 m c t.val t.isLt).2.2 = U m c t := by
  induction n with
  | zero => exact fun t h0 => made m c t h0
  | succ n ih =>
    intro t hn
    have h0 : ¬ t.val % 4 = 0 := by omega
    have hp := ih ⟨t.val - 1, Nat.lt_of_le_of_lt (Nat.sub_le _ _) t.isLt⟩ (by dsimp only; omega)
    rw [outsAt0_B m c t h0]
    unfold ptB
    exact ⟨hp.1.trans (T_pred m c t ⟨t.val - 1, _⟩ (by dsimp only; omega)), hp.2.trans (U_pred m c t ⟨t.val - 1, _⟩ (by dsimp only; omega))⟩

/-- The block a point writes. -/
theorem outP (c : Dev nD) (t : Fin cfg0.N) : (outsAt0 m c t.val t.isLt).1 = k0_pay4 (F := Ideal) (U m c t) (X0_3 m c t) := by
  by_cases h0 : t.val % 4 = 0
  · rw [outsAt0_A m c t h0]
    unfold ptA out0_A_5
    dsimp only
    unfold kernelRun0_A
    frame_out
    exact congrArg (fun u => k0_pay4 (F := Ideal) u _) (pay2_eq _ _ _)
  · have hp := kept m c ((t.val - 1) % 4) ⟨t.val - 1, Nat.lt_of_le_of_lt (Nat.sub_le _ _) t.isLt⟩ rfl
    have hU : (outsAt0 m c (t.val - 1) (Nat.lt_of_le_of_lt (Nat.sub_le _ _) t.isLt)).2.2 = U m c t :=
      hp.2.trans (U_pred m c t ⟨t.val - 1, _⟩ (by dsimp only; omega))
    rw [outsAt0_B m c t h0]
    unfold ptB out0_B_5
    dsimp only
    unfold kernelRun0_B
    frame_out
    simp only [read_unread_whole]
    rw [hU]

/-- The projected rows, without the tail's columns. -/
def RES (c : Dev nD) : FVec Ideal S8704x10240 .bf16 := fun i =>
  ∑ x : Fin 2048, urow m c (i 0) x * m ((c.tc : Thread nD τ).loc main_arg4) (ix2 x (⟨(i 1).val, lt_trans (i 1).isLt (by decide)⟩ : Fin 10368))

/-- The tail's columns. -/
def TAIL (c : Dev nD) : FVec Ideal S8704x128 .f32 := fun i => tailAt m c (i 0) (i 1)

theorem final5 (c : Dev nD) : (dats m 0 c).arrAt 5 (cfgs 0).N = RES m c := by
  refine (dats m 0 c).arrAt_eq_of_covers 5 _ (by decide +kernel) fun t hf y => ?_
  blk_simp
  rw [after0_5]
  change S512x2560.Idx at y
  have hy : (y 0).val < 512 := (y 0).isLt
  have hz : (y 1).val < 2560 := (y 1).isLt
  have ht := ltN t
  rw [outP, eq_ix2 y]
  refine (pay4_at _ _ (y 0) (y 1)).trans ?_
  have e0 : (win0_5.blk t).view.emb (ix2 (y 0) (y 1)) 0 = (⟨t.val / 4 * 512 + (y 0).val, by omega⟩ : Fin 8704) := by
    apply Fin.ext
    show win0_5.index t 0 * 512 + 1 * (y 0).val = _
    rw [(idx t).2.2.2.2.2.1]
    simp
  have e1 : (win0_5.blk t).view.emb (ix2 (y 0) (y 1)) 1 = (⟨t.val % 4 * 2560 + (y 1).val, by omega⟩ : Fin 10240) := by
    apply Fin.ext
    show win0_5.index t 1 * 2560 + 1 * (y 1).val = _
    rw [(idx t).2.2.2.2.2.1]
    simp
  unfold RES
  simp only [e0, e1]
  exact Finset.sum_congr rfl fun x _ => congr (congrArg HMul.hMul (U_at m c t (y 0) x)) (b3 m c t x (y 1))

theorem final6 (c : Dev nD) : (dats m 0 c).arrAt 6 (cfgs 0).N = TAIL m c := by
  refine (dats m 0 c).arrAt_eq_of_covers 6 _ (by decide +kernel) fun t hf y => ?_
  blk_simp
  rw [after0_6]
  change S512x128.Idx at y
  have hy : (y 0).val < 512 := (y 0).isLt
  have ht := ltN t
  rw [(kept m c _ t rfl).1, eq_ix2 y]
  refine (T_at m c t (y 0) (y 1)).trans ?_
  have e0 : (win0_6.blk t).view.emb (ix2 (y 0) (y 1)) 0 = (⟨t.val / 4 * 512 + (y 0).val, by omega⟩ : Fin 8704) := by
    apply Fin.ext
    show win0_6.index t 0 * 512 + 1 * (y 0).val = _
    rw [(idx t).2.2.2.2.2.2]
    simp
  have e1 : (win0_6.blk t).view.emb (ix2 (y 0) (y 1)) 1 = y 1 := by
    apply Fin.ext
    show win0_6.index t 1 * 128 + 1 * (y 1).val = _
    rw [(idx t).2.2.2.2.2.2]
    simp
  unfold TAIL
  simp only [e0, e1]

theorem head_at (x : FVec Ideal (⟨2, ![8704, 10368]⟩ : Shape) .f32) (h : (⟨2, ![8704, 10368]⟩ : Shape).Slices ![0, 0] ⟨2, ![8704, 10240]⟩) (a : Fin 8704) (b : Fin 10240) :
    extractStridedSlice (⟨2, ![8704, 10240]⟩ : Shape) ![0, 0] x h (ix2 a b) = x (ix2 a (⟨b.val, by omega⟩ : Fin 10368)) := by
  pointwise

theorem tail_at (x : FVec Ideal (⟨2, ![8704, 10368]⟩ : Shape) .f32) (h : (⟨2, ![8704, 10368]⟩ : Shape).Slices ![0, 10240] ⟨2, ![8704, 128]⟩) (a : Fin 8704) (b : Fin 128) :
    extractStridedSlice (⟨2, ![8704, 128]⟩ : Shape) ![0, 10240] x h (ix2 a b) = x (ix2 a (⟨10240 + b.val, by omega⟩ : Fin 10368)) := by
  pointwise

/-- The run with the two results named. -/
theorem run_named (ρ : Dev nD → PrngReg) : θ_run defs (onTc (τ := τ) (main (F := Ideal))) ⟨m, fun _ => 0, ρ⟩ fun r => ∀ c : Dev nD,
      r.2.mem ((c.tc : Thread nD τ).loc main_v7_0) = (dats m 0 c).arrAt 5 (cfgs 0).N
      ∧ r.2.mem ((c.tc : Thread nD τ).loc main_v7_1) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 5, (h.1 c).1 6, h.2 c⟩)
    (θ_run_and (run_main m ρ) (frame_of m ρ (dats m) (A_eq m) (run_main m ρ)))

set_option maxHeartbeats 1600000 in
theorem algebraic : Cert.algebraic_ProjDIdeal_ProjDReferenceIdeal := by
  pair_intro
  · run_from run_named m g
  · hlo_run
    · rw [final5]
      funext j
      idx_vars j
      simp only [truncf_apply]
      refine (head_at _ _ j0 j1).trans ?_
      by_cases h : j0.val < 8192
      · refine (concat_lat _ _ _ j0 _ h).trans ?_
        pointwise [RES, urow, modRow, rowNorm, hrow, mrow]
        simp only [joined_lat _ _ _ h, hagree c]
      · refine (concat_ctx _ _ _ j0 _ h).trans ?_
        have q : j0.val / 4096 = 2 := by omega
        generalize hr : (⟨j0.val - 8192, by omega⟩ : Fin 512) = r0
        have hv : j0.val - 8192 = r0.val := by rw [← hr]
        pointwise [RES, urow, modRow, rowNorm, hrow, mrow]
        simp only [joined_ctx _ _ _ h, q, hv, hagree c]
        rfl
    · rw [final6]
      funext j
      idx_vars j
      refine (tail_at _ _ j0 j1).trans ?_
      by_cases h : j0.val < 8192
      · refine (concat_lat _ _ _ j0 _ h).trans ?_
        pointwise [TAIL, tailAt, urow, modRow, rowNorm, hrow, mrow]
        simp only [joined_lat _ _ _ h, hagree c]
      · refine (concat_ctx _ _ _ j0 _ h).trans ?_
        have q : j0.val / 4096 = 2 := by omega
        generalize hr : (⟨j0.val - 8192, by omega⟩ : Fin 512) = r0
        have hv : j0.val - 8192 = r0.val := by rw [← hr]
        pointwise [TAIL, tailAt, urow, modRow, rowNorm, hrow, mrow]
        simp only [joined_ctx _ _ _ h, q, hv, hagree c]
        rfl

end Cert.ProjDIdeal.Hand
end
-- ==== Proof.ProjAIdealFrame.lean ====
/- The run of the norm, modulation and projection call whose second result (the narrow tail of the columns) is stored at
   the first point of a row block and written back at its last: what every buffer holds after each point, and the frame. -/
module

public import proofs.«01_k».proof.Proof.Gen.ProjAIdeal.Frame
public import proofs.«01_k».proof.Proof.Gen.ProjAIdeal.Skeleton
public import proofs.«01_k».proof.Proof.Gen.ProjAIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ProjAIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjAIdeal Cert.ProjAIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row block's first point. -/
abbrev first (i : grid0.Coords) : Prop := k0_cond1 i = 1#1

theorem first_iff : ∀ t : Fin cfg0.N, first (grid0.coords t) ↔ t.val % 4 = 0 :=
  (fun t => by
    have ht : t.val < 68 := Nat.lt_of_lt_of_eq t.isLt N_0
    have e0 : (grid0.coords t 0).val = t.val / 4 % 17 := Pipeline.Grid.coords_val t 0 (by decide) rfl
    have e1 : (grid0.coords t 1).val = t.val / 1 % 4 := Pipeline.Grid.coords_val t 1 (by decide) rfl
    simp only [first, k0_cond1, e0, e1]
    word_cmp
   : ∀ t : Fin grid0.N, first (grid0.coords t) ↔ t.val % 4 = 0)

/-! ## Where the tail's buffer is left alone -/

theorem idleT (t : Fin cfg0.N) : cfg0.idle 10 (grid0.coords t) = decide (¬ t.val % 4 = 0) := by
  show (!(k0_cond1 (grid0.coords t) == 1#1)) = _
  by_cases h : t.val % 4 = 0
  · rw [show k0_cond1 (grid0.coords t) = 1#1 from (first_iff t).mpr h]; simp [h]
  · have h' : ¬ k0_cond1 (grid0.coords t) = 1#1 := fun e => h ((first_iff t).mp e)
    simp [h, h']

theorem flushT (t : Fin cfg0.N) : (cfg0.win 10).flush t = decide (t.val % 4 = 3) := by
  by_cases h : t.val % 4 = 3
  · rw [(flush0_10 t).mpr h]; simp [h]
  · rw [Bool.eq_false_iff.mpr fun e => h ((flush0_10 t).mp e)]; simp [h]

theorem freshT (n : ℕ) (hn : n ≤ cfg0.N) : cfg0.fresh 10 n = decide (n % 4 = 0) := by
  refine cfg0.fresh_tab 10 (fun n => decide (n % 4 = 0)) rfl (fun t => ?_) n hn
  rw [flushT t, idleT t]
  have h : t.val % 4 = 0 ∨ t.val % 4 = 1 ∨ t.val % 4 = 2 ∨ t.val % 4 = 3 := by omega
  have h' : (t.val + 1) % 4 = (t.val % 4 + 1) % 4 := by omega
  simp only [h']
  rcases h with h | h | h | h <;> rw [h] <;> rfl

/-! ## The buffers at a point -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2560 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x2560 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x8192 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x64x2048 .bf16 := win0_13.stage (cfg0.slots t 13)
abbrev hs0_13 (t : Fin cfg0.N) : (ms0_13 t).IsWhole := hstage0_13 ((cfg0.slots t 13).cast nbuf0_13)
abbrev scM0_0 : Memref sig .tc .vmem S512x2048 .bf16 := Memref.whole cc0_scratch0
/-- The views through which the contents of the results' buffers and of the kept rows are stated. -/
abbrev VO0_9 : View sig .tc .vmem S512x2560 .bf16 := (Memref.whole cc0_stg9_0 : Memref sig .tc .vmem S512x2560 .bf16).view
abbrev VO0_10 : View sig .tc .vmem S512x128 .f32 := (Memref.whole cc0_stg10_0 : Memref sig .tc .vmem S512x128 .f32).view
abbrev VO0_11 : View sig .tc .vmem S1x32x8192 .bf16 := (Memref.whole cc0_stg11_0 : Memref sig .tc .vmem S1x32x8192 .bf16).view
abbrev VO0_12 : View sig .tc .vmem S1x128x2048 .bf16 := (Memref.whole cc0_stg12_0 : Memref sig .tc .vmem S1x128x2048 .bf16).view
abbrev VO0_13 : View sig .tc .vmem S1x64x2048 .bf16 := (Memref.whole cc0_stg13_0 : Memref sig .tc .vmem S1x64x2048 .bf16).view
abbrev VS0_0 : View sig .tc .vmem S512x2048 .bf16 := scM0_0.view

theorem rest_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body, at a first point and at a later one -/

set_option maxHeartbeats 4000000 in
/-- At a first point: the rows are normed and kept, every result's buffer is stored. -/
noncomputable def kernelRun0_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) :
    Σ' (L9 : List (View.Piece (Elt F) S512x2560 .bf16)) (L10 : List (View.Piece (Elt F) S512x128 .f32)) (L11 : List (View.Piece (Elt F) S1x32x8192 .bf16)) (L12 : List (View.Piece (Elt F) S1x128x2048 .bf16)) (L13 : List (View.Piece (Elt F) S1x64x2048 .bf16)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc0_norm_mod_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_norm_mod_proj_eq_skeleton]; unfold cc0_norm_mod_proj_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

set_option maxHeartbeats 4000000 in
/-- At a later point: the kept rows are read, the tail's buffer is left as it is, the others are stored. -/
noncomputable def kernelRun0_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) :
    Σ' (L9 : List (View.Piece (Elt F) S512x2560 .bf16)) (L11 : List (View.Piece (Elt F) S1x32x8192 .bf16)) (L12 : List (View.Piece (Elt F) S1x128x2048 .bf16)), { L13 : List (View.Piece (Elt F) S1x64x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xt ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare xt ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xs0) -∗ K ⟨⟩))
          ⊢ wp frame (wpE (defs₀ (F := F)) Variants.none c none) E (cc0_norm_mod_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_norm_mod_proj_eq_skeleton]; unfold cc0_norm_mod_proj_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; isplitr; · ipureintro; exact harg16.read_unread _
    iexact HS0

/-! Each stored buffer is stored whole, so what it held before does not matter. -/

theorem cover0_A_9 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (y : S512x2560.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 S512x2560.size (by sl_kernel_rfl) y

def out0_A_9 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) : Vec F S512x2560 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1)

theorem cover0_A_10 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1 S512x128.size (by sl_kernel_rfl) y

def out0_A_10 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) : Vec F S512x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1)

theorem cover0_A_11 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (y : S1x32x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1 S1x32x8192.size (by sl_kernel_rfl) y

def out0_A_11 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) : Vec F S1x32x8192 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1)

theorem cover0_A_12 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (y : S1x128x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 S1x128x2048.size (by sl_kernel_rfl) y

def out0_A_12 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) : Vec F S1x128x2048 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1)

theorem cover0_A_13 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (y : S1x64x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 S1x64x2048.size (by sl_kernel_rfl) y

def out0_A_13 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) : Vec F S1x64x2048 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1)

theorem scover0_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1 S512x2048.size (by sl_kernel_rfl) y

def sout0_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1)

theorem cover0_B_9 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) (y : S512x2560.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).1 S512x2560.size (by sl_kernel_rfl) y

def out0_B_9 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) : Vec F S512x2560 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).1)

theorem cover0_B_11 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) (y : S1x32x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.1 S1x32x8192.size (by sl_kernel_rfl) y

def out0_B_11 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) : Vec F S1x32x8192 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.1)

theorem cover0_B_12 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) (y : S1x128x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.2.1 S1x128x2048.size (by sl_kernel_rfl) y

def out0_B_12 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) : Vec F S1x128x2048 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.2.1)

theorem cover0_B_13 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) (y : S1x64x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.2.2.1 S1x64x2048.size (by sl_kernel_rfl) y

def out0_B_13 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S1x2048x2560 .bf16) (harg6 : arg6.IsWhole) (arg7 : Memref sig .tc .vmem S1x2048x128 .bf16) (harg7 : arg7.IsWhole) (arg8 : Memref sig .tc .vmem S1x32x8192 .f32) (harg8 : arg8.IsWhole) (arg9 : Memref sig .tc .vmem S1x128x2048 .f32) (harg9 : arg9.IsWhole) (arg10 : Memref sig .tc .vmem S1x64x2048 .f32) (harg10 : arg10.IsWhole) (arg11 : Memref sig .tc .vmem S512x2560 .bf16) (harg11 : arg11.IsWhole) (arg12 : Memref sig .tc .vmem S512x128 .f32) (harg12 : arg12.IsWhole) (arg13 : Memref sig .tc .vmem S1x32x8192 .bf16) (harg13 : arg13.IsWhole) (arg14 : Memref sig .tc .vmem S1x128x2048 .bf16) (harg14 : arg14.IsWhole) (arg15 : Memref sig .tc .vmem S1x64x2048 .bf16) (harg15 : arg15.IsWhole) (arg16 : Memref sig .tc .vmem S512x2048 .bf16) (harg16 : arg16.IsWhole) (hc0 : ¬ first i)
    (x0 : Vec F S512x2048 .f32) (x1 : Vec F S512x2048 .f32) (x2 : Vec F S1x2048 .f32) (x3 : Vec F S1x6x2048 .f32) (x4 : Vec F S1x2048x2560 .bf16) (x5 : Vec F S1x2048x128 .bf16) (x6 : Vec F S1x32x8192 .f32) (x7 : Vec F S1x128x2048 .f32) (x8 : Vec F S1x64x2048 .f32) (xt : Vec F S512x128 .f32) (xs0 : Vec F S512x2048 .bf16) : Vec F S1x64x2048 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xt xs0).2.2.2.1)

/-! ## What the buffers hold after each point -/

/-- After a first point: the results' buffers, the kept rows. -/
def ptA (c : Dev nD) (t : Fin cfg0.N) (h0 : t.val % 4 = 0) : Vec F S512x2560 .bf16 × Vec F S512x128 .f32 × Vec F S1x32x8192 .bf16 × Vec F S1x128x2048 .bf16 × Vec F S1x64x2048 .bf16 × Vec F S512x2048 .bf16 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((first_iff t).mpr h0) (iblk m c 0 t) (iblk m c 1 t) (iblk m c 2 t) (iblk m c 3 t) (X0_4 m c t) (iblk m c 5 t) (iblk m c 6 t) (iblk m c 7 t) (iblk m c 8 t),
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((first_iff t).mpr h0) (iblk m c 0 t) (iblk m c 1 t) (iblk m c 2 t) (iblk m c 3 t) (X0_4 m c t) (iblk m c 5 t) (iblk m c 6 t) (iblk m c 7 t) (iblk m c 8 t),
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((first_iff t).mpr h0) (iblk m c 0 t) (iblk m c 1 t) (iblk m c 2 t) (iblk m c 3 t) (X0_4 m c t) (iblk m c 5 t) (iblk m c 6 t) (iblk m c 7 t) (iblk m c 8 t),
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((first_iff t).mpr h0) (iblk m c 0 t) (iblk m c 1 t) (iblk m c 2 t) (iblk m c 3 t) (X0_4 m c t) (iblk m c 5 t) (iblk m c 6 t) (iblk m c 7 t) (iblk m c 8 t),
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((first_iff t).mpr h0) (iblk m c 0 t) (iblk m c 1 t) (iblk m c 2 t) (iblk m c 3 t) (X0_4 m c t) (iblk m c 5 t) (iblk m c 6 t) (iblk m c 7 t) (iblk m c 8 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((first_iff t).mpr h0) (iblk m c 0 t) (iblk m c 1 t) (iblk m c 2 t) (iblk m c 3 t) (X0_4 m c t) (iblk m c 5 t) (iblk m c 6 t) (iblk m c 7 t) (iblk m c 8 t))

/-- After a later point: the stored buffers of this point, the tail and the kept rows as they were. -/
def ptB (c : Dev nD) (t : Fin cfg0.N) (h0 : ¬ t.val % 4 = 0) (p : Vec F S512x2560 .bf16 × Vec F S512x128 .f32 × Vec F S1x32x8192 .bf16 × Vec F S1x128x2048 .bf16 × Vec F S1x64x2048 .bf16 × Vec F S512x2048 .bf16) : Vec F S512x2560 .bf16 × Vec F S512x128 .f32 × Vec F S1x32x8192 .bf16 × Vec F S1x128x2048 .bf16 × Vec F S1x64x2048 .bf16 × Vec F S512x2048 .bf16 :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((first_iff t).mp h)) (iblk m c 0 t) (iblk m c 1 t) (iblk m c 2 t) (iblk m c 3 t) (X0_4 m c t) (iblk m c 5 t) (iblk m c 6 t) (iblk m c 7 t) (iblk m c 8 t) p.2.1 p.2.2.2.2.2,
    p.2.1,
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((first_iff t).mp h)) (iblk m c 0 t) (iblk m c 1 t) (iblk m c 2 t) (iblk m c 3 t) (X0_4 m c t) (iblk m c 5 t) (iblk m c 6 t) (iblk m c 7 t) (iblk m c 8 t) p.2.1 p.2.2.2.2.2,
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((first_iff t).mp h)) (iblk m c 0 t) (iblk m c 1 t) (iblk m c 2 t) (iblk m c 3 t) (X0_4 m c t) (iblk m c 5 t) (iblk m c 6 t) (iblk m c 7 t) (iblk m c 8 t) p.2.1 p.2.2.2.2.2,
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((first_iff t).mp h)) (iblk m c 0 t) (iblk m c 1 t) (iblk m c 2 t) (iblk m c 3 t) (X0_4 m c t) (iblk m c 5 t) (iblk m c 6 t) (iblk m c 7 t) (iblk m c 8 t) p.2.1 p.2.2.2.2.2, p.2.2.2.2.2)

/-- The buffers after the point `n`. -/
def outsAt0 (c : Dev nD) : (n : ℕ) → n < cfg0.N → Vec F S512x2560 .bf16 × Vec F S512x128 .f32 × Vec F S1x32x8192 .bf16 × Vec F S1x128x2048 .bf16 × Vec F S1x64x2048 .bf16 × Vec F S512x2048 .bf16
  | 0, hn => ptA m c ⟨0, hn⟩ (Nat.zero_mod _)
  | n + 1, hn =>
    if h0 : (n + 1) % 4 = 0 then ptA m c ⟨n + 1, hn⟩ h0
    else ptB m c ⟨n + 1, hn⟩ h0 (outsAt0 c n (Nat.lt_of_succ_lt hn))

theorem outsAt0_A (c : Dev nD) (t : Fin cfg0.N) (h0 : t.val % 4 = 0) : outsAt0 m c t.val t.isLt = ptA m c t h0 := by
  obtain ⟨n, hn⟩ := t
  cases n with
  | zero => exact rfl
  | succ n => exact (dif_pos h0).trans rfl

theorem outsAt0_B (c : Dev nD) (t : Fin cfg0.N) (h0 : ¬ t.val % 4 = 0) :
    outsAt0 m c t.val t.isLt = ptB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- What is held between the points: the kept rows, after the first point at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-- The pipeline's data: the arrays as found, each input's buffer at its block, the results' at `outsAt0`; the two windows
    on the weights deal the array's share between them. -/
def dats (_ : Fin 1) (c : Dev nD) : Dat τ (Elt F) Unit ℕ (UR sig nD τ) ℕ cfg0 c where
  A w := V m c (Pipeline.arrRef spec0 w)
  after w t := match w with
    | ⟨0, _⟩ => (iblk m c 0 t)
    | ⟨1, _⟩ => (iblk m c 1 t)
    | ⟨2, _⟩ => (iblk m c 2 t)
    | ⟨3, _⟩ => (iblk m c 3 t)
    | ⟨4, _⟩ => (X0_4 m c t)
    | ⟨5, _⟩ => (iblk m c 5 t)
    | ⟨6, _⟩ => (iblk m c 6 t)
    | ⟨7, _⟩ => (iblk m c 7 t)
    | ⟨8, _⟩ => (iblk m c 8 t)
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Past a row block's first point the tail's buffer holds what the point before left in it. -/
theorem beforeT (c : Dev nD) (t : Fin cfg0.N) (h0 : ¬ t.val % 4 = 0) (d) :
    (dats m 0 c).before 10 t d = (outsAt0 m c (t.val - 1) (Nat.lt_of_le_of_lt (Nat.sub_le _ _) t.isLt)).2.1 := by
  rw [Dat.before_out_traj _ 10 rfl (fun _ _ => rfl) (fun t hz hi _ => by
      rw [idleT t] at hi
      rw [after0_10, after0_10, outsAt0_B m c t (of_decide_eq_true hi)]
      unfold ptB
      rfl) t.val t rfl d,
    if_neg (by rw [freshT _ (Nat.le_of_lt t.isLt)]; simpa using h0)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What it returns, the tail's buffer named at every point; -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- and as the pipeline asks it. -/
def bodyPostX (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (dats m 0 c).leavesExact 10 t
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The tail's buffer at its named contents is what the pipeline asks of it, stored or not, written back or not. -/
theorem postT (c : Dev nD) (t : Fin cfg0.N) :
    (owns (c : Thread nD τ) (ms0_10 t) fullShare ((dats m 0 c).after 10 t) : sProp 𝕄) ⊢ (dats m 0 c).leavesExact 10 t := by
  by_cases h0 : t.val % 4 = 0
  · have hi : cfg0.idle 10 (grid0.coords t) = false := by rw [idleT t]; simpa using h0
    unfold Dat.leavesExact; rw [hi]
  · have hi : cfg0.idle 10 (grid0.coords t) = true := by rw [idleT t]; simpa using h0
    by_cases h3 : t.val % 4 = 3
    · have hf : (cfg0.win 10).flush t = true := by rw [flushT t]; simpa using h3
      unfold Dat.leavesExact; rw [hi, hf]
    · have hf : (cfg0.win 10).flush t = false := by rw [flushT t]; simpa using h3
      rw [Dat.leavesExact_idle (dats m 0 c) 10 t hi hf]
      simp only [beforeT m c t h0]
      rw [after0_10, outsAt0_B m c t h0]
      unfold ptB
      dsimp only
      iintro H
      iexists (fun _ => Classical.choice inferInstance)
      iexact H

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 68 := lt_of_lt_of_eq t.isLt (show cfg0.N = 68 from N_0)
  by_cases h0 : t.val % 4 = 0
  · by_cases hz : t.val = 0
    · rw [PhiS_castSucc m c t, PhiS_zero m c _ _ hz, rest_eq]
      rw [outsAt0_A m c t h0]
      unfold ptA out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ ((first_iff t).mpr h0) (iblk m c 0 t) (iblk m c 1 t) (iblk m c 2 t) (iblk m c 3 t) (X0_4 m c t) (iblk m c 5 t) (iblk m c 6 t) (iblk m c 7 t) (iblk m c 8 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, H8, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold ptA out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ ((first_iff t).mpr h0) (iblk m c 0 t) (iblk m c 1 t) (iblk m c 2 t) (iblk m c 3 t) (X0_4 m c t) (iblk m c 5 t) (iblk m c 6 t) (iblk m c 7 t) (iblk m c 8 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexists _; iexact HS0
      iintro ⟨H0, H1, H2, H3, H4, H5, H6, H7, H8, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _)
  · have hz : t.val ≠ 0 := fun e => h0 (by rw [e])
    rw [PhiS_castSucc m c t, PhiS_pos m c _ _ hz]
    simp only [beforeT m c t h0]
    rw [outsAt0_B m c t h0]
    unfold ptB out0_B_9 out0_B_11 out0_B_12 out0_B_13; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (X0_4 m c t) (iblk m c 5 t) (iblk m c 6 t) (iblk m c 7 t) (iblk m c 8 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [H13]; · iexists _; iexact H13
    isplitl [HS0]; · iexact HS0
    iintro ⟨H0, H1, H2, H3, H4, H5, H6, H7, H8, ⟨%e9, H9⟩, H10, ⟨%e11, H11⟩, ⟨%e12, H12⟩, ⟨%e13, H13⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _)
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _)
    unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem post_weaken (c : Dev nD) (t : Fin cfg0.N) : bodyPost m c t ⊢ bodyPostX m c t := by
  unfold bodyPost bodyPostX
  iintro ⟨HP, Ho, H0, H1, H2, H3, H4, H5, H6, H7, H8, H9, H10, H11, H12, H13⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (postT m c t)
    iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => (post_weaken m c t)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 68 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), rest_eq]
  iintro ⟨HS0, Hg⟩
  isplitl [HS0]
  · iexists _; iexact HS0
  iexact Hg

set_option backward.isDefEq.respectTransparency.types false in
/-- Every run ends, with the arrays at what the pipeline's data say and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments are as they were and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.ProjAIdeal.Hand

end
-- ==== Proof.ProjAValue.lean ====
/- What one call of the norm, modulation and input projection leaves, at the exact instance. -/
module

public import proofs.«01_k».proof.Proof.ProjAIdealFrame
public import proofs.«01_k».proof.Proof.Gen.ProjAReferenceIdeal
public import proofs.«01_k».proof.Defs
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjAIdeal.Hand

open Idealize.ShloMosaic Idealize.SL.Sem Cert.ProjAIdeal Cert.ProjAIdeal.Gen Cert.Rows

variable (m : (ℓ : Loc nD τ sig) → Buf (Elt Ideal) ℓ)

theorem ltN (t : Fin cfg0.N) : t.val < 68 := lt_of_lt_of_eq t.isLt N_0

theorem idx : ∀ t : Fin cfg0.N, win0_0.index t = ![min (t.val / 4) 15, 0] ∧ win0_1.index t = ![0, 0] ∧ win0_2.index t = ![0, 0]
    ∧ win0_3.index t = ![t.val / 32, 0, 0] ∧ win0_4.index t = ![0, 0, t.val % 4] ∧ win0_5.index t = ![0, 0, 80]
    ∧ win0_9.index t = ![t.val / 4, t.val % 4] ∧ win0_10.index t = ![t.val / 4, 0] :=
  (by decide +kernel : ∀ t : Fin grid0.N, _)

/-- The grid point's word that chooses between the two states' rows. -/
abbrev late (t : Fin cfg0.N) : BitVec 1 := Scalar.cmpi .sge (BitVec.ofNat 32 (grid0.coords t 0).val) 16#32

theorem late_eq : ∀ t : Fin cfg0.N, late t = if t.val / 4 < 16 then 0#1 else 1#1 :=
  (by decide +kernel : ∀ t : Fin grid0.N, Scalar.cmpi .sge (BitVec.ofNat 32 (grid0.coords t 0).val) 16#32 = if t.val / 4 < 16 then 0#1 else 1#1)

theorem sel_one {α : Type} (x y : α) : Scalar.select (1#1) x y = x := rfl
theorem sel_zero {α : Type} (x y : α) : Scalar.select (0#1) x y = y := rfl

/-- The rows normed and modulated, where the second state's rows are chosen, -/
theorem pay5_ctx (a : BitVec 32) (ha : Scalar.cmpi .sge a 16#32 = 1#1) (v18 : Vec Ideal S1x6x2048 .f32) (v21 v23 : Vec Ideal S512x2048 .f32) (v26 : Vec Ideal S1x2048 .f32) (r : Fin 512) (k : Fin 2048) :
    k0_pay5 (F := Ideal) a v18 v21 v23 v26 (ix2 r k)
      = modRow (fun x => v21 (ix2 r x)) (fun x => v26 (ix2 0 x)) (fun x => v18 (ix3 0 1 x)) (fun x => v18 (ix3 0 0 x)) k := by
  unfold k0_pay5
  simp only [ha, sel_one]
  pointwise [modRow, rowNorm]

/-- and where the first state's are. -/
theorem pay5_lat (a : BitVec 32) (ha : Scalar.cmpi .sge a 16#32 = 0#1) (v18 : Vec Ideal S1x6x2048 .f32) (v21 v23 : Vec Ideal S512x2048 .f32) (v26 : Vec Ideal S1x2048 .f32) (r : Fin 512) (k : Fin 2048) :
    k0_pay5 (F := Ideal) a v18 v21 v23 v26 (ix2 r k)
      = modRow (fun x => v23 (ix2 r x)) (fun x => v26 (ix2 0 x)) (fun x => v18 (ix3 0 1 x)) (fun x => v18 (ix3 0 0 x)) k := by
  unfold k0_pay5
  simp only [ha, sel_zero]
  pointwise [modRow, rowNorm]

theorem pay6_eq (a : BitVec 32) (v18 : Vec Ideal S1x6x2048 .f32) (v21 v23 : Vec Ideal S512x2048 .f32) (v26 : Vec Ideal S1x2048 .f32) :
    k0_pay6 (F := Ideal) a v18 v21 v23 v26 = k0_pay5 a v18 v21 v23 v26 := by
  unfold k0_pay6
  generalize k0_pay5 (F := Ideal) a v18 v21 v23 v26 = u
  funext j
  rw [eq_ix2 j]
  pointwise

theorem pay7_at (a : BitVec 32) (v18 : Vec Ideal S1x6x2048 .f32) (v21 v23 : Vec Ideal S512x2048 .f32) (v26 : Vec Ideal S1x2048 .f32) (v52 : Vec Ideal S1x2048x128 .bf16)
    (r : Fin 512) (k : Fin 128) :
    k0_pay7 (F := Ideal) a v18 v21 v23 v26 v52 (ix2 r k) = ∑ x : Fin 2048, k0_pay5 (F := Ideal) a v18 v21 v23 v26 (ix2 r x) * v52 (ix3 0 x k) := by
  unfold k0_pay7
  generalize k0_pay5 (F := Ideal) a v18 v21 v23 v26 = u
  pointwise

theorem pay1_at (v3 : Vec Ideal S512x2048 .bf16) (v4 : Vec Ideal S1x2048x2560 .bf16) (r : Fin 512) (k : Fin 2560) :
    k0_pay1 (F := Ideal) v3 v4 (ix2 r k) = ∑ x : Fin 2048, v3 (ix2 r x) * v4 (ix3 0 x k) := by
  pointwise [k0_pay1]

/-- Row `R` of the state. -/
def hrow (c : Dev nD) (R : Fin 8704) (x : Fin 2048) : EReal :=
  joined (fun a b => m ((c.tc : Thread nD τ).loc main_arg0) (ix3 a b x)) (fun a b => m ((c.tc : Thread nD τ).loc main_arg1) (ix3 a b x)) R

/-- Part `p` of the modulation a row of block `b` takes. -/
def mrow (c : Dev nD) (b : Fin 3) (p : Fin 6) (x : Fin 2048) : EReal :=
  m ((c.tc : Thread nD τ).loc main_arg3) (ix2 b (⟨p.val * 2048 + x.val, by omega⟩ : Fin 12288))

theorem b0 (c : Dev nD) (t : Fin cfg0.N) (r : Fin 512) (k : Fin 2048) (h : t.val < 64) :
    (show FVec Ideal S512x2048 .f32 from iblk m c 0 t) (ix2 r k) = hrow m c ⟨t.val / 4 * 512 + r.val, by omega⟩ k := by
  unfold hrow
  rw [joined_lat _ _ _ (by show t.val / 4 * 512 + r.val < 8192; omega)]
  blk_point [iblk, V, idx t]
theorem b1 (c : Dev nD) (t : Fin cfg0.N) (r : Fin 512) (k : Fin 2048) (h : ¬ t.val < 64) :
    (show FVec Ideal S512x2048 .f32 from iblk m c 1 t) (ix2 r k) = hrow m c ⟨t.val / 4 * 512 + r.val, by have := ltN t; omega⟩ k := by
  have := ltN t
  unfold hrow
  rw [joined_ctx _ _ _ (by show ¬ t.val / 4 * 512 + r.val < 8192; omega)]
  blk_point [iblk, V, idx t]
theorem b2 (c : Dev nD) (t : Fin cfg0.N) (k : Fin 2048) :
    (show FVec Ideal S1x2048 .f32 from iblk m c 2 t) (ix2 0 k) = m ((c.tc : Thread nD τ).loc main_arg2) (ix1 k) := by
  blk_point [iblk, V, idx t]
theorem b3 (c : Dev nD) (t : Fin cfg0.N) (r : Fin 6) (k : Fin 2048) :
    (show FVec Ideal S1x6x2048 .f32 from iblk m c 3 t) (ix3 0 r k) = mrow m c ⟨t.val / 32, by have := ltN t; omega⟩ r k := by
  have := ltN t
  unfold mrow
  blk_point [iblk, V, idx t]
theorem b4 (c : Dev nD) (t : Fin cfg0.N) (r : Fin 2048) (k : Fin 2560) :
    (show FVec Ideal S1x2048x2560 .bf16 from X0_4 m c t) (ix3 0 r k)
      = m ((c.tc : Thread nD τ).loc main_arg4) (ix2 r (⟨t.val % 4 * 2560 + k.val, by omega⟩ : Fin 10368)) := by
  show X0_4 m c t (ix3 0 r k) = _
  unfold X0_4 Pipeline.Window.fill
  rw [dif_pos (moved0_4 t _)]
  blk_point [iblk, V, idx t]
theorem b5 (c : Dev nD) (t : Fin cfg0.N) (r : Fin 2048) (k : Fin 128) :
    (show FVec Ideal S1x2048x128 .bf16 from iblk m c 5 t) (ix3 0 r k)
      = m ((c.tc : Thread nD τ).loc main_arg4) (ix2 r (⟨10240 + k.val, by omega⟩ : Fin 10368)) := by
  blk_point [iblk, V, idx t]

/-- The row the matrix meets. -/
def urow (c : Dev nD) (R : Fin 8704) (x : Fin 2048) : EReal :=
  modRow (hrow m c R) (fun x => m ((c.tc : Thread nD τ).loc main_arg2) (ix1 x)) (mrow m c ⟨R.val / 4096, by omega⟩ 1) (mrow m c ⟨R.val / 4096, by omega⟩ 0) x

/-- The normed and modulated rows of the block a point works on. -/
def U (c : Dev nD) (t : Fin cfg0.N) : FVec Ideal S512x2048 .bf16 :=
  k0_pay5 (BitVec.ofNat 32 (grid0.coords t 0).val) (iblk m c 3 t) (iblk m c 1 t) (iblk m c 0 t) (iblk m c 2 t)

theorem U_at (c : Dev nD) (t : Fin cfg0.N) (r : Fin 512) (k : Fin 2048) :
    U m c t (ix2 r k) = urow m c ⟨t.val / 4 * 512 + r.val, by have := ltN t; omega⟩ k := by
  have ht := ltN t
  have e1 : (fun x => (show FVec Ideal S1x2048 .f32 from iblk m c 2 t) (ix2 0 x)) = fun x => m ((c.tc : Thread nD τ).loc main_arg2) (ix1 x) :=
    funext fun x => b2 m c t x
  have e2 : ∀ p, (fun x => (show FVec Ideal S1x6x2048 .f32 from iblk m c 3 t) (ix3 0 p x)) = mrow m c ⟨t.val / 32, by omega⟩ p := fun p =>
    funext fun x => b3 m c t p x
  have q : (t.val / 4 * 512 + r.val) / 4096 = t.val / 32 := by omega
  unfold urow
  simp only [q]
  by_cases h : t.val / 4 < 16
  · refine (pay5_lat _ ((late_eq t).trans (if_pos h)) _ _ _ _ r k).trans ?_
    have e0 : (fun x => (show FVec Ideal S512x2048 .f32 from iblk m c 0 t) (ix2 r x)) = hrow m c ⟨t.val / 4 * 512 + r.val, by omega⟩ :=
      funext fun x => b0 m c t r x (by omega)
    rw [← e0, ← e1, ← e2, ← e2]
  · refine (pay5_ctx _ ((late_eq t).trans (if_neg h)) _ _ _ _ r k).trans ?_
    have e0 : (fun x => (show FVec Ideal S512x2048 .f32 from iblk m c 1 t) (ix2 r x)) = hrow m c ⟨t.val / 4 * 512 + r.val, by omega⟩ :=
      funext fun x => b1 m c t r x (by omega)
    rw [← e0, ← e1, ← e2, ← e2]

theorem U_pred (c : Dev nD) (t t' : Fin cfg0.N) (h0 : t'.val / 4 = t.val / 4) : U m c t' = U m c t := by
  funext j
  rw [eq_ix2 j]
  refine (U_at m c t' (j 0) (j 1)).trans (Eq.trans ?_ (U_at m c t (j 0) (j 1)).symm)
  simp only [h0]

/-- The tail of the block a point works on. -/
def T (c : Dev nD) (t : Fin cfg0.N) : FVec Ideal S512x128 .f32 :=
  k0_pay7 (BitVec.ofNat 32 (grid0.coords t 0).val) (iblk m c 3 t) (iblk m c 1 t) (iblk m c 0 t) (iblk m c 2 t) (iblk m c 5 t)

/-- The row the tail's columns meet, entry by entry. -/
def tailAt (c : Dev nD) (R : Fin 8704) (k : Fin 128) : EReal :=
  ∑ x : Fin 2048, urow m c R x * m ((c.tc : Thread nD τ).loc main_arg4) (ix2 x (⟨10240 + k.val, by omega⟩ : Fin 10368))

theorem T_at (c : Dev nD) (t : Fin cfg0.N) (r : Fin 512) (k : Fin 128) :
    T m c t (ix2 r k) = tailAt m c ⟨t.val / 4 * 512 + r.val, by have := ltN t; omega⟩ k := by
  refine (pay7_at _ _ _ _ _ _ r k).trans ?_
  exact Finset.sum_congr rfl fun x _ => congr (congrArg HMul.hMul (U_at m c t r x)) (b5 m c t x k)

theorem T_pred (c : Dev nD) (t t' : Fin cfg0.N) (h0 : t'.val / 4 = t.val / 4) : T m c t' = T m c t := by
  funext j
  rw [eq_ix2 j]
  refine (T_at m c t' (j 0) (j 1)).trans (Eq.trans ?_ (T_at m c t (j 0) (j 1)).symm)
  simp only [h0]

/-- At a first point the rows and the tail are made. -/
theorem made (c : Dev nD) (t : Fin cfg0.N) (h0 : t.val % 4 = 0) :
    (outsAt0 m c t.val t.isLt).2.1 = T m c t ∧ (outsAt0 m c t.val t.isLt).2.2.2.2.2 = U m c t := by
  rw [outsAt0_A m c t h0]
  constructor
  · unfold ptA out0_A_10
    dsimp only
    unfold kernelRun0_A
    frame_out
    rfl
  · unfold ptA sout0_A_0
    dsimp only
    unfold kernelRun0_A
    frame_out
    exact pay6_eq _ _ _ _ _

/-- They are kept to the row block's last point. -/
theorem kept (c : Dev nD) (n : ℕ) : ∀ t : Fin cfg0.N, t.val % 4 = n →
    (outsAt0 m c t.val t.isLt).2.1 = T m c t ∧ (outsAt0 m c t.val t.isLt).2.2.2.2.2 = U m c t := by
  induction n with
  | zero => exact fun t h0 => made m c t h0
  | succ n ih =>
    intro t hn
    have h0 : ¬ t.val % 4 = 0 := by omega
    have hp := ih ⟨t.val - 1, Nat.lt_of_le_of_lt (Nat.sub_le _ _) t.isLt⟩ (by dsimp only; omega)
    rw [outsAt0_B m c t h0]
    unfold ptB
    exact ⟨hp.1.trans (T_pred m c t ⟨t.val - 1, _⟩ (by dsimp only; omega)), hp.2.trans (U_pred m c t ⟨t.val - 1, _⟩ (by dsimp only; omega))⟩

/-- The block a point writes. -/
theorem outP (c : Dev nD) (t : Fin cfg0.N) : (outsAt0 m c t.val t.isLt).1 = k0_pay1 (F := Ideal) (U m c t) (X0_4 m c t) := by
  by_cases h0 : t.val % 4 = 0
  · rw [outsAt0_A m c t h0]
    unfold ptA out0_A_9
    dsimp only
    unfold kernelRun0_A
    frame_out
    exact congrArg (fun u => k0_pay1 (F := Ideal) u _) (pay6_eq _ _ _ _ _)
  · have hp := kept m c ((t.val - 1) % 4) ⟨t.val - 1, Nat.lt_of_le_of_lt (Nat.sub_le _ _) t.isLt⟩ rfl
    have hU : (outsAt0 m c (t.val - 1) (Nat.lt_of_le_of_lt (Nat.sub_le _ _) t.isLt)).2.2.2.2.2 = U m c t :=
      hp.2.trans (U_pred m c t ⟨t.val - 1, _⟩ (by dsimp only; omega))
    rw [outsAt0_B m c t h0]
    unfold ptB out0_B_9
    dsimp only
    unfold kernelRun0_B
    frame_out
    simp only [read_unread_whole]
    rw [hU]

/-- The projected rows, without the tail's columns. -/
def RES (c : Dev nD) : FVec Ideal S8704x10240 .bf16 := fun i =>
  ∑ x : Fin 2048, urow m c (i 0) x * m ((c.tc : Thread nD τ).loc main_arg4) (ix2 x (⟨(i 1).val, lt_trans (i 1).isLt (by decide)⟩ : Fin 10368))

/-- The tail's columns. -/
def TAIL (c : Dev nD) : FVec Ideal S8704x128 .f32 := fun i => tailAt m c (i 0) (i 1)

theorem final9 (c : Dev nD) : (dats m 0 c).arrAt 9 (cfgs 0).N = RES m c := by
  refine (dats m 0 c).arrAt_eq_of_covers 9 _ (by decide +kernel) fun t hf y => ?_
  blk_simp
  rw [after0_9]
  change S512x2560.Idx at y
  have hy : (y 0).val < 512 := (y 0).isLt
  have hz : (y 1).val < 2560 := (y 1).isLt
  have ht := ltN t
  rw [outP, eq_ix2 y]
  refine (pay1_at _ _ (y 0) (y 1)).trans ?_
  have e0 : (win0_9.blk t).view.emb (ix2 (y 0) (y 1)) 0 = (⟨t.val / 4 * 512 + (y 0).val, by omega⟩ : Fin 8704) := by
    apply Fin.ext
    show win0_9.index t 0 * 512 + 1 * (y 0).val = _
    rw [(idx t).2.2.2.2.2.2.1]
    simp
  have e1 : (win0_9.blk t).view.emb (ix2 (y 0) (y 1)) 1 = (⟨t.val % 4 * 2560 + (y 1).val, by omega⟩ : Fin 10240) := by
    apply Fin.ext
    show win0_9.index t 1 * 2560 + 1 * (y 1).val = _
    rw [(idx t).2.2.2.2.2.2.1]
    simp
  unfold RES
  simp only [e0, e1]
  exact Finset.sum_congr rfl fun x _ => congr (congrArg HMul.hMul (U_at m c t (y 0) x)) (b4 m c t x (y 1))

theorem final10 (c : Dev nD) : (dats m 0 c).arrAt 10 (cfgs 0).N = TAIL m c := by
  refine (dats m 0 c).arrAt_eq_of_covers 10 _ (by decide +kernel) fun t hf y => ?_
  blk_simp
  rw [after0_10]
  change S512x128.Idx at y
  have hy : (y 0).val < 512 := (y 0).isLt
  have ht := ltN t
  rw [(kept m c _ t rfl).1, eq_ix2 y]
  refine (T_at m c t (y 0) (y 1)).trans ?_
  have e0 : (win0_10.blk t).view.emb (ix2 (y 0) (y 1)) 0 = (⟨t.val / 4 * 512 + (y 0).val, by omega⟩ : Fin 8704) := by
    apply Fin.ext
    show win0_10.index t 0 * 512 + 1 * (y 0).val = _
    rw [(idx t).2.2.2.2.2.2.2]
    simp
  have e1 : (win0_10.blk t).view.emb (ix2 (y 0) (y 1)) 1 = y 1 := by
    apply Fin.ext
    show win0_10.index t 1 * 128 + 1 * (y 1).val = _
    rw [(idx t).2.2.2.2.2.2.2]
    simp
  unfold TAIL
  simp only [e0, e1]

theorem idx11 : ∀ t : Fin cfg0.N, win0_6.index t = ![0, min t.val 63, 0] ∧ win0_11.index t = ![0, min t.val 63, 0] :=
  (by decide +kernel : ∀ t : Fin grid0.N, _)

/-- The block of weights a point copies. -/
theorem cast11 (c : Dev nD) (t : Fin cfg0.N) : (outsAt0 m c t.val t.isLt).2.2.1 = k0_pay2 (F := Ideal) (iblk m c 6 t) := by
  by_cases h0 : t.val % 4 = 0
  · rw [outsAt0_A m c t h0]
    unfold ptA out0_A_11
    dsimp only
    unfold kernelRun0_A
    frame_out
  · rw [outsAt0_B m c t h0]
    unfold ptB out0_B_11
    dsimp only
    unfold kernelRun0_B
    frame_out

/-- The copied weights. -/
def CAST11 (c : Dev nD) : FVec Ideal S1x2048x8192 .bf16 := fun i => m ((c.tc : Thread nD τ).loc main_arg5) (ix3 (0 : Fin 4) (i 1) (i 2))

theorem src11 (c : Dev nD) (t : Fin cfg0.N) (r : Fin 32) (k : Fin 8192) :
    (show FVec Ideal S1x32x8192 .f32 from iblk m c 6 t) (ix3 0 r k)
      = m ((c.tc : Thread nD τ).loc main_arg5) (ix3 (0 : Fin 4) (⟨min t.val 63 * 32 + r.val, by omega⟩ : Fin 2048) k) := by
  blk_point [iblk, V, idx11 t]

theorem final11 (c : Dev nD) : (dats m 0 c).arrAt 11 (cfgs 0).N = CAST11 m c := by
  refine (dats m 0 c).arrAt_eq_of_covers 11 _ (by decide +kernel) fun t hf y => ?_
  blk_simp
  rw [after0_11]
  change S1x32x8192.Idx at y
  have hy : (y 1).val < 32 := (y 1).isLt
  have hz : y 0 = (0 : Fin 1) := Subsingleton.elim (α := Fin 1) _ _
  rw [cast11, eq_ix3 y, hz]
  refine (src11 m c t (y 1) (y 2)).trans ?_
  have e1 : (win0_11.blk t).view.emb (ix3 0 (y 1) (y 2)) 1 = (⟨min t.val 63 * 32 + (y 1).val, by omega⟩ : Fin 2048) := by
    apply Fin.ext
    show win0_11.index t 1 * 32 + 1 * (y 1).val = _
    rw [(idx11 t).2]
    simp
  have e2 : (win0_11.blk t).view.emb (ix3 0 (y 1) (y 2)) 2 = y 2 := by
    apply Fin.ext
    show win0_11.index t 2 * 8192 + 1 * (y 2).val = _
    rw [(idx11 t).2]
    simp
  unfold CAST11
  rw [e1, e2]

theorem idx12 : ∀ t : Fin cfg0.N, win0_7.index t = ![0, min t.val 63, 0] ∧ win0_12.index t = ![0, min t.val 63, 0] :=
  (by decide +kernel : ∀ t : Fin grid0.N, _)

/-- The block of weights a point copies. -/
theorem cast12 (c : Dev nD) (t : Fin cfg0.N) : (outsAt0 m c t.val t.isLt).2.2.2.1 = k0_pay3 (F := Ideal) (iblk m c 7 t) := by
  by_cases h0 : t.val % 4 = 0
  · rw [outsAt0_A m c t h0]
    unfold ptA out0_A_12
    dsimp only
    unfold kernelRun0_A
    frame_out
  · rw [outsAt0_B m c t h0]
    unfold ptB out0_B_12
    dsimp only
    unfold kernelRun0_B
    frame_out

/-- The copied weights. -/
def CAST12 (c : Dev nD) : FVec Ideal S1x8192x2048 .bf16 := fun i => m ((c.tc : Thread nD τ).loc main_arg6) (ix3 (0 : Fin 4) (i 1) (i 2))

theorem src12 (c : Dev nD) (t : Fin cfg0.N) (r : Fin 128) (k : Fin 2048) :
    (show FVec Ideal S1x128x2048 .f32 from iblk m c 7 t) (ix3 0 r k)
      = m ((c.tc : Thread nD τ).loc main_arg6) (ix3 (0 : Fin 4) (⟨min t.val 63 * 128 + r.val, by omega⟩ : Fin 8192) k) := by
  blk_point [iblk, V, idx12 t]

theorem final12 (c : Dev nD) : (dats m 0 c).arrAt 12 (cfgs 0).N = CAST12 m c := by
  refine (dats m 0 c).arrAt_eq_of_covers 12 _ (by decide +kernel) fun t hf y => ?_
  blk_simp
  rw [after0_12]
  change S1x128x2048.Idx at y
  have hy : (y 1).val < 128 := (y 1).isLt
  have hz : y 0 = (0 : Fin 1) := Subsingleton.elim (α := Fin 1) _ _
  rw [cast12, eq_ix3 y, hz]
  refine (src12 m c t (y 1) (y 2)).trans ?_
  have e1 : (win0_12.blk t).view.emb (ix3 0 (y 1) (y 2)) 1 = (⟨min t.val 63 * 128 + (y 1).val, by omega⟩ : Fin 8192) := by
    apply Fin.ext
    show win0_12.index t 1 * 128 + 1 * (y 1).val = _
    rw [(idx12 t).2]
    simp
  have e2 : (win0_12.blk t).view.emb (ix3 0 (y 1) (y 2)) 2 = y 2 := by
    apply Fin.ext
    show win0_12.index t 2 * 2048 + 1 * (y 2).val = _
    rw [(idx12 t).2]
    simp
  unfold CAST12
  rw [e1, e2]

theorem idx13 : ∀ t : Fin cfg0.N, win0_8.index t = ![0, min t.val 63, 0] ∧ win0_13.index t = ![0, min t.val 63, 0] :=
  (by decide +kernel : ∀ t : Fin grid0.N, _)

/-- The block of weights a point copies. -/
theorem cast13 (c : Dev nD) (t : Fin cfg0.N) : (outsAt0 m c t.val t.isLt).2.2.2.2.1 = k0_pay4 (F := Ideal) (iblk m c 8 t) := by
  by_cases h0 : t.val % 4 = 0
  · rw [outsAt0_A m c t h0]
    unfold ptA out0_A_13
    dsimp only
    unfold kernelRun0_A
    frame_out
  · rw [outsAt0_B m c t h0]
    unfold ptB out0_B_13
    dsimp only
    unfold kernelRun0_B
    frame_out

/-- The copied weights. -/
def CAST13 (c : Dev nD) : FVec Ideal S1x4096x2048 .bf16 := fun i => m ((c.tc : Thread nD τ).loc main_arg7) (ix3 (0 : Fin 2) (i 1) (i 2))

theorem src13 (c : Dev nD) (t : Fin cfg0.N) (r : Fin 64) (k : Fin 2048) :
    (show FVec Ideal S1x64x2048 .f32 from iblk m c 8 t) (ix3 0 r k)
      = m ((c.tc : Thread nD τ).loc main_arg7) (ix3 (0 : Fin 2) (⟨min t.val 63 * 64 + r.val, by omega⟩ : Fin 4096) k) := by
  blk_point [iblk, V, idx13 t]

theorem final13 (c : Dev nD) : (dats m 0 c).arrAt 13 (cfgs 0).N = CAST13 m c := by
  refine (dats m 0 c).arrAt_eq_of_covers 13 _ (by decide +kernel) fun t hf y => ?_
  blk_simp
  rw [after0_13]
  change S1x64x2048.Idx at y
  have hy : (y 1).val < 64 := (y 1).isLt
  have hz : y 0 = (0 : Fin 1) := Subsingleton.elim (α := Fin 1) _ _
  rw [cast13, eq_ix3 y, hz]
  refine (src13 m c t (y 1) (y 2)).trans ?_
  have e1 : (win0_13.blk t).view.emb (ix3 0 (y 1) (y 2)) 1 = (⟨min t.val 63 * 64 + (y 1).val, by omega⟩ : Fin 4096) := by
    apply Fin.ext
    show win0_13.index t 1 * 64 + 1 * (y 1).val = _
    rw [(idx13 t).2]
    simp
  have e2 : (win0_13.blk t).view.emb (ix3 0 (y 1) (y 2)) 2 = y 2 := by
    apply Fin.ext
    show win0_13.index t 2 * 2048 + 1 * (y 2).val = _
    rw [(idx13 t).2]
    simp
  unfold CAST13
  rw [e1, e2]

theorem head_at (x : FVec Ideal (⟨2, ![8704, 10368]⟩ : Shape) .f32) (h : (⟨2, ![8704, 10368]⟩ : Shape).Slices ![0, 0] ⟨2, ![8704, 10240]⟩) (a : Fin 8704) (b : Fin 10240) :
    extractStridedSlice (⟨2, ![8704, 10240]⟩ : Shape) ![0, 0] x h (ix2 a b) = x (ix2 a (⟨b.val, by omega⟩ : Fin 10368)) := by
  pointwise

theorem tail_at (x : FVec Ideal (⟨2, ![8704, 10368]⟩ : Shape) .f32) (h : (⟨2, ![8704, 10368]⟩ : Shape).Slices ![0, 10240] ⟨2, ![8704, 128]⟩) (a : Fin 8704) (b : Fin 128) :
    extractStridedSlice (⟨2, ![8704, 128]⟩ : Shape) ![0, 10240] x h (ix2 a b) = x (ix2 a (⟨10240 + b.val, by omega⟩ : Fin 10368)) := by
  pointwise

/-- The run with the results named. -/
theorem run_named (ρ : Dev nD → PrngReg) : θ_run defs (onTc (τ := τ) (main (F := Ideal))) ⟨m, fun _ => 0, ρ⟩ fun r => ∀ c : Dev nD,
      r.2.mem ((c.tc : Thread nD τ).loc main_v6_0) = (dats m 0 c).arrAt 9 (cfgs 0).N
      ∧ r.2.mem ((c.tc : Thread nD τ).loc main_v6_1) = (dats m 0 c).arrAt 10 (cfgs 0).N
      ∧ r.2.mem ((c.tc : Thread nD τ).loc main_v6_2) = (dats m 0 c).arrAt 11 (cfgs 0).N
      ∧ r.2.mem ((c.tc : Thread nD τ).loc main_v6_3) = (dats m 0 c).arrAt 12 (cfgs 0).N
      ∧ r.2.mem ((c.tc : Thread nD τ).loc main_v6_4) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1 9, (h.1 c).1 10, (h.1 c).1 11, (h.1 c).1 12, (h.1 c).1 13, h.2 c⟩)
    (θ_run_and (run_main m ρ) (frame_of m ρ (dats m) (A_eq m) (run_main m ρ)))

set_option maxHeartbeats 1600000 in
theorem algebraic : Cert.algebraic_ProjAIdeal_ProjAReferenceIdeal := by
  pair_intro
  · run_from run_named m g
  · hlo_run
    · rw [final9]
      funext j
      idx_vars j
      simp only [truncf_apply]
      refine (head_at _ _ j0 j1).trans ?_
      by_cases h : j0.val < 8192
      · refine (concat_lat _ _ _ j0 _ h).trans ?_
        pointwise [RES, urow, modRow, rowNorm, hrow, mrow]
        simp only [joined_lat _ _ _ h, hagree c]
      · refine (concat_ctx _ _ _ j0 _ h).trans ?_
        have q : j0.val / 4096 = 2 := by omega
        generalize hr : (⟨j0.val - 8192, by omega⟩ : Fin 512) = r0
        have hv : j0.val - 8192 = r0.val := by rw [← hr]
        pointwise [RES, urow, modRow, rowNorm, hrow, mrow]
        simp only [joined_ctx _ _ _ h, q, hv, hagree c]
        rfl
    · rw [final10]
      funext j
      idx_vars j
      refine (tail_at _ _ j0 j1).trans ?_
      by_cases h : j0.val < 8192
      · refine (concat_lat _ _ _ j0 _ h).trans ?_
        pointwise [TAIL, tailAt, urow, modRow, rowNorm, hrow, mrow]
        simp only [joined_lat _ _ _ h, hagree c]
      · refine (concat_ctx _ _ _ j0 _ h).trans ?_
        have q : j0.val / 4096 = 2 := by omega
        generalize hr : (⟨j0.val - 8192, by omega⟩ : Fin 512) = r0
        have hv : j0.val - 8192 = r0.val := by rw [← hr]
        pointwise [TAIL, tailAt, urow, modRow, rowNorm, hrow, mrow]
        simp only [joined_ctx _ _ _ h, q, hv, hagree c]
        rfl
    · rw [final11]
      funext j
      idx_vars j
      simp only [truncf_apply]
      pointwise [CAST11, hagree c]
    · rw [final12]
      funext j
      idx_vars j
      simp only [truncf_apply]
      pointwise [CAST12, hagree c]
    · rw [final13]
      funext j
      idx_vars j
      simp only [truncf_apply]
      pointwise [CAST13, hagree c]

end Cert.ProjAIdeal.Hand
end
-- ==== Proof.lean ====
module

public import proofs.«01_k».proof.Defs
public import proofs.«01_k».proof.Proof.Gen.Mlp.Frame
public import proofs.«01_k».proof.Proof.Gen.MlpIdeal.Frame
public import proofs.«01_k».proof.Proof.Gen.MlpReferenceIdeal
public import proofs.«01_k».proof.Proof.MlpClaim
public import proofs.«01_k».proof.Proof.Gen.MlpA.Frame
public import proofs.«01_k».proof.Proof.Gen.MlpAIdeal.Frame
public import proofs.«01_k».proof.Proof.Gen.MlpAReferenceIdeal
public import proofs.«01_k».proof.Proof.MlpAClaim
public import proofs.«01_k».proof.Proof.Gen.MlpB.Frame
public import proofs.«01_k».proof.Proof.Gen.MlpBIdeal.Frame
public import proofs.«01_k».proof.Proof.Gen.MlpBReferenceIdeal
public import proofs.«01_k».proof.Proof.MlpBClaim
public import proofs.«01_k».proof.Proof.Gen.MlpC.Frame
public import proofs.«01_k».proof.Proof.Gen.MlpCIdeal.Frame
public import proofs.«01_k».proof.Proof.Gen.MlpCReferenceIdeal
public import proofs.«01_k».proof.Proof.MlpCClaim
public import proofs.«01_k».proof.Proof.Gen.ProjB.Frame
public import proofs.«01_k».proof.Proof.Gen.ProjBIdeal.Frame
public import proofs.«01_k».proof.Proof.Gen.ProjBReferenceIdeal
public import proofs.«01_k».proof.Proof.ProjBValue
public import proofs.«01_k».proof.Proof.Gen.ProjC.Frame
public import proofs.«01_k».proof.Proof.Gen.ProjCIdeal.Frame
public import proofs.«01_k».proof.Proof.Gen.ProjCReferenceIdeal
public import proofs.«01_k».proof.Proof.ProjCValue
public import proofs.«01_k».proof.Proof.Gen.OutProj.Frame
public import proofs.«01_k».proof.Proof.Gen.OutProjIdeal.Frame
public import proofs.«01_k».proof.Proof.Gen.OutProjReferenceIdeal
public import proofs.«01_k».proof.Proof.OutProjValue
public import proofs.«01_k».proof.Proof.Gen.SsdOut.Frame
public import proofs.«01_k».proof.Proof.Gen.SsdOutIdeal.Frame
public import proofs.«01_k».proof.Proof.Gen.SsdOutReferenceIdeal
public import proofs.«01_k».proof.Proof.SsdOutValue
public import proofs.«01_k».proof.Proof.Gen.SsdOutLast.Frame
public import proofs.«01_k».proof.Proof.Gen.SsdOutLastIdeal.Frame
public import proofs.«01_k».proof.Proof.Gen.SsdOutLastReferenceIdeal
public import proofs.«01_k».proof.Proof.SsdOutLastValue
public import proofs.«01_k».proof.Proof.ProjDFrame
public import proofs.«01_k».proof.Proof.ProjDIdealFrame
public import proofs.«01_k».proof.Proof.Gen.ProjDReferenceIdeal
public import proofs.«01_k».proof.Proof.ProjDValue
public import proofs.«01_k».proof.Proof.ProjAFrame
public import proofs.«01_k».proof.Proof.ProjAIdealFrame
public import proofs.«01_k».proof.Proof.Gen.ProjAReferenceIdeal
public import proofs.«01_k».proof.Proof.ProjAValue
public import Idealize.ShloMosaic.Adequacy
public import Idealize.ShloMosaic.Init
public import Idealize.ShloMosaic.Lib.Claim

@[expose] public section

noncomputable section

namespace Cert.Proof

open Idealize.ShloMosaic Idealize.SL.Sem

set_option maxHeartbeats 4000000 in
theorem frame_Mlp : Cert.quiescent_MlpReferenceIdeal (hMlpReferenceIdeal := Cert.MlpReferenceIdeal.Gen.facts) := by
  intro m ρ _
  hlo_run <;> first | exact sem_eq_zero_of_no_sems (sig := Cert.MlpReferenceIdeal.sig) (by decide) _ | simp

set_option maxHeartbeats 4000000 in
theorem frame_MlpA : Cert.quiescent_MlpAReferenceIdeal (hMlpAReferenceIdeal := Cert.MlpAReferenceIdeal.Gen.facts) := by
  intro m ρ _
  hlo_run <;> first | exact sem_eq_zero_of_no_sems (sig := Cert.MlpAReferenceIdeal.sig) (by decide) _ | simp

set_option maxHeartbeats 4000000 in
theorem frame_MlpB : Cert.quiescent_MlpBReferenceIdeal (hMlpBReferenceIdeal := Cert.MlpBReferenceIdeal.Gen.facts) := by
  intro m ρ _
  hlo_run <;> first | exact sem_eq_zero_of_no_sems (sig := Cert.MlpBReferenceIdeal.sig) (by decide) _ | simp

set_option maxHeartbeats 4000000 in
theorem frame_MlpC : Cert.quiescent_MlpCReferenceIdeal (hMlpCReferenceIdeal := Cert.MlpCReferenceIdeal.Gen.facts) := by
  intro m ρ _
  hlo_run <;> first | exact sem_eq_zero_of_no_sems (sig := Cert.MlpCReferenceIdeal.sig) (by decide) _ | simp

set_option maxHeartbeats 4000000 in
theorem frame_ProjB : Cert.quiescent_ProjBReferenceIdeal (hProjBReferenceIdeal := Cert.ProjBReferenceIdeal.Gen.facts) := by
  intro m ρ _
  hlo_run <;> first | exact sem_eq_zero_of_no_sems (sig := Cert.ProjBReferenceIdeal.sig) (by decide) _ | simp

set_option maxHeartbeats 4000000 in
theorem frame_ProjC : Cert.quiescent_ProjCReferenceIdeal (hProjCReferenceIdeal := Cert.ProjCReferenceIdeal.Gen.facts) := by
  intro m ρ _
  hlo_run <;> first | exact sem_eq_zero_of_no_sems (sig := Cert.ProjCReferenceIdeal.sig) (by decide) _ | simp

set_option maxHeartbeats 4000000 in
theorem frame_OutProj : Cert.quiescent_OutProjReferenceIdeal (hOutProjReferenceIdeal := Cert.OutProjReferenceIdeal.Gen.facts) := by
  intro m ρ _
  hlo_run <;> first | exact sem_eq_zero_of_no_sems (sig := Cert.OutProjReferenceIdeal.sig) (by decide) _ | simp

set_option maxHeartbeats 4000000 in
theorem frame_SsdOut : Cert.quiescent_SsdOutReferenceIdeal (hSsdOutReferenceIdeal := Cert.SsdOutReferenceIdeal.Gen.facts) := by
  intro m ρ _
  hlo_run <;> first | exact sem_eq_zero_of_no_sems (sig := Cert.SsdOutReferenceIdeal.sig) (by decide) _ | simp

set_option maxHeartbeats 4000000 in
theorem frame_SsdOutLast : Cert.quiescent_SsdOutLastReferenceIdeal (hSsdOutLastReferenceIdeal := Cert.SsdOutLastReferenceIdeal.Gen.facts) := by
  intro m ρ _
  hlo_run <;> first | exact sem_eq_zero_of_no_sems (sig := Cert.SsdOutLastReferenceIdeal.sig) (by decide) _ | simp

set_option maxHeartbeats 4000000 in
theorem frame_ProjD : Cert.quiescent_ProjDReferenceIdeal (hProjDReferenceIdeal := Cert.ProjDReferenceIdeal.Gen.facts) := by
  intro m ρ _
  hlo_run <;> first | exact sem_eq_zero_of_no_sems (sig := Cert.ProjDReferenceIdeal.sig) (by decide) _ | simp

set_option maxHeartbeats 4000000 in
theorem frame_ProjA : Cert.quiescent_ProjAReferenceIdeal (hProjAReferenceIdeal := Cert.ProjAReferenceIdeal.Gen.facts) := by
  intro m ρ _
  hlo_run <;> first | exact sem_eq_zero_of_no_sems (sig := Cert.ProjAReferenceIdeal.sig) (by decide) _ | simp

theorem claim : Cert.Claim := ⟨Cert.Mlp.Gen.facts, Cert.MlpIdeal.Gen.facts, Cert.MlpReferenceIdeal.Gen.facts,
  Cert.MlpA.Gen.facts, Cert.MlpAIdeal.Gen.facts, Cert.MlpAReferenceIdeal.Gen.facts,
  Cert.MlpB.Gen.facts, Cert.MlpBIdeal.Gen.facts, Cert.MlpBReferenceIdeal.Gen.facts,
  Cert.MlpC.Gen.facts, Cert.MlpCIdeal.Gen.facts, Cert.MlpCReferenceIdeal.Gen.facts,
  Cert.ProjB.Gen.facts, Cert.ProjBIdeal.Gen.facts, Cert.ProjBReferenceIdeal.Gen.facts,
  Cert.ProjC.Gen.facts, Cert.ProjCIdeal.Gen.facts, Cert.ProjCReferenceIdeal.Gen.facts,
  Cert.OutProj.Gen.facts, Cert.OutProjIdeal.Gen.facts, Cert.OutProjReferenceIdeal.Gen.facts,
  Cert.SsdOut.Gen.facts, Cert.SsdOutIdeal.Gen.facts, Cert.SsdOutReferenceIdeal.Gen.facts,
  Cert.SsdOutLast.Gen.facts, Cert.SsdOutLastIdeal.Gen.facts, Cert.SsdOutLastReferenceIdeal.Gen.facts,
  Cert.ProjA.Gen.facts, Cert.ProjAIdeal.Gen.facts, Cert.ProjAReferenceIdeal.Gen.facts,
  Cert.ProjD.Gen.facts, Cert.ProjDIdeal.Gen.facts, Cert.ProjDReferenceIdeal.Gen.facts,
  fun m ρ _ => Cert.Mlp.Gen.frame m ρ, fun m ρ _ => Cert.MlpIdeal.Gen.frame m ρ,
  frame_Mlp,
  fun m ρ _ => Cert.MlpA.Gen.frame m ρ, fun m ρ _ => Cert.MlpAIdeal.Gen.frame m ρ,
  frame_MlpA,
  fun m ρ _ => Cert.MlpB.Gen.frame m ρ, fun m ρ _ => Cert.MlpBIdeal.Gen.frame m ρ,
  frame_MlpB,
  fun m ρ _ => Cert.MlpC.Gen.frame m ρ, fun m ρ _ => Cert.MlpCIdeal.Gen.frame m ρ,
  frame_MlpC,
  fun m ρ _ => Cert.ProjB.Gen.frame m ρ, fun m ρ _ => Cert.ProjBIdeal.Gen.frame m ρ,
  frame_ProjB,
  fun m ρ _ => Cert.ProjC.Gen.frame m ρ, fun m ρ _ => Cert.ProjCIdeal.Gen.frame m ρ,
  frame_ProjC,
  fun m ρ _ => Cert.OutProj.Gen.frame m ρ, fun m ρ _ => Cert.OutProjIdeal.Gen.frame m ρ,
  frame_OutProj,
  fun m ρ _ => Cert.SsdOut.Gen.frame m ρ, fun m ρ _ => Cert.SsdOutIdeal.Gen.frame m ρ,
  frame_SsdOut,
  fun m ρ _ => Cert.SsdOutLast.Gen.frame m ρ, fun m ρ _ => Cert.SsdOutLastIdeal.Gen.frame m ρ,
  frame_SsdOutLast,
  fun m ρ _ => Cert.ProjA.Hand.frame m ρ, fun m ρ _ => Cert.ProjAIdeal.Hand.frame m ρ,
  frame_ProjA,
  fun m ρ _ => Cert.ProjD.Hand.frame m ρ, fun m ρ _ => Cert.ProjDIdeal.Hand.frame m ρ,
  frame_ProjD,
  trivial, Cert.MlpIdeal.Hand.algebraic,
  trivial, Cert.MlpAIdeal.Hand.algebraic,
  trivial, Cert.MlpBIdeal.Hand.algebraic,
  trivial, Cert.MlpCIdeal.Hand.algebraic,
  trivial, Cert.ProjBIdeal.Hand.algebraic,
  trivial, Cert.ProjCIdeal.Hand.algebraic,
  trivial, Cert.OutProjIdeal.Hand.algebraic,
  trivial, Cert.SsdOutIdeal.Hand.algebraic,
  trivial, Cert.SsdOutLastIdeal.Hand.algebraic,
  trivial, Cert.ProjAIdeal.Hand.algebraic,
  trivial, Cert.ProjDIdeal.Hand.algebraic⟩

end Cert.Proof

end
